-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_fg [hPre_finite_fg : Cert.Pre_finite_fg.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_fg.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_fg [hPre_finite_fg : Cert.Pre_finite_fg.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_fg.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_fg [hKernel3Ideal : Cert.Kernel3Ideal.Facts] [hPre_finite_fg : Cert.Pre_finite_fg.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_fg m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_fg [hReference3Ideal : Cert.Reference3Ideal.Facts] [hPre_finite_fg : Cert.Pre_finite_fg.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_fg m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def preserves_Kernel3_Kernel3Ideal : Prop :=
  True

def algebraic_Kernel3Ideal_Reference3Ideal_pre_finite_fg [hKernel3Ideal : Cert.Kernel3Ideal.Facts] [hReference3Ideal : Cert.Reference3Ideal.Facts] [hPre_finite_fg : Cert.Pre_finite_fg.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_fg m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v76) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_v45) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v31_0)) (v1 : (c : Dev Cert.Kernel9Ideal.nD) → Buf (Elt Ideal) ((c.tc : Thread Cert.Kernel9Ideal.nD Cert.Kernel9Ideal.τ).loc Cert.Kernel9Ideal.main_v31_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31_0) = v0 c
          ∧ r.2.mem ((c.tc : Thread Cert.Kernel9Ideal.nD Cert.Kernel9Ideal.τ).loc Cert.Kernel9Ideal.main_v31_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v84) = v0 c
          ∧ r.2.mem ((c.tc : Thread Cert.Reference9Ideal.nD Cert.Reference9Ideal.τ).loc Cert.Reference9Ideal.main_v67) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)) (v4 : (c : Dev Cert.Kernel10Ideal.nD) → Buf (Elt Ideal) ((c.tc : Thread Cert.Kernel10Ideal.nD Cert.Kernel10Ideal.τ).loc Cert.Kernel10Ideal.main_v4_4)) (v5 : (c : Dev Cert.Kernel10Ideal.nD) → Buf (Elt Ideal) ((c.tc : Thread Cert.Kernel10Ideal.nD Cert.Kernel10Ideal.τ).loc Cert.Kernel10Ideal.main_v4_5)) (v6 : (c : Dev Cert.Kernel10Ideal.nD) → Buf (Elt Ideal) ((c.tc : Thread Cert.Kernel10Ideal.nD Cert.Kernel10Ideal.τ).loc Cert.Kernel10Ideal.main_v4_6)) (v7 : (c : Dev Cert.Kernel10Ideal.nD) → Buf (Elt Ideal) ((c.tc : Thread Cert.Kernel10Ideal.nD Cert.Kernel10Ideal.τ).loc Cert.Kernel10Ideal.main_v4_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_v4_4) = v4 c
          ∧ r.2.mem ((c.tc : Thread Cert.Kernel10Ideal.nD Cert.Kernel10Ideal.τ).loc Cert.Kernel10Ideal.main_v4_5) = v5 c
          ∧ r.2.mem ((c.tc : Thread Cert.Kernel10Ideal.nD Cert.Kernel10Ideal.τ).loc Cert.Kernel10Ideal.main_v4_6) = v6 c
          ∧ r.2.mem ((c.tc : Thread Cert.Kernel10Ideal.nD Cert.Kernel10Ideal.τ).loc Cert.Kernel10Ideal.main_v4_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v130) = v0 c
          ∧ r.2.mem ((c.tc : Thread Cert.Reference10Ideal.nD Cert.Reference10Ideal.τ).loc Cert.Reference10Ideal.main_v131) = v1 c
          ∧ r.2.mem ((c.tc : Thread Cert.Reference10Ideal.nD Cert.Reference10Ideal.τ).loc Cert.Reference10Ideal.main_v132) = v2 c
          ∧ r.2.mem ((c.tc : Thread Cert.Reference10Ideal.nD Cert.Reference10Ideal.τ).loc Cert.Reference10Ideal.main_v133) = v3 c
          ∧ r.2.mem ((c.tc : Thread Cert.Reference10Ideal.nD Cert.Reference10Ideal.τ).loc Cert.Reference10Ideal.main_v134) = v4 c
          ∧ r.2.mem ((c.tc : Thread Cert.Reference10Ideal.nD Cert.Reference10Ideal.τ).loc Cert.Reference10Ideal.main_v135) = v5 c
          ∧ r.2.mem ((c.tc : Thread Cert.Reference10Ideal.nD Cert.Reference10Ideal.τ).loc Cert.Reference10Ideal.main_v113) = v6 c
          ∧ r.2.mem ((c.tc : Thread Cert.Reference10Ideal.nD Cert.Reference10Ideal.τ).loc Cert.Reference10Ideal.main_v74) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)) (v3 : (c : Dev Cert.Kernel11Ideal.nD) → Buf (Elt Ideal) ((c.tc : Thread Cert.Kernel11Ideal.nD Cert.Kernel11Ideal.τ).loc Cert.Kernel11Ideal.main_v6_3)) (v4 : (c : Dev Cert.Kernel11Ideal.nD) → Buf (Elt Ideal) ((c.tc : Thread Cert.Kernel11Ideal.nD Cert.Kernel11Ideal.τ).loc Cert.Kernel11Ideal.main_v6_4)) (v5 : (c : Dev Cert.Kernel11Ideal.nD) → Buf (Elt Ideal) ((c.tc : Thread Cert.Kernel11Ideal.nD Cert.Kernel11Ideal.τ).loc Cert.Kernel11Ideal.main_v6_5)) (v6 : (c : Dev Cert.Kernel11Ideal.nD) → Buf (Elt Ideal) ((c.tc : Thread Cert.Kernel11Ideal.nD Cert.Kernel11Ideal.τ).loc Cert.Kernel11Ideal.main_v6_6)) (v7 : (c : Dev Cert.Kernel11Ideal.nD) → Buf (Elt Ideal) ((c.tc : Thread Cert.Kernel11Ideal.nD Cert.Kernel11Ideal.τ).loc Cert.Kernel11Ideal.main_v6_7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_v6_3) = v3 c
          ∧ r.2.mem ((c.tc : Thread Cert.Kernel11Ideal.nD Cert.Kernel11Ideal.τ).loc Cert.Kernel11Ideal.main_v6_4) = v4 c
          ∧ r.2.mem ((c.tc : Thread Cert.Kernel11Ideal.nD Cert.Kernel11Ideal.τ).loc Cert.Kernel11Ideal.main_v6_5) = v5 c
          ∧ r.2.mem ((c.tc : Thread Cert.Kernel11Ideal.nD Cert.Kernel11Ideal.τ).loc Cert.Kernel11Ideal.main_v6_6) = v6 c
          ∧ r.2.mem ((c.tc : Thread Cert.Kernel11Ideal.nD Cert.Kernel11Ideal.τ).loc Cert.Kernel11Ideal.main_v6_7) = v7 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v55) = v0 c
          ∧ r.2.mem ((c.tc : Thread Cert.Reference11Ideal.nD Cert.Reference11Ideal.τ).loc Cert.Reference11Ideal.main_v56) = v1 c
          ∧ r.2.mem ((c.tc : Thread Cert.Reference11Ideal.nD Cert.Reference11Ideal.τ).loc Cert.Reference11Ideal.main_v57) = v2 c
          ∧ r.2.mem ((c.tc : Thread Cert.Reference11Ideal.nD Cert.Reference11Ideal.τ).loc Cert.Reference11Ideal.main_v58) = v3 c
          ∧ r.2.mem ((c.tc : Thread Cert.Reference11Ideal.nD Cert.Reference11Ideal.τ).loc Cert.Reference11Ideal.main_v59) = v4 c
          ∧ r.2.mem ((c.tc : Thread Cert.Reference11Ideal.nD Cert.Reference11Ideal.τ).loc Cert.Reference11Ideal.main_v60) = v5 c
          ∧ r.2.mem ((c.tc : Thread Cert.Reference11Ideal.nD Cert.Reference11Ideal.τ).loc Cert.Reference11Ideal.main_v63) = v6 c
          ∧ r.2.mem ((c.tc : Thread Cert.Reference11Ideal.nD Cert.Reference11Ideal.τ).loc Cert.Reference11Ideal.main_v65) = v7 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_fg : Cert.Pre_finite_fg.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Kernel3Ideal_pre_finite_fg (hKernel3Ideal := hKernel3Ideal) (hPre_finite_fg := hPre_finite_fg)
    ∧ quiescent_Reference3Ideal (hReference3Ideal := hReference3Ideal)
    ∧ quiescent_Reference3Ideal_pre_finite_fg (hReference3Ideal := hReference3Ideal) (hPre_finite_fg := hPre_finite_fg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel3_Kernel3Ideal
    ∧ algebraic_Kernel3Ideal_Reference3Ideal_pre_finite_fg (hKernel3Ideal := hKernel3Ideal) (hReference3Ideal := hReference3Ideal) (hPre_finite_fg := hPre_finite_fg)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_fg.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : FVec F S4096x128 .f32) (main_arg1 : FVec F S4096x128 .f32) (main_arg2 : FVec F S4096x128 .f32) : IVec S4096x128 1 :=
  let main_v0 : FVec F S4096x128 .f32 := subf main_arg0 main_arg1
  let main_v1 : FVec F S4096x128 .f32 := Host.absf main_v0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  main_v3
-- ==== Kernel.lean ====
abbrev S3x4096x512 : Shape := ⟨3, ![3, 4096, 512]⟩
abbrev S4096x512 : Shape := ⟨2, ![4096, 512]⟩
abbrev S1x4096x512 : Shape := ⟨3, ![1, 4096, 512]⟩
abbrev S16x256x8x64 : Shape := ⟨4, ![16, 256, 8, 64]⟩
abbrev S16x8x64x256 : Shape := ⟨4, ![16, 8, 64, 256]⟩
abbrev S_ : Shape := ⟨0, ![]⟩
abbrev S16x8x128x256 : Shape := ⟨4, ![16, 8, 128, 256]⟩
abbrev S16x1024x256 : Shape := ⟨3, ![16, 1024, 256]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x8x256 : Shape := ⟨4, ![2, 8, 8, 256]⟩
abbrev S1x2048x256 : Shape := ⟨3, ![1, 2048, 256]⟩
abbrev S8x512x256 : Shape := ⟨3, ![8, 512, 256]⟩
abbrev S2048x256 : Shape := ⟨2, ![2048, 256]⟩
abbrev S1x4x8x256 : Shape := ⟨4, ![1, 4, 8, 256]⟩
abbrev S3x2048x256 : Shape := ⟨3, ![3, 2048, 256]⟩
abbrev S4x2048x64 : Shape := ⟨3, ![4, 2048, 64]⟩
abbrev S4x1x256 : Shape := ⟨3, ![4, 1, 256]⟩
abbrev S4x128x256 : Shape := ⟨3, ![4, 128, 256]⟩
abbrev S256x256 : Shape := ⟨2, ![256, 256]⟩
abbrev S1x256x64 : Shape := ⟨3, ![1, 256, 64]⟩
abbrev S256x64 : Shape := ⟨2, ![256, 64]⟩
abbrev S1x1x1x256 : Shape := ⟨4, ![1, 1, 1, 256]⟩
abbrev S1x256 : Shape := ⟨2, ![1, 256]⟩
abbrev S1x1x256 : Shape := ⟨3, ![1, 1, 256]⟩
abbrev S1x128x256 : Shape := ⟨3, ![1, 128, 256]⟩
abbrev S128x256 : Shape := ⟨2, ![128, 256]⟩
abbrev S256 : Shape := ⟨1, ![256]⟩
abbrev S256x128 : Shape := ⟨2, ![256, 128]⟩
abbrev S1x256x256 : Shape := ⟨3, ![1, 256, 256]⟩
abbrev S1x2048x64 : Shape := ⟨3, ![1, 2048, 64]⟩
abbrev S2048x64 : Shape := ⟨2, ![2048, 64]⟩

abbrev nBuf : Space → Nat
  | .hbm => 53
  | .vmem => 19
  | .smem => 0
  | _ => 0

abbrev bufTy : (tb : Table) → Fin (tcTables nBuf tb) → BufTy
  | .hbm, ⟨0, _⟩ => ⟨S3x4096x512, .f32⟩
  | .hbm, ⟨1, _⟩ => ⟨S4096x512, .f32⟩
  | .hbm, ⟨2, _⟩ => ⟨S3x4096x512, .bf16⟩
  | .hbm, ⟨3, _⟩ => ⟨S1x4096x512, .bf16⟩
  | .hbm, ⟨4, _⟩ => ⟨S4096x512, .bf16⟩
  | .hbm, ⟨5, _⟩ => ⟨S16x256x8x64, .bf16⟩
  | .hbm, ⟨6, _⟩ => ⟨S16x8x64x256, .bf16⟩
  | .hbm, ⟨7, _⟩ => ⟨S_, .i32⟩
  | .hbm, ⟨8, _⟩ => ⟨S_, .bf16⟩
  | .hbm, ⟨9, _⟩ => ⟨S16x8x128x256, .bf16⟩
  | .hbm, ⟨10, _⟩ => ⟨S16x1024x256, .bf16⟩
  | .hbm, ⟨11, _⟩ => ⟨S1x4096x512, .f32⟩
  | .hbm, ⟨12, _⟩ => ⟨S4096x512, .f32⟩
  | .hbm, ⟨13, _⟩ => ⟨S2x2048x8x64, .f32⟩
  | .hbm, ⟨14, _⟩ => ⟨S2x8x2048x64, .f32⟩
  | .hbm, ⟨15, _⟩ => ⟨S1x4096x512, .f32⟩
  | .hbm, ⟨16, _⟩ => ⟨S4096x512, .f32⟩
  | .hbm, ⟨17, _⟩ => ⟨S2x2048x8x64, .f32⟩
  | .hbm, ⟨18, _⟩ => ⟨S2x8x2048x64, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .i1⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S_, .f32⟩
  | .hbm, ⟨45, _⟩ => ⟨S2x8x2048x2048, .i1⟩
  | .hbm, ⟨46, _⟩ => ⟨S2x8x2048x2048, .f32⟩
  | .hbm, ⟨47, _⟩ => ⟨S2x8x2048x2048, .f32⟩
  | .hbm, ⟨48, _⟩ => ⟨S_, .f32⟩
  | .hbm, ⟨49, _⟩ => ⟨S2x8x2048, .f32⟩
  | .hbm, ⟨50, _⟩ => ⟨S2x8x8x256, .f32⟩
  | .hbm, ⟨51, _⟩ => ⟨S4096x512, .bf16⟩
  | .hbm, ⟨52, _⟩ => ⟨S3x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S8x512x256, .bf16⟩
  | .local _ .vmem, ⟨7, _⟩ => ⟨S8x512x256, .bf16⟩
  | .local _ .vmem, ⟨8, _⟩ => ⟨S2048x256, .bf16⟩
  | .local _ .vmem, ⟨9, _⟩ => ⟨S2048x256, .bf16⟩
  | .local _ .vmem, ⟨10, _⟩ => ⟨S1x4x8x256, .f32⟩
  | .local _ .vmem, ⟨11, _⟩ => ⟨S1x4x8x256, .f32⟩
  | .local _ .vmem, ⟨12, _⟩ => ⟨S3x2048x256, .bf16⟩
  | .local _ .vmem, ⟨13, _⟩ => ⟨S3x2048x256, .bf16⟩
  | .local _ .vmem, ⟨14, _⟩ => ⟨S4x2048x64, .f32⟩
  | .local _ .vmem, ⟨15, _⟩ => ⟨S4x2048x64, .f32⟩
  | .local _ .vmem, ⟨16, _⟩ => ⟨S4x1x256, .f32⟩
  | .local _ .vmem, ⟨17, _⟩ => ⟨S4x1x256, .f32⟩
  | .local _ .vmem, ⟨18, _⟩ => ⟨S4x128x256, .f32⟩
  | _, _ => ⟨S3x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call1_v0 : Ref sig .tc := ⟨.hbm, 27, rfl⟩
abbrev main_call1_call0_cst : Ref sig .tc := ⟨.hbm, 28, rfl⟩
abbrev main_call1_call0_v0 : Ref sig .tc := ⟨.hbm, 29, rfl⟩
abbrev main_call1_call0_v1 : Ref sig .tc := ⟨.hbm, 30, rfl⟩
abbrev main_call1_call0_v2 : Ref sig .tc := ⟨.hbm, 31, rfl⟩
abbrev main_call1_call0_v3 : Ref sig .tc := ⟨.hbm, 32, rfl⟩
abbrev main_call1_call0_v4 : Ref sig .tc := ⟨.hbm, 33, rfl⟩
abbrev main_call1_call0_v5 : Ref sig .tc := ⟨.hbm, 34, rfl⟩
abbrev main_call1_call0_v6 : Ref sig .tc := ⟨.hbm, 35, rfl⟩
abbrev main_call1_call0_v7 : Ref sig .tc := ⟨.hbm, 36, rfl⟩
abbrev main_call1_call0_v8 : Ref sig .tc := ⟨.hbm, 37, rfl⟩
abbrev main_call1_call0_v9 : Ref sig .tc := ⟨.hbm, 38, rfl⟩
abbrev main_call1_call0_v10 : Ref sig .tc := ⟨.hbm, 39, rfl⟩
abbrev main_call1_call0_v11 : Ref sig .tc := ⟨.hbm, 40, rfl⟩
abbrev main_call1_v1 : Ref sig .tc := ⟨.hbm, 41, rfl⟩
abbrev main_v23 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c8_i32 : BitVec 32 := 8#32
  let v23 : BitVec 32 := Scalar.addi c0_i32 c8_i32
  let c1_i32 : BitVec 32 := 1#32
  ⟨c0_i32, v23, c1_i32⟩
@[reducible] def k0_t2_loop (k0_t1 : Fin k0_t1_loop.trips) : Scf.Loop 32 :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_49 : BitVec 32 := 1#32
  ⟨c0_i32_46, v66, c1_i32_49⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  v517
def k0_mult2 (k0_t1 : Fin k0_t1_loop.trips) (k0_t2 : Fin (k0_t2_loop k0_t1).trips) : BitVec 32 :=
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  v519
def k0_off1 (k0_t1 : Fin k0_t1_loop.trips) : Fin 3 → Nat :=
  let c0_304 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v521 : Index := Scalar.indexCast v518
  let c0_305 : Index := 0#32
  ![0, v521.toNat, 0]
def k0_off2 (k0_t1 : Fin k0_t1_loop.trips) : Fin 3 → Nat :=
  let c0_306 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v524 : Index := Scalar.indexCast v518
  let c64_307 : Index := 64#32
  ![0, v524.toNat, 64]
def k0_off3 (k0_t1 : Fin k0_t1_loop.trips) : Fin 3 → Nat :=
  let c0_308 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v527 : Index := Scalar.indexCast v518
  let c128_309 : Index := 128#32
  ![0, v527.toNat, 128]
def k0_off4 (k0_t1 : Fin k0_t1_loop.trips) : Fin 3 → Nat :=
  let c0_310 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v530 : Index := Scalar.indexCast v518
  let c192_311 : Index := 192#32
  ![0, v530.toNat, 192]
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v533 : Index := Scalar.indexCast v518
  let c0_312 : Index := 0#32
  ![v533.toNat, 0]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v536 : Index := Scalar.indexCast v518
  let c64_313 : Index := 64#32
  ![v536.toNat, 64]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v539 : Index := Scalar.indexCast v518
  let c128_314 : Index := 128#32
  ![v539.toNat, 128]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v542 : Index := Scalar.indexCast v518
  let c192_315 : Index := 192#32
  ![v542.toNat, 192]
def k0_off9 (k0_t1 : Fin k0_t1_loop.trips) (k0_t2 : Fin (k0_t2_loop k0_t1).trips) : Fin 3 → Nat :=
  let c0_316 : Index := 0#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v545 : Index := Scalar.indexCast v520
  let c0_317 : Index := 0#32
  ![0, v545.toNat, 0]
def k0_off10 (k0_t1 : Fin k0_t1_loop.trips) (k0_t2 : Fin (k0_t2_loop k0_t1).trips) : Fin 3 → Nat :=
  let c0_319 : Index := 0#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v549 : Index := Scalar.indexCast v520
  let c64_320 : Index := 64#32
  ![0, v549.toNat, 64]
def k0_off11 (k0_t1 : Fin k0_t1_loop.trips) (k0_t2 : Fin (k0_t2_loop k0_t1).trips) : Fin 3 → Nat :=
  let c0_322 : Index := 0#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v553 : Index := Scalar.indexCast v520
  let c128_323 : Index := 128#32
  ![0, v553.toNat, 128]
def k0_off12 (k0_t1 : Fin k0_t1_loop.trips) (k0_t2 : Fin (k0_t2_loop k0_t1).trips) : Fin 3 → Nat :=
  let c0_325 : Index := 0#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v557 : Index := Scalar.indexCast v520
  let c192_326 : Index := 192#32
  ![0, v557.toNat, 192]
def k0_off13 (k0_t1 : Fin k0_t1_loop.trips) : Fin 4 → Nat :=
  let c0_364 : Index := 0#32
  let c0_365 : Index := 0#32
  let c0_i32 : BitVec 32 := 0#32
  let c1_i32 : BitVec 32 := 1#32
  let arg14 : BitVec 32 := Scf.iv c0_i32 c1_i32 k0_t1
  let v654 : Index := Scalar.indexCast arg14
  let c0_366 : Index := 0#32
  ![0, 0, v654.toNat, 0]
def k0_off14 (k0_t1 : Fin k0_t1_loop.trips) : Fin 4 → Nat :=
  let c0_370 : Index := 0#32
  let c1_371 : Index := 1#32
  let c0_i32 : BitVec 32 := 0#32
  let c1_i32 : BitVec 32 := 1#32
  let arg14 : BitVec 32 := Scf.iv c0_i32 c1_i32 k0_t1
  let v665 : Index := Scalar.indexCast arg14
  let c0_372 : Index := 0#32
  ![0, 1, v665.toNat, 0]
def k0_off15 (k0_t1 : Fin k0_t1_loop.trips) : Fin 4 → Nat :=
  let c0_376 : Index := 0#32
  let c2_377 : Index := 2#32
  let c0_i32 : BitVec 32 := 0#32
  let c1_i32 : BitVec 32 := 1#32
  let arg14 : BitVec 32 := Scf.iv c0_i32 c1_i32 k0_t1
  let v676 : Index := Scalar.indexCast arg14
  let c0_378 : Index := 0#32
  ![0, 2, v676.toNat, 0]
def k0_off16 (k0_t1 : Fin k0_t1_loop.trips) : Fin 4 → Nat :=
  let c0_382 : Index := 0#32
  let c3_383 : Index := 3#32
  let c0_i32 : BitVec 32 := 0#32
  let c1_i32 : BitVec 32 := 1#32
  let arg14 : BitVec 32 := Scf.iv c0_i32 c1_i32 k0_t1
  let v687 : Index := Scalar.indexCast arg14
  let c0_384 : Index := 0#32
  ![0, 3, v687.toNat, 0]
def k0_off17 (k0_t1 : Fin k0_t1_loop.trips) (k0_t2 : Fin (k0_t2_loop k0_t1).trips) : Fin 3 → Nat :=
  let c0_404 : Index := 0#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v745 : Index := Scalar.indexCast v520
  let c0_405 : Index := 0#32
  ![0, v745.toNat, 0]
def k0_off18 (k0_t1 : Fin k0_t1_loop.trips) (k0_t2 : Fin (k0_t2_loop k0_t1).trips) : Fin 3 → Nat :=
  let c0_i32_46 : BitVec 32 := 0#32
  let c1_i32_49 : BitVec 32 := 1#32
  let arg15 : BitVec 32 := Scf.iv c0_i32_46 c1_i32_49 k0_t2
  let v766 : Index := Scalar.indexCast arg15
  let c0_417 : Index := 0#32
  let c0_418 : Index := 0#32
  ![v766.toNat, 0, 0]
def k0_off19 (k0_t1 : Fin k0_t1_loop.trips) (k0_t2 : Fin (k0_t2_loop k0_t1).trips) : Fin 3 → Nat :=
  let c1_437 : Index := 1#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v790 : Index := Scalar.indexCast v520
  let c0_438 : Index := 0#32
  ![1, v790.toNat, 0]
def k0_off20 (k0_t1 : Fin k0_t1_loop.trips) (k0_t2 : Fin (k0_t2_loop k0_t1).trips) : Fin 3 → Nat :=
  let c0_i32_46 : BitVec 32 := 0#32
  let c1_i32_49 : BitVec 32 := 1#32
  let arg15 : BitVec 32 := Scf.iv c0_i32_46 c1_i32_49 k0_t2
  let v811 : Index := Scalar.indexCast arg15
  let c128_450 : Index := 128#32
  let c0_451 : Index := 0#32
  ![v811.toNat, 128, 0]
def k0_off21 (k0_t1 : Fin k0_t1_loop.trips) (k0_t2 : Fin (k0_t2_loop k0_t1).trips) : Fin 3 → Nat :=
  let c2_470 : Index := 2#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v835 : Index := Scalar.indexCast v520
  let c0_471 : Index := 0#32
  ![2, v835.toNat, 0]
def k0_off22 (k0_t1 : Fin k0_t1_loop.trips) (k0_t2 : Fin (k0_t2_loop k0_t1).trips) : Fin 3 → Nat :=
  let c0_i32_46 : BitVec 32 := 0#32
  let c1_i32_49 : BitVec 32 := 1#32
  let arg15 : BitVec 32 := Scf.iv c0_i32_46 c1_i32_49 k0_t2
  let v856 : Index := Scalar.indexCast arg15
  let c256_483 : Index := 256#32
  let c0_484 : Index := 0#32
  ![v856.toNat, 256, 0]
def k0_off23 (k0_t1 : Fin k0_t1_loop.trips) (k0_t2 : Fin (k0_t2_loop k0_t1).trips) : Fin 3 → Nat :=
  let c3_503 : Index := 3#32
  let c0_i32_46 : BitVec 32 := 0#32
  let c1_i32_49 : BitVec 32 := 1#32
  let arg15 : BitVec 32 := Scf.iv c0_i32_46 c1_i32_49 k0_t2
  let c256_i32_303 : BitVec 32 := 256#32
  let v519 : BitVec 32 := Scalar.muli arg15 c256_i32_303
  let v520 : BitVec 32 := v519
  let v880 : Index := Scalar.indexCast v520
  let c0_504 : Index := 0#32
  ![3, v880.toNat, 0]
def k0_off24 (k0_t1 : Fin k0_t1_loop.trips) (k0_t2 : Fin (k0_t2_loop k0_t1).trips) : Fin 3 → Nat :=
  let c0_i32_46 : BitVec 32 := 0#32
  let c1_i32_49 : BitVec 32 := 1#32
  let arg15 : BitVec 32 := Scf.iv c0_i32_46 c1_i32_49 k0_t2
  let v901 : Index := Scalar.indexCast arg15
  let c384_516 : Index := 384#32
  let c0_517 : Index := 0#32
  ![v901.toNat, 384, 0]
@[reducible] def k0_t3_loop (k0_t1 : Fin k0_t1_loop.trips) : Scf.Loop 32 :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let v63 : BitVec 32 := Scalar.addi c0_i32_46 v62
  let c1_i32_50 : BitVec 32 := 1#32
  ⟨v66, v63, c1_i32_50⟩
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  v517
def k0_mult4 (k0_t1 : Fin k0_t1_loop.trips) (k0_t3 : Fin (k0_t3_loop k0_t1).trips) : BitVec 32 :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  v519
def k0_off25 (k0_t1 : Fin k0_t1_loop.trips) : Fin 3 → Nat :=
  let c0_304 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v521 : Index := Scalar.indexCast v518
  let c0_305 : Index := 0#32
  ![0, v521.toNat, 0]
def k0_off26 (k0_t1 : Fin k0_t1_loop.trips) : Fin 3 → Nat :=
  let c0_306 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v524 : Index := Scalar.indexCast v518
  let c64_307 : Index := 64#32
  ![0, v524.toNat, 64]
def k0_off27 (k0_t1 : Fin k0_t1_loop.trips) : Fin 3 → Nat :=
  let c0_308 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v527 : Index := Scalar.indexCast v518
  let c128_309 : Index := 128#32
  ![0, v527.toNat, 128]
def k0_off28 (k0_t1 : Fin k0_t1_loop.trips) : Fin 3 → Nat :=
  let c0_310 : Index := 0#32
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v530 : Index := Scalar.indexCast v518
  let c192_311 : Index := 192#32
  ![0, v530.toNat, 192]
def k0_off29 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v533 : Index := Scalar.indexCast v518
  let c0_312 : Index := 0#32
  ![v533.toNat, 0]
def k0_off30 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v536 : Index := Scalar.indexCast v518
  let c64_313 : Index := 64#32
  ![v536.toNat, 64]
def k0_off31 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v539 : Index := Scalar.indexCast v518
  let c128_314 : Index := 128#32
  ![v539.toNat, 128]
def k0_off32 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32_302 : BitVec 32 := 256#32
  let v517 : BitVec 32 := Scalar.muli arg14 c256_i32_302
  let v518 : BitVec 32 := v517
  let v542 : Index := Scalar.indexCast v518
  let c192_315 : Index := 192#32
  ![v542.toNat, 192]
def k0_off33 (k0_t1 : Fin k0_t1_loop.trips) (k0_t3 : Fin (k0_t3_loop k0_t1).trips) : Fin 3 → Nat :=
  let c0_316 : Index := 0#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v545 : Index := Scalar.indexCast v520
  let c0_317 : Index := 0#32
  ![0, v545.toNat, 0]
def k0_off34 (k0_t1 : Fin k0_t1_loop.trips) (k0_t3 : Fin (k0_t3_loop k0_t1).trips) : Fin 3 → Nat :=
  let c0_319 : Index := 0#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v549 : Index := Scalar.indexCast v520
  let c64_320 : Index := 64#32
  ![0, v549.toNat, 64]
def k0_off35 (k0_t1 : Fin k0_t1_loop.trips) (k0_t3 : Fin (k0_t3_loop k0_t1).trips) : Fin 3 → Nat :=
  let c0_322 : Index := 0#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v553 : Index := Scalar.indexCast v520
  let c128_323 : Index := 128#32
  ![0, v553.toNat, 128]
def k0_off36 (k0_t1 : Fin k0_t1_loop.trips) (k0_t3 : Fin (k0_t3_loop k0_t1).trips) : Fin 3 → Nat :=
  let c0_325 : Index := 0#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v557 : Index := Scalar.indexCast v520
  let c192_326 : Index := 192#32
  ![0, v557.toNat, 192]
def k0_off37 (k0_t1 : Fin k0_t1_loop.trips) : Fin 4 → Nat :=
  let c0_364 : Index := 0#32
  let c0_365 : Index := 0#32
  let c0_i32 : BitVec 32 := 0#32
  let c1_i32 : BitVec 32 := 1#32
  let arg14 : BitVec 32 := Scf.iv c0_i32 c1_i32 k0_t1
  let v654 : Index := Scalar.indexCast arg14
  let c0_366 : Index := 0#32
  ![0, 0, v654.toNat, 0]
def k0_off38 (k0_t1 : Fin k0_t1_loop.trips) : Fin 4 → Nat :=
  let c0_370 : Index := 0#32
  let c1_371 : Index := 1#32
  let c0_i32 : BitVec 32 := 0#32
  let c1_i32 : BitVec 32 := 1#32
  let arg14 : BitVec 32 := Scf.iv c0_i32 c1_i32 k0_t1
  let v665 : Index := Scalar.indexCast arg14
  let c0_372 : Index := 0#32
  ![0, 1, v665.toNat, 0]
def k0_off39 (k0_t1 : Fin k0_t1_loop.trips) : Fin 4 → Nat :=
  let c0_376 : Index := 0#32
  let c2_377 : Index := 2#32
  let c0_i32 : BitVec 32 := 0#32
  let c1_i32 : BitVec 32 := 1#32
  let arg14 : BitVec 32 := Scf.iv c0_i32 c1_i32 k0_t1
  let v676 : Index := Scalar.indexCast arg14
  let c0_378 : Index := 0#32
  ![0, 2, v676.toNat, 0]
def k0_off40 (k0_t1 : Fin k0_t1_loop.trips) : Fin 4 → Nat :=
  let c0_382 : Index := 0#32
  let c3_383 : Index := 3#32
  let c0_i32 : BitVec 32 := 0#32
  let c1_i32 : BitVec 32 := 1#32
  let arg14 : BitVec 32 := Scf.iv c0_i32 c1_i32 k0_t1
  let v687 : Index := Scalar.indexCast arg14
  let c0_384 : Index := 0#32
  ![0, 3, v687.toNat, 0]
def k0_off41 (k0_t1 : Fin k0_t1_loop.trips) (k0_t3 : Fin (k0_t3_loop k0_t1).trips) : Fin 3 → Nat :=
  let c0_404 : Index := 0#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v745 : Index := Scalar.indexCast v520
  let c0_405 : Index := 0#32
  ![0, v745.toNat, 0]
def k0_off42 (k0_t1 : Fin k0_t1_loop.trips) (k0_t3 : Fin (k0_t3_loop k0_t1).trips) : Fin 3 → Nat :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let v766 : Index := Scalar.indexCast arg15
  let c0_417 : Index := 0#32
  let c0_418 : Index := 0#32
  ![v766.toNat, 0, 0]
def k0_off43 (k0_t1 : Fin k0_t1_loop.trips) (k0_t3 : Fin (k0_t3_loop k0_t1).trips) : Fin 3 → Nat :=
  let c1_437 : Index := 1#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v790 : Index := Scalar.indexCast v520
  let c0_438 : Index := 0#32
  ![1, v790.toNat, 0]
def k0_off44 (k0_t1 : Fin k0_t1_loop.trips) (k0_t3 : Fin (k0_t3_loop k0_t1).trips) : Fin 3 → Nat :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let v811 : Index := Scalar.indexCast arg15
  let c128_450 : Index := 128#32
  let c0_451 : Index := 0#32
  ![v811.toNat, 128, 0]
def k0_off45 (k0_t1 : Fin k0_t1_loop.trips) (k0_t3 : Fin (k0_t3_loop k0_t1).trips) : Fin 3 → Nat :=
  let c2_470 : Index := 2#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v835 : Index := Scalar.indexCast v520
  let c0_471 : Index := 0#32
  ![2, v835.toNat, 0]
def k0_off46 (k0_t1 : Fin k0_t1_loop.trips) (k0_t3 : Fin (k0_t3_loop k0_t1).trips) : Fin 3 → Nat :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let v856 : Index := Scalar.indexCast arg15
  let c256_483 : Index := 256#32
  let c0_484 : Index := 0#32
  ![v856.toNat, 256, 0]
def k0_off47 (k0_t1 : Fin k0_t1_loop.trips) (k0_t3 : Fin (k0_t3_loop k0_t1).trips) : Fin 3 → Nat :=
  let c3_503 : Index := 3#32
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let c256_i32_303 : BitVec 32 := 256#32
  let v519 : BitVec 32 := Scalar.muli arg15 c256_i32_303
  let v520 : BitVec 32 := v519
  let v880 : Index := Scalar.indexCast v520
  let c0_504 : Index := 0#32
  ![3, v880.toNat, 0]
def k0_off48 (k0_t1 : Fin k0_t1_loop.trips) (k0_t3 : Fin (k0_t3_loop k0_t1).trips) : Fin 3 → Nat :=
  let c0_i32_46 : BitVec 32 := 0#32
  let c0_i32 : BitVec 32 := 0#32
  let c1_i32 : BitVec 32 := 1#32
  let arg14 : BitVec 32 := Scf.iv c0_i32 c1_i32 k0_t1
  let v62 : BitVec 32 := Scalar.subi arg14 c0_i32_46
  let c1_i32_48 : BitVec 32 := 1#32
  let v64 : BitVec 32 := Scalar.divsi v62 c1_i32_48
  let v65 : BitVec 32 := Scalar.muli v64 c1_i32_48
  let v66 : BitVec 32 := Scalar.addi c0_i32_46 v65
  let c1_i32_50 : BitVec 32 := 1#32
  let arg15 : BitVec 32 := Scf.iv v66 c1_i32_50 k0_t3
  let v901 : Index := Scalar.indexCast arg15
  let c384_516 : Index := 384#32
  let c0_517 : Index := 0#32
  ![v901.toNat, 384, 0]
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  v69
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_51 : BitVec 32 := 256#32
  let v71 : BitVec 32 := Scalar.muli arg14 c256_i32_51
  v71
def k0_off49 (k0_t1 : Fin k0_t1_loop.trips) : Fin 3 → Nat :=
  let c0_52 : Index := 0#32
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v73 : Index := Scalar.indexCast v70
  let c0_53 : Index := 0#32
  ![0, v73.toNat, 0]
def k0_off50 (k0_t1 : Fin k0_t1_loop.trips) : Fin 3 → Nat :=
  let c0_54 : Index := 0#32
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v76 : Index := Scalar.indexCast v70
  let c64 : Index := 64#32
  ![0, v76.toNat, 64]
def k0_off51 (k0_t1 : Fin k0_t1_loop.trips) : Fin 3 → Nat :=
  let c0_55 : Index := 0#32
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v79 : Index := Scalar.indexCast v70
  let c128 : Index := 128#32
  ![0, v79.toNat, 128]
def k0_off52 (k0_t1 : Fin k0_t1_loop.trips) : Fin 3 → Nat :=
  let c0_56 : Index := 0#32
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v82 : Index := Scalar.indexCast v70
  let c192 : Index := 192#32
  ![0, v82.toNat, 192]
def k0_off53 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v85 : Index := Scalar.indexCast v70
  let c0_57 : Index := 0#32
  ![v85.toNat, 0]
def k0_off54 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v88 : Index := Scalar.indexCast v70
  let c64_58 : Index := 64#32
  ![v88.toNat, 64]
def k0_off55 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v91 : Index := Scalar.indexCast v70
  let c128_59 : Index := 128#32
  ![v91.toNat, 128]
def k0_off56 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v69 : BitVec 32 := Scalar.muli arg14 c256_i32
  let v70 : BitVec 32 := v69
  let v94 : Index := Scalar.indexCast v70
  let c192_60 : Index := 192#32
  ![v94.toNat, 192]
def k0_off57 (k0_t1 : Fin k0_t1_loop.trips) : Fin 4 → Nat :=
  let c0_113 : Index := 0#32
  let c0_114 : Index := 0#32
  let c0_i32 : BitVec 32 := 0#32
  let c1_i32 : BitVec 32 := 1#32
  let arg14 : BitVec 32 := Scf.iv c0_i32 c1_i32 k0_t1
  let v214 : Index := Scalar.indexCast arg14
  let c0_115 : Index := 0#32
  ![0, 0, v214.toNat, 0]
def k0_off58 (k0_t1 : Fin k0_t1_loop.trips) : Fin 4 → Nat :=
  let c0_119 : Index := 0#32
  let c1_120 : Index := 1#32
  let c0_i32 : BitVec 32 := 0#32
  let c1_i32 : BitVec 32 := 1#32
  let arg14 : BitVec 32 := Scf.iv c0_i32 c1_i32 k0_t1
  let v225 : Index := Scalar.indexCast arg14
  let c0_121 : Index := 0#32
  ![0, 1, v225.toNat, 0]
def k0_off59 (k0_t1 : Fin k0_t1_loop.trips) : Fin 4 → Nat :=
  let c0_125 : Index := 0#32
  let c2_126 : Index := 2#32
  let c0_i32 : BitVec 32 := 0#32
  let c1_i32 : BitVec 32 := 1#32
  let arg14 : BitVec 32 := Scf.iv c0_i32 c1_i32 k0_t1
  let v236 : Index := Scalar.indexCast arg14
  let c0_127 : Index := 0#32
  ![0, 2, v236.toNat, 0]
def k0_off60 (k0_t1 : Fin k0_t1_loop.trips) : Fin 4 → Nat :=
  let c0_131 : Index := 0#32
  let c3_132 : Index := 3#32
  let c0_i32 : BitVec 32 := 0#32
  let c1_i32 : BitVec 32 := 1#32
  let arg14 : BitVec 32 := Scf.iv c0_i32 c1_i32 k0_t1
  let v247 : Index := Scalar.indexCast arg14
  let c0_133 : Index := 0#32
  ![0, 3, v247.toNat, 0]
def k0_off61 (k0_t1 : Fin k0_t1_loop.trips) : Fin 3 → Nat :=
  let c0_157 : Index := 0#32
  let c0_i32 : BitVec 32 := 0#32
  let c1_i32 : BitVec 32 := 1#32
  let arg14 : BitVec 32 := Scf.iv c0_i32 c1_i32 k0_t1
  let c256_i32_51 : BitVec 32 := 256#32
  let v71 : BitVec 32 := Scalar.muli arg14 c256_i32_51
  let v72 : BitVec 32 := v71
  let v313 : Index := Scalar.indexCast v72
  let c0_158 : Index := 0#32
  ![0, v313.toNat, 0]
def k0_off62 (k0_t1 : Fin k0_t1_loop.trips) : Fin 3 → Nat :=
  let c0_i32 : BitVec 32 := 0#32
  let c1_i32 : BitVec 32 := 1#32
  let arg14 : BitVec 32 := Scf.iv c0_i32 c1_i32 k0_t1
  let v334 : Index := Scalar.indexCast arg14
  let c0_170 : Index := 0#32
  let c0_171 : Index := 0#32
  ![v334.toNat, 0, 0]
def k0_off63 (k0_t1 : Fin k0_t1_loop.trips) : Fin 3 → Nat :=
  let c1_190 : Index := 1#32
  let c0_i32 : BitVec 32 := 0#32
  let c1_i32 : BitVec 32 := 1#32
  let arg14 : BitVec 32 := Scf.iv c0_i32 c1_i32 k0_t1
  let c256_i32_51 : BitVec 32 := 256#32
  let v71 : BitVec 32 := Scalar.muli arg14 c256_i32_51
  let v72 : BitVec 32 := v71
  let v358 : Index := Scalar.indexCast v72
  let c0_191 : Index := 0#32
  ![1, v358.toNat, 0]
def k0_off64 (k0_t1 : Fin k0_t1_loop.trips) : Fin 3 → Nat :=
  let c0_i32 : BitVec 32 := 0#32
  let c1_i32 : BitVec 32 := 1#32
  let arg14 : BitVec 32 := Scf.iv c0_i32 c1_i32 k0_t1
  let v379 : Index := Scalar.indexCast arg14
  let c128_203 : Index := 128#32
  let c0_204 : Index := 0#32
  ![v379.toNat, 128, 0]
def k0_off65 (k0_t1 : Fin k0_t1_loop.trips) : Fin 3 → Nat :=
  let c2_223 : Index := 2#32
  let c0_i32 : BitVec 32 := 0#32
  let c1_i32 : BitVec 32 := 1#32
  let arg14 : BitVec 32 := Scf.iv c0_i32 c1_i32 k0_t1
  let c256_i32_51 : BitVec 32 := 256#32
  let v71 : BitVec 32 := Scalar.muli arg14 c256_i32_51
  let v72 : BitVec 32 := v71
  let v403 : Index := Scalar.indexCast v72
  let c0_224 : Index := 0#32
  ![2, v403.toNat, 0]
def k0_off66 (k0_t1 : Fin k0_t1_loop.trips) : Fin 3 → Nat :=
  let c0_i32 : BitVec 32 := 0#32
  let c1_i32 : BitVec 32 := 1#32
  let arg14 : BitVec 32 := Scf.iv c0_i32 c1_i32 k0_t1
  let v424 : Index := Scalar.indexCast arg14
  let c256 : Index := 256#32
  let c0_236 : Index := 0#32
  ![v424.toNat, 256, 0]
def k0_off67 (k0_t1 : Fin k0_t1_loop.trips) : Fin 3 → Nat :=
  let c3_255 : Index := 3#32
  let c0_i32 : BitVec 32 := 0#32
  let c1_i32 : BitVec 32 := 1#32
  let arg14 : BitVec 32 := Scf.iv c0_i32 c1_i32 k0_t1
  let c256_i32_51 : BitVec 32 := 256#32
  let v71 : BitVec 32 := Scalar.muli arg14 c256_i32_51
  let v72 : BitVec 32 := v71
  let v448 : Index := Scalar.indexCast v72
  let c0_256 : Index := 0#32
  ![3, v448.toNat, 0]
def k0_off68 (k0_t1 : Fin k0_t1_loop.trips) : Fin 3 → Nat :=
  let c0_i32 : BitVec 32 := 0#32
  let c1_i32 : BitVec 32 := 1#32
  let arg14 : BitVec 32 := Scf.iv c0_i32 c1_i32 k0_t1
  let v469 : Index := Scalar.indexCast arg14
  let c384 : Index := 384#32
  let c0_268 : Index := 0#32
  ![v469.toNat, 384, 0]
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_299 : BitVec 32 := 256#32
  let v511 : BitVec 32 := Scalar.muli arg14 c256_i32_299
  v511
def k0_off69 (k0_t1 : Fin k0_t1_loop.trips) : Fin 3 → Nat :=
  let c0_300 : Index := 0#32
  let c0_i32 : BitVec 32 := 0#32
  let c1_i32 : BitVec 32 := 1#32
  let arg14 : BitVec 32 := Scf.iv c0_i32 c1_i32 k0_t1
  let c256_i32_299 : BitVec 32 := 256#32
  let v511 : BitVec 32 := Scalar.muli arg14 c256_i32_299
  let v512 : BitVec 32 := v511
  let v513 : Index := Scalar.indexCast v512
  let c0_301 : Index := 0#32
  ![0, v513.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x4096x512 : Shape := ⟨3, ![3, 4096, 512]⟩
abbrev S4096x512 : Shape := ⟨2, ![4096, 512]⟩
abbrev S1x4096x512 : Shape := ⟨3, ![1, 4096, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x8x64x2048 : Shape := ⟨4, ![2, 8, 64, 2048]⟩

abbrev nBuf : Space → Nat
  | .hbm => 179
  | .vmem => 0
  | .smem => 0
  | _ => 0

abbrev hbmTy0_0 (i : Nat) : BufTy := match i % 128 with
  | 0 => ⟨S3x4096x512, .f32⟩
  | 1 => ⟨S4096x512, .f32⟩
  | 2 => ⟨S1x4096x512, .f32⟩
  | 3 => ⟨S4096x512, .f32⟩
  | 4 => ⟨S1x4096x512, .f32⟩
  | 5 => ⟨S4096x512, .f32⟩
  | 6 => ⟨S1x4096x512, .f32⟩
  | 7 => ⟨S4096x512, .f32⟩
  | 8 => ⟨S2x2048x8x64, .f32⟩
  | 9 => ⟨S2x8x2048x64, .f32⟩
  | 10 => ⟨S2x2048x8x64, .f32⟩
  | 11 => ⟨S2x8x2048x64, .f32⟩
  | 12 => ⟨S2x2048x8x64, .f32⟩
  | 13 => ⟨S2x8x2048x64, .f32⟩
  | 14 => ⟨S2x8x2048x2048, .f32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S2x8x2048x2048, .f32⟩
  | 22 => ⟨S2x8x2048x2048, .f32⟩
  | 23 => ⟨S_, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .i1⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S_, .f32⟩
  | 38 => ⟨S2x8x2048x2048, .f32⟩
  | 39 => ⟨S2x8x2048x2048, .i1⟩
  | 40 => ⟨S_, .f32⟩
  | 41 => ⟨S2x8x2048x2048, .f32⟩
  | 42 => ⟨S2x8x2048x2048, .f32⟩
  | 43 => ⟨S_, .f32⟩
  | 44 => ⟨S2x8x2048x2048, .f32⟩
  | 45 => ⟨S2x8x2048x2048, .i1⟩
  | 46 => ⟨S_, .f32⟩
  | 47 => ⟨S2x8x2048x2048, .f32⟩
  | 48 => ⟨S2x8x2048x2048, .f32⟩
  | 49 => ⟨S2x8x2048x2048, .f32⟩
  | 50 => ⟨S2x8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x8x2048x2048, .f32⟩
  | 59 => ⟨S2x8x2048x2048, .i1⟩
  | 60 => ⟨S_, .f32⟩
  | 61 => ⟨S2x8x2048x2048, .f32⟩
  | 62 => ⟨S2x8x2048x2048, .f32⟩
  | 63 => ⟨S2x8x2048x2048, .f32⟩
  | 64 => ⟨S2x8x2048x2048, .f32⟩
  | 65 => ⟨S2x8x2048x2048, .f32⟩
  | 66 => ⟨S_, .f32⟩
  | 67 => ⟨S2x8x2048x2048, .f32⟩
  | 68 => ⟨S2x8x2048x2048, .f32⟩
  | 69 => ⟨S2x8x2048x2048, .f32⟩
  | 70 => ⟨S_, .f32⟩
  | 71 => ⟨S_, .f32⟩
  | 72 => ⟨S2x8x2048x2048, .i1⟩
  | 73 => ⟨S2x8x2048x2048, .f32⟩
  | 74 => ⟨S2x8x2048x2048, .f32⟩
  | 75 => ⟨S_, .f32⟩
  | 76 => ⟨S2x8x2048x2048, .f32⟩
  | 77 => ⟨S_, .f32⟩
  | 78 => ⟨S_, .f32⟩
  | 79 => ⟨S2x8x2048x2048, .f32⟩
  | 80 => ⟨S2x8x2048x2048, .f32⟩
  | 81 => ⟨S2x8x2048x2048, .f32⟩
  | 82 => ⟨S_, .f32⟩
  | 83 => ⟨S2x8x2048x2048, .f32⟩
  | 84 => ⟨S2x8x2048x2048, .f32⟩
  | 85 => ⟨S2x8x2048x2048, .f32⟩
  | 86 => ⟨S2x8x2048x2048, .f32⟩
  | 87 => ⟨S2x8x2048x2048, .i1⟩
  | 88 => ⟨S2x8x2048x2048, .f32⟩
  | 89 => ⟨S2x8x2048x2048, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S2x8x2048x2048, .f32⟩
  | 95 => ⟨S2x8x2048x2048, .f32⟩
  | 96 => ⟨S_, .f32⟩
  | 97 => ⟨S2x8x2048x2048, .f32⟩
  | 98 => ⟨S2x8x2048x2048, .i1⟩
  | 99 => ⟨S_, .f32⟩
  | 100 => ⟨S2x8x2048x2048, .f32⟩
  | 101 => ⟨S2x8x2048x2048, .f32⟩
  | 102 => ⟨S_, .f32⟩
  | 103 => ⟨S2x8x2048x2048, .f32⟩
  | 104 => ⟨S2x8x2048x2048, .i1⟩
  | 105 => ⟨S_, .f32⟩
  | 106 => ⟨S2x8x2048x2048, .f32⟩
  | 107 => ⟨S2x8x2048x2048, .f32⟩
  | 108 => ⟨S2x8x2048x2048, .f32⟩
  | 109 => ⟨S2x8x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S2x8x2048x2048, .f32⟩
  | 118 => ⟨S2x8x2048x2048, .i1⟩
  | 119 => ⟨S_, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S2x8x2048x2048, .f32⟩
  | 125 => ⟨S_, .f32⟩
  | 126 => ⟨S2x8x2048x2048, .f32⟩
  | 127 => ⟨S2x8x2048x2048, .f32⟩
  | _ => ⟨S3x4096x512, .f32⟩

abbrev hbmTy0_1 (i : Nat) : BufTy := match i % 128 with
  | 0 => ⟨S2x8x2048x2048, .f32⟩
  | 1 => ⟨S2x8x2048x2048, .f32⟩
  | 2 => ⟨S2x8x2048x2048, .f32⟩
  | 3 => ⟨S_, .f32⟩
  | 4 => ⟨S_, .f32⟩
  | 5 => ⟨S2x8x2048x2048, .i1⟩
  | 6 => ⟨S2x8x2048x2048, .f32⟩
  | 7 => ⟨S2x8x2048x2048, .f32⟩
  | 8 => ⟨S_, .f32⟩
  | 9 => ⟨S2x8x2048x2048, .f32⟩
  | 10 => ⟨S2x8x2048x64, .f32⟩
  | 11 => ⟨S2x2048x8x64, .f32⟩
  | 12 => ⟨S4096x512, .f32⟩
  | 13 => ⟨S2x2048x8x64, .f32⟩
  | 14 => ⟨S2x8x2048x64, .f32⟩
  | 15 => ⟨S2x8x64x2048, .f32⟩
  | 16 => ⟨S2x8x2048x64, .f32⟩
  | 17 => ⟨S2x8x2048x2048, .f32⟩
  | 18 => ⟨S_, .f32⟩
  | 19 => ⟨S2x8x2048x2048, .f32⟩
  | 20 => ⟨S2x8x2048x2048, .f32⟩
  | 21 => ⟨S2x8x2048x2048, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S_, .f32⟩
  | 27 => ⟨S_, .f32⟩
  | 28 => ⟨S2x8x2048x2048, .f32⟩
  | 29 => ⟨S2x8x2048x2048, .f32⟩
  | 30 => ⟨S_, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x64, .f32⟩
  | 39 => ⟨S2x8x2048x64, .f32⟩
  | 40 => ⟨S2x2048x8x64, .f32⟩
  | 41 => ⟨S4096x512, .f32⟩
  | 42 => ⟨S2x2048x8x64, .f32⟩
  | 43 => ⟨S4096x512, .f32⟩
  | 44 => ⟨S2x2048x8x64, .f32⟩
  | 45 => ⟨S4096x512, .f32⟩
  | 46 => ⟨S1x4096x512, .f32⟩
  | 47 => ⟨S1x4096x512, .f32⟩
  | 48 => ⟨S1x4096x512, .f32⟩
  | 49 => ⟨S3x4096x512, .f32⟩
  | 50 => ⟨S3x4096x512, .bf16⟩
  | _ => ⟨S3x4096x512, .f32⟩

abbrev hbmTy (i : Nat) : BufTy := match i / 128 with
  | 0 => hbmTy0_0 i
  | 1 => hbmTy0_1 i
  | _ => ⟨S3x4096x512, .f32⟩

abbrev bufTy : (tb : Table) → Fin (tcTables nBuf tb) → BufTy
  | .hbm, ⟨i, _⟩ => hbmTy i
  | _, _ => ⟨S3x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v20_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v20_2 : Ref sig .tc := ⟨.hbm, 68, rfl⟩
abbrev main_v20_0 : Ref sig .tc := ⟨.hbm, 69, rfl⟩
abbrev main_cst : Ref sig .tc := ⟨.hbm, 70, rfl⟩
abbrev main_call1_v0 : Ref sig .tc := ⟨.hbm, 71, rfl⟩
abbrev main_v21_1 : Ref sig .tc := ⟨.hbm, 72, rfl⟩
abbrev main_call1_v2 : Ref sig .tc := ⟨.hbm, 73, rfl⟩
abbrev main_v21_0 : Ref sig .tc := ⟨.hbm, 74, rfl⟩
abbrev main_call1_cst : Ref sig .tc := ⟨.hbm, 75, rfl⟩
abbrev main_v21_2 : Ref sig .tc := ⟨.hbm, 76, rfl⟩
abbrev main_call2_cst : Ref sig .tc := ⟨.hbm, 77, rfl⟩
abbrev main_call2_v0 : Ref sig .tc := ⟨.hbm, 78, rfl⟩
abbrev main_v22 : Ref sig .tc := ⟨.hbm, 79, rfl⟩
abbrev main_v23 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v24_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v24_2 : Ref sig .tc := ⟨.hbm, 127, rfl⟩
abbrev main_v24_0 : Ref sig .tc := ⟨.hbm, 128, rfl⟩
abbrev main_v25 : Ref sig .tc := ⟨.hbm, 129, rfl⟩
abbrev main_v26 : Ref sig .tc := ⟨.hbm, 130, rfl⟩
abbrev main_cst_0 : Ref sig .tc := ⟨.hbm, 131, rfl⟩
abbrev main_call4_v0 : Ref sig .tc := ⟨.hbm, 132, rfl⟩
abbrev main_v27_1 : Ref sig .tc := ⟨.hbm, 133, rfl⟩
abbrev main_call4_v2 : Ref sig .tc := ⟨.hbm, 134, rfl⟩
abbrev main_v27_0 : Ref sig .tc := ⟨.hbm, 135, rfl⟩
abbrev main_call4_cst : Ref sig .tc := ⟨.hbm, 136, rfl⟩
abbrev main_v27_2 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_call5_cst : Ref sig .tc := ⟨.hbm, 146, rfl⟩
abbrev main_call5_v0 : Ref sig .tc := ⟨.hbm, 147, rfl⟩
abbrev main_v36 : Ref sig .tc := ⟨.hbm, 148, rfl⟩
abbrev main_v37 : Ref sig .tc := ⟨.hbm, 149, rfl⟩
abbrev main_call6_v0 : Ref sig .tc := ⟨.hbm, 150, rfl⟩
abbrev main_call6_v1 : Ref sig .tc := ⟨.hbm, 151, rfl⟩
abbrev main_v38 : Ref sig .tc := ⟨.hbm, 152, rfl⟩
abbrev main_v39 : Ref sig .tc := ⟨.hbm, 153, rfl⟩
abbrev main_call7_cst : Ref sig .tc := ⟨.hbm, 154, rfl⟩
abbrev main_call7_v0 : Ref sig .tc := ⟨.hbm, 155, rfl⟩
abbrev main_v40 : Ref sig .tc := ⟨.hbm, 156, rfl⟩
abbrev main_v41 : Ref sig .tc := ⟨.hbm, 157, rfl⟩
abbrev main_call8_cst : Ref sig .tc := ⟨.hbm, 158, rfl⟩
abbrev main_call8_v0 : Ref sig .tc := ⟨.hbm, 159, rfl⟩
abbrev main_v42 : Ref sig .tc := ⟨.hbm, 160, rfl⟩
abbrev main_call9_v0 : Ref sig .tc := ⟨.hbm, 161, rfl⟩
abbrev main_call9_v1 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩

abbrev nD : Nat := 1
abbrev τ : Topo := Topo.v7x

variable {F : FTy → Type} [FloatOps F]
-- ==== Kernel3.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .bf16⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .bf16⟩
  | .local _ .vmem, ⟨7, _⟩ => ⟨S256x128, .bf16⟩
  | .local _ .vmem, ⟨8, _⟩ => ⟨S1x128, .f32⟩
  | .local _ .vmem, ⟨9, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.subi c7_i32 v27
  let v29 : BitVec 32 := Scalar.addi v17 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.subi c7_i32 v27
  let v29 : BitVec 32 := Scalar.addi v17 v28
  let c0_i32_11 : BitVec 32 := 0#32
  let c0_i32_12 : BitVec 32 := 0#32
  ![v29.toNat, c0_i32_11.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.subi c7_i32 v27
  let v29 : BitVec 32 := Scalar.addi v17 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.subi c7_i32 v27
  let v29 : BitVec 32 := Scalar.addi v17 v28
  let c0_i32_11 : BitVec 32 := 0#32
  let c0_i32_12 : BitVec 32 := 0#32
  ![v29.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S4096x128 : Shape := ⟨2, ![4096, 128]⟩
abbrev S2x2048x128 : Shape := ⟨3, ![2, 2048, 128]⟩
abbrev S_ : Shape := ⟨0, ![]⟩
abbrev S128 : Shape := ⟨1, ![128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S2x2048x128, .f32⟩
  | .hbm, ⟨4, _⟩ => ⟨S2x2048x128, .f32⟩
  | .hbm, ⟨5, _⟩ => ⟨S_, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S2x2048x128, .i1⟩
  | .hbm, ⟨11, _⟩ => ⟨S2x2048x128, .f32⟩
  | .hbm, ⟨12, _⟩ => ⟨S2x2048x128, .f32⟩
  | .hbm, ⟨13, _⟩ => ⟨S2x2048x128, .f32⟩
  | .hbm, ⟨14, _⟩ => ⟨S2x2048x128, .f32⟩
  | .hbm, ⟨15, _⟩ => ⟨S2x2048x128, .f32⟩
  | .hbm, ⟨16, _⟩ => ⟨S2x2048x128, .f32⟩
  | .hbm, ⟨17, _⟩ => ⟨S2x2048x128, .f32⟩
  | .hbm, ⟨18, _⟩ => ⟨S2x2048x128, .f32⟩
  | .hbm, ⟨19, _⟩ => ⟨S_, .f32⟩
  | .hbm, ⟨20, _⟩ => ⟨S2x2048x128, .f32⟩
  | .hbm, ⟨21, _⟩ => ⟨S2x2048x128, .i1⟩
  | .hbm, ⟨22, _⟩ => ⟨S_, .f32⟩
  | .hbm, ⟨23, _⟩ => ⟨S2x2048x128, .f32⟩
  | .hbm, ⟨24, _⟩ => ⟨S2x2048x128, .f32⟩
  | .hbm, ⟨25, _⟩ => ⟨S_, .f32⟩
  | .hbm, ⟨26, _⟩ => ⟨S2x2048x128, .f32⟩
  | .hbm, ⟨27, _⟩ => ⟨S2x2048x128, .i1⟩
  | .hbm, ⟨28, _⟩ => ⟨S_, .f32⟩
  | .hbm, ⟨29, _⟩ => ⟨S2x2048x128, .f32⟩
  | .hbm, ⟨30, _⟩ => ⟨S2x2048x128, .f32⟩
  | .hbm, ⟨31, _⟩ => ⟨S2x2048x128, .f32⟩
  | .hbm, ⟨32, _⟩ => ⟨S2x2048x128, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048x128, .f32⟩
  | .hbm, ⟨41, _⟩ => ⟨S2x2048x128, .i1⟩
  | .hbm, ⟨42, _⟩ => ⟨S_, .f32⟩
  | .hbm, ⟨43, _⟩ => ⟨S2x2048x128, .f32⟩
  | .hbm, ⟨44, _⟩ => ⟨S2x2048x128, .f32⟩
  | .hbm, ⟨45, _⟩ => ⟨S2x2048x128, .f32⟩
  | .hbm, ⟨46, _⟩ => ⟨S2x2048x128, .f32⟩
  | .hbm, ⟨47, _⟩ => ⟨S2x2048x128, .f32⟩
  | .hbm, ⟨48, _⟩ => ⟨S_, .f32⟩
  | .hbm, ⟨49, _⟩ => ⟨S2x2048x128, .f32⟩
  | .hbm, ⟨50, _⟩ => ⟨S2x2048x128, .f32⟩
  | .hbm, ⟨51, _⟩ => ⟨S2x2048x128, .f32⟩
  | .hbm, ⟨52, _⟩ => ⟨S_, .f32⟩
  | .hbm, ⟨53, _⟩ => ⟨S_, .f32⟩
  | .hbm, ⟨54, _⟩ => ⟨S2x2048x128, .f32⟩
  | .hbm, ⟨55, _⟩ => ⟨S4096x128, .f32⟩
  | .hbm, ⟨56, _⟩ => ⟨S2x2048x128, .f32⟩
  | .hbm, ⟨57, _⟩ => ⟨S_, .f32⟩
  | .hbm, ⟨58, _⟩ => ⟨S_, .f32⟩
  | .hbm, ⟨59, _⟩ => ⟨S2x2048x128, .f32⟩
  | .hbm, ⟨60, _⟩ => ⟨S2x2048x128, .f32⟩
  | .hbm, ⟨61, _⟩ => ⟨S2x2048x128, .f32⟩
  | .hbm, ⟨62, _⟩ => ⟨S2x2048x128, .f32⟩
  | .hbm, ⟨63, _⟩ => ⟨S4096x128, .f32⟩
  | .hbm, ⟨64, _⟩ => ⟨S4096x128, .bf16⟩
  | .hbm, ⟨65, _⟩ => ⟨S_, .f32⟩
  | .hbm, ⟨66, _⟩ => ⟨S128, .f32⟩
  | .hbm, ⟨67, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1_0 : Ref sig .tc := ⟨.hbm, 18, rfl⟩
abbrev main_call0_call0_cst_0 : Ref sig .tc := ⟨.hbm, 19, rfl⟩
abbrev main_call0_call0_v13 : Ref sig .tc := ⟨.hbm, 20, rfl⟩
abbrev main_call0_call0_v14 : Ref sig .tc := ⟨.hbm, 21, rfl⟩
abbrev main_call0_call0_cst_1 : Ref sig .tc := ⟨.hbm, 22, rfl⟩
abbrev main_call0_call0_v15 : Ref sig .tc := ⟨.hbm, 23, rfl⟩
abbrev main_call0_call0_v16 : Ref sig .tc := ⟨.hbm, 24, rfl⟩
abbrev main_call0_call0_cst_2 : Ref sig .tc := ⟨.hbm, 25, rfl⟩
abbrev main_call0_call0_v17 : Ref sig .tc := ⟨.hbm, 26, rfl⟩
abbrev main_call0_call0_v18 : Ref sig .tc := ⟨.hbm, 27, rfl⟩
abbrev main_call0_call0_cst_3 : Ref sig .tc := ⟨.hbm, 28, rfl⟩
abbrev main_call0_call0_v19 : Ref sig .tc := ⟨.hbm, 29, rfl⟩
abbrev main_call0_call0_v20 : Ref sig .tc := ⟨.hbm, 30, rfl⟩
abbrev main_call0_call0_v21 : Ref sig .tc := ⟨.hbm, 31, rfl⟩
abbrev main_v1_1 : Ref sig .tc := ⟨.hbm, 32, rfl⟩
abbrev main_call0_call0_cst_4 : Ref sig .tc := ⟨.hbm, 33, rfl⟩
abbrev main_call0_call0_cst_5 : Ref sig .tc := ⟨.hbm, 34, rfl⟩
abbrev main_call0_call0_v23 : Ref sig .tc := ⟨.hbm, 35, rfl⟩
abbrev main_call0_call0_cst_6 : Ref sig .tc := ⟨.hbm, 36, rfl⟩
abbrev main_call0_call0_cst_7 : Ref sig .tc := ⟨.hbm, 37, rfl⟩
abbrev main_call0_call0_v24 : Ref sig .tc := ⟨.hbm, 38, rfl⟩
abbrev main_call0_call0_cst_8 : Ref sig .tc := ⟨.hbm, 39, rfl⟩
abbrev main_call0_call0_v25 : Ref sig .tc := ⟨.hbm, 40, rfl⟩
abbrev main_call0_call0_v26 : Ref sig .tc := ⟨.hbm, 41, rfl⟩
abbrev main_call0_call0_cst_9 : Ref sig .tc := ⟨.hbm, 42, rfl⟩
abbrev main_call0_call0_v27 : Ref sig .tc := ⟨.hbm, 43, rfl⟩
abbrev main_call0_call0_v28 : Ref sig .tc := ⟨.hbm, 44, rfl⟩
abbrev main_call0_call0_v29 : Ref sig .tc := ⟨.hbm, 45, rfl⟩
abbrev main_call0_call0_v30 : Ref sig .tc := ⟨.hbm, 46, rfl⟩
abbrev main_call0_call0_v31 : Ref sig .tc := ⟨.hbm, 47, rfl⟩
abbrev main_call0_call0_cst_10 : Ref sig .tc := ⟨.hbm, 48, rfl⟩
abbrev main_call0_call0_v32 : Ref sig .tc := ⟨.hbm, 49, rfl⟩
abbrev main_v1_2 : Ref sig .tc := ⟨.hbm, 50, rfl⟩
abbrev main_v1_0 : Ref sig .tc := ⟨.hbm, 51, rfl⟩
abbrev main_call1_call0_cst : Ref sig .tc := ⟨.hbm, 52, rfl⟩
abbrev main_call1_call0_v0 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S256x1024 : Shape := ⟨2, ![256, 1024]⟩
abbrev S256x4096 : Shape := ⟨2, ![256, 4096]⟩
abbrev S1024x256 : Shape := ⟨2, ![1024, 256]⟩
abbrev S256 : Shape := ⟨1, ![256]⟩
abbrev S256x1 : Shape := ⟨2, ![256, 1]⟩
abbrev S1024x1024 : Shape := ⟨2, ![1024, 1024]⟩
abbrev S1024 : Shape := ⟨1, ![1024]⟩

abbrev nBuf : Space → Nat
  | .hbm => 28
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .bf16⟩
  | .hbm, ⟨22, _⟩ => ⟨S1024x4096, .bf16⟩
  | .hbm, ⟨23, _⟩ => ⟨S4096x1024, .bf16⟩
  | .hbm, ⟨24, _⟩ => ⟨S4096x1024, .f32⟩
  | .hbm, ⟨25, _⟩ => ⟨S4096x4096, .bf16⟩
  | .hbm, ⟨26, _⟩ => ⟨S1024x4096, .bf16⟩
  | .hbm, ⟨27, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S1024x256, .bf16⟩
  | .local _ .vmem, ⟨14, _⟩ => ⟨S1024x256, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096x4096, .f32⟩
  | .hbm, ⟨91, _⟩ => ⟨S4096x4096, .i1⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S4096x1024, .f32⟩
  | .hbm, ⟨99, _⟩ => ⟨S4096x4096, .f32⟩
  | .hbm, ⟨100, _⟩ => ⟨S4096x4096, .f32⟩
  | .hbm, ⟨101, _⟩ => ⟨S_, .f32⟩
  | .hbm, ⟨102, _⟩ => ⟨S4096x4096, .f32⟩
  | .hbm, ⟨103, _⟩ => ⟨S4096x4096, .f32⟩
  | .hbm, ⟨104, _⟩ => ⟨S4096x4096, .bf16⟩
  | .hbm, ⟨105, _⟩ => ⟨S4096x1024, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S4096x1, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S1024x4096, .f32⟩
  | .hbm, ⟨121, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S256x4096 : Shape := ⟨2, ![256, 4096]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S4096x1024, .bf16⟩
  | .local _ .vmem, ⟨5, _⟩ => ⟨S4096x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x4096 : Shape := ⟨2, ![1024, 4096]⟩
abbrev S8x1024x512 : Shape := ⟨3, ![8, 1024, 512]⟩
abbrev S1024x512 : Shape := ⟨2, ![1024, 512]⟩
abbrev S512x4096 : Shape := ⟨2, ![512, 4096]⟩
abbrev S1x1024x512 : Shape := ⟨3, ![1, 1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S8x1024x512, .bf16⟩
  | .local _ .vmem, ⟨0, _⟩ => ⟨S1024x512, .bf16⟩
  | .local _ .vmem, ⟨1, _⟩ => ⟨S1024x512, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S1024x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x512 : Shape := ⟨2, ![1024, 512]⟩
abbrev S1x1024x512 : Shape := ⟨3, ![1, 1024, 512]⟩
abbrev S8x1024x512 : Shape := ⟨3, ![8, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S8x1024x512, .f32⟩
  | .hbm, ⟨24, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel8.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x4096x1024, .bf16⟩
  | .hbm, ⟨4, _⟩ => ⟨S1x4096x1024, .f32⟩
  | .hbm, ⟨5, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond2 (i : grid0.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference8Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2x4096x512 : Shape := ⟨3, ![2, 4096, 512]⟩
abbrev S4096x1024 : Shape := ⟨2, ![4096, 1024]⟩
abbrev S2x512x1024 : Shape := ⟨3, ![2, 512, 1024]⟩
abbrev S2x512x512 : Shape := ⟨3, ![2, 512, 512]⟩
abbrev S512x1024 : Shape := ⟨2, ![512, 1024]⟩
abbrev S1x512x1024 : Shape := ⟨3, ![1, 512, 1024]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S4096x1024, .f32⟩
  | .hbm, ⟨2, _⟩ => ⟨S2x4096x512, .bf16⟩
  | .hbm, ⟨3, _⟩ => ⟨S4096x1024, .bf16⟩
  | .hbm, ⟨4, _⟩ => ⟨S2x512x1024, .bf16⟩
  | .local _ .vmem, ⟨0, _⟩ => ⟨S2x512x512, .bf16⟩
  | .local _ .vmem, ⟨1, _⟩ => ⟨S2x512x512, .bf16⟩
  | .local _ .vmem, ⟨2, _⟩ => ⟨S512x1024, .bf16⟩
  | .local _ .vmem, ⟨3, _⟩ => ⟨S512x1024, .bf16⟩
  | .local _ .vmem, ⟨4, _⟩ => ⟨S2x512x1024, .bf16⟩
  | .local _ .vmem, ⟨5, _⟩ => ⟨S2x512x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_20 : BitVec 32 := 0#32
  let v25 : BitVec 1 := Scalar.cmpi .ne v24 c0_i32_20
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S2x4096x512 : Shape := ⟨3, ![2, 4096, 512]⟩
abbrev S4096x1024 : Shape := ⟨2, ![4096, 1024]⟩
abbrev S1x4096x512 : Shape := ⟨3, ![1, 4096, 512]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩
abbrev S1x512x1024 : Shape := ⟨3, ![1, 512, 1024]⟩
abbrev S2x512x1024 : Shape := ⟨3, ![2, 512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S4096x1024, .f32⟩
  | .hbm, ⟨2, _⟩ => ⟨S1x4096x512, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1x4096x512, .f32⟩
  | .hbm, ⟨12, _⟩ => ⟨S4096x512, .f32⟩
  | .hbm, ⟨13, _⟩ => ⟨S_, .f32⟩
  | .hbm, ⟨14, _⟩ => ⟨S1024x512, .f32⟩
  | .hbm, ⟨15, _⟩ => ⟨S4096x512, .f32⟩
  | .hbm, ⟨16, _⟩ => ⟨S512x1024, .f32⟩
  | .hbm, ⟨17, _⟩ => ⟨S1024x512, .f32⟩
  | .hbm, ⟨18, _⟩ => ⟨S512x1024, .f32⟩
  | .hbm, ⟨19, _⟩ => ⟨S512x1024, .bf16⟩
  | .hbm, ⟨20, _⟩ => ⟨S1x512x1024, .bf16⟩
  | .hbm, ⟨21, _⟩ => ⟨S1x512x1024, .bf16⟩
  | .hbm, ⟨22, _⟩ => ⟨S2x512x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel7.lean ====
abbrev S4096x512 : Shape := ⟨2, ![4096, 512]⟩
abbrev S3x4096x512 : Shape := ⟨3, ![3, 4096, 512]⟩
abbrev S4096x2048 : Shape := ⟨2, ![4096, 2048]⟩
abbrev S4096x128 : Shape := ⟨2, ![4096, 128]⟩
abbrev S4096x1024 : Shape := ⟨2, ![4096, 1024]⟩
abbrev S512x1024 : Shape := ⟨2, ![512, 1024]⟩
abbrev S3x512x1024 : Shape := ⟨3, ![3, 512, 1024]⟩
abbrev S2048x1024 : Shape := ⟨2, ![2048, 1024]⟩
abbrev S128x1024 : Shape := ⟨2, ![128, 1024]⟩
abbrev S512x512 : Shape := ⟨2, ![512, 512]⟩
abbrev S3x512x512 : Shape := ⟨3, ![3, 512, 512]⟩
abbrev S512x2048 : Shape := ⟨2, ![512, 2048]⟩
abbrev S512x128 : Shape := ⟨2, ![512, 128]⟩
abbrev S1x512x1024 : Shape := ⟨3, ![1, 512, 1024]⟩
abbrev S1x512x512 : Shape := ⟨3, ![1, 512, 512]⟩

abbrev nBuf : Space → Nat
  | .hbm => 14
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S3x4096x512, .f32⟩
  | .hbm, ⟨2, _⟩ => ⟨S4096x2048, .f32⟩
  | .hbm, ⟨3, _⟩ => ⟨S4096x128, .f32⟩
  | .hbm, ⟨4, _⟩ => ⟨S4096x1024, .f32⟩
  | .hbm, ⟨5, _⟩ => ⟨S4096x512, .bf16⟩
  | .hbm, ⟨6, _⟩ => ⟨S3x4096x512, .bf16⟩
  | .hbm, ⟨7, _⟩ => ⟨S4096x2048, .bf16⟩
  | .hbm, ⟨8, _⟩ => ⟨S4096x128, .bf16⟩
  | .hbm, ⟨9, _⟩ => ⟨S4096x1024, .bf16⟩
  | .hbm, ⟨10, _⟩ => ⟨S512x1024, .bf16⟩
  | .hbm, ⟨11, _⟩ => ⟨S3x512x1024, .bf16⟩
  | .hbm, ⟨12, _⟩ => ⟨S2048x1024, .bf16⟩
  | .hbm, ⟨13, _⟩ => ⟨S128x1024, .bf16⟩
  | .local _ .vmem, ⟨0, _⟩ => ⟨S512x512, .bf16⟩
  | .local _ .vmem, ⟨1, _⟩ => ⟨S512x512, .bf16⟩
  | .local _ .vmem, ⟨2, _⟩ => ⟨S3x512x512, .bf16⟩
  | .local _ .vmem, ⟨3, _⟩ => ⟨S3x512x512, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S3x512x1024, .bf16⟩
  | .local _ .vmem, ⟨12, _⟩ => ⟨S2048x1024, .bf16⟩
  | .local _ .vmem, ⟨13, _⟩ => ⟨S128x1024, .bf16⟩
  | .local _ .vmem, ⟨14, _⟩ => ⟨S512x1024, .f32⟩
  | .local _ .vmem, ⟨15, _⟩ => ⟨S3x512x1024, .f32⟩
  | .local _ .vmem, ⟨16, _⟩ => ⟨S2048x1024, .f32⟩
  | .local _ .vmem, ⟨17, _⟩ => ⟨S128x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_50 : BitVec 32 := 0#32
  let v58 : BitVec 1 := Scalar.cmpi .ne v57 c0_i32_50
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x512 : Shape := ⟨2, ![4096, 512]⟩
abbrev S3x4096x512 : Shape := ⟨3, ![3, 4096, 512]⟩
abbrev S4096x2048 : Shape := ⟨2, ![4096, 2048]⟩
abbrev S4096x128 : Shape := ⟨2, ![4096, 128]⟩
abbrev S4096x1024 : Shape := ⟨2, ![4096, 1024]⟩
abbrev S1x4096x512 : Shape := ⟨3, ![1, 4096, 512]⟩
abbrev S_ : Shape := ⟨0, ![]⟩
abbrev S1024x512 : Shape := ⟨2, ![1024, 512]⟩
abbrev S512x1024 : Shape := ⟨2, ![512, 1024]⟩
abbrev S1x512x1024 : Shape := ⟨3, ![1, 512, 1024]⟩
abbrev S3x512x1024 : Shape := ⟨3, ![3, 512, 1024]⟩
abbrev S1024x2048 : Shape := ⟨2, ![1024, 2048]⟩
abbrev S2048x1024 : Shape := ⟨2, ![2048, 1024]⟩
abbrev S1024x128 : Shape := ⟨2, ![1024, 128]⟩
abbrev S128x1024 : Shape := ⟨2, ![128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S3x4096x512, .f32⟩
  | .hbm, ⟨2, _⟩ => ⟨S4096x2048, .f32⟩
  | .hbm, ⟨3, _⟩ => ⟨S4096x128, .f32⟩
  | .hbm, ⟨4, _⟩ => ⟨S4096x1024, .f32⟩
  | .hbm, ⟨5, _⟩ => ⟨S1x4096x512, .f32⟩
  | .hbm, ⟨6, _⟩ => ⟨S4096x512, .f32⟩
  | .hbm, ⟨7, _⟩ => ⟨S_, .f32⟩
  | .hbm, ⟨8, _⟩ => ⟨S1024x512, .f32⟩
  | .hbm, ⟨9, _⟩ => ⟨S4096x512, .f32⟩
  | .hbm, ⟨10, _⟩ => ⟨S512x1024, .f32⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S1x4096x512, .f32⟩
  | .hbm, ⟨15, _⟩ => ⟨S4096x512, .f32⟩
  | .hbm, ⟨16, _⟩ => ⟨S_, .f32⟩
  | .hbm, ⟨17, _⟩ => ⟨S1024x512, .f32⟩
  | .hbm, ⟨18, _⟩ => ⟨S4096x512, .f32⟩
  | .hbm, ⟨19, _⟩ => ⟨S512x1024, .f32⟩
  | .hbm, ⟨20, _⟩ => ⟨S1024x512, .f32⟩
  | .hbm, ⟨21, _⟩ => ⟨S512x1024, .f32⟩
  | .hbm, ⟨22, _⟩ => ⟨S512x1024, .bf16⟩
  | .hbm, ⟨23, _⟩ => ⟨S1x4096x512, .f32⟩
  | .hbm, ⟨24, _⟩ => ⟨S4096x512, .f32⟩
  | .hbm, ⟨25, _⟩ => ⟨S_, .f32⟩
  | .hbm, ⟨26, _⟩ => ⟨S1024x512, .f32⟩
  | .hbm, ⟨27, _⟩ => ⟨S4096x512, .f32⟩
  | .hbm, ⟨28, _⟩ => ⟨S512x1024, .f32⟩
  | .hbm, ⟨29, _⟩ => ⟨S1024x512, .f32⟩
  | .hbm, ⟨30, _⟩ => ⟨S512x1024, .f32⟩
  | .hbm, ⟨31, _⟩ => ⟨S512x1024, .bf16⟩
  | .hbm, ⟨32, _⟩ => ⟨S1x512x1024, .bf16⟩
  | .hbm, ⟨33, _⟩ => ⟨S1x512x1024, .bf16⟩
  | .hbm, ⟨34, _⟩ => ⟨S1x512x1024, .bf16⟩
  | .hbm, ⟨35, _⟩ => ⟨S3x512x1024, .bf16⟩
  | .hbm, ⟨36, _⟩ => ⟨S_, .f32⟩
  | .hbm, ⟨37, _⟩ => ⟨S1024x512, .f32⟩
  | .hbm, ⟨38, _⟩ => ⟨S4096x512, .f32⟩
  | .hbm, ⟨39, _⟩ => ⟨S512x1024, .f32⟩
  | .hbm, ⟨40, _⟩ => ⟨S1024x512, .f32⟩
  | .hbm, ⟨41, _⟩ => ⟨S512x1024, .f32⟩
  | .hbm, ⟨42, _⟩ => ⟨S512x1024, .bf16⟩
  | .hbm, ⟨43, _⟩ => ⟨S_, .f32⟩
  | .hbm, ⟨44, _⟩ => ⟨S1024x2048, .f32⟩
  | .hbm, ⟨45, _⟩ => ⟨S4096x2048, .f32⟩
  | .hbm, ⟨46, _⟩ => ⟨S2048x1024, .f32⟩
  | .hbm, ⟨47, _⟩ => ⟨S1024x2048, .f32⟩
  | .hbm, ⟨48, _⟩ => ⟨S2048x1024, .f32⟩
  | .hbm, ⟨49, _⟩ => ⟨S2048x1024, .bf16⟩
  | .hbm, ⟨50, _⟩ => ⟨S_, .f32⟩
  | .hbm, ⟨51, _⟩ => ⟨S1024x128, .f32⟩
  | .hbm, ⟨52, _⟩ => ⟨S4096x128, .f32⟩
  | .hbm, ⟨53, _⟩ => ⟨S128x1024, .f32⟩
  | .hbm, ⟨54, _⟩ => ⟨S1024x128, .f32⟩
  | .hbm, ⟨55, _⟩ => ⟨S128x1024, .f32⟩
  | .hbm, ⟨56, _⟩ => ⟨S128x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel9.lean ====
abbrev S2x4096x512 : Shape := ⟨3, ![2, 4096, 512]⟩
abbrev S4096x512 : Shape := ⟨2, ![4096, 512]⟩
abbrev S3x4096x512 : Shape := ⟨3, ![3, 4096, 512]⟩
abbrev S4096x2048 : Shape := ⟨2, ![4096, 2048]⟩
abbrev S4096x128 : Shape := ⟨2, ![4096, 128]⟩
abbrev S4096x1024 : Shape := ⟨2, ![4096, 1024]⟩
abbrev S1x1024 : Shape := ⟨2, ![1, 1024]⟩
abbrev S1024x5128 : Shape := ⟨2, ![1024, 5128]⟩
abbrev S5128x1024 : Shape := ⟨2, ![5128, 1024]⟩
abbrev S512x1024 : Shape := ⟨2, ![512, 1024]⟩
abbrev S8x1024 : Shape := ⟨2, ![8, 1024]⟩
abbrev S1024x1024 : Shape := ⟨2, ![1024, 1024]⟩
abbrev S_ : Shape := ⟨0, ![]⟩
abbrev S128x1024 : Shape := ⟨2, ![128, 1024]⟩
abbrev S8x64x1024 : Shape := ⟨3, ![8, 64, 1024]⟩
abbrev S8x128x1024 : Shape := ⟨3, ![8, 128, 1024]⟩
abbrev S6272x1024 : Shape := ⟨2, ![6272, 1024]⟩
abbrev S2x256x512 : Shape := ⟨3, ![2, 256, 512]⟩
abbrev S256x512 : Shape := ⟨2, ![256, 512]⟩
abbrev S3x256x512 : Shape := ⟨3, ![3, 256, 512]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x256x512 : Shape := ⟨3, ![1, 256, 512]⟩
abbrev S1024 : Shape := ⟨1, ![1024]⟩

abbrev nBuf : Space → Nat
  | .hbm => 51
  | .vmem => 20
  | .smem => 0
  | _ => 0

abbrev bufTy : (tb : Table) → Fin (tcTables nBuf tb) → BufTy
  | .hbm, ⟨0, _⟩ => ⟨S2x4096x512, .f32⟩
  | .hbm, ⟨1, _⟩ => ⟨S4096x512, .f32⟩
  | .hbm, ⟨2, _⟩ => ⟨S3x4096x512, .f32⟩
  | .hbm, ⟨3, _⟩ => ⟨S4096x2048, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x5128, .f32⟩
  | .hbm, ⟨9, _⟩ => ⟨S5128x1024, .f32⟩
  | .hbm, ⟨10, _⟩ => ⟨S5128x1024, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S8x1024, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1024x1024, .bf16⟩
  | .hbm, ⟨20, _⟩ => ⟨S_, .i32⟩
  | .hbm, ⟨21, _⟩ => ⟨S_, .bf16⟩
  | .hbm, ⟨22, _⟩ => ⟨S128x1024, .bf16⟩
  | .hbm, ⟨23, _⟩ => ⟨S_, .bf16⟩
  | .hbm, ⟨24, _⟩ => ⟨S512x1024, .bf16⟩
  | .hbm, ⟨25, _⟩ => ⟨S512x1024, .bf16⟩
  | .hbm, ⟨26, _⟩ => ⟨S8x64x1024, .bf16⟩
  | .hbm, ⟨27, _⟩ => ⟨S_, .i32⟩
  | .hbm, ⟨28, _⟩ => ⟨S_, .bf16⟩
  | .hbm, ⟨29, _⟩ => ⟨S8x128x1024, .bf16⟩
  | .hbm, ⟨30, _⟩ => ⟨S1024x1024, .bf16⟩
  | .hbm, ⟨31, _⟩ => ⟨S8x64x1024, .bf16⟩
  | .hbm, ⟨32, _⟩ => ⟨S_, .i32⟩
  | .hbm, ⟨33, _⟩ => ⟨S_, .bf16⟩
  | .hbm, ⟨34, _⟩ => ⟨S8x128x1024, .bf16⟩
  | .hbm, ⟨35, _⟩ => ⟨S1024x1024, .bf16⟩
  | .hbm, ⟨36, _⟩ => ⟨S_, .bf16⟩
  | .hbm, ⟨37, _⟩ => ⟨S512x1024, .bf16⟩
  | .hbm, ⟨38, _⟩ => ⟨S512x1024, .bf16⟩
  | .hbm, ⟨39, _⟩ => ⟨S6272x1024, .bf16⟩
  | .hbm, ⟨40, _⟩ => ⟨S_, .bf16⟩
  | .hbm, ⟨41, _⟩ => ⟨S512x1024, .bf16⟩
  | .hbm, ⟨42, _⟩ => ⟨S512x1024, .bf16⟩
  | .hbm, ⟨43, _⟩ => ⟨S1024x1024, .bf16⟩
  | .hbm, ⟨44, _⟩ => ⟨S2x4096x512, .bf16⟩
  | .hbm, ⟨45, _⟩ => ⟨S4096x512, .bf16⟩
  | .hbm, ⟨46, _⟩ => ⟨S3x4096x512, .bf16⟩
  | .hbm, ⟨47, _⟩ => ⟨S4096x2048, .bf16⟩
  | .hbm, ⟨48, _⟩ => ⟨S4096x128, .bf16⟩
  | .hbm, ⟨49, _⟩ => ⟨S4096x1024, .f32⟩
  | .hbm, ⟨50, _⟩ => ⟨S1x1024, .f32⟩
  | .local _ .vmem, ⟨0, _⟩ => ⟨S2x256x512, .bf16⟩
  | .local _ .vmem, ⟨1, _⟩ => ⟨S2x256x512, .bf16⟩
  | .local _ .vmem, ⟨2, _⟩ => ⟨S256x512, .bf16⟩
  | .local _ .vmem, ⟨3, _⟩ => ⟨S256x512, .bf16⟩
  | .local _ .vmem, ⟨4, _⟩ => ⟨S3x256x512, .bf16⟩
  | .local _ .vmem, ⟨5, _⟩ => ⟨S3x256x512, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S6272x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_call2_v0 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6272x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference9Ideal.lean ====
abbrev S2x4096x512 : Shape := ⟨3, ![2, 4096, 512]⟩
abbrev S4096x512 : Shape := ⟨2, ![4096, 512]⟩
abbrev S3x4096x512 : Shape := ⟨3, ![3, 4096, 512]⟩
abbrev S4096x2048 : Shape := ⟨2, ![4096, 2048]⟩
abbrev S4096x128 : Shape := ⟨2, ![4096, 128]⟩
abbrev S4096x1024 : Shape := ⟨2, ![4096, 1024]⟩
abbrev S1x1024 : Shape := ⟨2, ![1, 1024]⟩
abbrev S1024x5128 : Shape := ⟨2, ![1024, 5128]⟩
abbrev S1x4096x512 : Shape := ⟨3, ![1, 4096, 512]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1024x512 : Shape := ⟨2, ![1024, 512]⟩
abbrev S1024x8 : Shape := ⟨2, ![1024, 8]⟩
abbrev S1024x2048 : Shape := ⟨2, ![1024, 2048]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S4096x512, .f32⟩
  | .hbm, ⟨2, _⟩ => ⟨S3x4096x512, .f32⟩
  | .hbm, ⟨3, _⟩ => ⟨S4096x2048, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x5128, .f32⟩
  | .hbm, ⟨9, _⟩ => ⟨S1x4096x512, .f32⟩
  | .hbm, ⟨10, _⟩ => ⟨S4096x512, .f32⟩
  | .hbm, ⟨11, _⟩ => ⟨S1x4096x512, .f32⟩
  | .hbm, ⟨12, _⟩ => ⟨S4096x512, .f32⟩
  | .hbm, ⟨13, _⟩ => ⟨S4096x8, .f32⟩
  | .hbm, ⟨14, _⟩ => ⟨S1x4096x512, .f32⟩
  | .hbm, ⟨15, _⟩ => ⟨S4096x512, .f32⟩
  | .hbm, ⟨16, _⟩ => ⟨S1x4096x512, .f32⟩
  | .hbm, ⟨17, _⟩ => ⟨S4096x512, .f32⟩
  | .hbm, ⟨18, _⟩ => ⟨S1x4096x512, .f32⟩
  | .hbm, ⟨19, _⟩ => ⟨S4096x512, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x8, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1024x2048, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x8, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x2048, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== Kernel10.lean ====
abbrev S4096x1024 : Shape := ⟨2, ![4096, 1024]⟩
abbrev S4096x256 : Shape := ⟨2, ![4096, 256]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S4096x4096 : Shape := ⟨2, ![4096, 4096]⟩
abbrev S1x128 : Shape := ⟨2, ![1, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S256x1024, .f32⟩
  | .hbm, ⟨10, _⟩ => ⟨S1024x4096, .bf16⟩
  | .hbm, ⟨11, _⟩ => ⟨S4096x1024, .bf16⟩
  | .hbm, ⟨12, _⟩ => ⟨S1024x1024, .bf16⟩
  | .hbm, ⟨13, _⟩ => ⟨S256x1024, .bf16⟩
  | .hbm, ⟨14, _⟩ => ⟨S4096x4096, .bf16⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S1x128, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x128, .f32⟩
  | .local _ .vmem, ⟨24, _⟩ => ⟨S1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference10Ideal.lean ====
abbrev S4096x1024 : Shape := ⟨2, ![4096, 1024]⟩
abbrev S4096x256 : Shape := ⟨2, ![4096, 256]⟩
abbrev S1x1024 : Shape := ⟨2, ![1, 1024]⟩
abbrev S1024x4096 : Shape := ⟨2, ![1024, 4096]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1024x4096, .f32⟩
  | 5 => ⟨S4096x1024, .f32⟩
  | 6 => ⟨S1x1024, .f32⟩
  | 7 => ⟨S1x1024, .f32⟩
  | 8 => ⟨S1024x1024, .f32⟩
  | 9 => ⟨S256x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x4096, .f32⟩
  | 26 => ⟨S_, .f32⟩
  | 27 => ⟨S4096x4096, .f32⟩
  | 28 => ⟨S4096x4096, .f32⟩
  | 29 => ⟨S4096x4096, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S1024, .f32⟩
  | 27 => ⟨S1x1024, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S4096x1024, .f32⟩
  | 35 => ⟨S4096x1024, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x4096, .bf16⟩
  | 48 => ⟨S4096x1024, .f32⟩
  | 49 => ⟨S4096x1024, .bf16⟩
  | 50 => ⟨S4096x1024, .bf16⟩
  | 51 => ⟨S4096x1024, .bf16⟩
  | 52 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_cst : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_cst_17 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_cst_19 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_20 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_22 : Ref sig .tc := ⟨.hbm, 118, rfl⟩
abbrev main_v83 : Ref sig .tc := ⟨.hbm, 119, rfl⟩
abbrev main_v84 : Ref sig .tc := ⟨.hbm, 120, rfl⟩
abbrev main_cst_23 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_24 : Ref sig .tc := ⟨.hbm, 132, rfl⟩
abbrev main_v95 : Ref sig .tc := ⟨.hbm, 133, rfl⟩
abbrev main_v96 : Ref sig .tc := ⟨.hbm, 134, rfl⟩
abbrev main_cst_25 : Ref sig .tc := ⟨.hbm, 135, rfl⟩
abbrev main_v97 : Ref sig .tc := ⟨.hbm, 136, rfl⟩
abbrev main_v98 : Ref sig .tc := ⟨.hbm, 137, rfl⟩
abbrev main_cst_26 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_27 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_28 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_29 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_30 : Ref sig .tc := ⟨.hbm, 165, rfl⟩
abbrev main_v122 : Ref sig .tc := ⟨.hbm, 166, rfl⟩
abbrev main_v123 : Ref sig .tc := ⟨.hbm, 167, rfl⟩
abbrev main_cst_31 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]
-- ==== Kernel11.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S2x1024 : Shape := ⟨2, ![2, 1024]⟩
abbrev S16x1024x256 : Shape := ⟨3, ![16, 1024, 256]⟩
abbrev S256x1024 : Shape := ⟨2, ![256, 1024]⟩
abbrev S256x512 : Shape := ⟨2, ![256, 512]⟩
abbrev S256x2048 : Shape := ⟨2, ![256, 2048]⟩
abbrev S1x1024x256 : Shape := ⟨3, ![1, 1024, 256]⟩
abbrev S1x1024 : Shape := ⟨2, ![1, 1024]⟩
abbrev S1024 : Shape := ⟨1, ![1024]⟩
abbrev S512x256 : Shape := ⟨2, ![512, 256]⟩
abbrev S64x256 : Shape := ⟨2, ![64, 256]⟩
abbrev S1024x256 : Shape := ⟨2, ![1024, 256]⟩

abbrev nBuf : Space → Nat
  | .hbm => 22
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S2x1024, .f32⟩
  | .hbm, ⟨8, _⟩ => ⟨S4096x512, .bf16⟩
  | .hbm, ⟨9, _⟩ => ⟨S4096x512, .bf16⟩
  | .hbm, ⟨10, _⟩ => ⟨S4096x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x2048, .bf16⟩
  | .hbm, ⟨18, _⟩ => ⟨S4096x512, .bf16⟩
  | .hbm, ⟨19, _⟩ => ⟨S4096x512, .bf16⟩
  | .hbm, ⟨20, _⟩ => ⟨S2x1024, .f32⟩
  | .hbm, ⟨21, _⟩ => ⟨S16x1024x256, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S2x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S2x1024, .f32⟩
  | .local _ .vmem, ⟨25, _⟩ => ⟨S1x1024x256, .bf16⟩
  | .local _ .vmem, ⟨26, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S16x256x8x64 : Shape := ⟨4, ![16, 256, 8, 64]⟩
abbrev S16x8x64x256 : Shape := ⟨4, ![16, 8, 64, 256]⟩
abbrev S16x8x128x256 : Shape := ⟨4, ![16, 8, 128, 256]⟩
abbrev S16x1024x256 : Shape := ⟨3, ![16, 1024, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S2x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S4096x512, .f32⟩
  | .hbm, ⟨68, _⟩ => ⟨S4096x512, .f32⟩
  | .hbm, ⟨69, _⟩ => ⟨S4096x2048, .f32⟩
  | .hbm, ⟨70, _⟩ => ⟨S16x256x8x64, .f32⟩
  | .hbm, ⟨71, _⟩ => ⟨S16x8x64x256, .f32⟩
  | .hbm, ⟨72, _⟩ => ⟨S_, .i32⟩
  | .hbm, ⟨73, _⟩ => ⟨S_, .f32⟩
  | .hbm, ⟨74, _⟩ => ⟨S16x8x128x256, .f32⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x2048, .bf16⟩
  | .hbm, ⟨79, _⟩ => ⟨S4096x512, .bf16⟩
  | .hbm, ⟨80, _⟩ => ⟨S4096x512, .bf16⟩
  | .hbm, ⟨81, _⟩ => ⟨S1x1024, .f32⟩
  | .hbm, ⟨82, _⟩ => ⟨S1x1024, .f32⟩
  | .hbm, ⟨83, _⟩ => ⟨S2x1024, .f32⟩
  | .hbm, ⟨84, _⟩ => ⟨S16x1024x256, .f32⟩
  | .hbm, ⟨85, _⟩ => ⟨S16x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel13.lean ====
abbrev S4096x512 : Shape := ⟨2, ![4096, 512]⟩
abbrev S4096x1024 : Shape := ⟨2, ![4096, 1024]⟩
abbrev S1x4096x512 : Shape := ⟨3, ![1, 4096, 512]⟩
abbrev S1x4096x1024 : Shape := ⟨3, ![1, 4096, 1024]⟩
abbrev S1x512x1024 : Shape := ⟨3, ![1, 512, 1024]⟩
abbrev S1x2048x512 : Shape := ⟨3, ![1, 2048, 512]⟩
abbrev S1x2048x1024 : Shape := ⟨3, ![1, 2048, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S1x4096x512, .bf16⟩
  | .hbm, ⟨4, _⟩ => ⟨S4096x1024, .bf16⟩
  | .hbm, ⟨5, _⟩ => ⟨S1x4096x1024, .bf16⟩
  | .hbm, ⟨6, _⟩ => ⟨S1x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference13Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S1x512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x256 : Shape := ⟨2, ![4096, 256]⟩
abbrev S4096x1024 : Shape := ⟨2, ![4096, 1024]⟩
abbrev S1x4096x256 : Shape := ⟨3, ![1, 4096, 256]⟩
abbrev S1x4096x1024 : Shape := ⟨3, ![1, 4096, 1024]⟩
abbrev S1x256x1024 : Shape := ⟨3, ![1, 256, 1024]⟩
abbrev S1x2048x256 : Shape := ⟨3, ![1, 2048, 256]⟩
abbrev S1x2048x1024 : Shape := ⟨3, ![1, 2048, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1x4096x256, .f32⟩
  | .hbm, ⟨3, _⟩ => ⟨S4096x1024, .bf16⟩
  | .hbm, ⟨4, _⟩ => ⟨S1x4096x1024, .bf16⟩
  | .hbm, ⟨5, _⟩ => ⟨S1x256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond2 (i : grid0.Coords) : BitVec 1 :=
  let arg3 : BitVec 32 := BitVec.ofNat 32 (i 3).val
  let c1_i32 : BitVec 32 := 1#32
  let v14 : BitVec 1 := Scalar.cmpi .eq arg3 c1_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference14Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | .hbm, ⟨8, _⟩ => ⟨S1x256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Sb.Trip.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

/-! # One trip of the loop over the query blocks

One trip takes one block of 256 queries: it clears the three running scratches, walks the key blocks before the
diagonal by the inner loop, does the diagonal tile under its mask and writes the block's query gradient. -/

set_option maxRecDepth 16384
set_option maxHeartbeats 4000000

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- What one trip holds: the operands at their contents, the written buffers at theirs. -/
abbrev Held (c : Dev nD)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
  (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
/-- One trip at a symbolic query block: the pieces it writes into the output block and the two key-side
accumulators, as functions of what these held before it.  The three running scratches are cleared first, so
what they held does not matter and what they are left with is not stated. -/
@[irreducible] def trip (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) :
  Σ' (L8 : (BufTy.Contents (Elt F) arg9.view.ty → BufTy.Contents (Elt F) arg10.view.ty → List (View.Piece (Elt F) S3x2048x256 .bf16))) (L9 : (BufTy.Contents (Elt F) arg9.view.ty → BufTy.Contents (Elt F) arg10.view.ty → List (View.Piece (Elt F) S4x2048x64 .f32))),
  { L10 : (BufTy.Contents (Elt F) arg9.view.ty → BufTy.Contents (Elt F) arg10.view.ty → List (View.Piece (Elt F) S4x2048x64 .f32)) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      Held (F := F) c arg2 harg2 arg3 harg3 arg4 harg4 arg5 harg5 arg6 harg6 arg7 harg7 arg8 harg8 arg9 harg9 arg10 harg10 arg11 harg11 arg12 harg12 arg13 harg13 X2 X3 X4 X5 X6 X7 f8 f9 f10 f11 f12 f13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k ())
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 (L8 f9 f10))) ∗ (arg9.view.loc (c : Thread nD τ) ↦[arg9.view.set]{fullShare} (arg9.view.writes (Elt F) f9 (L9 f9 f10))) ∗ (arg10.view.loc (c : Thread nD τ) ↦[arg10.view.set]{fullShare} (arg10.view.writes (Elt F) f10 (L10 f9 f10))) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, ?_, ?_, fun E f8 f9 f10 f11 f12 f13 => ?run⟩
  case run =>
    unfold k0_t1_body
    iintro ⟨HR2, HR3, HR4, HR5, HR6, HR7, HW8, HW9, HW10, HW11, HW12, HW13⟩
    sl_exec
    sl_step
    sl_close

end Cert.Proof.Sb
-- ==== Proof.Sb.Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Sb.Trip
public import Idealize.ShloMosaic.Lib.Exec
public import Idealize.ShloMosaic.Lib.Tactic
public import Idealize.ShloMosaic.Lib.Pipeline.Kit

@[expose] public section

/-! # The loop over the query blocks: its invariant

Before trip `k` the written buffers hold the `k`-th iterate of the trip's own contents function, so a reader can
follow the contents without the program. -/

set_option maxRecDepth 16384
set_option maxHeartbeats 4000000

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- What the two key-side accumulators hold. -/
structure St (F : FTy → Type) [FloatOps F] (t9 t10 : BufTy) where
  c9 : t9.Contents (Elt F)
  c10 : t10.Contents (Elt F)

/-- The accumulators after one trip, of what they held before it. -/
def next (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (s : St F arg9.view.ty arg10.view.ty) : St F arg9.view.ty arg10.view.ty :=
  ⟨arg9.view.writes (Elt F) s.c9 ((trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).2.1 s.c9 s.c10), arg10.view.writes (Elt F) s.c10 ((trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).2.2.1 s.c9 s.c10)⟩

/-- The accumulators before trip `k`. -/
def iter (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) : ℕ → St F arg9.view.ty arg10.view.ty
  | 0 => ⟨G9, G10⟩
  | k + 1 => if h : k < k0_t1_loop.trips then next 𝒱 c bd i arg2 harg2 arg3 harg3 arg4 harg4 arg5 harg5 arg6 harg6 arg7 harg7 arg8 harg8 arg9 harg9 arg10 harg10 arg11 harg11 arg12 harg12 arg13 harg13 X2 X3 X4 X5 X6 X7 ⟨k, h⟩ (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k)
      else iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k

theorem iter_succ (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) (k : Fin k0_t1_loop.trips) :
  iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 (k.val + 1) = next 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val) := by
  rw [iter]; exact dif_pos k.isLt

/-- The pieces written into the output block before trip `k`, the last one first. -/
def rows (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) : ℕ → List (View.Piece (Elt F) S3x2048x256 .bf16)
  | 0 => []
  | k + 1 => if h : k < k0_t1_loop.trips then
      (trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 ⟨k, h⟩).1 (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k).c9 (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k).c10 ++ rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k
      else rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k

theorem rows_succ (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) (k : Fin k0_t1_loop.trips) :
  rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 (k.val + 1) = (trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).1 (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val).c9 (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val).c10 ++ rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val := by
  rw [rows]; exact dif_pos k.isLt

/-- Before trip `k` the accumulators hold the `k`-th iterate and the output block the pieces of the trips before `k`;
the running scratches hold anything. -/
abbrev inv (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G8 : BufTy.Contents (Elt F) arg8.view.ty) (G9 : BufTy.Contents (Elt F) arg9.view.ty) (G10 : BufTy.Contents (Elt F) arg10.view.ty) (k : ℕ) (_ : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = arg8.view.writes (Elt F) G8 (rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k)⌝) ∗ (∃ f, (arg9.view.loc (c : Thread nD τ) ↦[arg9.view.set]{fullShare} f) ∗ ⌜f = (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k).c9⌝) ∗ (∃ f, (arg10.view.loc (c : Thread nD τ) ↦[arg10.view.set]{fullShare} f) ∗ ⌜f = (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k).c10⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option warn.classDefReducibility false in
/-- The loop by its invariant. -/
def loopInv (𝒱 : Variants) (c : Dev nD) (bd : Option 𝒱.V) (E : Set ℕ) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G8 : BufTy.Contents (Elt F) arg8.view.ty) (G9 : BufTy.Contents (Elt F) arg9.view.ty) (G10 : BufTy.Contents (Elt F) arg10.view.ty) :
  LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 where
  inv := inv (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G8 G9 G10
  step k acc := by
    iintro ⟨HR2, HR3, HR4, HR5, HR6, HR7, ⟨%f8, HW8, %h8⟩, ⟨%f9, HW9, %h9⟩, ⟨%f10, HW10, %h10⟩, ⟨%f11, HW11⟩, ⟨%f12, HW12⟩, ⟨%f13, HW13⟩⟩
    subst h8 h9 h10
    iapply (wp_wand_r Idealize.ShloMosaic.frame (wpE (defs₀ (F := F)) 𝒱 (c : Thread nD τ) bd) E)
    isplitl [HR2 HR3 HR4 HR5 HR6 HR7 HW8 HW9 HW10 HW11 HW12 HW13]
    · iapply ((trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).2.2.2 E _ (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val).c9 (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k.val).c10 f11 f12 f13)
      isplitl [HR2]; · iexact HR2
      isplitl [HR3]; · iexact HR3
      isplitl [HR4]; · iexact HR4
      isplitl [HR5]; · iexact HR5
      isplitl [HR6]; · iexact HR6
      isplitl [HR7]; · iexact HR7
      isplitl [HW8]; · iexact HW8
      isplitl [HW9]; · iexact HW9
      isplitl [HW10]; · iexact HW10
      isplitl [HW11]; · iexact HW11
      isplitl [HW12]; · iexact HW12
      iexact HW13
    · iintro %yld ⟨HR2, HR3, HR4, HR5, HR6, HR7, HW8, HW9, HW10, HW11, HW12, HW13⟩
      unfold inv
      rw [iter_succ, rows_succ, View.writes_append]
      isplitl [HR2]; · iexact HR2
      isplitl [HR3]; · iexact HR3
      isplitl [HR4]; · iexact HR4
      isplitl [HR5]; · iexact HR5
      isplitl [HR6]; · iexact HR6
      isplitl [HR7]; · iexact HR7
      isplitl [HW8]
      · iexists _; isplitl [HW8]; · iexact HW8
        ipureintro; rfl
      isplitl [HW9]
      · iexists _; isplitl [HW9]; · iexact HW9
        ipureintro; rfl
      isplitl [HW10]
      · iexists _; isplitl [HW10]; · iexact HW10
        ipureintro; rfl
      isplitl [HW11]; · iexact HW11
      isplitl [HW12]; · iexact HW12
      iexact HW13

/-- What the loop leaves in the first accumulator. -/
@[irreducible] def fin9 (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) : BufTy.Contents (Elt F) arg9.view.ty := (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k0_t1_loop.trips).c9

/-- What the loop leaves in the second accumulator. -/
@[irreducible] def fin10 (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) : BufTy.Contents (Elt F) arg10.view.ty := (iter 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k0_t1_loop.trips).c10

/-- The pieces the loop leaves in the output block, the last one first. -/
@[irreducible] def finRows (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty) : List (View.Piece (Elt F) S3x2048x256 .bf16) := rows 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 k0_t1_loop.trips

/-- The whole loop at the head of a program: from any contents to those of the last trip. -/
theorem loop_run (𝒱 : Variants) (c : Dev nD) (bd : Option 𝒱.V) (i : grid0.Coords)
  (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S8x512x256 .bf16) (harg5 : arg5.IsWhole)
  (arg6 : Memref sig .tc .vmem S2048x256 .bf16) (harg6 : arg6.IsWhole)
  (arg7 : Memref sig .tc .vmem S1x4x8x256 .f32) (harg7 : arg7.IsWhole)
  (arg8 : Memref sig .tc .vmem S3x2048x256 .bf16) (harg8 : arg8.IsWhole)
  (arg9 : Memref sig .tc .vmem S4x2048x64 .f32) (harg9 : arg9.IsWhole)
  (arg10 : Memref sig .tc .vmem S4x2048x64 .f32) (harg10 : arg10.IsWhole)
  (arg11 : Memref sig .tc .vmem S4x1x256 .f32) (harg11 : arg11.IsWhole)
  (arg12 : Memref sig .tc .vmem S4x1x256 .f32) (harg12 : arg12.IsWhole)
  (arg13 : Memref sig .tc .vmem S4x128x256 .f32) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (E : Set ℕ) {β : Type} (kk : Unit → Prog (TpuEff nD τ sig (Elt F) Λ₀ .tc) β) (Q : β → sProp 𝕄) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13)) : sProp 𝕄)
    ⊢ iprop((((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) G8 (finRows (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10)))
        ∗ (arg9.view.loc (c : Thread nD τ) ↦[arg9.view.set]{fullShare} (fin9 (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10)) ∗ (arg10.view.loc (c : Thread nD τ) ↦[arg10.view.set]{fullShare} (fin10 (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))
          -∗ wp Idealize.ShloMosaic.frame (wpE (defs₀ (F := F)) 𝒱 (c : Thread nD τ) bd) E (kk ()) Q)
      -∗ wp Idealize.ShloMosaic.frame (wpE (defs₀ (F := F)) 𝒱 (c : Thread nD τ) bd) E
        (k0_t1_loop.for k0_t1_ok () (k0_t1_body (F := F) i arg2 harg2 arg3 harg3 arg4 harg4 arg5 harg5 arg6 harg6 arg7 harg7 arg8 harg8 arg9 harg9 arg10 harg10 arg11 harg11 arg12 harg12 arg13 harg13) >>= kk) Q) := by
  iintro ⟨HR2, HR3, HR4, HR5, HR6, HR7, HW8, HW9, HW10, HW11, HW12, HW13⟩ HK
  iapply (Scf.wp_for_bind Idealize.ShloMosaic.frame (wpE (defs₀ (F := F)) 𝒱 (c : Thread nD τ) bd) E _ _ _ k0_t1_ok () _
    (inv (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G8 G9 G10) (loopInv (F := F) 𝒱 c bd E i arg2 harg2 arg3 harg3 arg4 harg4 arg5 harg5 arg6 harg6 arg7 harg7 arg8 harg8 arg9 harg9 arg10 harg10 arg11 harg11 arg12 harg12 arg13 harg13 X2 X3 X4 X5 X6 X7 G8 G9 G10).step) $$ [HR2 HR3 HR4 HR5 HR6 HR7 HW8 HW9 HW10 HW11 HW12 HW13]
  · unfold inv
    isplitl [HR2]; · iexact HR2
    isplitl [HR3]; · iexact HR3
    isplitl [HR4]; · iexact HR4
    isplitl [HR5]; · iexact HR5
    isplitl [HR6]; · iexact HR6
    isplitl [HR7]; · iexact HR7
    isplitl [HW8]
    · iexists _; isplitl [HW8]; · iexact HW8
      ipureintro; rfl
    isplitl [HW9]
    · iexists _; isplitl [HW9]; · iexact HW9
      ipureintro; rfl
    isplitl [HW10]
    · iexists _; isplitl [HW10]; · iexact HW10
      ipureintro; rfl
    isplitl [HW11]; · iexists _; iexact HW11
    isplitl [HW12]; · iexists _; iexact HW12
    iexists _; iexact HW13
  iintro %acc ⟨HR2, HR3, HR4, HR5, HR6, HR7, ⟨%f8, HW8, %h8⟩, ⟨%f9, HW9, %h9⟩, ⟨%f10, HW10, %h10⟩, ⟨%f11, HW11⟩, ⟨%f12, HW12⟩, ⟨%f13, HW13⟩⟩
  subst h8 h9 h10
  iapply HK
  unfold fin9 fin10 finRows
  isplitl [HR2]; · iexact HR2
  isplitl [HR3]; · iexact HR3
  isplitl [HR4]; · iexact HR4
  isplitl [HR5]; · iexact HR5
  isplitl [HR6]; · iexact HR6
  isplitl [HR7]; · iexact HR7
  isplitl [HW8]; · iexact HW8
  isplitl [HW9]; · iexact HW9
  isplitl [HW10]; · iexact HW10
  isplitl [HW11]; · iexists _; iexact HW11
  isplitl [HW12]; · iexists _; iexact HW12
  iexists _; iexact HW13

end Cert.Proof.Sb
-- ==== Proof.Sb.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Sb.Loop
public import proofs.«01_k».proof.Proof.Gen.KernelIdeal.Frame
public import Idealize.ShloMosaic.Lib.Exec
public import Idealize.ShloMosaic.Lib.Tactic
public import Idealize.ShloMosaic.Lib.Pipeline.Kit

@[expose] public section

/-! # The kernel's body at one grid point

The two accumulators are zeroed, the loop over the query blocks runs by its invariant, and the accumulators are
stored into the second and third planes of the output block. -/

set_option maxRecDepth 16384
set_option maxHeartbeats 4000000

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one point's body leaves in the output block, as pieces (the last one first), with the run that leaves them. -/
def bodyRun (c : Dev nD) (i : grid0.Coords)
    (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S8x512x256 .bf16) (harg5 : arg5.IsWhole)
    (arg6 : Memref sig .tc .vmem S2048x256 .bf16) (harg6 : arg6.IsWhole)
    (arg7 : Memref sig .tc .vmem S1x4x8x256 .f32) (harg7 : arg7.IsWhole)
    (arg8 : Memref sig .tc .vmem S3x2048x256 .bf16) (harg8 : arg8.IsWhole)
    (arg9 : Memref sig .tc .vmem S4x2048x64 .f32) (harg9 : arg9.IsWhole)
    (arg10 : Memref sig .tc .vmem S4x2048x64 .f32) (harg10 : arg10.IsWhole)
    (arg11 : Memref sig .tc .vmem S4x1x256 .f32) (harg11 : arg11.IsWhole)
    (arg12 : Memref sig .tc .vmem S4x1x256 .f32) (harg12 : arg12.IsWhole)
    (arg13 : Memref sig .tc .vmem S4x128x256 .f32) (harg13 : arg13.IsWhole)
    (x2 : Vec F S1x2048x256 .bf16) (x3 : Vec F S1x2048x256 .bf16) (x4 : Vec F S1x2048x256 .bf16) (x5 : Vec F S8x512x256 .bf16) (x6 : Vec F S2048x256 .bf16) (x7 : Vec F S1x4x8x256 .f32) :
    { L8 : List (View.Piece (Elt F) S3x2048x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} arg8.view.writes (Elt F) f L8)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩))
        ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_sb_bwd_eq_skeleton]; unfold cc0_sb_bwd_skel
    simp only [k0_part35_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7
    sl_exec
    simp only [bind_assoc]
    iapply (loop_run (F := F) Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) _ _ _ _ _ _ E _ _) $$ [H2 H3 H4 H5 H6 H7 H8 H9 H10 H11 H12 H13]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro ⟨H2, H3, H4, H5, H6, H7, H8, H9, H10, ⟨%e11, H11⟩, ⟨%e12, H12⟩, ⟨%e13, H13⟩⟩
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Proof.Sb
-- ==== Proof.Sb.Cover.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Sb.Body
public import proofs.«01_k».proof.Proof.Gen.KernelIdeal.Frame
public import Idealize.ShloMosaic.Lib.Exec
public import Idealize.ShloMosaic.Lib.Tactic
public import Idealize.ShloMosaic.Lib.Pipeline.Kit

@[expose] public section

/-! # The body's pieces cover the output block

Trip `k` stores rows `256 k` to `256 k + 255` of the first plane; the other two planes are stored whole. -/

set_option maxRecDepth 16384
set_option maxHeartbeats 4000000

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Trip `k` stores its 256 rows of the first plane. -/
theorem trip_rows (𝒱 : Variants) (c : Dev nD) (bd : Option 𝒱.V) (i : grid0.Coords)
    (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S8x512x256 .bf16) (harg5 : arg5.IsWhole)
    (arg6 : Memref sig .tc .vmem S2048x256 .bf16) (harg6 : arg6.IsWhole)
    (arg7 : Memref sig .tc .vmem S1x4x8x256 .f32) (harg7 : arg7.IsWhole)
    (arg8 : Memref sig .tc .vmem S3x2048x256 .bf16) (harg8 : arg8.IsWhole)
    (arg9 : Memref sig .tc .vmem S4x2048x64 .f32) (harg9 : arg9.IsWhole)
    (arg10 : Memref sig .tc .vmem S4x2048x64 .f32) (harg10 : arg10.IsWhole)
    (arg11 : Memref sig .tc .vmem S4x1x256 .f32) (harg11 : arg11.IsWhole)
    (arg12 : Memref sig .tc .vmem S4x1x256 .f32) (harg12 : arg12.IsWhole)
    (arg13 : Memref sig .tc .vmem S4x128x256 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (c9 : BufTy.Contents (Elt F) arg9.view.ty) (c10 : BufTy.Contents (Elt F) arg10.view.ty)
    (y : S3x2048x256.Idx) (h0 : (y 0).val = 0) (h1 : (y 1).val / 256 = k.val) :
    ∃ pc ∈ (trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).1 c9 c10, y ∈ pc.1.set := by
  have h : ∃ w, (trip (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 k).1 c9 c10
      = [⟨Rect.unit (s := S3x2048x256) (k0_off69 k) S1x256x256.size (k0_off69_inb k), w⟩] := ⟨_, by unfold trip; rfl⟩
  obtain ⟨w, hw⟩ := h
  rw [hw]
  refine ⟨_, List.mem_cons_self .., ?_⟩
  show y ∈ (Rect.unit (s := S3x2048x256) (k0_off69 k) S1x256x256.size (k0_off69_inb k)).set
  rw [Rect.mem_set_unit, k0_off69_eq]
  intro a
  match a with
  | ⟨0, _⟩ => exact ⟨Nat.zero_le _, by show (y 0).val < 0 + 1; omega⟩
  | ⟨1, _⟩ => exact ⟨by show 256 * k.val ≤ (y 1).val; omega, by show (y 1).val < 256 * k.val + 256; omega⟩
  | ⟨2, _⟩ => exact ⟨Nat.zero_le _, by show (y 2).val < 0 + 256; have := (y 2).isLt; have e : S3x2048x256.size 2 = 256 := rfl; omega⟩

/-- A row of the first plane is covered once its trip has run. -/
theorem rows_cover (𝒱 : Variants) (c : Dev nD) (bd : Option 𝒱.V) (i : grid0.Coords)
    (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S8x512x256 .bf16) (harg5 : arg5.IsWhole)
    (arg6 : Memref sig .tc .vmem S2048x256 .bf16) (harg6 : arg6.IsWhole)
    (arg7 : Memref sig .tc .vmem S1x4x8x256 .f32) (harg7 : arg7.IsWhole)
    (arg8 : Memref sig .tc .vmem S3x2048x256 .bf16) (harg8 : arg8.IsWhole)
    (arg9 : Memref sig .tc .vmem S4x2048x64 .f32) (harg9 : arg9.IsWhole)
    (arg10 : Memref sig .tc .vmem S4x2048x64 .f32) (harg10 : arg10.IsWhole)
    (arg11 : Memref sig .tc .vmem S4x1x256 .f32) (harg11 : arg11.IsWhole)
    (arg12 : Memref sig .tc .vmem S4x1x256 .f32) (harg12 : arg12.IsWhole)
    (arg13 : Memref sig .tc .vmem S4x128x256 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G9 : BufTy.Contents (Elt F) arg9.view.ty) (G10 : BufTy.Contents (Elt F) arg10.view.ty)
    (y : S3x2048x256.Idx) (h0 : (y 0).val = 0) (n : ℕ) (hn : n ≤ k0_t1_loop.trips) (h1 : (y 1).val / 256 < n) :
    ∃ pc ∈ rows (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 n, y ∈ pc.1.set := by
  induction n with
  | zero => omega
  | succ n ih =>
    have e := rows_succ (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G9 G10 ⟨n, hn⟩
    rw [show n + 1 = (⟨n, hn⟩ : Fin k0_t1_loop.trips).val + 1 from rfl, e]
    by_cases hk : (y 1).val / 256 = n
    · obtain ⟨pc, hm, hy⟩ := trip_rows (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 ⟨n, hn⟩ _ _ y h0 hk
      exact ⟨pc, List.mem_append_left _ hm, hy⟩
    · obtain ⟨pc, hm, hy⟩ := ih (Nat.le_of_lt hn) (by omega)
      exact ⟨pc, List.mem_append_right _ hm, hy⟩

theorem trips_eq : k0_t1_loop.trips = 8 := by decide +kernel

/-- Every element of the output block is stored. -/
theorem body_cover (c : Dev nD) (i : grid0.Coords)
    (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S8x512x256 .bf16) (harg5 : arg5.IsWhole)
    (arg6 : Memref sig .tc .vmem S2048x256 .bf16) (harg6 : arg6.IsWhole)
    (arg7 : Memref sig .tc .vmem S1x4x8x256 .f32) (harg7 : arg7.IsWhole)
    (arg8 : Memref sig .tc .vmem S3x2048x256 .bf16) (harg8 : arg8.IsWhole)
    (arg9 : Memref sig .tc .vmem S4x2048x64 .f32) (harg9 : arg9.IsWhole)
    (arg10 : Memref sig .tc .vmem S4x2048x64 .f32) (harg10 : arg10.IsWhole)
    (arg11 : Memref sig .tc .vmem S4x1x256 .f32) (harg11 : arg11.IsWhole)
    (arg12 : Memref sig .tc .vmem S4x1x256 .f32) (harg12 : arg12.IsWhole)
    (arg13 : Memref sig .tc .vmem S4x128x256 .f32) (harg13 : arg13.IsWhole)
    (x2 : Vec F S1x2048x256 .bf16) (x3 : Vec F S1x2048x256 .bf16) (x4 : Vec F S1x2048x256 .bf16) (x5 : Vec F S8x512x256 .bf16) (x6 : Vec F S2048x256 .bf16) (x7 : Vec F S1x4x8x256 .f32) (y : S3x2048x256.Idx) :
    ∃ pc ∈ (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).1, y ∈ pc.1.set := by
  have hb : ∃ w2 w1 G9 G10, (bodyRun (F := F) c i arg2 harg2 arg3 harg3 arg4 harg4 arg5 harg5 arg6 harg6 arg7 harg7 arg8 harg8 arg9 harg9 arg10 harg10 arg11 harg11 arg12 harg12 arg13 harg13 x2 x3 x4 x5 x6 x7).1
      = ⟨Rect.unit (s := S3x2048x256) ![2, 0, 0] S1x2048x256.size inb_S3x2048x256_S1x2048x256_2_0_0, w2⟩
        :: ⟨Rect.unit (s := S3x2048x256) ![1, 0, 0] S1x2048x256.size inb_S3x2048x256_S1x2048x256_1_0_0, w1⟩
        :: finRows (F := F) Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) G9 G10 := ⟨_, _, _, _, by unfold bodyRun; rfl⟩
  obtain ⟨w2, w1, G9, G10, hb⟩ := hb
  rw [hb]
  have l0 := (y 0).isLt
  have l1 := (y 1).isLt
  have l2 := (y 2).isLt
  have e0 : S3x2048x256.size 0 = 3 := rfl
  have e1 : S3x2048x256.size 1 = 2048 := rfl
  have e2 : S3x2048x256.size 2 = 256 := rfl
  rcases (show (y 0).val = 0 ∨ (y 0).val = 1 ∨ (y 0).val = 2 by omega) with h | h | h
  · have ht := trips_eq
    obtain ⟨pc, hm, hy⟩ := rows_cover (F := F) Variants.none c none i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) G9 G10 y h k0_t1_loop.trips le_rfl (by omega)
    refine ⟨pc, List.mem_cons_of_mem _ (List.mem_cons_of_mem _ ?_), hy⟩
    unfold finRows; exact hm
  · refine ⟨_, List.mem_cons_of_mem _ (List.mem_cons_self ..), ?_⟩
    show y ∈ (Rect.unit (s := S3x2048x256) ![1, 0, 0] S1x2048x256.size inb_S3x2048x256_S1x2048x256_1_0_0).set
    rw [Rect.mem_set_unit]
    intro a
    match a with
    | ⟨0, _⟩ => exact ⟨by show 1 ≤ (y 0).val; omega, by show (y 0).val < 1 + 1; omega⟩
    | ⟨1, _⟩ => exact ⟨Nat.zero_le _, by show (y 1).val < 0 + 2048; omega⟩
    | ⟨2, _⟩ => exact ⟨Nat.zero_le _, by show (y 2).val < 0 + 256; omega⟩
  · refine ⟨_, List.mem_cons_self .., ?_⟩
    show y ∈ (Rect.unit (s := S3x2048x256) ![2, 0, 0] S1x2048x256.size inb_S3x2048x256_S1x2048x256_2_0_0).set
    rw [Rect.mem_set_unit]
    intro a
    match a with
    | ⟨0, _⟩ => exact ⟨by show 2 ≤ (y 0).val; omega, by show (y 0).val < 2 + 1; omega⟩
    | ⟨1, _⟩ => exact ⟨Nat.zero_le _, by show (y 1).val < 0 + 2048; omega⟩
    | ⟨2, _⟩ => exact ⟨Nat.zero_le _, by show (y 2).val < 0 + 256; omega⟩

end Cert.Proof.Sb
-- ==== Proof.Sb.Frame.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Sb.Cover
public import proofs.«01_k».proof.Proof.Gen.KernelIdeal.Frame
public import proofs.«01_k».proof.Proof.Gen.KernelIdeal.Points
public import Idealize.ShloMosaic.Lib.Exec
public import Idealize.ShloMosaic.Lib.Tactic
public import Idealize.ShloMosaic.Lib.Claim
public import Idealize.ShloMosaic.Lib.Pipeline.Kit

@[expose] public section

/-! # The launch and the frame, over any float values

The proof data of the pipeline: after the body at point `t` each input's buffer holds its block and the output's
buffer the body's pieces. The three windows of queries, keys and values stage one array, each at its share. -/

set_option maxRecDepth 16384
set_option maxHeartbeats 4000000

noncomputable section

namespace Cert.Proof.Sb

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x8x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x2048x256 .bf16 := win0_6.stage (cfg0.slots t 6)
abbrev hs6 (t : Fin cfg0.N) : (ms6 t).IsWhole := hstage0_6 ((cfg0.slots t 6).cast nbuf0_6)
abbrev sc0 : Memref sig .tc .vmem S4x2048x64 .f32 := Memref.whole cc0_scratch0
theorem hsc0 : sc0.IsWhole := Memref.isWhole_whole _
abbrev sc1 : Memref sig .tc .vmem S4x2048x64 .f32 := Memref.whole cc0_scratch1
theorem hsc1 : sc1.IsWhole := Memref.isWhole_whole _
abbrev sc2 : Memref sig .tc .vmem S4x1x256 .f32 := Memref.whole cc0_scratch2
theorem hsc2 : sc2.IsWhole := Memref.isWhole_whole _
abbrev sc3 : Memref sig .tc .vmem S4x1x256 .f32 := Memref.whole cc0_scratch3
theorem hsc3 : sc3.IsWhole := Memref.isWhole_whole _
abbrev sc4 : Memref sig .tc .vmem S4x128x256 .f32 := Memref.whole cc0_scratch4
theorem hsc4 : sc4.IsWhole := Memref.isWhole_whole _

/-- The launch's invariant with the scratch operands as memrefs owned at some contents. -/
theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- A view to read the output block by. -/
abbrev VO : View sig .tc .vmem S3x2048x256 .bf16 := (Memref.whole cc0_stg6_0 : Memref sig .tc .vmem S3x2048x256 .bf16).view

/-- What the body leaves in the output block at point `t`. -/
def outAt (c : Dev nD) (t : Fin cfg0.N) : Vec F S3x2048x256 .bf16 :=
  VO.read (Elt F) (VO.writes (Elt F) VO.junk (bodyRun (F := F) c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3 sc4 hsc4 (iblk m c 0 t) (iblk m c 1 t) (iblk m c 2 t) (iblk m c 3 t) (iblk m c 4 t) (iblk m c 5 t)).1)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = outAt m c t := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- The body at any point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = Pipeline.ΦA spec0 c from rfl, show (dats m 0 c).Φ t.castSucc = Pipeline.ΦA spec0 c from rfl, PhiA_eq]
  unfold outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun (F := F) c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3 sc4 hsc4 (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (body_cover c _ _ _ _ _ _ _ _ _ _ _ _ _ _ _ _ _ _ _ _ _ _ _ _ _ _ _ _ _ _ _ )

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends as the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Proof.Sb
-- ==== Proof.Sb.Claims.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Sb.Frame
public import Idealize.ShloMosaic.Lib.Claim

@[expose] public section

/-! The frames of the squared-score attention's gradient. -/

set_option maxRecDepth 16384

noncomputable section

open Idealize.ShloMosaic Idealize.ShloMosaic.TcCoe Idealize.SL.Sem

namespace Cert.Proof.Sb

theorem frame_ki : Cert.quiescent_KernelIdeal := fun m ρ _ => frame_any m ρ

set_option smartUnfolding false in
set_option backward.isDefEq.respectTransparency.types false in
theorem defs_k : Cert.Kernel.defs (F := Bits) = Cert.KernelIdeal.defs (F := Bits) := rfl

set_option smartUnfolding false in
set_option backward.isDefEq.respectTransparency.types false in
theorem main_k (c : Dev Cert.KernelIdeal.nD) : Cert.Kernel.main (F := Bits) c = Cert.KernelIdeal.main (F := Bits) c := by
  unfold Cert.Kernel.main Cert.KernelIdeal.main
  rfl

set_option backward.isDefEq.respectTransparency.types false in
/-- The printed kernel is the same text as its idealization: its run is the one over any float values. -/
theorem frame_k : Cert.quiescent_Kernel := fun m ρ _ => by
  have h := frame_any (F := Bits) m ρ
  have e : Cert.KernelIdeal.main (F := Bits) = Cert.Kernel.main (F := Bits) := funext fun c => (main_k c).symm
  rw [← defs_k, e] at h
  exact h

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Sb
-- ==== Proof.Fg.Gate.lean ====
module

public import Idealize.ShloMosaic.Lib.Pointwise

@[expose] public section

/-! The derivative of the forget gate's logarithm: what differentiating `log_sigmoid` through `logaddexp` computes is
    `1 / (1 + e^x)`, at every extended real. -/

noncomputable section

open Idealize.ShloMosaic

namespace Cert.Proof.Fg

/-- The softplus of the negated gate, as the reference spells it. -/
def sp (x : EReal) : EReal :=
  if -x ≠ -x then -x else max (-x) 0 + Ideal.log1p (Ideal.exp (-(FloatOps.absf (F := Ideal) (φ := .f32) (-x))))

/-- The sigmoid of the negated gate, as the kernel spells it. -/
def sg (x : EReal) : EReal := Ideal.div 1 (1 + Ideal.exp (0 - (0 - x)))

theorem inf_bits : Ideal.ofBits .f32 2139095040#32 = (⊤ : EReal) := by
  simp [Ideal.ofBits, Ideal.ieee]

theorem exp_top : Ideal.exp ⊤ = ⊤ := rfl
theorem exp_bot : Ideal.exp ⊥ = 0 := rfl
theorem log_top : Ideal.log ⊤ = ⊤ := rfl
theorem exp_zero : Ideal.exp 0 = 1 := by
  show ((Real.exp 0 : ℝ) : EReal) = 1
  simp
theorem log_one : Ideal.log 1 = 0 := by
  show (if (1 : ℝ) ≤ 0 then ⊥ else ((Real.log 1 : ℝ) : EReal)) = 0
  simp
theorem abs_bot : FloatOps.absf (F := Ideal) (φ := .f32) ⊥ = (⊤ : EReal) := by
  show max (⊥ : EReal) (-⊥) = ⊤
  simp
theorem abs_top : FloatOps.absf (F := Ideal) (φ := .f32) ⊤ = (⊤ : EReal) := by
  show max (⊤ : EReal) (-⊤) = ⊤
  simp

theorem sg_top : sg ⊤ = 0 := by
  have h : (1 : EReal) + ⊤ = ⊤ := EReal.add_top_of_ne_bot (by decide)
  simp [sg, Ideal.div, exp_top, exp_bot, h]

theorem sg_bot : sg ⊥ = 1 := by
  simp [sg, Ideal.div, exp_top, exp_bot]

theorem sg_coe (x : ℝ) : sg x = ((1 / (1 + Real.exp x) : ℝ) : EReal) := by
  have h : (0:ℝ) < 1 + Real.exp x := by positivity
  have e : (0:EReal) - (0 - (x:EReal)) = (x:EReal) := by norm_cast; simp
  rw [sg, e]
  show Ideal.div 1 (1 + ((Real.exp x : ℝ) : EReal)) = _
  have e1 : (1 + ((Real.exp x : ℝ) : EReal)) = ((1 + Real.exp x : ℝ) : EReal) := by norm_cast
  rw [e1, Ideal.div, if_neg (by exact_mod_cast h.ne'), one_mul, one_div, EReal.coe_inv]

theorem softplus_exp (y : ℝ) : Real.exp (y - (max y 0 + Real.log (1 + Real.exp (-max y (-y))))) = 1 / (1 + Real.exp (-y)) := by
  have h1 : (0:ℝ) < 1 + Real.exp (-y) := by positivity
  rcases le_total 0 y with h | h
  · rw [max_eq_left h, max_eq_left (by linarith), Real.exp_sub, Real.exp_add, Real.exp_log h1]
    field_simp
  · have h2 : (0:ℝ) < 1 + Real.exp y := by positivity
    rw [max_eq_right h, max_eq_right (by linarith), neg_neg, zero_add, Real.exp_sub, Real.exp_log h2, Real.exp_neg]
    field_simp
    ring

/-- The reference's derivative of the gate is the kernel's sigmoid, at every extended real. -/
theorem gate_eq (x : EReal) :
    Ideal.exp ((if -x = Ideal.ofBits .f32 2139095040#32 then 0 else -x)
      - (if sp x = Ideal.ofBits .f32 2139095040#32 then 0 else sp x)) = sg x := by
  rw [inf_bits]
  induction x with
  | bot =>
    have e : sp ⊥ = ⊤ := by
      simp [sp, Ideal.log1p, abs_bot, abs_top, log_one, exp_bot]
    rw [e, sg_bot]
    simp [exp_top, exp_bot, exp_zero]
  | top =>
    have e : sp ⊤ = 0 := by
      simp [sp, Ideal.log1p, abs_bot, abs_top, log_one, exp_bot]
    rw [e, sg_top]
    simp [exp_top, exp_bot, exp_zero]
  | coe x =>
    have e : sp x = ((max (-x) 0 + Real.log (1 + Real.exp (-max (-x) (- -x))) : ℝ) : EReal) := by
      have h : (0:ℝ) < 1 + Real.exp (-max (-x) (- -x)) := by positivity
      unfold sp
      rw [if_neg (by simp)]
      have ea : FloatOps.absf (F := Ideal) (φ := .f32) (-(x:EReal)) = ((max (-x) (- -x) : ℝ) : EReal) := by
        show max (-(x:EReal)) (-(-(x:EReal))) = _
        norm_cast
      rw [ea, ← EReal.coe_neg]
      show max (((-x : ℝ)) : EReal) 0 + Ideal.log (1 + ((Real.exp (-max (-x) (- -x)) : ℝ) : EReal)) = _
      have e1 : (1 + ((Real.exp (-max (-x) (- -x)) : ℝ) : EReal)) = ((1 + Real.exp (-max (-x) (- -x)) : ℝ) : EReal) := by norm_cast
      rw [e1]
      show max (((-x : ℝ)) : EReal) 0 + (if (1 + Real.exp (-max (-x) (- -x)) : ℝ) ≤ 0 then ⊥ else ((Real.log (1 + Real.exp (-max (-x) (- -x))) : ℝ) : EReal)) = _
      rw [if_neg (not_le.2 h)]
      norm_cast
    rw [e, if_neg (EReal.coe_ne_top _), ← EReal.coe_neg, if_neg (EReal.coe_ne_top _), sg_coe, ← EReal.coe_sub]
    show ((Real.exp _ : ℝ) : EReal) = _
    rw [softplus_exp, neg_neg]

end Cert.Proof.Fg
-- ==== Proof.Fg.Spec.lean ====
module

public import proofs.«01_k».proof.Proof.Fg.Gate

@[expose] public section

/-! The gradient of the forget gate, written on row numbers: the sum over the later rows of the same sequence, times
    the derivative of the gate's logarithm. Both programs are compared with it. -/

noncomputable section

open Idealize.ShloMosaic

namespace Cert.Proof.Fg

/-- An array of 4096 tokens by 128 lanes over the extended reals. -/
abbrev Arr : Type := (⟨2, ![4096, 128]⟩ : Shape).Idx → EReal

/-- Row `p`, lane `l` of an array; zero past its end. -/
def rd (X : Arr) (p : ℕ) (l : Fin 128) : EReal := if h : p < 4096 then X (ix2 ⟨p, h⟩ l) else 0

theorem rd_lt (X : Arr) (p : ℕ) (h : p < 4096) (l : Fin 128) : rd X p l = X (ix2 ⟨p, h⟩ l) := dif_pos h

/-- What reaches row `p` from the running sum: the query side less the key side. -/
def D (X0 X1 : Arr) (p : ℕ) (l : Fin 128) : EReal := rd X0 p l - rd X1 p l

/-- The sum over the rows from `r` on of sequence `b`. -/
def suf (X0 X1 : Arr) (b r : ℕ) (l : Fin 128) : EReal := ∑ s ∈ Finset.Ico r 2048, D X0 X1 (2048 * b + s) l

/-- The gradient of the gate at row `p`. -/
def DF (X0 X1 X2 : Arr) (p : ℕ) (l : Fin 128) : EReal := suf X0 X1 (p / 2048) (p % 2048) l * sg (rd X2 p l)

/-- The rows from `256 q + y` on are the rest of tile `q` and the tiles after it. -/
theorem suf_tile (X0 X1 : Arr) (b q y : ℕ) (hq : q < 8) (hy : y ≤ 256) (l : Fin 128) :
    suf X0 X1 b (256 * q + y) l
      = suf X0 X1 b (256 * (q + 1)) l + ∑ k : Fin 256, if y ≤ k then D X0 X1 (2048 * b + (256 * q + k)) l else 0 := by
  unfold suf
  rw [← Finset.sum_Ico_consecutive _ (show 256 * q + y ≤ 256 * (q + 1) by omega) (show 256 * (q + 1) ≤ 2048 by omega), add_comm]
  congr 1
  rw [Fin.sum_univ_eq_sum_range (fun k => if y ≤ k then D X0 X1 (2048 * b + (256 * q + k)) l else 0) 256, ← Finset.sum_filter,
    Finset.sum_Ico_eq_sum_range]
  refine Finset.sum_nbij (fun i => y + i) ?_ ?_ ?_ ?_
  · intro i hi
    simp only [Finset.mem_range, Finset.mem_filter] at hi ⊢
    omega
  · intro i _ j _ h
    simpa using h
  · intro k hk
    simp only [Finset.coe_filter, Finset.mem_range, Set.mem_setOf_eq] at hk
    exact ⟨k - y, by simp only [Finset.coe_range, Set.mem_Iio]; omega, by simp only; omega⟩
  · intro i _
    rw [show 256 * q + y + i = 256 * q + (y + i) by omega]

/-- The running sum from the end, as a sum over the rows that exist after `r`. -/
theorem suf_eq (X0 X1 : Arr) (b : ℕ) (r : Fin 2048) (l : Fin 128) :
    ∑ s : Fin 2048, (if (r : ℕ) + s < 2048 then D X0 X1 (2048 * b + (r + s)) l else 0) = suf X0 X1 b r l := by
  unfold suf
  rw [Fin.sum_univ_eq_sum_range (fun s => if (r : ℕ) + s < 2048 then D X0 X1 (2048 * b + (r + s)) l else 0) 2048,
    ← Finset.sum_filter, Finset.sum_Ico_eq_sum_range]
  refine Finset.sum_congr ?_ fun _ _ => rfl
  ext s
  simp only [Finset.mem_range, Finset.mem_filter]
  omega

end Cert.Proof.Fg
-- ==== Proof.Fg.Pay.lean ====
module

public import proofs.«01_k».proof.Proof.Gen.Kernel3Ideal.Skeleton
public import proofs.«01_k».proof.Proof.Fg.Spec
public import Idealize.ShloMosaic.Lib.Pointwise
public import Idealize.ShloMosaic.Lib.WordCmp

@[expose] public section

/-! One tile of the forget gate's gradient: what the kernel's body computes from the tile's three blocks and the carry
    of the later tiles, over the extended reals. -/

set_option maxRecDepth 16384

noncomputable section

open Idealize.ShloMosaic Idealize.ShloMosaic.TcCoe Idealize.SL.Sem

namespace Cert.Proof.Fg

open Cert.Kernel3Ideal Cert.Kernel3Ideal.Gen

/-- An entry of the triangle: one where the column is not before the row. -/
theorem tri_entry (x r : Fin 256) :
    FloatOps.sitofp (F := Ideal) FTy.f32 (BitVec.setWidth 32 (IntOp.cmpi CmpIPredicate.sge (BitVec.ofNat 32 ↑x) (BitVec.ofNat 32 ↑r)))
      = if (r : ℕ) ≤ x then (1 : EReal) else 0 := by
  have hx := x.isLt
  have hr := r.isLt
  rw [WordCmp.cmpi_sge_ofNat (by omega) (by omega)]
  show (((BitVec.setWidth 32 (BitVec.ofBool (decide ((r : ℕ) ≤ x)))).toInt : ℝ) : EReal) = _
  by_cases h : (r : ℕ) ≤ x
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

theorem pay1_apply (d : FVec Ideal S256x128 .f32) (a : FVec Ideal S1x128 .f32) (z : Fin 1) (l : Fin 128) :
    k0_pay1 (F := Ideal) d a (ix2 z l) = a (ix2 z l) + ∑ k : Fin 256, d (ix2 k l) := by
  pointwise [k0_pay1]

theorem pay5_apply (z : Fin 1) (l : Fin 128) : k0_pay5 (F := Ideal) (ix2 z l) = 0 := by
  pointwise [k0_pay5]

theorem pay6_apply (z : Fin 1) (l : Fin 128) : k0_pay6 (F := Ideal) (ix2 z l) = 0 := by
  pointwise [k0_pay6]

/-- Where the difference of the two blocks is finite, the two remainders of the three-way split are zero and the tile's
    gradient is the carry and the rest of the tile, times the derivative of the gate's logarithm. -/
theorem pay2_apply (x0 x1 x2 : FVec Ideal S256x128 .f32) (a : FVec Ideal S1x128 .f32)
    (hf : ∀ k l, x0 (ix2 k l) - x1 (ix2 k l) ≠ (⊤ : EReal) ∧ x0 (ix2 k l) - x1 (ix2 k l) ≠ (⊥ : EReal)) (r : Fin 256) (l : Fin 128) :
    k0_pay2 (F := Ideal) (k0_pay8 (F := Ideal)) (k0_pay12 x0 x1) (k0_pay13 x0 x1 a) (constant S256x128 .f32 0x00000000#32) x2 (ix2 r l)
      = (a (ix2 0 l) + ∑ k : Fin 256, if (r : ℕ) ≤ k then (x0 (ix2 k l) - x1 (ix2 k l) : EReal) else 0) * sg (x2 (ix2 r l)) := by
  pointwise [k0_pay2, k0_pay8, k0_pay12, k0_pay13, k0_pay11, k0_pay10, k0_pay9, k0_pay7]
  have h0 : ∀ x : Fin 256, (x0 (ix2 x l) - x1 (ix2 x l) - (x0 (ix2 x l) - x1 (ix2 x l)) : EReal) = 0 :=
    fun x => EReal.sub_self (hf x l).1 (hf x l).2
  simp only [h0, tri_entry, sub_zero, mul_zero, Finset.sum_const_zero, add_zero, ite_mul, one_mul, zero_mul]
  rfl

/-- The carry after a tile: the sum over the rows from the tile's first on. -/
theorem carry_step (X0 X1 : Arr) (b q : ℕ) (hq : q < 8) (x0 x1 : FVec Ideal S256x128 .f32) (a : FVec Ideal S1x128 .f32)
    (h0 : ∀ k l, x0 (ix2 k l) = rd X0 (2048 * b + (256 * q + k)) l) (h1 : ∀ k l, x1 (ix2 k l) = rd X1 (2048 * b + (256 * q + k)) l)
    (ha : ∀ l, a (ix2 0 l) = suf X0 X1 b (256 * (q + 1)) l) (l : Fin 128) :
    k0_pay1 (F := Ideal) (k0_pay7 x0 x1) a (ix2 0 l) = suf X0 X1 b (256 * q) l := by
  rw [pay1_apply, ha]
  refine Eq.trans ?_ (suf_tile X0 X1 b q 0 hq (by omega) l).symm
  congr 1
  refine Finset.sum_congr rfl fun k _ => ?_
  rw [if_pos (Nat.zero_le _)]
  pointwise [k0_pay7]
  rw [h0, h1]
  rfl

/-- The gradient of a tile's rows. -/
theorem grad_step (X0 X1 X2 : Arr) (b q : ℕ) (hb : b < 2) (hq : q < 8) (x0 x1 x2 : FVec Ideal S256x128 .f32) (a : FVec Ideal S1x128 .f32)
    (h0 : ∀ k l, x0 (ix2 k l) = rd X0 (2048 * b + (256 * q + k)) l) (h1 : ∀ k l, x1 (ix2 k l) = rd X1 (2048 * b + (256 * q + k)) l)
    (h2 : ∀ k l, x2 (ix2 k l) = rd X2 (2048 * b + (256 * q + k)) l)
    (hD : ∀ p l, D X0 X1 p l ≠ (⊤ : EReal) ∧ D X0 X1 p l ≠ (⊥ : EReal))
    (ha : ∀ l, a (ix2 0 l) = suf X0 X1 b (256 * (q + 1)) l) (r : Fin 256) (l : Fin 128) :
    k0_pay2 (F := Ideal) (k0_pay8 (F := Ideal)) (k0_pay12 x0 x1) (k0_pay13 x0 x1 a) (constant S256x128 .f32 0x00000000#32) x2 (ix2 r l)
      = DF X0 X1 X2 (2048 * b + (256 * q + r)) l := by
  have hr := r.isLt
  rw [pay2_apply x0 x1 x2 a (fun k l => by rw [h0, h1]; exact hD _ l), ha, h2]
  unfold DF
  rw [show (2048 * b + (256 * q + (r : ℕ))) / 2048 = b by omega, show (2048 * b + (256 * q + (r : ℕ))) % 2048 = 256 * q + r by omega,
    suf_tile X0 X1 b q r hq (by omega)]
  congr 2
  refine Finset.sum_congr rfl fun k _ => ?_
  rw [h0, h1]
  rfl

/-- The bias gradient after a tile. -/
theorem pay4_apply (v24 : FVec Ideal S256x256 .bf16) (v31 : FVec Ideal S256x128 .bf16) (v37 c13 : FVec Ideal S256x128 .f32)
    (x2 : FVec Ideal S256x128 .f32) (o : FVec Ideal S1x128 .f32) (z : Fin 1) (l : Fin 128) :
    k0_pay4 (F := Ideal) v24 v31 v37 c13 x2 o (ix2 z l) = o (ix2 z l) + ∑ r : Fin 256, k0_pay2 (F := Ideal) v24 v31 v37 c13 x2 (ix2 r l) := by
  pointwise [k0_pay4]

theorem pay3_apply (v24 : FVec Ideal S256x256 .bf16) (v31 : FVec Ideal S256x128 .bf16) (v37 c13 : FVec Ideal S256x128 .f32)
    (x2 : FVec Ideal S256x128 .f32) (r : Fin 256) (l : Fin 128) :
    k0_pay3 (F := Ideal) v24 v31 v37 c13 x2 (ix2 r l) = k0_pay2 (F := Ideal) v24 v31 v37 c13 x2 (ix2 r l) := by
  pointwise [k0_pay3]

end Cert.Proof.Fg
-- ==== Proof.Fg.Kernel.lean ====
module

public import proofs.«01_k».proof.Proof.Gen.Kernel3Ideal.Value
public import proofs.«01_k».proof.Proof.Fg.Pay
public import Idealize.ShloMosaic.Lib.Pipeline.ValueKit

@[expose] public section

/-! The kernel's two results of the forget gate's gradient, read at an index: by induction over the grid's points, which
    visit the tiles of each sequence from its last to its first. -/

set_option maxRecDepth 16384

noncomputable section

open Idealize.ShloMosaic Idealize.ShloMosaic.TcCoe Idealize.SL.Sem
open Idealize.ShloMosaic.Pipeline (Dat)

namespace Cert.Proof.Fg

open Cert.Kernel3Ideal Cert.Kernel3Ideal.Gen Cert.Kernel3Ideal.Value

variable (m : (ℓ : Loc nD τ sig) → Buf (Elt Ideal) ℓ)

/-- The windows' block indices at a point: the tiles of a sequence in reverse order. -/
theorem idx : ∀ t : Fin cfg0.N, win0_0.index t = ![8 * (t.val / 8) + (7 - t.val % 8), 0] ∧ win0_1.index t = ![8 * (t.val / 8) + (7 - t.val % 8), 0]
    ∧ win0_2.index t = ![8 * (t.val / 8) + (7 - t.val % 8), 0] ∧ win0_3.index t = ![8 * (t.val / 8) + (7 - t.val % 8), 0] ∧ win0_4.index t = ![0, 0]
    ∧ t.val < 16 :=
  (by decide +kernel : ∀ t : Fin grid0.N, _)

/-- The three arguments as arrays. -/
abbrev A0 (c : Dev nD) : Arr := m ((c : Thread nD τ).loc main_arg0)
abbrev A1 (c : Dev nD) : Arr := m ((c : Thread nD τ).loc main_arg1)
abbrev A2 (c : Dev nD) : Arr := m ((c : Thread nD τ).loc main_arg2)

theorem blk0 (c : Dev nD) (t : Fin cfg0.N) (k : Fin 256) (l : Fin 128) :
    (show FVec Ideal S256x128 .f32 from iblk m c 0 t) (ix2 k l) = rd (A0 m c) (2048 * (t.val / 8) + (256 * (7 - t.val % 8) + k)) l := by
  have h := (idx t).2.2.2.2.2
  have hk := k.isLt
  rw [rd_lt _ _ (by omega)]
  blk_ext [iblk, V, idx t]

theorem blk1 (c : Dev nD) (t : Fin cfg0.N) (k : Fin 256) (l : Fin 128) :
    (show FVec Ideal S256x128 .f32 from iblk m c 1 t) (ix2 k l) = rd (A1 m c) (2048 * (t.val / 8) + (256 * (7 - t.val % 8) + k)) l := by
  have h := (idx t).2.2.2.2.2
  have hk := k.isLt
  rw [rd_lt _ _ (by omega)]
  blk_ext [iblk, V, idx t]

theorem blk2 (c : Dev nD) (t : Fin cfg0.N) (k : Fin 256) (l : Fin 128) :
    (show FVec Ideal S256x128 .f32 from iblk m c 2 t) (ix2 k l) = rd (A2 m c) (2048 * (t.val / 8) + (256 * (7 - t.val % 8) + k)) l := by
  have h := (idx t).2.2.2.2.2
  have hk := k.isLt
  rw [rd_lt _ _ (by omega)]
  blk_ext [iblk, V, idx t]

theorem suf_end (X0 X1 : Arr) (b : ℕ) (l : Fin 128) : suf X0 X1 b (256 * (7 + 1)) l = 0 := by
  unfold suf; simp

/-- The bias gradient of the tile that point `s` visits. -/
def tile (c : Dev nD) (s : ℕ) (l : Fin 128) : EReal :=
  ∑ r : Fin 256, DF (A0 m c) (A1 m c) (A2 m c) (2048 * (s / 8) + (256 * (7 - s % 8) + r)) l

/-- What a point leaves: its tile's gradient, the bias gradient so far, the carry for the point after. -/
def Holds (c : Dev nD) (n : ℕ) (h : n < cfg0.N) : Prop :=
  (∀ (r : Fin 256) (l : Fin 128), (show FVec Ideal S256x128 .bf16 from (outsAt0 m c n h).1) (ix2 r l)
      = DF (A0 m c) (A1 m c) (A2 m c) (2048 * (n / 8) + (256 * (7 - n % 8) + r)) l)
  ∧ (∀ l : Fin 128, (show FVec Ideal S1x128 .f32 from (outsAt0 m c n h).2.1) (ix2 0 l) = ∑ s ∈ Finset.range (n + 1), tile m c s l)
  ∧ (∀ l : Fin 128, (show FVec Ideal S1x128 .f32 from (outsAt0 m c n h).2.2) (ix2 0 l) = suf (A0 m c) (A1 m c) (n / 8) (256 * (7 - n % 8)) l)

variable (c : Dev nD) (hD : ∀ p l, D (A0 m c) (A1 m c) p l ≠ (⊤ : EReal) ∧ D (A0 m c) (A1 m c) p l ≠ (⊥ : EReal))

/-- One point, from the carry `a` and the bias gradient `o` that it starts with. -/
theorem holds_of (t : Fin cfg0.N) (a o : FVec Ideal S1x128 .f32) (hD : ∀ p l, D (A0 m c) (A1 m c) p l ≠ (⊤ : EReal) ∧ D (A0 m c) (A1 m c) p l ≠ (⊥ : EReal))
    (ha : ∀ l, a (ix2 0 l) = suf (A0 m c) (A1 m c) (t.val / 8) (256 * (7 - t.val % 8 + 1)) l)
    (ho : ∀ l, o (ix2 0 l) = ∑ s ∈ Finset.range t.val, tile m c s l)
    (h1 : (outsAt0 m c t.val t.isLt).1 = k0_pay3 (F := Ideal) k0_pay8 (k0_pay12 (iblk m c 0 t) (iblk m c 1 t))
      (k0_pay13 (iblk m c 0 t) (iblk m c 1 t) a) (constant S256x128 FTy.f32 0#32) (iblk m c 2 t))
    (h2 : (outsAt0 m c t.val t.isLt).2.1 = k0_pay4 (F := Ideal) k0_pay8 (k0_pay12 (iblk m c 0 t) (iblk m c 1 t))
      (k0_pay13 (iblk m c 0 t) (iblk m c 1 t) a) (constant S256x128 FTy.f32 0#32) (iblk m c 2 t) o)
    (h3 : (outsAt0 m c t.val t.isLt).2.2 = k0_pay1 (F := Ideal) (k0_pay7 (iblk m c 0 t) (iblk m c 1 t)) a) :
    Holds m c t.val t.isLt := by
  have ht := (idx t).2.2.2.2.2
  have hg := grad_step (A0 m c) (A1 m c) (A2 m c) (t.val / 8) (7 - t.val % 8) (by omega) (by omega) (iblk m c 0 t) (iblk m c 1 t) (iblk m c 2 t) a
    (blk0 m c t) (blk1 m c t) (blk2 m c t) hD ha
  refine ⟨fun r l => ?_, fun l => ?_, fun l => ?_⟩
  · rw [h1]
    exact (pay3_apply _ _ _ _ _ r l).trans (hg r l)
  · rw [h2]
    refine (pay4_apply _ _ _ _ _ _ 0 l).trans ?_
    rw [ho, Finset.sum_range_succ]
    exact congrArg₂ (fun x y : EReal => x + y) rfl (Finset.sum_congr rfl fun r _ => hg r l)
  · rw [h3]
    exact carry_step (A0 m c) (A1 m c) (t.val / 8) (7 - t.val % 8) (by omega) (iblk m c 0 t) (iblk m c 1 t) a (blk0 m c t) (blk1 m c t) ha l

include hD in
/-- Every point leaves what it should. -/
theorem holds_all (n : ℕ) : ∀ h : n < cfg0.N, Holds m c n h := by
  induction n with
  | zero =>
    intro h
    refine holds_of m c ⟨0, h⟩ (k0_pay6 (F := Ideal)) (k0_pay5 (F := Ideal)) hD (fun l => ?_) (fun l => ?_) ?_ ?_ ?_
    · rw [pay6_apply]; exact (suf_end _ _ _ l).symm
    · rw [pay5_apply]; exact (Finset.sum_range_zero _).symm
    · rw [outsAt0_A m c ⟨0, h⟩ rfl rfl]; frame_out
    · rw [outsAt0_A m c ⟨0, h⟩ rfl rfl]; frame_out
    · rw [outsAt0_A m c ⟨0, h⟩ rfl rfl]; frame_out
  | succ n ih =>
    intro h
    have hN : n + 1 < 16 := lt_of_lt_of_eq h N_0
    obtain ⟨-, i2, i3⟩ := ih (by omega)
    have h0 : ¬(n + 1) % 16 = 0 := by omega
    by_cases h1 : (n + 1) % 8 = 0
    · refine holds_of m c ⟨n + 1, h⟩ (k0_pay6 (F := Ideal)) (outsAt0 m c n (by omega)).2.1 hD (fun l => ?_) i2 ?_ ?_ ?_
      · rw [pay6_apply]
        show _ = suf _ _ ((n + 1) / 8) (256 * (7 - (n + 1) % 8 + 1)) l
        rw [h1]; exact (suf_end _ _ _ l).symm
      · rw [outsAt0_C m c ⟨n + 1, h⟩ h0 h1]; frame_out; try rfl
      · rw [outsAt0_C m c ⟨n + 1, h⟩ h0 h1]; frame_out; try rfl
      · rw [outsAt0_C m c ⟨n + 1, h⟩ h0 h1]; frame_out; try rfl
    · refine holds_of m c ⟨n + 1, h⟩ (outsAt0 m c n (by omega)).2.2 (outsAt0 m c n (by omega)).2.1 hD (fun l => ?_) i2 ?_ ?_ ?_
      · refine (i3 l).trans ?_
        show _ = suf _ _ ((n + 1) / 8) (256 * (7 - (n + 1) % 8 + 1)) l
        rw [show (n + 1) / 8 = n / 8 by omega, show 7 - (n + 1) % 8 + 1 = 7 - n % 8 by omega]
      · rw [outsAt0_B m c ⟨n + 1, h⟩ h0 h1]; frame_out; rw [(Memref.isWhole_whole _).read_unread]; rfl
      · rw [outsAt0_B m c ⟨n + 1, h⟩ h0 h1]; frame_out; rw [(Memref.isWhole_whole _).read_unread]; rfl
      · rw [outsAt0_B m c ⟨n + 1, h⟩ h0 h1]; frame_out; rw [(Memref.isWhole_whole _).read_unread]; rfl

/-- The gradient as an array. -/
abbrev G (X0 X1 X2 : Arr) : Arr := fun i => DF X0 X1 X2 (i 0).val (i 1)

/-- The bias gradient as an array. -/
abbrev GB (X0 X1 X2 : Arr) : (⟨2, ![1, 128]⟩ : Shape).Idx → EReal := fun i => ∑ r : Fin 4096, DF X0 X1 X2 r (i 1)

include hD in
/-- The gradient's array after the run. -/
theorem final3 : (dats m 0 c).arrAt 3 cfg0.N = G (A0 m c) (A1 m c) (A2 m c) := by
  refine (dats m 0 c).arrAt_eq_of_covers 3 _ (by decide +kernel) fun t hf y => ?_
  blk_simp
  rw [after0_3]
  idx_vars y
  refine ((holds_all m c hD t.val t.isLt).1 y0 y1).trans ?_
  have ht := (idx t).2.2.2.2.2
  have hr := y0.isLt
  refine congrArg₂ (DF (A0 m c) (A1 m c) (A2 m c)) ?_ ?_
  · blk_simp [idx t]; omega
  · apply Fin.ext; blk_simp [idx t]

/-- The points visit every tile once. -/
def tilePerm : Fin 16 ≃ Fin 16 :=
  (show Function.Involutive (fun s : Fin 16 => (⟨8 * (s.val / 8) + (7 - s.val % 8), by omega⟩ : Fin 16)) from fun s => Fin.ext (by simp only []; omega)).toPerm

theorem sum_tiles (l : Fin 128) : ∑ s ∈ Finset.range 16, tile m c s l = ∑ r : Fin 4096, DF (A0 m c) (A1 m c) (A2 m c) r l := by
  rw [Fin.sum_univ_tiles 16 256 rfl (fun r : Fin 4096 => DF (A0 m c) (A1 m c) (A2 m c) r l), ← Equiv.sum_comp tilePerm,
    ← Fin.sum_univ_eq_sum_range (fun s => tile m c s l)]
  refine Finset.sum_congr rfl fun s _ => Finset.sum_congr rfl fun r _ => ?_
  have hs := s.isLt
  have hr := r.isLt
  refine congrArg (fun p => DF (A0 m c) (A1 m c) (A2 m c) p l) ?_
  simp [tilePerm]
  omega

include hD in
/-- The bias gradient's array after the run. -/
theorem final4 : (dats m 0 c).arrAt 4 cfg0.N = GB (A0 m c) (A1 m c) (A2 m c) := by
  refine (dats m 0 c).arrAt_eq_of_after_last 4 t0_15 (by decide +kernel) _ fun j => ?_
  blk_simp
  rw [after0_4]
  idx_vars j
  obtain rfl : j0 = 0 := Subsingleton.elim _ _
  refine ((holds_all m c hD t0_15.val t0_15.isLt).2.1 j1).trans ?_
  exact sum_tiles m c j1

end Cert.Proof.Fg
-- ==== Proof.Fg.RevSum.lean ====
module

public import Idealize.ShloMosaic.Lib.Pointwise

@[expose] public section

/-! The host's running sum from the end of an axis (a window as long as the axis, padded behind), read at an index over
    the extended reals. -/

noncomputable section

open Idealize.ShloMosaic

namespace Cert.Proof.Fg

/-- A left fold that adds one term per position is the initial value and the sum of the terms. -/
theorem foldl_add {N : ℕ} (g : Fin N → EReal) (a : EReal) :
    (List.finRange N).foldl (fun r n => r + g n) a = a + ∑ n, g n := by
  have h : ∀ (L : List (Fin N)) (a : EReal), L.foldl (fun r n => r + g n) a = a + (L.map g).sum := by
    intro L
    induction L with
    | nil => intro a; simp
    | cons n L ih => intro a; rw [List.foldl_cons, ih, List.map_cons, List.sum_cons, add_assoc]
  rw [h, ← List.ofFn_eq_map, List.sum_ofFn]

/-- The running sum from the end of the middle axis: entry `(b, r, l)` sums the entries `(b, r + s, l)` that exist. -/
theorem revsum_apply {A B C H : ℕ} (x : FVec Ideal ⟨3, ![A, B, C]⟩ .f32) (init : FVec Ideal ⟨0, ![]⟩ .f32) (hi : ∀ i, init i = 0)
    (h : (⟨3, ![A, B, C]⟩ : Shape).ReduceWindows ![1, B, 1] ![1, 1, 1] ![0, 0, 0] ![0, H, 0] ⟨3, ![A, B, C]⟩)
    (hu : 0 < (⟨0, ![]⟩ : Shape).numel) (b : Fin A) (r : Fin B) (l : Fin C) :
    Host.reduceWindowAdd (F := Ideal) ![1, B, 1] ![1, 1, 1] ![0, 0, 0] ![0, H, 0] x init h hu (ix3 b r l)
      = ∑ s : Fin B, if hs : (r : ℕ) + s < B then x (ix3 b ⟨r + s, hs⟩ l) else 0 := by
  unfold Host.reduceWindowAdd
  rw [Ideal.hostReduceWindowAdd_def]
  unfold Ideal.hostReduceWindowAdd Host.reduceWindow
  refine (foldl_add _ _).trans ?_
  rw [hi, zero_add]
  have key : ∀ w : (⟨3, ![1, B, 1]⟩ : Shape).Idx, ∀ (P : Prop) (dec : Decidable P) (i : P → (⟨3, ![A, B, C]⟩ : Shape).Idx) (z : EReal), z = 0 →
      (P ↔ (r : ℕ) + (w 1).val < B) → (∀ hp, (i hp 0).val = b ∧ (i hp 1).val = r + (w 1).val ∧ (i hp 2).val = l) →
      (@dite EReal P dec (fun hp => x (i hp)) fun _ => z) = (if hs : (r : ℕ) + (w 1).val < B then x (ix3 b ⟨r + (w 1).val, hs⟩ l) else 0) := by
    intro w P _ i z hz hP hi
    by_cases hp : P
    · rw [dif_pos hp, dif_pos (hP.1 hp)]
      obtain ⟨h0, h1, h2⟩ := hi hp
      refine congrArg x (funext fun a => Fin.ext ?_)
      match a with
      | ⟨0, _⟩ => exact h0
      | ⟨1, _⟩ => exact h1
      | ⟨2, _⟩ => exact h2
    · rw [dif_neg hp, dif_neg (fun h => hp (hP.2 h)), hz]
  have e0 : ∀ w : (⟨3, ![1, B, 1]⟩ : Shape).Idx, (w 0).val = 0 := fun w => by have : (w 0).val < 1 := (w 0).isLt; omega
  have e2 : ∀ w : (⟨3, ![1, B, 1]⟩ : Shape).Idx, (w 2).val = 0 := fun w => by have : (w 2).val < 1 := (w 2).isLt; omega
  refine Eq.trans (b := ∑ n, (fun w : (⟨3, ![1, B, 1]⟩ : Shape).Idx =>
      (if hs : (r : ℕ) + (w 1).val < B then x (ix3 b ⟨r + (w 1).val, hs⟩ l) else (0 : EReal))) ((Shape.rowMajor ⟨3, ![1, B, 1]⟩).symm n))
    (Finset.sum_congr rfl fun n _ => ?_) ?_
  · refine key ((Shape.rowMajor ⟨3, ![1, B, 1]⟩).symm n) _ _ _ _ rfl ?_ ?_
    · generalize (Shape.rowMajor ⟨3, ![1, B, 1]⟩).symm n = w
      have w0 := e0 w
      have w2 := e2 w
      have hb := b.isLt
      have hl := l.isLt
      constructor
      · intro hin
        have h1 := (hin 1).2
        change r.val * 1 + (w 1).val - 0 < B at h1
        omega
      · intro hs a
        match a with
        | ⟨0, _⟩ => show 0 ≤ b.val * 1 + (w 0).val ∧ b.val * 1 + (w 0).val - 0 < A; omega
        | ⟨1, _⟩ => show 0 ≤ r.val * 1 + (w 1).val ∧ r.val * 1 + (w 1).val - 0 < B; omega
        | ⟨2, _⟩ => show 0 ≤ l.val * 1 + (w 2).val ∧ l.val * 1 + (w 2).val - 0 < C; omega
    · intro hp
      have w0 := e0 ((Shape.rowMajor ⟨3, ![1, B, 1]⟩).symm n)
      have w2 := e2 ((Shape.rowMajor ⟨3, ![1, B, 1]⟩).symm n)
      refine ⟨?_, ?_, ?_⟩
      · show b.val * 1 + ((Shape.rowMajor ⟨3, ![1, B, 1]⟩).symm n 0).val - 0 = b.val; omega
      · show r.val * 1 + ((Shape.rowMajor ⟨3, ![1, B, 1]⟩).symm n 1).val - 0 = r.val + _; omega
      · show l.val * 1 + ((Shape.rowMajor ⟨3, ![1, B, 1]⟩).symm n 2).val - 0 = l.val; omega
  · refine (Equiv.sum_comp (Shape.rowMajor ⟨3, ![1, B, 1]⟩).symm (fun w : (⟨3, ![1, B, 1]⟩ : Shape).Idx =>
      (if hs : (r : ℕ) + (w 1).val < B then x (ix3 b ⟨r + (w 1).val, hs⟩ l) else (0 : EReal)))).trans ?_
    rw [sum_idx3]
    simp only [Finset.univ_unique, Finset.sum_singleton]
    rfl

end Cert.Proof.Fg
-- ==== Proof.Fg.Ref.lean ====
module

public import proofs.«01_k».proof.Proof.Gen.Reference3Ideal.Read
public import proofs.«01_k».proof.Proof.Fg.RevSum
public import proofs.«01_k».proof.Proof.Fg.Spec

@[expose] public section

/-! The reference's two results of the forget gate's gradient, read at an index. -/

set_option maxRecDepth 16384

noncomputable section

open Idealize.ShloMosaic Idealize.ShloMosaic.TcCoe Idealize.SL.Sem

namespace Cert.Proof.Fg

open Cert.Reference3Ideal Cert.Reference3Ideal.Gen Cert.Reference3Ideal.Read

/-- The reversed running sum of the reference. -/
theorem v5_apply (X0 X1 : FVec Ideal S4096x128 .f32) (b : Fin 2) (r : Fin 2048) (l : Fin 128) :
    val_main_v5 (F := Ideal) X0 X1 (ix3 b r l) = suf X0 X1 b r l := by
  unfold val_main_v5
  refine (revsum_apply (val_main_v4 (F := Ideal) X0 X1) (val_main_call2_call0_v0 (F := Ideal)) ?_ _ _ b r l).trans ?_
  · intro i
    pointwise [val_main_call2_call0_v0, val_main_call2_call0_cst]
  · rw [← suf_eq]
    refine Finset.sum_congr rfl fun s _ => ?_
    have hb := b.isLt
    by_cases hs : (r : ℕ) + s < 2048
    · rw [dif_pos hs, if_pos hs, D, rd_lt _ _ (by omega), rd_lt _ _ (by omega)]
      pointwise [val_main_v4, val_main_v3]
      refine congrArg₂ (fun a b : EReal => a - b) (congrArg X0 ?_) (congrArg X1 ?_)
      all_goals exact (ix2_inj ..).2 ⟨Fin.ext (by show _ = 2048 * (b : ℕ) + (r + s); simp only []; omega), rfl⟩
    · rw [dif_neg hs, if_neg hs]

theorem v7_apply (X0 X1 X2 : FVec Ideal S4096x128 .f32) (r : Fin 4096) (l : Fin 128) :
    val_main_v7 (F := Ideal) X0 X1 X2 (ix2 r l) = DF X0 X1 X2 r l := by
  pointwise [val_main_v7, val_main_v6, val_main_call3_v1, val_main_call3_v0, val_main_v1_1, val_main_call0_call0_v21, val_main_call0_call0_v20,
    val_main_call0_call0_v19, val_main_call0_call0_cst_3, val_main_call0_call0_v18, val_main_call0_call0_v17, val_main_call0_call0_cst_2,
    val_main_call0_call0_v16, val_main_call0_call0_v15, val_main_call0_call0_cst_1, val_main_call0_call0_v14, val_main_call0_call0_v13,
    val_main_call0_call0_cst_0, val_main_call0_v1_0, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v0]
  have hg := gate_eq (X2 (ix2 r l))
  unfold sp at hg
  have h5 := v5_apply X0 X1 ⟨(r : ℕ) / 2048, by omega⟩ ⟨(r : ℕ) % 2048, by omega⟩ l
  unfold DF
  rw [rd_lt _ _ r.isLt]
  refine (congrArg₂ (fun a b : EReal => -(-a * b)) h5 hg).trans ?_
  show -(-suf X0 X1 (r / 2048) (r % 2048) l * sg (X2 (ix2 r l))) = _
  rw [EReal.neg_mul, neg_neg]

theorem v8_apply (X0 X1 X2 : FVec Ideal S4096x128 .f32) (r : Fin 4096) (l : Fin 128) :
    val_main_v8 (F := Ideal) X0 X1 X2 (ix2 r l) = DF X0 X1 X2 r l := by
  pointwise [val_main_v8]
  exact v7_apply X0 X1 X2 r l

theorem v10_apply (X0 X1 X2 : FVec Ideal S4096x128 .f32) (z : Fin 1) (l : Fin 128) :
    val_main_v10 (F := Ideal) X0 X1 X2 (ix2 z l) = ∑ r : Fin 4096, DF X0 X1 X2 r l := by
  pointwise [val_main_v10, val_main_v9, val_main_cst]
  exact Finset.sum_congr rfl fun r _ => v7_apply X0 X1 X2 r l

end Cert.Proof.Fg
-- ==== Proof.Fg.Claims.lean ====
module

public import proofs.«01_k».proof.Defs
public import proofs.«01_k».proof.Proof.Gen.Kernel3
public import proofs.«01_k».proof.Proof.Gen.Kernel3.Frame
public import proofs.«01_k».proof.Proof.Gen.Pre_finite_fg
public import proofs.«01_k».proof.Proof.Fg.Kernel
public import proofs.«01_k».proof.Proof.Fg.Ref
public import Idealize.ShloMosaic.Lib.Pipeline.ValueKit
public import Idealize.ShloMosaic.Lib.Claim

@[expose] public section

/-! The claims about the forget gate's gradient. -/

set_option maxRecDepth 16384

noncomputable section

open Idealize.ShloMosaic Idealize.ShloMosaic.TcCoe Idealize.SL.Sem

namespace Cert.Proof.Fg

theorem frame_k : Cert.quiescent_Kernel3 := fun m ρ _ => Cert.Kernel3.Gen.frame m ρ

theorem frame_ki : Cert.quiescent_Kernel3Ideal := fun m ρ _ => Cert.Kernel3Ideal.Gen.frame m ρ

theorem frame_ki_pre : Cert.quiescent_Kernel3Ideal_pre_finite_fg := fun m ρ _ => Cert.Kernel3Ideal.Gen.frame m ρ

theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem frame_ri_pre : Cert.quiescent_Reference3Ideal_pre_finite_fg := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The word of `+∞` read as an extended real. -/
theorem inf_word : Ideal.ofBits FTy.f32 0x7F800000#32 = (⊤ : EReal) := by decide +kernel

/-- An extended real whose absolute value is below infinity is neither infinity. -/
theorem ne_inf_of_abs_lt {x : EReal} (h : max x (-x) < ⊤) : x ≠ ⊤ ∧ x ≠ ⊥ := by
  constructor <;> rintro rfl <;> simp at h

/-- The precondition at an index. -/
theorem sub_finite (X0 X1 X2 : FVec Ideal Cert.Kernel3Ideal.S4096x128 .f32)
    (h : Cert.Pre_finite_fg.fn (F := Ideal) X0 X1 X2 = (fun _ => 1#1)) (p : ℕ) (l : Fin 128) :
    D X0 X1 p l ≠ (⊤ : EReal) ∧ D X0 X1 p l ≠ (⊥ : EReal) := by
  unfold D
  by_cases hp : p < 4096
  · rw [rd_lt _ _ hp, rd_lt _ _ hp]
    have h' := congrFun h (ix2 ⟨p, hp⟩ l)
    have h2 : BitVec.ofBool (decide (max (X0 (ix2 ⟨p, hp⟩ l) - X1 (ix2 ⟨p, hp⟩ l)) (-(X0 (ix2 ⟨p, hp⟩ l) - X1 (ix2 ⟨p, hp⟩ l)))
        < Ideal.ofBits FTy.f32 0x7F800000#32)) = 1#1 := h'
    rw [inf_word] at h2
    by_cases hlt : max (X0 (ix2 ⟨p, hp⟩ l) - X1 (ix2 ⟨p, hp⟩ l)) (-(X0 (ix2 ⟨p, hp⟩ l) - X1 (ix2 ⟨p, hp⟩ l))) < (⊤ : EReal)
    · exact ne_inf_of_abs_lt hlt
    · rw [decide_eq_false hlt] at h2
      exact absurd h2 (by decide)
  · unfold rd
    rw [dif_neg hp, dif_neg hp]
    simp

/-- The reference's gradient is the kernel's array. -/
theorem ref3 (X0 X1 X2 : FVec Ideal Cert.Kernel3Ideal.S4096x128 .f32) : Cert.Reference3Ideal.Read.val_main_v8 (F := Ideal) X0 X1 X2 = G X0 X1 X2 := by
  funext i
  idx_vars i
  exact v8_apply X0 X1 X2 i0 i1

/-- The reference's bias gradient is the kernel's array. -/
theorem ref4 (X0 X1 X2 : FVec Ideal Cert.Kernel3Ideal.S4096x128 .f32) : Cert.Reference3Ideal.Read.val_main_v10 (F := Ideal) X0 X1 X2 = GB X0 X1 X2 := by
  funext i
  idx_vars i
  exact v10_apply X0 X1 X2 i0 i1

theorem algebraic : Cert.algebraic_Kernel3Ideal_Reference3Ideal_pre_finite_fg := by
  intro m g m' g' hpre hag
  refine ⟨fun c => G (A0 m c) (A1 m c) (A2 m c), fun c => GB (A0 m c) (A1 m c) (A2 m c), ?_, ?_⟩
  · refine (θ_run Cert.Kernel3Ideal.defs _ _).mono (fun r h c => ?_) (Cert.Kernel3Ideal.Value.run_blocks (F := Ideal) m g)
    obtain ⟨h3, h4, hargs⟩ := h c
    have hD := sub_finite _ _ _ (hpre c)
    exact ⟨h3.trans (final3 m c hD), h4.trans (final4 m c hD), hargs⟩
  · refine (θ_run Cert.Reference3Ideal.defs _ _).mono (fun r h c => ?_) (Cert.Reference3Ideal.Value.run (F := Ideal) m' g')
    obtain ⟨h8, h10, hargs⟩ := h c
    obtain ⟨e0, e1, e2⟩ := hag c
    refine ⟨h8.trans ?_, h10.trans ?_, hargs⟩
    · rw [Cert.Reference3Ideal.Read.val_main_v8_eq, e0, e1, e2]
      exact ref3 _ _ _
    · rw [Cert.Reference3Ideal.Read.val_main_v10_eq, e0, e1, e2]
      exact ref4 _ _ _

end Cert.Proof.Fg
-- ==== Proof.Lib.Part.lean ====
module

public import Mathlib.Data.EReal.Operations
public import Mathlib.Algebra.BigOperators.Fin
public import Idealize.ShloMosaic.Lib.Pipeline.ValueKit

@[expose] public section

/-! A sum over the 4096 rows, taken tile by tile. -/

noncomputable section

open Idealize.ShloMosaic

namespace Cert.Proof.Part

/-- A function of the rows, zero past the last row. -/
def total (f : Fin 4096 → EReal) (p : ℕ) : EReal := if h : p < 4096 then f ⟨p, h⟩ else 0

theorem total_lt (f : Fin 4096 → EReal) (p : ℕ) (h : p < 4096) : total f p = f ⟨p, h⟩ := dif_pos h

/-- The sum over the rows of tile `s`, of `w` rows. -/
def part (w : ℕ) (f : Fin 4096 → EReal) (s : ℕ) : EReal := ∑ k : Fin w, total f (w * s + k)

/-- The tiles' sums add up to the sum over all rows. -/
theorem sum_part (n w : ℕ) (h : n * w = 4096) (f : Fin 4096 → EReal) : ∑ s ∈ Finset.range n, part w f s = ∑ p : Fin 4096, f p := by
  rw [Fin.sum_univ_tiles n w h f, ← Fin.sum_univ_eq_sum_range (fun s => part w f s)]
  refine Finset.sum_congr rfl fun s _ => Finset.sum_congr rfl fun k _ => ?_
  have hs := s.isLt
  have hk := k.isLt
  have hlt : s.val * w + k.val < n * w := by nlinarith
  have e : w * s.val + k.val = s.val * w + k.val := by rw [Nat.mul_comm]
  rw [total_lt _ _ (by omega)]
  exact congrArg f (Fin.ext e)

/-- One tile's sum, from its terms. -/
theorem part_eq (w : ℕ) (f : Fin 4096 → EReal) (s : ℕ) (g : Fin w → EReal) (hs : w * s + w ≤ 4096)
    (h : ∀ (k : Fin w) (hk : w * s + k.val < 4096), g k = f ⟨w * s + k, hk⟩) : ∑ k : Fin w, g k = part w f s :=
  Finset.sum_congr rfl fun k _ => by
    have hk := k.isLt
    rw [total_lt _ _ (by omega)]
    exact h k (by omega)

end Cert.Proof.Part
-- ==== Proof.Mlp.Pay.lean ====
module

public import proofs.«01_k».proof.Proof.Gen.Kernel2Ideal.Value
public import proofs.«01_k».proof.Proof.Lib.Part
public import Idealize.ShloMosaic.Lib.Pipeline.ValueKit
public import Idealize.ShloMosaic.Lib.Pointwise
public import Idealize.ShloMosaic.Lib.Claim

@[expose] public section

/-! What one block of rows of the MLP's gradient computes, entry by entry. -/

set_option maxRecDepth 16384

noncomputable section

open Idealize.ShloMosaic Idealize.ShloMosaic.TcCoe Idealize.SL.Sem
open Cert.Proof.Part

namespace Cert.Proof.Mlp

open Cert.Kernel2Ideal Cert.Kernel2Ideal.Gen

/-- The mean square of a row, with the small constant. -/
def ms (x : Fin 1024 → EReal) : EReal := Ideal.div (∑ k, x k * x k) (Ideal.ofBits .f32 0x44800000#32) + Ideal.ofBits .f32 0x358637BD#32

/-- The reciprocal root of the mean square. -/
def rs (x : Fin 1024 → EReal) : EReal := Ideal.rsqrt (ms x)

/-- The gradient before the squared rectifier: `d` the row of the gradient after the second weight, `w` the row of that weight, `a` the value before. -/
def act (d w : Fin 1024 → EReal) (a : EReal) : EReal := (∑ k, d k * w k) * Ideal.ofBits .f32 0x40000000#32 * max a 0

/-- The gradient at the normed row. -/
def dh (d : Fin 1024 → EReal) (a : Fin 4096 → EReal) (w u : Fin 4096 → Fin 1024 → EReal) (j : Fin 1024) : EReal :=
  ∑ f : Fin 4096, act d (w f) (a f) * u f j

/-- The gradient at the row, from the gradient `v` at the normed and scaled row. -/
def dn (x v : Fin 1024 → EReal) (j : Fin 1024) : EReal :=
  rs x * (v j - x j * rs x * Ideal.div (∑ k, v k * (x k * rs x)) (Ideal.ofBits .f32 0x44800000#32))

/-- A row of a matrix. -/
abbrev row {n k : ℕ} (X : Fin n → Fin k → EReal) (i : Fin n) : Fin k → EReal := X i

theorem pay5_apply (x : FVec Ideal S256x1024 .f32) (k : Fin 256) (z : Fin 1) :
    k0_pay5 (F := Ideal) x (ix2 k z) = rs fun l => x (ix2 k l) := by
  unfold rs ms
  pointwise [k0_pay5]

theorem pay6_apply (x : FVec Ideal S256x1024 .f32) (k : Fin 256) (l : Fin 1024) :
    k0_pay6 (F := Ideal) x (ix2 k l) = (x (ix2 k l) * rs fun l => x (ix2 k l) : EReal) := by
  have h : k0_pay6 (F := Ideal) x (ix2 k l) = (x (ix2 k l) * k0_pay5 (F := Ideal) x (ix2 k 0) : EReal) := by
    pointwise [k0_pay6]
  rw [h, pay5_apply]

theorem pay7_apply (x : FVec Ideal S256x1024 .f32) (g : FVec Ideal S1x1024 .f32) (k : Fin 256) (l : Fin 1024) :
    k0_pay7 (F := Ideal) x g (ix2 l k) = (x (ix2 k l) * (rs fun l => x (ix2 k l)) * g (ix2 0 l) : EReal) := by
  have h : k0_pay7 (F := Ideal) x g (ix2 l k) = (k0_pay6 (F := Ideal) x (ix2 k l) * g (ix2 0 l) : EReal) := by
    pointwise [k0_pay7]
  rw [h, pay6_apply]

theorem pay4_apply (d : FVec Ideal S256x1024 .f32) (k : Fin 256) (l : Fin 1024) : k0_pay4 (F := Ideal) d (ix2 k l) = d (ix2 k l) := by
  pointwise [k0_pay4]

theorem pay9_apply (d : FVec Ideal S256x1024 .f32) (w : FVec Ideal S1024x1024 .bf16) (a : FVec Ideal S256x1024 .bf16) (k : Fin 256) (l : Fin 1024) :
    k0_pay9 (F := Ideal) d w a (ix2 k l) = act (fun q => d (ix2 k q)) (fun q => w (ix2 l q)) (a (ix2 k l)) := by
  unfold act
  pointwise [k0_pay9, k0_pay4]

theorem pay10_apply (d : FVec Ideal S256x1024 .bf16) (w : FVec Ideal S1024x1024 .bf16) (a : FVec Ideal S256x1024 .bf16) (k : Fin 256) (l : Fin 1024) :
    k0_pay10 (F := Ideal) d w a (ix2 k l) = act (fun q => d (ix2 k q)) (fun q => w (ix2 l q)) (a (ix2 k l)) := by
  unfold act
  pointwise [k0_pay10]

theorem pay12_apply (d : FVec Ideal S256x1024 .bf16) (w : FVec Ideal S1024x1024 .bf16) (a : FVec Ideal S256x1024 .bf16) (k : Fin 256) (l : Fin 1024) :
    k0_pay12 (F := Ideal) d w a (ix2 k l) = act (fun q => d (ix2 k q)) (fun q => w (ix2 l q)) (a (ix2 k l)) := by
  unfold act
  pointwise [k0_pay12]

theorem pay13_apply (d : FVec Ideal S256x1024 .bf16) (w : FVec Ideal S1024x1024 .bf16) (a : FVec Ideal S256x1024 .bf16) (k : Fin 256) (l : Fin 1024) :
    k0_pay13 (F := Ideal) d w a (ix2 k l) = act (fun q => d (ix2 k q)) (fun q => w (ix2 l q)) (a (ix2 k l)) := by
  unfold act
  pointwise [k0_pay13]

theorem pay11_apply (d : FVec Ideal S256x1024 .bf16) (z : FVec Ideal S256x1024 .f32) (a : FVec Ideal S256x1024 .bf16) (u w : FVec Ideal S1024x1024 .bf16)
    (b : FVec Ideal S256x1024 .bf16) (u' : FVec Ideal S1024x1024 .bf16) (k : Fin 256) (j : Fin 1024) :
    k0_pay11 (F := Ideal) d z a u w b u' (ix2 k j) = (z (ix2 k j) + (∑ f : Fin 1024, a (ix2 k f) * u (ix2 j f))
      + ∑ f : Fin 1024, k0_pay10 (F := Ideal) d w b (ix2 k f) * u' (ix2 j f) : EReal) := by
  pointwise [k0_pay11]

theorem pay14_apply (d : FVec Ideal S256x1024 .bf16) (z : FVec Ideal S256x1024 .f32) (a : FVec Ideal S256x1024 .bf16) (u w : FVec Ideal S1024x1024 .bf16)
    (b : FVec Ideal S256x1024 .bf16) (u' : FVec Ideal S1024x1024 .bf16) (k : Fin 256) (j : Fin 1024) :
    k0_pay14 (F := Ideal) d z a u w b u' (ix2 k j) = (z (ix2 k j) + (∑ f : Fin 1024, a (ix2 k f) * u (ix2 j f))
      + ∑ f : Fin 1024, k0_pay13 (F := Ideal) d w b (ix2 k f) * u' (ix2 j f) : EReal) := by
  pointwise [k0_pay14]

theorem pay8_apply (k : Fin 256) (j : Fin 1024) : k0_pay8 (F := Ideal) (ix2 k j) = (0 : EReal) := by
  pointwise [k0_pay8]

theorem pay3_apply (z : Fin 1) (j : Fin 1024) : k0_pay3 (F := Ideal) (ix2 z j) = (0 : EReal) := by
  pointwise [k0_pay3]

theorem pay2_apply (d e : FVec Ideal S256x1024 .f32) (k : Fin 256) (j : Fin 1024) :
    k0_pay2 (F := Ideal) d e (ix2 k j) = (d (ix2 k j) + e (ix2 k j) : EReal) := by
  pointwise [k0_pay2]

theorem pay1_apply (s : FVec Ideal S1024 .f32) (e : FVec Ideal S1x1024 .f32) (z : Fin 1) (j : Fin 1024) :
    k0_pay1 (F := Ideal) s e (ix2 z j) = (e (ix2 z j) + s (ix1 j) : EReal) := by
  pointwise [k0_pay1]

/-- The block's gradient at the normed rows. -/
abbrev dhB (x0 : FVec Ideal S256x1024 .f32) (x1 : FVec Ideal S256x4096 .bf16) (x4 : FVec Ideal S1024x4096 .bf16) (x5 : FVec Ideal S4096x1024 .bf16) :
    FVec Ideal S256x1024 .f32 :=
  k0_pay14 (F := Ideal) (k0_pay4 x0) (k0_pay11 (k0_pay4 x0) k0_pay8
          (k0_pay9 x0
            (View.ld (Val := Elt Ideal) (e' := .bf16) x5 (Rect.unit (s := S4096x1024) ![0, 0] ![1024, 1024] inb_S4096x1024_S1024x1024_0_0))
            (View.ld (Val := Elt Ideal) (e' := .bf16) x1 (Rect.unit (s := S256x4096) ![0, 0] ![256, 1024] inb_S256x4096_S256x1024_0_0)))
          (View.ld (Val := Elt Ideal) (e' := .bf16) x4 (Rect.unit (s := S1024x4096) ![0, 0] ![1024, 1024] inb_S1024x4096_S1024x1024_0_0))
          (View.ld (Val := Elt Ideal) (e' := .bf16) x5 (Rect.unit (s := S4096x1024) ![1024, 0] ![1024, 1024] inb_S4096x1024_S1024x1024_1024_0))
          (View.ld (Val := Elt Ideal) (e' := .bf16) x1 (Rect.unit (s := S256x4096) ![0, 1024] ![256, 1024] inb_S256x4096_S256x1024_0_1024))
          (View.ld (Val := Elt Ideal) (e' := .bf16) x4 (Rect.unit (s := S1024x4096) ![0, 1024] ![1024, 1024] inb_S1024x4096_S1024x1024_0_1024)))
        (k0_pay12 (k0_pay4 x0)
          (View.ld (Val := Elt Ideal) (e' := .bf16) x5 (Rect.unit (s := S4096x1024) ![2048, 0] ![1024, 1024] inb_S4096x1024_S1024x1024_2048_0))
          (View.ld (Val := Elt Ideal) (e' := .bf16) x1 (Rect.unit (s := S256x4096) ![0, 2048] ![256, 1024] inb_S256x4096_S256x1024_0_2048)))
        (View.ld (Val := Elt Ideal) (e' := .bf16) x4 (Rect.unit (s := S1024x4096) ![0, 2048] ![1024, 1024] inb_S1024x4096_S1024x1024_0_2048))
        (View.ld (Val := Elt Ideal) (e' := .bf16) x5 (Rect.unit (s := S4096x1024) ![3072, 0] ![1024, 1024] inb_S4096x1024_S1024x1024_3072_0))
        (View.ld (Val := Elt Ideal) (e' := .bf16) x1 (Rect.unit (s := S256x4096) ![0, 3072] ![256, 1024] inb_S256x4096_S256x1024_0_3072))
        (View.ld (Val := Elt Ideal) (e' := .bf16) x4 (Rect.unit (s := S1024x4096) ![0, 3072] ![1024, 1024] inb_S1024x4096_S1024x1024_0_3072))

theorem dhB_apply (x0 : FVec Ideal S256x1024 .f32) (x1 : FVec Ideal S256x4096 .bf16) (x4 : FVec Ideal S1024x4096 .bf16) (x5 : FVec Ideal S4096x1024 .bf16)
    (k : Fin 256) (j : Fin 1024) :
    dhB x0 x1 x4 x5 (ix2 k j) = dh (fun q => x0 (ix2 k q)) (fun f => x1 (ix2 k f)) (fun f q => x5 (ix2 f q)) (fun f q => x4 (ix2 q f)) j := by
  unfold dhB
  rw [pay14_apply, pay11_apply]
  simp only [pay9_apply, pay10_apply, pay12_apply, pay13_apply, pay4_apply, pay8_apply]
  unfold dh
  rw [← sum_part 4 1024 rfl]
  simp only [Finset.sum_range_succ, Finset.sum_range_zero]
  refine congrArg₂ (fun x y : EReal => x + y) (congrArg₂ (fun x y : EReal => x + y) (congrArg₂ (fun x y : EReal => x + y)
    (congrArg₂ (fun x y : EReal => x + y) rfl ?_) ?_) ?_) ?_
  · exact part_eq 1024 _ 0 _ (by omega) fun f hf => by pointwise
  · exact part_eq 1024 _ 1 _ (by omega) fun f hf => by pointwise
  · exact part_eq 1024 _ 2 _ (by omega) fun f hf => by pointwise
  · exact part_eq 1024 _ 3 _ (by omega) fun f hf => by pointwise

theorem pay15_apply (v4 : FVec Ideal S256x1024 .bf16) (v13 : FVec Ideal S256x1 .f32) (v15 v56 : FVec Ideal S256x1024 .f32) (v68 : FVec Ideal S256x1024 .bf16)
    (v70 v74 : FVec Ideal S1024x1024 .bf16) (v79 : FVec Ideal S256x1024 .bf16) (v87 : FVec Ideal S1024x1024 .bf16) (v91 : FVec Ideal S1x1024 .f32)
    (k : Fin 256) (j : Fin 1024) :
    k0_pay15 (F := Ideal) v4 v13 v15 v56 v68 v70 v74 v79 v87 v91 (ix2 k j) =
      (v13 (ix2 k 0) * (k0_pay14 (F := Ideal) v4 v56 v68 v70 v74 v79 v87 (ix2 k j) * v91 (ix2 0 j) - v15 (ix2 k j) *
        Ideal.div (∑ l : Fin 1024, k0_pay14 (F := Ideal) v4 v56 v68 v70 v74 v79 v87 (ix2 k l) * v91 (ix2 0 l) * v15 (ix2 k l)) (Ideal.ofBits .f32 0x44800000#32)) : EReal) := by
  pointwise [k0_pay15]

theorem pay16_apply (v4 : FVec Ideal S256x1024 .bf16) (v15 v56 : FVec Ideal S256x1024 .f32) (v68 : FVec Ideal S256x1024 .bf16)
    (v70 v74 : FVec Ideal S1024x1024 .bf16) (v79 : FVec Ideal S256x1024 .bf16) (v87 : FVec Ideal S1024x1024 .bf16) (j : Fin 1024) :
    k0_pay16 (F := Ideal) v4 v15 v56 v68 v70 v74 v79 v87 (ix1 j) =
      (∑ k : Fin 256, k0_pay14 (F := Ideal) v4 v56 v68 v70 v74 v79 v87 (ix2 k j) * v15 (ix2 k j) : EReal) := by
  pointwise [k0_pay16]

end Cert.Proof.Mlp
-- ==== Proof.Mlp.Kernel.lean ====
module

public import proofs.«01_k».proof.Proof.Mlp.Pay

@[expose] public section

/-! What the MLP's backward kernel leaves in its four results: the gradient at the rows, the gradient before the rectifier, the
    transposed normed rows, and the gradient of the scale, which the kernel adds up block by block. -/

set_option maxRecDepth 16384
noncomputable section
open Idealize.ShloMosaic Idealize.ShloMosaic.TcCoe Idealize.SL.Sem
open Idealize.ShloMosaic.Pipeline (Dat)
open Cert.Proof.Part

namespace Cert.Proof.Mlp
open Cert.Kernel2Ideal Cert.Kernel2Ideal.Gen Cert.Kernel2Ideal.Value
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![0, t.val] ∧ win0_9.index t = ![0, 0] ∧ t.val < 16 :=
  (by decide +kernel : ∀ t : Fin grid0.N, _)

abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S1x1024 .f32 := m ((c : Thread nD τ).loc main_arg2)
abbrev A3 (c : Dev nD) : FVec Ideal S1024x4096 .f32 := m ((c : Thread nD τ).loc main_arg3)
abbrev A4 (c : Dev nD) : FVec Ideal S4096x1024 .f32 := m ((c : Thread nD τ).loc main_arg4)

theorem blk0 (c : Dev nD) (t : Fin cfg0.N) (k : Fin 256) (l : Fin 1024) (h : 256 * t.val + k.val < 4096) :
    (show FVec Ideal S256x1024 .f32 from iblk m c 0 t) (ix2 k l) = A0 m c (ix2 ⟨256 * t.val + k, h⟩ l) := by
  blk_point [iblk, V, idx t]

theorem blk2 (c : Dev nD) (t : Fin cfg0.N) (k : Fin 256) (l : Fin 1024) (h : 256 * t.val + k.val < 4096) :
    (show FVec Ideal S256x1024 .f32 from iblk m c 2 t) (ix2 k l) = A1 m c (ix2 ⟨256 * t.val + k, h⟩ l) := by
  blk_point [iblk, V, idx t]

theorem blk3 (c : Dev nD) (t : Fin cfg0.N) (k : Fin 1) (l : Fin 1024) :
    (show FVec Ideal S1x1024 .f32 from iblk m c 3 t) (ix2 k l) = A2 m c (ix2 k l) := by
  blk_point [iblk, V, idx t]

theorem blk4 (c : Dev nD) (t : Fin cfg0.N) (k : Fin 1024) (l : Fin 4096) :
    (show FVec Ideal S1024x4096 .bf16 from iblk m c 4 t) (ix2 k l) = A3 m c (ix2 k l) := by
  blk_point [iblk, V, idx t]

theorem blk5 (c : Dev nD) (t : Fin cfg0.N) (k : Fin 4096) (l : Fin 1024) :
    (show FVec Ideal S4096x1024 .bf16 from iblk m c 5 t) (ix2 k l) = A4 m c (ix2 k l) := by
  blk_point [iblk, V, idx t]

/-- The value before the rectifier at row `p` and column `f`. -/
def aF (X : FVec Ideal S4096x1024 .f32) (g : FVec Ideal S1x1024 .f32) (U : FVec Ideal S1024x4096 .f32) (p f : Fin 4096) : EReal :=
  ∑ q : Fin 1024, X (ix2 p q) * (rs fun l => X (ix2 p l)) * g (ix2 0 q) * U (ix2 q f)

/-- The gradient at the normed row `p`. -/
def DH (D X : FVec Ideal S4096x1024 .f32) (g : FVec Ideal S1x1024 .f32) (U : FVec Ideal S1024x4096 .f32) (W : FVec Ideal S4096x1024 .f32)
    (p : Fin 4096) (j : Fin 1024) : EReal :=
  dh (fun q => D (ix2 p q)) (fun f => aF X g U p f) (fun f q => W (ix2 f q)) (fun f q => U (ix2 q f)) j

/-- The gradient at the rows. -/
abbrev G6 (D X : FVec Ideal S4096x1024 .f32) (g : FVec Ideal S1x1024 .f32) (U : FVec Ideal S1024x4096 .f32) (W : FVec Ideal S4096x1024 .f32) :
    FVec Ideal S4096x1024 .f32 :=
  fun i => (D (ix2 (i 0) (i 1)) + dn (fun l => X (ix2 (i 0) l)) (fun l => DH D X g U W (i 0) l * g (ix2 0 l)) (i 1) : EReal)

/-- The gradient before the rectifier. -/
abbrev G7 (D X : FVec Ideal S4096x1024 .f32) (g : FVec Ideal S1x1024 .f32) (U : FVec Ideal S1024x4096 .f32) (W : FVec Ideal S4096x1024 .f32) :
    FVec Ideal S4096x4096 .bf16 :=
  fun i => act (fun q => D (ix2 (i 0) q)) (fun q => W (ix2 (i 1) q)) (aF X g U (i 0) (i 1))

/-- The transposed normed rows. -/
abbrev G8 (X : FVec Ideal S4096x1024 .f32) (g : FVec Ideal S1x1024 .f32) : FVec Ideal S1024x4096 .bf16 :=
  fun i => (X (ix2 (i 1) (i 0)) * (rs fun l => X (ix2 (i 1) l)) * g (ix2 0 (i 0)) : EReal)

/-- The term that row `p` gives to column `j` of the scale's gradient. -/
def term (D X : FVec Ideal S4096x1024 .f32) (g : FVec Ideal S1x1024 .f32) (U : FVec Ideal S1024x4096 .f32) (W : FVec Ideal S4096x1024 .f32)
    (j : Fin 1024) (p : Fin 4096) : EReal := DH D X g U W p j * (X (ix2 p j) * rs fun l => X (ix2 p l))

/-- The gradient of the scale. -/
abbrev G9 (D X : FVec Ideal S4096x1024 .f32) (g : FVec Ideal S1x1024 .f32) (U : FVec Ideal S1024x4096 .f32) (W : FVec Ideal S4096x1024 .f32) :
    FVec Ideal S1x1024 .f32 :=
  fun i => (∑ p : Fin 4096, term D X g U W (i 1) p : EReal)

/-- The host's array of the values before the rectifier. -/
def aHost (X : FVec Ideal S4096x1024 .f32) (g : FVec Ideal S1x1024 .f32) (U : FVec Ideal S1024x4096 .f32) : FVec Ideal S4096x4096 .bf16 :=
  truncf .bf16
    (Host.dotGeneral dot_S4096x1024_S1024x4096_S4096x4096_1_0_0_1_n_n none
      (mulf
        (mulf X
          (broadcastInDim S4096x1024 ![0, 1] bcast_S4096x1_S4096x1024_0_1
            (Host.rsqrt
              (addf
                (Host.divf
                  (broadcastInDim S4096x1 ![0] bcast_S4096_S4096x1_0
                    (Host.reduceAdd (mulf X X) (constant S_ .f32 0#32) reducesTo_S4096x1024_S4096_d1 h_S_))
                  (broadcastInDim S4096x1 ![] bcast_S_S4096x1 (constant S_ .f32 1149239296#32)))
                (broadcastInDim S4096x1 ![] bcast_S_S4096x1 (constant S_ .f32 897988541#32))))))
        (broadcastInDim S4096x1024 ![0, 1] bcast_S1x1024_S4096x1024_0_1 g))
      U)
    bitsLt_bf16_f32

theorem aHost_apply (X : FVec Ideal S4096x1024 .f32) (g : FVec Ideal S1x1024 .f32) (U : FVec Ideal S1024x4096 .f32) (p f : Fin 4096) :
    aHost X g U (ix2 p f) = aF X g U p f := by
  unfold aF rs ms
  pointwise [aHost]

theorem entry1 (c : Dev nD) : (show FVec Ideal S4096x4096 .bf16 from V m c (Pipeline.arrRef spec0 1)) = aHost (A1 m c) (A2 m c) (A3 m c) := by
  entry_read
  rfl

theorem blk1 (c : Dev nD) (t : Fin cfg0.N) (k : Fin 256) (l : Fin 4096) (h : 256 * t.val + k.val < 4096) :
    (show FVec Ideal S256x4096 .bf16 from iblk m c 1 t) (ix2 k l) = aF (A1 m c) (A2 m c) (A3 m c) ⟨256 * t.val + k, h⟩ l := by
  rw [← aHost_apply, ← entry1]
  blk_point [iblk, idx t]

theorem dhB_blk (c : Dev nD) (t : Fin cfg0.N) (T : FVec Ideal S256x1024 .f32) (hT : T = dhB (iblk m c 0 t) (iblk m c 1 t) (iblk m c 4 t) (iblk m c 5 t))
    (k : Fin 256) (j : Fin 1024) (h : 256 * t.val + k.val < 4096) :
    T (ix2 k j) = DH (A0 m c) (A1 m c) (A2 m c) (A3 m c) (A4 m c) ⟨256 * t.val + k, h⟩ j := by
  rw [hT, dhB_apply]
  unfold DH
  have e0 : (fun q => (show FVec Ideal S256x1024 .f32 from iblk m c 0 t) (ix2 k q)) = fun q => A0 m c (ix2 ⟨256 * t.val + k, h⟩ q) :=
    funext fun q => blk0 m c t k q h
  have e1 : (fun f => (show FVec Ideal S256x4096 .bf16 from iblk m c 1 t) (ix2 k f)) = fun f => aF (A1 m c) (A2 m c) (A3 m c) ⟨256 * t.val + k, h⟩ f :=
    funext fun f => blk1 m c t k f h
  have e4 : (fun f q => (show FVec Ideal S1024x4096 .bf16 from iblk m c 4 t) (ix2 q f)) = fun f q => A3 m c (ix2 q f) :=
    funext fun f => funext fun q => blk4 m c t q f
  have e5 : (fun f q => (show FVec Ideal S4096x1024 .bf16 from iblk m c 5 t) (ix2 f q)) = fun f q => A4 m c (ix2 f q) :=
    funext fun f => funext fun q => blk5 m c t f q
  exact congrFun (congr (congr (congr (congrArg dh e0) e1) e5) e4) j

theorem row2 (c : Dev nD) (t : Fin cfg0.N) (k : Fin 256) (h : 256 * t.val + k.val < 4096) :
    (fun l => (show FVec Ideal S256x1024 .f32 from iblk m c 2 t) (ix2 k l)) = fun l => A1 m c (ix2 ⟨256 * t.val + k, h⟩ l) :=
  funext fun l => blk2 m c t k l h

theorem out6_of (c : Dev nD) (t : Fin cfg0.N) (T : FVec Ideal S256x1024 .f32) (hT : T = dhB (iblk m c 0 t) (iblk m c 1 t) (iblk m c 4 t) (iblk m c 5 t))
    (k : Fin 256) (j : Fin 1024) (h : 256 * t.val + k.val < 4096) (x0 x2 : FVec Ideal S256x1024 .f32) (x3 : FVec Ideal S1x1024 .f32)
    (h0 : x0 = iblk m c 0 t) (h2 : x2 = iblk m c 2 t) (h3 : x3 = iblk m c 3 t) :
    (x0 (ix2 k j) + (rs (fun l => x2 (ix2 k l)) * (T (ix2 k j) * x3 (ix2 0 j) - x2 (ix2 k j) * rs (fun l => x2 (ix2 k l)) *
        Ideal.div (∑ l : Fin 1024, T (ix2 k l) * x3 (ix2 0 l) * (x2 (ix2 k l) * rs (fun l => x2 (ix2 k l)))) (Ideal.ofBits .f32 0x44800000#32))) : EReal)
      = G6 (A0 m c) (A1 m c) (A2 m c) (A3 m c) (A4 m c) (ix2 ⟨256 * t.val + k, h⟩ j) := by
  have e2 : ∀ l, x2 (ix2 k l) = A1 m c (ix2 ⟨256 * t.val + k, h⟩ l) := fun l => by rw [h2]; exact blk2 m c t k l h
  have e3 : ∀ l, x3 (ix2 0 l) = A2 m c (ix2 0 l) := fun l => by rw [h3]; exact blk3 m c t 0 l
  have e0 : x0 (ix2 k j) = A0 m c (ix2 ⟨256 * t.val + k, h⟩ j) := by rw [h0]; exact blk0 m c t k j h
  have eT := fun l => dhB_blk m c t T hT k l h
  simp only [e0, e2, e3, eT]
  rfl

theorem out6 (c : Dev nD) (t : Fin cfg0.N) (k : Fin 256) (j : Fin 1024) (h : 256 * t.val + k.val < 4096) :
    (show FVec Ideal S256x1024 .f32 from (outsAt0 m c t.val t.isLt).1) (ix2 k j) = G6 (A0 m c) (A1 m c) (A2 m c) (A3 m c) (A4 m c) (ix2 ⟨256 * t.val + k, h⟩ j) := by
  by_cases h0 : t.val % 16 = 0
  · rw [outsAt0_A m c t h0]
    frame_out
    refine (pay2_apply _ _ k j).trans ?_
    rw [pay15_apply]
    simp only [pay5_apply, pay6_apply]
    generalize hT : k0_pay14 (F := Ideal) _ _ _ _ _ _ _ = T
    exact out6_of m c t T hT.symm k j h _ _ _ rfl rfl rfl
  · rw [outsAt0_B m c t h0]
    frame_out
    refine (pay2_apply _ _ k j).trans ?_
    rw [pay15_apply]
    simp only [pay5_apply, pay6_apply]
    generalize hT : k0_pay14 (F := Ideal) _ _ _ _ _ _ _ = T
    exact out6_of m c t T hT.symm k j h _ _ _ rfl rfl rfl

theorem out8 (c : Dev nD) (t : Fin cfg0.N) (k : Fin 256) (j : Fin 1024) (h : 256 * t.val + k.val < 4096) :
    (show FVec Ideal S1024x256 .bf16 from (outsAt0 m c t.val t.isLt).2.2.1) (ix2 j k) = G8 (A1 m c) (A2 m c) (ix2 j ⟨256 * t.val + k, h⟩) := by
  have e : (show FVec Ideal S1024x256 .bf16 from (outsAt0 m c t.val t.isLt).2.2.1) = k0_pay7 (F := Ideal) (iblk m c 2 t) (iblk m c 3 t) := by
    by_cases h0 : t.val % 16 = 0
    · rw [outsAt0_A m c t h0]; frame_out
    · rw [outsAt0_B m c t h0]; frame_out
  rw [e, pay7_apply]
  have e2 : ∀ l, (show FVec Ideal S256x1024 .f32 from iblk m c 2 t) (ix2 k l) = A1 m c (ix2 ⟨256 * t.val + k, h⟩ l) := fun l => blk2 m c t k l h
  have e3 : ∀ l, (show FVec Ideal S1x1024 .f32 from iblk m c 3 t) (ix2 0 l) = A2 m c (ix2 0 l) := fun l => blk3 m c t 0 l
  simp only [e2, e3]
  rfl

end Cert.Proof.Mlp
-- ==== Proof.Mlp.Da.lean ====
module

public import proofs.«01_k».proof.Proof.Mlp.Kernel

@[expose] public section

/-! The gradient before the rectifier, which the kernel stores in four pieces of its columns, and the gradient of the scale, which
    it adds up over the blocks of rows. -/

set_option maxRecDepth 16384

noncomputable section

open Idealize.ShloMosaic Idealize.ShloMosaic.TcCoe Idealize.SL.Sem
open Idealize.ShloMosaic.Pipeline (Dat)
open Cert.Proof.Part

namespace Cert.Proof.Mlp

open Cert.Kernel2Ideal Cert.Kernel2Ideal.Gen Cert.Kernel2Ideal.Value

variable (m : (ℓ : Loc nD τ sig) → Buf (Elt Ideal) ℓ)

theorem four (T3 T2 T1 T0 : FVec Ideal S256x1024 .bf16) (G : Fin 256 → Fin 4096 → EReal)
    (e3 : ∀ (k : Fin 256) (l : Fin 1024) (h : 3072 + l.val < 4096), T3 (ix2 k l) = G k ⟨3072 + l.val, h⟩)
    (e2 : ∀ (k : Fin 256) (l : Fin 1024) (h : 2048 + l.val < 4096), T2 (ix2 k l) = G k ⟨2048 + l.val, h⟩)
    (e1 : ∀ (k : Fin 256) (l : Fin 1024) (h : 1024 + l.val < 4096), T1 (ix2 k l) = G k ⟨1024 + l.val, h⟩)
    (e0 : ∀ (k : Fin 256) (l : Fin 1024) (h : 0 + l.val < 4096), T0 (ix2 k l) = G k ⟨0 + l.val, h⟩) (k : Fin 256) (f : Fin 4096) :
    View.canon (Val := Elt Ideal) (e := .bf16) (s := S256x4096)
      [⟨Rect.unit (s := S256x4096) ![0, 3072] ![256, 1024] inb_S256x4096_S256x1024_0_3072, T3⟩,
        ⟨Rect.unit (s := S256x4096) ![0, 2048] ![256, 1024] inb_S256x4096_S256x1024_0_2048, T2⟩,
        ⟨Rect.unit (s := S256x4096) ![0, 1024] ![256, 1024] inb_S256x4096_S256x1024_0_1024, T1⟩,
        ⟨Rect.unit (s := S256x4096) ![0, 0] ![256, 1024] inb_S256x4096_S256x1024_0_0, T0⟩] (ix2 k f) = G k f := by
  canon_tiles x h
  · have e : f = ⟨3072 + (x 1).val, by omega⟩ := Fin.ext (h1)
    rw [e, show k = x 0 from Fin.ext h0, ← e3 (x 0) (x 1)]
    exact congrArg T3 (funext fun a => by match a with | ⟨0, _⟩ => rfl | ⟨1, _⟩ => rfl)
  · have e : f = ⟨2048 + (x 1).val, by omega⟩ := Fin.ext (h1)
    rw [e, show k = x 0 from Fin.ext h0, ← e2 (x 0) (x 1)]
    exact congrArg T2 (funext fun a => by match a with | ⟨0, _⟩ => rfl | ⟨1, _⟩ => rfl)
  · have e : f = ⟨1024 + (x 1).val, by omega⟩ := Fin.ext (h1)
    rw [e, show k = x 0 from Fin.ext h0, ← e1 (x 0) (x 1)]
    exact congrArg T1 (funext fun a => by match a with | ⟨0, _⟩ => rfl | ⟨1, _⟩ => rfl)
  · have e : f = ⟨0 + (x 1).val, by omega⟩ := Fin.ext (h1.trans (Nat.zero_add _).symm)
    rw [e, show k = x 0 from Fin.ext h0, ← e0 (x 0) (x 1)]
    exact congrArg T0 (funext fun a => by match a with | ⟨0, _⟩ => rfl | ⟨1, _⟩ => rfl)

/-- The four stored pieces of a block. -/
abbrev daB (x0 : FVec Ideal S256x1024 .f32) (x1 : FVec Ideal S256x4096 .bf16) (x5 : FVec Ideal S4096x1024 .bf16) : FVec Ideal S256x4096 .bf16 :=
  View.canon (Val := Elt Ideal) (e := .bf16) (s := S256x4096)
      [⟨Rect.unit (s := S256x4096) ![0, 3072] ![256, 1024] inb_S256x4096_S256x1024_0_3072,
          k0_pay13 (F := Ideal) (k0_pay4 x0)
            (View.ld (Val := Elt Ideal) (e' := .bf16) x5 (Rect.unit (s := S4096x1024) ![3072, 0] ![1024, 1024] inb_S4096x1024_S1024x1024_3072_0))
            (View.ld (Val := Elt Ideal) (e' := .bf16) x1 (Rect.unit (s := S256x4096) ![0, 3072] ![256, 1024] inb_S256x4096_S256x1024_0_3072))⟩,
        ⟨Rect.unit (s := S256x4096) ![0, 2048] ![256, 1024] inb_S256x4096_S256x1024_0_2048,
          k0_pay12 (F := Ideal) (k0_pay4 x0)
            (View.ld (Val := Elt Ideal) (e' := .bf16) x5 (Rect.unit (s := S4096x1024) ![2048, 0] ![1024, 1024] inb_S4096x1024_S1024x1024_2048_0))
            (View.ld (Val := Elt Ideal) (e' := .bf16) x1 (Rect.unit (s := S256x4096) ![0, 2048] ![256, 1024] inb_S256x4096_S256x1024_0_2048))⟩,
        ⟨Rect.unit (s := S256x4096) ![0, 1024] ![256, 1024] inb_S256x4096_S256x1024_0_1024,
          k0_pay10 (F := Ideal) (k0_pay4 x0)
            (View.ld (Val := Elt Ideal) (e' := .bf16) x5 (Rect.unit (s := S4096x1024) ![1024, 0] ![1024, 1024] inb_S4096x1024_S1024x1024_1024_0))
            (View.ld (Val := Elt Ideal) (e' := .bf16) x1 (Rect.unit (s := S256x4096) ![0, 1024] ![256, 1024] inb_S256x4096_S256x1024_0_1024))⟩,
        ⟨Rect.unit (s := S256x4096) ![0, 0] ![256, 1024] inb_S256x4096_S256x1024_0_0,
          k0_pay9 (F := Ideal) x0
            (View.ld (Val := Elt Ideal) (e' := .bf16) x5 (Rect.unit (s := S4096x1024) ![0, 0] ![1024, 1024] inb_S4096x1024_S1024x1024_0_0))
            (View.ld (Val := Elt Ideal) (e' := .bf16) x1 (Rect.unit (s := S256x4096) ![0, 0] ![256, 1024] inb_S256x4096_S256x1024_0_0))⟩]

theorem daB_apply (x0 : FVec Ideal S256x1024 .f32) (x1 : FVec Ideal S256x4096 .bf16) (x5 : FVec Ideal S4096x1024 .bf16) (k : Fin 256) (f : Fin 4096) :
    daB x0 x1 x5 (ix2 k f) = act (fun q => x0 (ix2 k q)) (fun q => x5 (ix2 f q)) (x1 (ix2 k f)) := by
  refine four _ _ _ _ (fun k f => act (fun q => x0 (ix2 k q)) (fun q => x5 (ix2 f q)) (x1 (ix2 k f))) (fun k l h => ?_) (fun k l h => ?_) (fun k l h => ?_) (fun k l h => ?_) k f
  · rw [pay13_apply]; simp only [pay4_apply]; pointwise
  · rw [pay12_apply]; simp only [pay4_apply]; pointwise
  · rw [pay10_apply]; simp only [pay4_apply]; pointwise
  · rw [pay9_apply]; pointwise

theorem out7 (c : Dev nD) (t : Fin cfg0.N) (k : Fin 256) (f : Fin 4096) (h : 256 * t.val + k.val < 4096) :
    (show FVec Ideal S256x4096 .bf16 from (outsAt0 m c t.val t.isLt).2.1) (ix2 k f) =
      G7 (A0 m c) (A1 m c) (A2 m c) (A3 m c) (A4 m c) (ix2 ⟨256 * t.val + k, h⟩ f) := by
  have e : (show FVec Ideal S256x4096 .bf16 from (outsAt0 m c t.val t.isLt).2.1) = daB (iblk m c 0 t) (iblk m c 1 t) (iblk m c 5 t) := by
    by_cases h0 : t.val % 16 = 0
    · rw [outsAt0_A m c t h0]; frame_out
    · rw [outsAt0_B m c t h0]; frame_out
  rw [e, daB_apply]
  have e0 : ∀ l, (show FVec Ideal S256x1024 .f32 from iblk m c 0 t) (ix2 k l) = A0 m c (ix2 ⟨256 * t.val + k, h⟩ l) := fun l => blk0 m c t k l h
  have e5 : ∀ l, (show FVec Ideal S4096x1024 .bf16 from iblk m c 5 t) (ix2 f l) = A4 m c (ix2 f l) := fun l => blk5 m c t f l
  have e1 := blk1 m c t k f h
  simp only [e0, e5, e1]
  rfl

/-- The scale's gradient after point `n`. -/
def Holds (c : Dev nD) (n : ℕ) (h : n < cfg0.N) : Prop :=
  ∀ (j : Fin 1024), (show FVec Ideal S1x1024 .f32 from (outsAt0 m c n h).2.2.2) (ix2 0 j)
      = ∑ s ∈ Finset.range (n + 1), part 256 (term (A0 m c) (A1 m c) (A2 m c) (A3 m c) (A4 m c) j) s

theorem holds_of (c : Dev nD) (t : Fin cfg0.N) (a : FVec Ideal S1x1024 .f32)
    (ha : ∀ j, a (ix2 0 j) = ∑ s ∈ Finset.range t.val, part 256 (term (A0 m c) (A1 m c) (A2 m c) (A3 m c) (A4 m c) j) s)
    (b : FVec Ideal S1024 .f32) (T : FVec Ideal S256x1024 .f32) (hT : T = dhB (iblk m c 0 t) (iblk m c 1 t) (iblk m c 4 t) (iblk m c 5 t))
    (hb : ∀ j : Fin 1024, b (ix1 j) = (∑ k : Fin 256, T (ix2 k j) * k0_pay6 (F := Ideal) (iblk m c 2 t) (ix2 k j) : EReal))
    (h : (outsAt0 m c t.val t.isLt).2.2.2 = k0_pay1 (F := Ideal) b a) : Holds m c t.val t.isLt := by
  have ht := (idx t).2.2.2.2.2.2.2.2.2.2
  intro j
  rw [h]
  refine (pay1_apply _ _ 0 j).trans ?_
  rw [ha, Finset.sum_range_succ, hb]
  refine congrArg₂ (fun x y : EReal => x + y) rfl (part_eq 256 _ t.val _ (by omega) fun k hk => ?_)
  unfold term
  rw [pay6_apply, dhB_blk m c t T hT k j hk]
  have e2 : ∀ l, (show FVec Ideal S256x1024 .f32 from iblk m c 2 t) (ix2 k l) = A1 m c (ix2 ⟨256 * t.val + k, hk⟩ l) := fun l => blk2 m c t k l hk
  simp only [e2]

theorem holds_all (c : Dev nD) (n : ℕ) : ∀ h : n < cfg0.N, Holds m c n h := by
  induction n with
  | zero =>
    intro h
    refine holds_of m c ⟨0, h⟩ (k0_pay3 (F := Ideal)) (fun j => ?_) _ _ rfl (fun j => pay16_apply _ _ _ _ _ _ _ _ j) ?_
    · rw [pay3_apply]; exact (Finset.sum_range_zero _).symm
    · rw [outsAt0_A m c ⟨0, h⟩ rfl]; frame_out
  | succ n ih =>
    intro h
    have hN : n + 1 < 16 := lt_of_lt_of_eq h N_0
    have h0 : ¬(n + 1) % 16 = 0 := by omega
    refine holds_of m c ⟨n + 1, h⟩ (outsAt0 m c n (by omega)).2.2.2 (ih (by omega)) _ _ rfl (fun j => pay16_apply _ _ _ _ _ _ _ _ j) ?_
    rw [outsAt0_B m c ⟨n + 1, h⟩ h0]; frame_out; rfl

theorem final6 (c : Dev nD) : (dats m 0 c).arrAt 6 cfg0.N = G6 (A0 m c) (A1 m c) (A2 m c) (A3 m c) (A4 m c) := by
  refine (dats m 0 c).arrAt_eq_of_covers 6 _ (by decide +kernel) fun t hf y => ?_
  blk_simp
  rw [after0_6]
  idx_vars y
  have ht := (idx t).2.2.2.2.2.2.2.2.2.2
  have hy := y0.isLt
  refine (out6 m c t y0 y1 (by omega)).trans (congrArg _ ?_)
  blk_ext [idx t]

theorem final7 (c : Dev nD) : (dats m 0 c).arrAt 7 cfg0.N = G7 (A0 m c) (A1 m c) (A2 m c) (A3 m c) (A4 m c) := by
  refine (dats m 0 c).arrAt_eq_of_covers 7 _ (by decide +kernel) fun t hf y => ?_
  blk_simp
  rw [after0_7]
  idx_vars y
  have ht := (idx t).2.2.2.2.2.2.2.2.2.2
  have hy := y0.isLt
  refine (out7 m c t y0 y1 (by omega)).trans (congrArg _ ?_)
  blk_ext [idx t]

theorem final8 (c : Dev nD) : (dats m 0 c).arrAt 8 cfg0.N = G8 (A1 m c) (A2 m c) := by
  refine (dats m 0 c).arrAt_eq_of_covers 8 _ (by decide +kernel) fun t hf y => ?_
  blk_simp
  rw [after0_8]
  idx_vars y
  have ht := (idx t).2.2.2.2.2.2.2.2.2.2
  have hy := y1.isLt
  refine (out8 m c t y1 y0 (by omega)).trans (congrArg _ ?_)
  blk_ext [idx t]

theorem final9 (c : Dev nD) : (dats m 0 c).arrAt 9 cfg0.N = G9 (A0 m c) (A1 m c) (A2 m c) (A3 m c) (A4 m c) := by
  refine (dats m 0 c).arrAt_eq_of_after_last 9 t0_15 (by decide +kernel) _ fun j => ?_
  blk_simp
  rw [after0_9]
  idx_vars j
  have e : j0 = 0 := Subsingleton.elim _ _
  subst e
  refine (holds_all m c t0_15.val t0_15.isLt j1).trans ?_
  exact sum_part 16 256 rfl _

end Cert.Proof.Mlp
-- ==== Proof.Lib.Rms.lean ====
module

public import Mathlib.Data.EReal.Operations
public import Mathlib.Data.EReal.Inv
public import Idealize.ShloMosaic.Lib.Pipeline.ValueKit
public import Idealize.ShloMosaic.Lib.IdealHost
public import Idealize.ShloMosaic.PureOps.Ideal.Laws

@[expose] public section

/-! The gradient of the root-mean-square norm over extended reals: the closed form that the kernels use equals the one that
    differentiating the norm gives, at every argument, the infinite ones included. -/

noncomputable section

open Idealize.ShloMosaic

namespace Cert.Proof.Rms

theorem word_1024 : Ideal.ofBits .f32 0x44800000#32 = ((1024 : ℝ) : EReal) := by
  simp [Ideal.ofBits, Ideal.ieee, -EReal.coe_mul]; norm_num

theorem word_half : Ideal.ofBits .f32 0xBF000000#32 = ((-(1 / 2) : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_eps : ∃ e : ℝ, 0 < e ∧ Ideal.ofBits .f32 0x358637BD#32 = (e : EReal) := by
  refine ⟨(8796093 : ℝ) * ((2 : ℝ) ^ (43 : ℕ))⁻¹, by positivity, ?_⟩
  simp [Ideal.ofBits, Ideal.ieee, -EReal.coe_mul]

theorem sum_mul_nonneg {n : ℕ} (f : Fin n → EReal) (ρ : ℝ) (h : 0 ≤ ρ) : (∑ k, f k * (ρ : EReal)) = (∑ k, f k) * (ρ : EReal) := by
  classical
  induction (Finset.univ : Finset (Fin n)) using Finset.induction_on with
  | empty => simp
  | insert a s ha ih =>
    rw [Finset.sum_insert ha, Finset.sum_insert ha, ih, EReal.right_distrib_of_nonneg_of_ne_top (by exact_mod_cast h) (EReal.coe_ne_top _)]

theorem add_self (u : EReal) : u + u = ((2 : ℝ) : EReal) * u := by
  induction u with
  | bot => rw [EReal.coe_mul_bot_of_pos (by norm_num)]; rfl
  | top => rw [EReal.coe_mul_top_of_pos (by norm_num)]; rfl
  | coe r => rw [← EReal.coe_add, ← EReal.coe_mul]; congr 1; ring

theorem mul_self_nonneg (u : EReal) : 0 ≤ u * u := by
  induction u with
  | bot => simp
  | top => simp
  | coe r => exact_mod_cast _root_.mul_self_nonneg r

/-- The root-mean-square statistic of a row, its reciprocal root and what the gradient of the norm needs of them. -/
theorem rms_cases {n : ℕ} (x : Fin n → EReal) (e : ℝ) (he : 0 < e) :
    (Ideal.div (∑ k, x k * x k) ((1024 : ℝ) : EReal) + (e : EReal) = ⊤ ∧
        Ideal.rsqrt (Ideal.div (∑ k, x k * x k) ((1024 : ℝ) : EReal) + (e : EReal)) = 0) ∨
      ∃ (y : Fin n → ℝ) (μ ρ : ℝ), (∀ k, x k = (y k : EReal)) ∧ 0 < ρ ∧ 0 < μ ∧ ρ * ρ = μ⁻¹ ∧
        Ideal.div (∑ k, x k * x k) ((1024 : ℝ) : EReal) + (e : EReal) = (μ : EReal) ∧
        Ideal.rsqrt (Ideal.div (∑ k, x k * x k) ((1024 : ℝ) : EReal) + (e : EReal)) = (ρ : EReal) := by
  have hd : ∀ u : EReal, Ideal.div u ((1024 : ℝ) : EReal) = u * ((1 / 1024 : ℝ) : EReal) :=
    fun u => Ideal.div_coe (by norm_num) u
  rw [hd]
  have h0 : 0 ≤ ∑ k, x k * x k := Finset.sum_nonneg fun k _ => mul_self_nonneg (x k)
  have hle : ∀ k, x k * x k ≤ ∑ k, x k * x k := fun k =>
    Finset.single_le_sum (f := fun k => x k * x k) (fun i _ => mul_self_nonneg (x i)) (Finset.mem_univ k)
  generalize (∑ k, x k * x k) = S at h0 hle ⊢
  induction S with
  | bot => exact absurd h0 (by simp)
  | top =>
    left
    have : (⊤ : EReal) * ((1 / 1024 : ℝ) : EReal) + (e : EReal) = ⊤ := by
      rw [EReal.top_mul_coe_of_pos (by norm_num)]; rfl
    rw [this]
    exact ⟨rfl, by simp [Ideal.rsqrt_top]⟩
  | coe q =>
    right
    have hq : 0 ≤ q := by exact_mod_cast h0
    have hx : ∀ k, ∃ r : ℝ, x k = (r : EReal) := fun k => by
      have := hle k
      induction hk : x k with
      | bot => rw [hk] at this; exact absurd this (by simp)
      | top => rw [hk] at this; exact absurd this (by simp)
      | coe r => exact ⟨r, rfl⟩
    choose y hy using hx
    have hμ : 0 < q * (1 / 1024) + e := by positivity
    refine ⟨y, q * (1 / 1024) + e, (√(q * (1 / 1024) + e))⁻¹, hy, by positivity, hμ, ?_, ?_, ?_⟩
    · rw [← mul_inv, Real.mul_self_sqrt hμ.le]
    · rw [EReal.coe_add, EReal.coe_mul]
    · rw [← EReal.coe_mul, ← EReal.coe_add, Ideal.rsqrt_coe, if_neg (not_lt.2 hμ.le), if_neg hμ.ne']

/-- The gradient of the norm: `v` the gradient at the normed and scaled row, `x` the row. -/
theorem rms_grad {n : ℕ} (x v : Fin n → EReal) (e : ℝ) (he : 0 < e) (m r : EReal)
    (hm : m = Ideal.div (∑ k, x k * x k) ((1024 : ℝ) : EReal) + (e : EReal)) (hr : r = Ideal.rsqrt m) (j : Fin n) :
    r * (v j - x j * r * Ideal.div (∑ k, v k * (x k * r)) ((1024 : ℝ) : EReal)) =
      v j * r + (x j * Ideal.div ((∑ k, x k * v k) * (((-(1 / 2) : ℝ) : EReal) * Ideal.div r m)) ((1024 : ℝ) : EReal) +
        Ideal.div ((∑ k, x k * v k) * (((-(1 / 2) : ℝ) : EReal) * Ideal.div r m)) ((1024 : ℝ) : EReal) * x j) := by
  have hd : ∀ u : EReal, Ideal.div u ((1024 : ℝ) : EReal) = u * ((1 / 1024 : ℝ) : EReal) :=
    fun u => Ideal.div_coe (by norm_num) u
  rcases rms_cases x e he with ⟨h1, h2⟩ | ⟨y, μ, ρ, hy, hρ, hμ, hρμ, h1, h2⟩
  · rw [← hm] at h1 h2
    rw [← hr] at h2
    have hz : Ideal.div (0 : EReal) (⊤ : EReal) = 0 := by simp [Ideal.div]
    rw [h2, h1, hz, hd, hd]
    simp
  · rw [← hm] at h1 h2
    rw [← hr] at h2
    have hi : Ideal.div r m = ((ρ * (1 / μ) : ℝ) : EReal) := by
      rw [h1, h2, Ideal.div_coe hμ.ne', EReal.coe_mul]
    rw [hi, hd, hd, h2]
    have hs : (∑ k, v k * (x k * (ρ : EReal))) = (∑ k, x k * v k) * (ρ : EReal) := by
      rw [← sum_mul_nonneg _ ρ hρ.le]
      refine Finset.sum_congr rfl fun k _ => ?_
      rw [← mul_assoc, mul_comm (v k)]
    rw [hs, hy j]
    generalize (∑ k, x k * v k) = T
    rw [sub_eq_add_neg, EReal.left_distrib_of_nonneg_of_ne_top (by exact_mod_cast hρ.le) (EReal.coe_ne_top _),
      mul_comm (ρ : EReal) (v j)]
    refine congrArg (fun z : EReal => v j * (ρ : EReal) + z) ?_
    have e1 : (ρ : EReal) * -((y j : EReal) * (ρ : EReal) * (T * (ρ : EReal) * ((1 / 1024 : ℝ) : EReal))) =
        ((-(ρ * (y j * ρ) * (ρ * (1 / 1024))) : ℝ) : EReal) * T := by
      rw [EReal.coe_neg, EReal.neg_mul, mul_comm (ρ : EReal), EReal.neg_mul]
      refine congrArg Neg.neg ?_
      simp only [EReal.coe_mul]
      ac_rfl
    have e2 : T * (((-(1 / 2) : ℝ) : EReal) * ((ρ * (1 / μ) : ℝ) : EReal)) * ((1 / 1024 : ℝ) : EReal) =
        T * ((-(1 / 2) * (ρ * (1 / μ)) * (1 / 1024) : ℝ) : EReal) := by
      simp only [EReal.coe_mul, mul_assoc]
    rw [e1, e2]
    generalize hc : -(1 / 2) * (ρ * (1 / μ)) * (1 / 1024) = c
    rw [mul_comm (T * (c : EReal)) (y j : EReal), add_self, mul_comm T, ← mul_assoc (y j : EReal), ← EReal.coe_mul,
      ← mul_assoc ((2 : ℝ) : EReal), ← EReal.coe_mul]
    refine congrArg (fun z : ℝ => (z : EReal) * T) ?_
    rw [← hc, one_div μ, ← hρμ]
    ring

end Cert.Proof.Rms
-- ==== Proof.Mlp.Ref.lean ====
module

public import proofs.«01_k».proof.Proof.Gen.Reference2Ideal
public import proofs.«01_k».proof.Proof.Gen.Reference2Ideal.Run
public import proofs.«01_k».proof.Proof.Gen.Reference2Ideal.Read
public import proofs.«01_k».proof.Proof.Mlp.Kernel
public import proofs.«01_k».proof.Proof.Lib.Rms

@[expose] public section

/-! The reference's MLP gradients, entry by entry. -/

set_option maxRecDepth 16384

noncomputable section

open Idealize.ShloMosaic Idealize.ShloMosaic.TcCoe Idealize.SL.Sem

namespace Cert.Proof.Mlp

open Cert.Kernel2Ideal Cert.Reference2Ideal.Read

variable (D X : FVec Ideal S4096x1024 .f32) (g : FVec Ideal S1x1024 .f32) (U : FVec Ideal S1024x4096 .f32) (W : FVec Ideal S4096x1024 .f32)

theorem ref_ms (p : Fin 4096) (z : Fin 1) : val_main_v6 (F := Ideal) X (ix2 p z) = ms fun l => X (ix2 p l) := by
  unfold ms
  pointwise [val_main_v6, val_main_v5, val_main_v4, val_main_v3, val_main_v2, val_main_v1, val_main_v0, val_main_cst, val_main_cst_0, val_main_cst_1]

theorem ref_rs (p : Fin 4096) (z : Fin 1) : val_main_v7 (F := Ideal) X (ix2 p z) = rs fun l => X (ix2 p l) := by
  have h : val_main_v7 (F := Ideal) X (ix2 p z) = Ideal.rsqrt (val_main_v6 (F := Ideal) X (ix2 p z)) := by pointwise [val_main_v7]
  rw [h, ref_ms]
  rfl

theorem ref_xn (p : Fin 4096) (l : Fin 1024) : val_main_v12 (F := Ideal) X (ix2 p l) = (X (ix2 p l) * rs fun l => X (ix2 p l) : EReal) := by
  have h : val_main_v12 (F := Ideal) X (ix2 p l) = (X (ix2 p l) * val_main_v7 (F := Ideal) X (ix2 p 0) : EReal) := by
    pointwise [val_main_v12, val_main_v11]
  rw [h, ref_rs]

theorem ref_a (p f : Fin 4096) : val_main_v15 (F := Ideal) X g U (ix2 p f) = aF X g U p f := by
  have h : val_main_v15 (F := Ideal) X g U (ix2 p f) = (∑ q : Fin 1024, val_main_v12 (F := Ideal) X (ix2 p q) * g (ix2 0 q) * U (ix2 q f) : EReal) := by
    pointwise [val_main_v15, val_main_v14, val_main_v13]
  rw [h]
  simp only [ref_xn]
  rfl

/-- The reference's gate on the sign agrees with the kernel's product, which is zero where the rectifier is. -/
theorem gate (s a : EReal) : (if 0 < a then s * (Ideal.ofBits .f32 0x40000000#32 * max a 0) else 0) = s * Ideal.ofBits .f32 0x40000000#32 * max a 0 := by
  by_cases h : 0 < a
  · rw [if_pos h, mul_assoc]
  · rw [if_neg h, max_eq_right (not_lt.1 h), mul_zero]

theorem ref_da (p f : Fin 4096) : val_main_v29 (F := Ideal) D X g U W (ix2 p f) =
    act (fun q => D (ix2 p q)) (fun q => W (ix2 f q)) (aF X g U p f) := by
  have h : val_main_v29 (F := Ideal) D X g U W (ix2 p f) = (if (0 : EReal) < val_main_v15 (F := Ideal) X g U (ix2 p f) then
      (∑ q : Fin 1024, D (ix2 p q) * W (ix2 f q)) * (Ideal.ofBits .f32 0x40000000#32 * max (val_main_v15 (F := Ideal) X g U (ix2 p f)) 0) else 0 : EReal) := by
    pointwise [val_main_v29, val_main_v28, val_main_v27, val_main_v26, val_main_v25, val_main_v22, val_main_v21, val_main_v18, val_main_v17, val_main_v16,
      val_main_cst_3, val_main_cst_5, val_main_cst_6, val_main_call0_v0, val_main_call0_cst]
  rw [h, ref_a, gate]
  rfl

theorem ref_dh (p : Fin 4096) (j : Fin 1024) : val_main_v30 (F := Ideal) D X g U W (ix2 p j) = DH D X g U W p j := by
  have h : val_main_v30 (F := Ideal) D X g U W (ix2 p j) = (∑ f : Fin 4096, val_main_v29 (F := Ideal) D X g U W (ix2 p f) * U (ix2 j f) : EReal) := by
    pointwise [val_main_v30]
  rw [h]
  simp only [ref_da]
  rfl

theorem ref_dg (z : Fin 1) (j : Fin 1024) : val_main_v33 (F := Ideal) D X g U W (ix2 z j) = G9 D X g U W (ix2 z j) := by
  have h : val_main_v33 (F := Ideal) D X g U W (ix2 z j) = (∑ p : Fin 4096, val_main_v12 (F := Ideal) X (ix2 p j) * val_main_v30 (F := Ideal) D X g U W (ix2 p j) : EReal) := by
    pointwise [val_main_v33, val_main_v32, val_main_v31, val_main_cst_7]
  rw [h]
  refine Finset.sum_congr rfl fun p _ => ?_
  rw [ref_xn, ref_dh, mul_comm]
  rfl

theorem ref_v (p : Fin 4096) (l : Fin 1024) : val_main_v35 (F := Ideal) D X g U W (ix2 p l) = (DH D X g U W p l * g (ix2 0 l) : EReal) := by
  rw [← ref_dh]
  pointwise [val_main_v35, val_main_v34]

theorem ref_c (p : Fin 4096) : val_main_v44 (F := Ideal) D X g U W (ix2 p 0) =
    Ideal.div ((∑ l : Fin 1024, X (ix2 p l) * (DH D X g U W p l * g (ix2 0 l))) * (Ideal.ofBits .f32 0xBF000000#32 *
      Ideal.div (rs fun l => X (ix2 p l)) (ms fun l => X (ix2 p l)))) (Ideal.ofBits .f32 0x44800000#32) := by
  have h : val_main_v44 (F := Ideal) D X g U W (ix2 p 0) =
      Ideal.div ((∑ l : Fin 1024, X (ix2 p l) * val_main_v35 (F := Ideal) D X g U W (ix2 p l)) * (Ideal.ofBits .f32 0xBF000000#32 *
        Ideal.div (val_main_v7 (F := Ideal) X (ix2 p 0)) (val_main_v6 (F := Ideal) X (ix2 p 0)))) (Ideal.ofBits .f32 0x44800000#32) := by
    pointwise [val_main_v44, val_main_v43, val_main_v42, val_main_v38, val_main_v37, val_main_v36, val_main_v10, val_main_v9, val_main_v8, val_main_cst_2,
      val_main_cst_8, val_main_cst_9]
  rw [h]
  simp only [ref_v, ref_rs, ref_ms]

theorem ref_dx (p : Fin 4096) (j : Fin 1024) : val_main_v50 (F := Ideal) D X g U W (ix2 p j) = G6 D X g U W (ix2 p j) := by
  have h : val_main_v50 (F := Ideal) D X g U W (ix2 p j) = (D (ix2 p j) + val_main_v35 (F := Ideal) D X g U W (ix2 p j) * val_main_v7 (F := Ideal) X (ix2 p 0)
      + X (ix2 p j) * (∑ z : Fin 1, val_main_v44 (F := Ideal) D X g U W (ix2 p z)) + (∑ z : Fin 1, val_main_v44 (F := Ideal) D X g U W (ix2 p z)) * X (ix2 p j) : EReal) := by
    pointwise [val_main_v50, val_main_v49, val_main_v48, val_main_v47, val_main_v46, val_main_v45, val_main_v41, val_main_v40, val_main_v39, val_main_cst_10]
  obtain ⟨e, he, hw⟩ := Rms.word_eps
  have key := Rms.rms_grad (fun l => X (ix2 p l)) (fun l => DH D X g U W p l * g (ix2 0 l)) e he (ms fun l => X (ix2 p l)) (rs fun l => X (ix2 p l))
    (by unfold ms; rw [hw, Rms.word_1024]) rfl j
  rw [h, Fin.sum_univ_one, ref_c, ref_v, ref_rs, add_assoc, add_assoc, Rms.word_1024, Rms.word_half]
  refine congrArg (fun z : EReal => D (ix2 p j) + z) ?_
  unfold dn
  rw [Rms.word_1024]
  exact key.symm

theorem ref_da' (p f : Fin 4096) : val_main_v76 (F := Ideal) D X g U W (ix2 p f) = G7 D X g U W (ix2 p f) := by
  have h : val_main_v76 (F := Ideal) D X g U W (ix2 p f) = (if (0 : EReal) < val_main_v15 (F := Ideal) X g U (ix2 p f) then
      (∑ q : Fin 1024, D (ix2 p q) * W (ix2 f q)) * (Ideal.ofBits .f32 0x40000000#32 * max (val_main_v15 (F := Ideal) X g U (ix2 p f)) 0) else 0 : EReal) := by
    pointwise [val_main_v76, val_main_v75, val_main_v74, val_main_v73, val_main_v72, val_main_v70, val_main_v69, val_main_v66, val_main_v65, val_main_v64,
      val_main_cst_14, val_main_cst_16, val_main_cst_17, val_main_call1_v0, val_main_call1_cst]
    rfl
  rw [h, ref_a, gate]
  rfl

theorem ref_h (p : Fin 4096) (j : Fin 1024) : val_main_v90 (F := Ideal) X g (ix2 j p) = G8 X g (ix2 j p) := by
  have h : val_main_v90 (F := Ideal) X g (ix2 j p) = (val_main_v12 (F := Ideal) X (ix2 p j) * g (ix2 0 j) : EReal) := by
    pointwise [val_main_v90, val_main_v89, val_main_v88, val_main_v87]
    rfl
  rw [h, ref_xn]
  rfl

end Cert.Proof.Mlp
-- ==== Proof.Mlp.Claims.lean ====
module

public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Gen.Reference2Ideal.Read
public import proofs.«01_k».proof.Proof.Mlp.Da
public import proofs.«01_k».proof.Proof.Mlp.Ref
public import Idealize.ShloMosaic.Lib.Pipeline.ValueKit
public import Idealize.ShloMosaic.Lib.Claim

@[expose] public section

/-! The claims about the MLP's backward pass. -/

set_option maxRecDepth 16384

noncomputable section

open Idealize.ShloMosaic Idealize.ShloMosaic.TcCoe Idealize.SL.Sem

namespace Cert.Proof.Mlp

theorem frame_k : Cert.quiescent_Kernel2 := fun m ρ _ => Cert.Kernel2.Gen.frame m ρ

theorem frame_ki : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

theorem algebraic : Cert.algebraic_Kernel2Ideal_Reference2Ideal := by
  intro m g m' g' _ hag
  refine ⟨fun c => G6 (A0 m c) (A1 m c) (A2 m c) (A3 m c) (A4 m c), fun c => G7 (A0 m c) (A1 m c) (A2 m c) (A3 m c) (A4 m c),
    fun c => G8 (A1 m c) (A2 m c), fun c => G9 (A0 m c) (A1 m c) (A2 m c) (A3 m c) (A4 m c), ?_, ?_⟩
  · refine (θ_run Cert.Kernel2Ideal.defs _ _).mono (fun r h c => ?_) (Cert.Kernel2Ideal.Value.run_blocks (F := Ideal) m g)
    obtain ⟨h6, h7, h8, h9, hargs⟩ := h c
    exact ⟨h6.trans (final6 m c), h7.trans (final7 m c), h8.trans (final8 m c), h9.trans (final9 m c), hargs⟩
  · refine (θ_run Cert.Reference2Ideal.defs _ _).mono (fun r h c => ?_) (Cert.Reference2Ideal.Value.run (F := Ideal) m' g')
    obtain ⟨h6, h7, h8, h9, hargs⟩ := h c
    obtain ⟨e0, e1, e2, e3, e4⟩ := hag c
    refine ⟨h6.trans ?_, h7.trans ?_, h8.trans ?_, h9.trans ?_, hargs⟩
    · refine (Cert.Reference2Ideal.Read.val_main_v50_eq m' c).trans ?_
      rw [e0, e1, e2, e3, e4]
      funext i
      idx_vars i
      exact ref_dx _ _ _ _ _ i0 i1
    · refine (Cert.Reference2Ideal.Read.val_main_v76_eq _ _ _ _ _).trans ?_
      rw [e0, e1, e2, e3, e4]
      funext i
      idx_vars i
      exact ref_da' _ _ _ _ _ i0 i1
    · refine (Cert.Reference2Ideal.Read.val_main_v90_eq _ _).trans ?_
      rw [e1, e2]
      funext i
      idx_vars i
      exact ref_h _ _ i1 i0
    · refine (Cert.Reference2Ideal.Read.val_main_v33_eq _ _ _ _ _).trans ?_
      rw [e0, e1, e2, e3, e4]
      funext i
      idx_vars i
      exact ref_dg _ _ _ _ _ i0 i1

end Cert.Proof.Mlp
-- ==== Proof.Down.Kernel.lean ====
module

public import proofs.«01_k».proof.Proof.Gen.Kernel4Ideal.Value
public import proofs.«01_k».proof.Proof.Lib.Part
public import Idealize.ShloMosaic.Lib.Pipeline.ValueKit
public import Idealize.ShloMosaic.Lib.Pointwise
public import Idealize.ShloMosaic.Lib.Claim

@[expose] public section

/-! The gradient of the MLP's second weight, as the kernel accumulates it tile by tile of the rows. -/

set_option maxRecDepth 16384

noncomputable section

open Idealize.ShloMosaic Idealize.ShloMosaic.TcCoe Idealize.SL.Sem
open Idealize.ShloMosaic.Pipeline (Dat)
open Cert.Proof.Part

namespace Cert.Proof.Down

open Cert.Kernel4Ideal Cert.Kernel4Ideal.Gen Cert.Kernel4Ideal.Value

variable (m : (ℓ : Loc nD τ sig) → Buf (Elt Ideal) ℓ)

theorem idx : ∀ t : Fin cfg0.N, win0_0.index t = ![t.val, 0] ∧ win0_1.index t = ![t.val, 0] ∧ win0_2.index t = ![0, 0] ∧ t.val < 16 :=
  (by decide +kernel : ∀ t : Fin grid0.N, _)

abbrev A0 (c : Dev nD) : FVec Ideal S4096x4096 .f32 := m ((c : Thread nD τ).loc main_arg0)
abbrev A1 (c : Dev nD) : FVec Ideal S4096x1024 .f32 := m ((c : Thread nD τ).loc main_arg1)

/-- The term that row `p` gives to entry `(i, j)`: the squared positive part times the cotangent. -/
def term (X : FVec Ideal S4096x4096 .f32) (Y : FVec Ideal S4096x1024 .f32) (i : Fin 4096) (j : Fin 1024) (p : Fin 4096) : EReal :=
  (max (X (ix2 p i)) 0 * max (X (ix2 p i)) 0) * Y (ix2 p j)

theorem blk0 (c : Dev nD) (t : Fin cfg0.N) (k : Fin 256) (l : Fin 4096) (h : 256 * t.val + k.val < 4096) :
    (show FVec Ideal S256x4096 .bf16 from iblk m c 0 t) (ix2 k l) = A0 m c (ix2 ⟨256 * t.val + k, h⟩ l) := by
  blk_point [iblk, V, idx t]

theorem blk1 (c : Dev nD) (t : Fin cfg0.N) (k : Fin 256) (l : Fin 1024) (h : 256 * t.val + k.val < 4096) :
    (show FVec Ideal S256x1024 .f32 from iblk m c 1 t) (ix2 k l) = A1 m c (ix2 ⟨256 * t.val + k, h⟩ l) := by
  blk_point [iblk, V, idx t]

theorem pay1_apply (i : Fin 4096) (j : Fin 1024) : k0_pay1 (F := Ideal) (ix2 i j) = (0 : EReal) := by
  pointwise [k0_pay1]

theorem pay2_apply (x : FVec Ideal S256x1024 .f32) (a : FVec Ideal S4096x1024 .f32) (y : FVec Ideal S256x4096 .bf16) (i : Fin 4096) (j : Fin 1024) :
    k0_pay2 (F := Ideal) x a y (ix2 i j) = (a (ix2 i j) + ∑ k : Fin 256, (max (y (ix2 k i)) 0 * max (y (ix2 k i)) 0) * x (ix2 k j) : EReal) := by
  pointwise [k0_pay2]

theorem pay3_apply (a : FVec Ideal S4096x1024 .f32) (i : Fin 4096) (j : Fin 1024) : k0_pay3 (F := Ideal) a (ix2 i j) = (a (ix2 i j) : EReal) := by
  pointwise [k0_pay3]

/-- The accumulator after point `n`. -/
def Holds (c : Dev nD) (n : ℕ) (h : n < cfg0.N) : Prop :=
  ∀ (i : Fin 4096) (j : Fin 1024), (show FVec Ideal S4096x1024 .f32 from (outsAt0 m c n h).2) (ix2 i j)
      = ∑ s ∈ Finset.range (n + 1), part 256 (term (A0 m c) (A1 m c) i j) s

theorem holds_of (c : Dev nD) (t : Fin cfg0.N) (a : FVec Ideal S4096x1024 .f32)
    (ha : ∀ i j, a (ix2 i j) = ∑ s ∈ Finset.range t.val, part 256 (term (A0 m c) (A1 m c) i j) s)
    (h : (outsAt0 m c t.val t.isLt).2 = k0_pay2 (F := Ideal) (iblk m c 1 t) a (iblk m c 0 t)) : Holds m c t.val t.isLt := by
  have ht := (idx t).2.2.2
  intro i j
  rw [h]
  refine (pay2_apply _ _ _ i j).trans ?_
  rw [ha, Finset.sum_range_succ]
  refine congrArg₂ (fun x y : EReal => x + y) rfl (part_eq 256 _ t.val _ (by omega) fun k hk => ?_)
  unfold term
  rw [← blk0 m c t k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun i j => ?_) ?_
    · rw [pay1_apply]; exact (Finset.sum_range_zero _).symm
    · rw [outsAt0_A m c ⟨0, h⟩ rfl (show ¬0 % 16 = 15 by decide)]; frame_out
  | succ n ih =>
    intro h
    have hN : n + 1 < 16 := lt_of_lt_of_eq h N_0
    have h0 : ¬(n + 1) % 16 = 0 := by omega
    refine holds_of m c ⟨n + 1, h⟩ (outsAt0 m c n (by omega)).2 (ih (by omega)) ?_
    by_cases h1 : (n + 1) % 16 = 15
    · rw [outsAt0_C m c ⟨n + 1, h⟩ h0 h1]; frame_out; rw [(Memref.isWhole_whole _).read_unread]; rfl
    · rw [outsAt0_B m c ⟨n + 1, h⟩ h0 h1]; frame_out; rw [(Memref.isWhole_whole _).read_unread]; rfl

/-- The last point stores the accumulator. -/
theorem out_last (c : Dev nD) (t : Fin cfg0.N) (h1 : t.val % 16 = 15) :
    (outsAt0 m c t.val t.isLt).1 = k0_pay3 (F := Ideal) (outsAt0 m c t.val t.isLt).2 := by
  have h0 : ¬t.val % 16 = 0 := by omega
  rw [outsAt0_C m c t h0 h1]
  frame_out
  try rfl

/-- The gradient as an array. -/
abbrev G (X : FVec Ideal S4096x4096 .f32) (Y : FVec Ideal S4096x1024 .f32) : FVec Ideal S4096x1024 .bf16 :=
  fun i => (∑ p : Fin 4096, term X Y (i 0) (i 1) p : EReal)

theorem final2 (c : Dev nD) : (dats m 0 c).arrAt 2 cfg0.N = G (A0 m c) (A1 m c) := by
  refine (dats m 0 c).arrAt_eq_of_after_last 2 t0_15 (by decide +kernel) _ fun j => ?_
  blk_simp
  rw [after0_2]
  idx_vars j
  rw [out_last m c t0_15 rfl]
  refine (pay3_apply _ j0 j1).trans ((holds_all m c t0_15.val t0_15.isLt j0 j1).trans ?_)
  exact sum_part 16 256 rfl _

end Cert.Proof.Down
-- ==== Proof.Down.Claims.lean ====
module

public import proofs.«01_k».proof.Defs
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Down.Kernel
public import Idealize.ShloMosaic.Lib.Pipeline.ValueKit
public import Idealize.ShloMosaic.Lib.Claim

@[expose] public section

/-! The claims about the gradient of the MLP's second weight. -/

set_option maxRecDepth 16384

noncomputable section

open Idealize.ShloMosaic Idealize.ShloMosaic.TcCoe Idealize.SL.Sem

namespace Cert.Proof.Down

theorem frame_k : Cert.quiescent_Kernel4 := fun m ρ _ => Cert.Kernel4.Gen.frame m ρ

theorem frame_ki : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

open Cert.Reference4Ideal.Read in
theorem ref_apply (X : FVec Ideal Cert.Kernel4Ideal.S4096x4096 .f32) (Y : FVec Ideal Cert.Kernel4Ideal.S4096x1024 .f32) (i : Fin 4096) (j : Fin 1024) :
    val_main_v6 (F := Ideal) X Y (ix2 i j) = (∑ p : Fin 4096, term X Y i j p : EReal) := by
  have h : val_main_v6 (F := Ideal) X Y (ix2 i j) = (∑ p : Fin 4096, Y (ix2 p j) * (max (X (ix2 p i)) 0 * max (X (ix2 p i)) 0) : EReal) := by
    pointwise [val_main_v6, val_main_v5, val_main_v4, val_main_v2, val_main_v1, val_main_call0_v0, val_main_call0_cst]
  rw [h]
  exact Finset.sum_congr rfl fun p _ => mul_comm _ _

theorem algebraic : Cert.algebraic_Kernel4Ideal_Reference4Ideal := by
  intro m g m' g' _ hag
  refine ⟨fun c => G (A0 m c) (A1 m c), ?_, ?_⟩
  · refine (θ_run Cert.Kernel4Ideal.defs _ _).mono (fun r h c => ?_) (Cert.Kernel4Ideal.Value.run_blocks (F := Ideal) m g)
    obtain ⟨h2, hargs⟩ := h c
    exact ⟨h2.trans (final2 m c), hargs⟩
  · refine (θ_run Cert.Reference4Ideal.defs _ _).mono (fun r h c => ?_) (Cert.Reference4Ideal.Value.run (F := Ideal) m' g')
    obtain ⟨h6, hargs⟩ := h c
    obtain ⟨e0, e1⟩ := hag c
    refine ⟨h6.trans ?_, hargs⟩
    rw [Cert.Reference4Ideal.Read.val_main_v6_eq, e0, e1]
    funext i
    idx_vars i
    exact ref_apply _ _ i0 i1

end Cert.Proof.Down
-- ==== Proof.Up.Kernel.lean ====
module

public import proofs.«01_k».proof.Proof.Gen.Kernel5Ideal.Value
public import proofs.«01_k».proof.Proof.Lib.Part
public import Idealize.ShloMosaic.Lib.Pipeline.ValueKit
public import Idealize.ShloMosaic.Lib.Pointwise
public import Idealize.ShloMosaic.Lib.Claim

@[expose] public section

/-! The gradient of the MLP's first weight, as the kernel accumulates it tile by tile of the rows and stores it in eight column shards. -/

set_option maxRecDepth 16384

noncomputable section

open Idealize.ShloMosaic Idealize.ShloMosaic.TcCoe Idealize.SL.Sem
open Idealize.ShloMosaic.Pipeline (Dat)
open Cert.Proof.Part

namespace Cert.Proof.Up

open Cert.Kernel5Ideal Cert.Kernel5Ideal.Gen Cert.Kernel5Ideal.Value

variable (m : (ℓ : Loc nD τ sig) → Buf (Elt Ideal) ℓ)

theorem idx : ∀ t : Fin cfg0.N, win0_0.index t = ![0, t.val] ∧ win0_1.index t = ![t.val, 0] ∧ win0_2.index t = ![0, 0, 0] ∧ t.val < 8 :=
  (by decide +kernel : ∀ t : Fin grid0.N, _)

abbrev A0 (c : Dev nD) : FVec Ideal S4096x1024 .f32 := m ((c : Thread nD τ).loc main_arg0)
abbrev A1 (c : Dev nD) : FVec Ideal S4096x4096 .f32 := m ((c : Thread nD τ).loc main_arg1)

/-- The term that row `p` gives to entry `(i, j)`. -/
def term (X : FVec Ideal S4096x1024 .f32) (Y : FVec Ideal S4096x4096 .f32) (i : Fin 1024) (j : Fin 4096) (p : Fin 4096) : EReal := X (ix2 p i) * Y (ix2 p j)

theorem blk0 (c : Dev nD) (t : Fin cfg0.N) (k : Fin 512) (l : Fin 1024) (h : 512 * t.val + k.val < 4096) :
    (show FVec Ideal S1024x512 .bf16 from iblk m c 0 t) (ix2 l k) = A0 m c (ix2 ⟨512 * t.val + k, h⟩ l) := by
  blk_point [iblk, V, idx t]

theorem blk1 (c : Dev nD) (t : Fin cfg0.N) (k : Fin 512) (l : Fin 4096) (h : 512 * t.val + k.val < 4096) :
    (show FVec Ideal S512x4096 .bf16 from iblk m c 1 t) (ix2 k l) = A1 m c (ix2 ⟨512 * t.val + k, h⟩ l) := by
  blk_point [iblk, V, idx t]

theorem pay1_apply (i : Fin 1024) (j : Fin 4096) : k0_pay1 (F := Ideal) (ix2 i j) = (0 : EReal) := by
  pointwise [k0_pay1]

theorem pay2_apply (y : FVec Ideal S512x4096 .bf16) (a : FVec Ideal S1024x4096 .f32) (x : FVec Ideal S1024x512 .bf16) (i : Fin 1024) (j : Fin 4096) :
    k0_pay2 (F := Ideal) y a x (ix2 i j) = (a (ix2 i j) + ∑ k : Fin 512, x (ix2 i k) * y (ix2 k j) : EReal) := by
  pointwise [k0_pay2]

/-- The accumulator after point `n`. -/
def Holds (c : Dev nD) (n : ℕ) (h : n < cfg0.N) : Prop :=
  ∀ (i : Fin 1024) (j : Fin 4096), (show FVec Ideal S1024x4096 .f32 from (outsAt0 m c n h).2) (ix2 i j)
      = ∑ s ∈ Finset.range (n + 1), part 512 (term (A0 m c) (A1 m c) i j) s

theorem holds_of (c : Dev nD) (t : Fin cfg0.N) (a : FVec Ideal S1024x4096 .f32)
    (ha : ∀ i j, a (ix2 i j) = ∑ s ∈ Finset.range t.val, part 512 (term (A0 m c) (A1 m c) i j) s)
    (h : (outsAt0 m c t.val t.isLt).2 = k0_pay2 (F := Ideal) (iblk m c 1 t) a (iblk m c 0 t)) : Holds m c t.val t.isLt := by
  have ht := (idx t).2.2.2
  intro i j
  rw [h]
  refine (pay2_apply _ _ _ i j).trans ?_
  rw [ha, Finset.sum_range_succ]
  refine congrArg₂ (fun x y : EReal => x + y) rfl (part_eq 512 _ t.val _ (by omega) fun k hk => ?_)
  unfold term
  rw [← blk0 m c t k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun i j => ?_) ?_
    · rw [pay1_apply]; exact (Finset.sum_range_zero _).symm
    · rw [outsAt0_A m c ⟨0, h⟩ rfl (show ¬0 % 8 = 7 by decide)]; frame_out
  | succ n ih =>
    intro h
    have hN : n + 1 < 8 := lt_of_lt_of_eq h N_0
    have h0 : ¬(n + 1) % 8 = 0 := by omega
    refine holds_of m c ⟨n + 1, h⟩ (outsAt0 m c n (by omega)).2 (ih (by omega)) ?_
    by_cases h1 : (n + 1) % 8 = 7
    · rw [outsAt0_C m c ⟨n + 1, h⟩ h0 h1]; frame_out; rw [(Memref.isWhole_whole _).read_unread]; rfl
    · rw [outsAt0_B m c ⟨n + 1, h⟩ h0 h1]; frame_out; rw [(Memref.isWhole_whole _).read_unread]; rfl

/-- The last point stores the accumulator, a shard at a time. -/
theorem out_last (c : Dev nD) (t : Fin cfg0.N) (h7 : t.val % 8 = 7) (q : Fin 8) (i : Fin 1024) (l : Fin 512)
    (hl : 512 * q.val + l.val < 4096) :
    (show FVec Ideal S8x1024x512 .bf16 from (outsAt0 m c t.val t.isLt).1) (ix3 q i l)
      = (show FVec Ideal S1024x4096 .f32 from (outsAt0 m c t.val t.isLt).2) (ix2 i ⟨512 * q.val + l.val, hl⟩) := by
  have h0 : ¬t.val % 8 = 0 := by omega
  rw [outsAt0_C m c t h0 h7]
  frame_out
  generalize k0_pay2 (F := Ideal) _ _ _ = T
  clear h7 h0
  canon_tiles x h
  all_goals
    open_payloads
    rw [View.readCov_eq_canon', View.canon_cons_unit_lit _ _ _ (by decide)]
    pointwise
    refine congrArg T (congrArg₂ ix2 (Fin.ext h1.symm) (Fin.ext ?_))
    change q.val = _ at h0
    change l.val = _ at h2
    simp only []
    omega

/-- The gradient as an array, a shard of its columns to each device. -/
abbrev G (X : FVec Ideal S4096x1024 .f32) (Y : FVec Ideal S4096x4096 .f32) : FVec Ideal S8x1024x512 .bf16 :=
  fun i => (∑ p : Fin 4096, term X Y (i 1) ⟨512 * (i 0).val + (i 2).val, by have h0 := (i 0).isLt; have h2 := (i 2).isLt; change _ < 8 at h0; change _ < 512 at h2; omega⟩ p : EReal)

theorem final2 (c : Dev nD) : (dats m 0 c).arrAt 2 cfg0.N = G (A0 m c) (A1 m c) := by
  refine (dats m 0 c).arrAt_eq_of_after_last 2 t0_7 (by decide +kernel) _ fun j => ?_
  blk_simp
  rw [after0_2]
  idx_vars j
  have h0 := j0.isLt
  have h2 := j2.isLt
  refine (out_last m c t0_7 rfl j0 j1 j2 (by omega)).trans ((holds_all m c t0_7.val t0_7.isLt j1 _).trans ?_)
  exact sum_part 8 512 rfl _

end Cert.Proof.Up
-- ==== Proof.Up.Claims.lean ====
module

public import proofs.«01_k».proof.Defs
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import proofs.«01_k».proof.Proof.Gen.Reference5Ideal.Read
public import proofs.«01_k».proof.Proof.Up.Kernel
public import Idealize.ShloMosaic.Lib.Pipeline.ValueKit
public import Idealize.ShloMosaic.Lib.Claim

@[expose] public section

/-! The claims about the gradient of the MLP's first weight. -/

set_option maxRecDepth 16384

noncomputable section

open Idealize.ShloMosaic Idealize.ShloMosaic.TcCoe Idealize.SL.Sem

namespace Cert.Proof.Up

theorem frame_k : Cert.quiescent_Kernel5 := fun m ρ _ => Cert.Kernel5.Gen.frame m ρ

theorem frame_ki : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

open Cert.Reference5Ideal.Read in
/-- The whole gradient. -/
theorem dw_apply (X : FVec Ideal Cert.Kernel5Ideal.S4096x1024 .f32) (Y : FVec Ideal Cert.Kernel5Ideal.S4096x4096 .f32) (i : Fin 1024) (j : Fin 4096) :
    val_main_v3 (F := Ideal) X Y (ix2 i j) = (∑ p : Fin 4096, term X Y i j p : EReal) := by
  have h : val_main_v3 (F := Ideal) X Y (ix2 i j) = (∑ p : Fin 4096, Y (ix2 p j) * X (ix2 p i) : EReal) := by
    pointwise [val_main_v3, val_main_v2]
  rw [h]
  exact Finset.sum_congr rfl fun p _ => mul_comm _ _

open Cert.Reference5Ideal.Read in
theorem ref_apply (X : FVec Ideal Cert.Kernel5Ideal.S4096x1024 .f32) (Y : FVec Ideal Cert.Kernel5Ideal.S4096x4096 .f32) (q : Fin 8) (i : Fin 1024)
    (l : Fin 512) (hl : 512 * q.val + l.val < 4096) :
    val_main_v21 (F := Ideal) X Y (ix3 q i l) = (∑ p : Fin 4096, term X Y i ⟨512 * q.val + l.val, hl⟩ p : EReal) := by
  rw [← dw_apply]
  pointwise [val_main_v21, val_main_v20, val_main_v12, val_main_v13, val_main_v14, val_main_v15, val_main_v16, val_main_v17, val_main_v18,
    val_main_v19, val_main_v4, val_main_v5, val_main_v6, val_main_v7, val_main_v8, val_main_v9, val_main_v10, val_main_v11]
  generalize val_main_v3 (F := Ideal) X Y = D
  blk_point []

theorem algebraic : Cert.algebraic_Kernel5Ideal_Reference5Ideal := by
  intro m g m' g' _ hag
  refine ⟨fun c => G (A0 m c) (A1 m c), ?_, ?_⟩
  · refine (θ_run Cert.Kernel5Ideal.defs _ _).mono (fun r h c => ?_) (Cert.Kernel5Ideal.Value.run_blocks (F := Ideal) m g)
    obtain ⟨h2, hargs⟩ := h c
    exact ⟨h2.trans (final2 m c), hargs⟩
  · refine (θ_run Cert.Reference5Ideal.defs _ _).mono (fun r h c => ?_) (Cert.Reference5Ideal.Value.run (F := Ideal) m' g')
    obtain ⟨h6, hargs⟩ := h c
    obtain ⟨e0, e1⟩ := hag c
    refine ⟨h6.trans ?_, hargs⟩
    rw [Cert.Reference5Ideal.Read.val_main_v21_eq, e0, e1]
    funext i
    idx_vars i
    exact ref_apply _ _ i0 i1 i2 _

end Cert.Proof.Up
-- ==== Proof.Square.Kernel.lean ====
module

public import proofs.«01_k».proof.Proof.Gen.Kernel8Ideal.Value
public import proofs.«01_k».proof.Proof.Lib.Part
public import Idealize.ShloMosaic.Lib.Pipeline.ValueKit
public import Idealize.ShloMosaic.Lib.Pointwise
public import Idealize.ShloMosaic.Lib.Claim

@[expose] public section

/-! The gradient of a square weight (the output projection's, the embedding gate's), as the kernel accumulates it over two tiles of the rows. -/

set_option maxRecDepth 16384

noncomputable section

open Idealize.ShloMosaic Idealize.ShloMosaic.TcCoe Idealize.SL.Sem
open Idealize.ShloMosaic.Pipeline (Dat)
open Cert.Proof.Part

namespace Cert.Proof.Square

open Cert.Kernel8Ideal Cert.Kernel8Ideal.Gen Cert.Kernel8Ideal.Value

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0] ∧ t.val < 2 :=
  (by decide +kernel : ∀ t : Fin grid0.N, _)

abbrev A0 (c : Dev nD) : FVec Ideal S4096x1024 .f32 := m ((c : Thread nD τ).loc main_arg0)
abbrev A1 (c : Dev nD) : FVec Ideal S4096x1024 .f32 := m ((c : Thread nD τ).loc main_arg1)

/-- The term that row `p` gives to entry `(i, j)`. -/
def term (X Y : FVec Ideal S4096x1024 .f32) (i j : Fin 1024) (p : Fin 4096) : EReal := X (ix2 p i) * Y (ix2 p j)

theorem blk0 (c : Dev nD) (t : Fin cfg0.N) (k : Fin 2048) (l : Fin 1024) (h : 2048 * t.val + k.val < 4096) :
    (show FVec Ideal S1x2048x1024 .bf16 from iblk m c 0 t) (ix3 0 k l) = A0 m c (ix2 ⟨2048 * t.val + k, h⟩ l) := by
  blk_point [iblk, V, idx t]

theorem blk1 (c : Dev nD) (t : Fin cfg0.N) (k : Fin 2048) (l : Fin 1024) (h : 2048 * t.val + k.val < 4096) :
    (show FVec Ideal S1x2048x1024 .f32 from iblk m c 1 t) (ix3 0 k l) = A1 m c (ix2 ⟨2048 * t.val + k, h⟩ l) := by
  blk_point [iblk, V, idx t]

theorem pay1_apply (i : Fin 1024) (j : Fin 1024) : k0_pay1 (F := Ideal) (ix2 i j) = (0 : EReal) := by
  pointwise [k0_pay1]

theorem pay2_apply (x : FVec Ideal S1x2048x1024 .bf16) (a : FVec Ideal S1024x1024 .f32) (y : FVec Ideal S1x2048x1024 .f32) (i : Fin 1024) (j : Fin 1024) :
    k0_pay2 (F := Ideal) x a y (ix2 i j) = (a (ix2 i j) + ∑ k : Fin 2048, x (ix3 0 k i) * y (ix3 0 k j) : EReal) := by
  pointwise [k0_pay2]

theorem pay3_apply (a : FVec Ideal S1024x1024 .f32) (i : Fin 1024) (j : Fin 1024) : k0_pay3 (F := Ideal) a (ix3 0 i j) = (a (ix2 i j) : EReal) := by
  pointwise [k0_pay3]

/-- The accumulator after point `n`. -/
def Holds (c : Dev nD) (n : ℕ) (h : n < cfg0.N) : Prop :=
  ∀ (i : Fin 1024) (j : Fin 1024), (show FVec Ideal S1024x1024 .f32 from (outsAt0 m c n h).2) (ix2 i j)
      = ∑ s ∈ Finset.range (n + 1), part 2048 (term (A0 m c) (A1 m c) i j) s

theorem holds_of (c : Dev nD) (t : Fin cfg0.N) (a : FVec Ideal S1024x1024 .f32)
    (ha : ∀ i j, a (ix2 i j) = ∑ s ∈ Finset.range t.val, part 2048 (term (A0 m c) (A1 m c) i j) s)
    (h : (outsAt0 m c t.val t.isLt).2 = k0_pay2 (F := Ideal) (iblk m c 0 t) a (iblk m c 1 t)) : Holds m c t.val t.isLt := by
  have ht := (idx t).2.2.2
  intro i j
  rw [h]
  refine (pay2_apply _ _ _ i j).trans ?_
  rw [ha, Finset.sum_range_succ]
  refine congrArg₂ (fun x y : EReal => x + y) rfl (part_eq 2048 _ t.val _ (by omega) fun k hk => ?_)
  unfold term
  rw [← blk0 m c t k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun i j => ?_) ?_
    · rw [pay1_apply]; exact (Finset.sum_range_zero _).symm
    · rw [outsAt0_A m c ⟨0, h⟩ rfl (show ¬0 % 2 = 1 by decide)]; frame_out
  | succ n ih =>
    intro h
    have hN : n + 1 < 2 := lt_of_lt_of_eq h N_0
    have h0 : ¬(n + 1) % 2 = 0 := by omega
    have h1 : (n + 1) % 2 = 1 := by omega
    refine holds_of m c ⟨n + 1, h⟩ (outsAt0 m c n (by omega)).2 (ih (by omega)) ?_
    rw [outsAt0_B m c ⟨n + 1, h⟩ h0 h1]; frame_out; rw [(Memref.isWhole_whole _).read_unread]; rfl

/-- The last point stores the accumulator. -/
theorem out_last (c : Dev nD) (t : Fin cfg0.N) (h1 : t.val % 2 = 1) :
    (outsAt0 m c t.val t.isLt).1 = k0_pay3 (F := Ideal) (outsAt0 m c t.val t.isLt).2 := by
  have h0 : ¬t.val % 2 = 0 := by omega
  rw [outsAt0_B m c t h0 h1]
  frame_out
  try rfl

/-- The gradient as an array. -/
abbrev G (X Y : FVec Ideal S4096x1024 .f32) : FVec Ideal S1x1024x1024 .bf16 :=
  fun i => (∑ p : Fin 4096, term X Y (i 1) (i 2) p : EReal)

theorem final2 (c : Dev nD) : (dats m 0 c).arrAt 2 cfg0.N = G (A0 m c) (A1 m c) := by
  refine (dats m 0 c).arrAt_eq_of_after_last 2 t0_1 (by decide +kernel) _ fun j => ?_
  blk_simp
  rw [after0_2]
  idx_vars j
  obtain rfl : j0 = 0 := Subsingleton.elim _ _
  rw [out_last m c t0_1 rfl]
  refine (pay3_apply _ j1 j2).trans ((holds_all m c t0_1.val t0_1.isLt j1 j2).trans ?_)
  exact sum_part 2 2048 rfl _

end Cert.Proof.Square
-- ==== Proof.Square.Claims.lean ====
module

public import proofs.«01_k».proof.Defs
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import proofs.«01_k».proof.Proof.Gen.Reference8Ideal.Read
public import proofs.«01_k».proof.Proof.Square.Kernel
public import Idealize.ShloMosaic.Lib.Pipeline.ValueKit
public import Idealize.ShloMosaic.Lib.Claim

@[expose] public section

/-! The claims about the gradient of a square weight. -/

set_option maxRecDepth 16384

noncomputable section

open Idealize.ShloMosaic Idealize.ShloMosaic.TcCoe Idealize.SL.Sem

namespace Cert.Proof.Square

theorem frame_k : Cert.quiescent_Kernel8 := fun m ρ _ => Cert.Kernel8.Gen.frame m ρ

theorem frame_ki : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

open Cert.Reference8Ideal.Read in
theorem ref_apply (X Y : FVec Ideal Cert.Kernel8Ideal.S4096x1024 .f32) (i j : Fin 1024) :
    val_main_v5 (F := Ideal) X Y (ix3 0 i j) = (∑ p : Fin 4096, term X Y i j p : EReal) := by
  have h : val_main_v5 (F := Ideal) X Y (ix3 0 i j) = (∑ p : Fin 4096, Y (ix2 p j) * X (ix2 p i) : EReal) := by
    pointwise [val_main_v5, val_main_v4, val_main_v3, val_main_v2]
  rw [h]
  exact Finset.sum_congr rfl fun p _ => mul_comm _ _

theorem algebraic : Cert.algebraic_Kernel8Ideal_Reference8Ideal := by
  intro m g m' g' _ hag
  refine ⟨fun c => G (A0 m c) (A1 m c), ?_, ?_⟩
  · refine (θ_run Cert.Kernel8Ideal.defs _ _).mono (fun r h c => ?_) (Cert.Kernel8Ideal.Value.run_blocks (F := Ideal) m g)
    obtain ⟨h2, hargs⟩ := h c
    exact ⟨h2.trans (final2 m c), hargs⟩
  · refine (θ_run Cert.Reference8Ideal.defs _ _).mono (fun r h c => ?_) (Cert.Reference8Ideal.Value.run (F := Ideal) m' g')
    obtain ⟨h6, hargs⟩ := h c
    obtain ⟨e0, e1⟩ := hag c
    refine ⟨h6.trans ?_, hargs⟩
    rw [Cert.Reference8Ideal.Read.val_main_v5_eq, e0, e1]
    funext i
    idx_vars i
    obtain rfl : i0 = 0 := Subsingleton.elim _ _
    exact ref_apply _ _ i1 i2

end Cert.Proof.Square
-- ==== Proof.InQk.Frames.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import Idealize.ShloMosaic.Lib.Claim

@[expose] public section

/-! The frames of the call's programs. -/

set_option maxRecDepth 16384

noncomputable section

open Idealize.ShloMosaic Idealize.ShloMosaic.TcCoe Idealize.SL.Sem

namespace Cert.Proof.InQk

theorem frame_k : Cert.quiescent_Kernel6 := fun m ρ _ => Cert.Kernel6.Gen.frame m ρ

theorem frame_ki : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Proof.InQk
-- ==== Proof.InQk.Kernel.lean ====
module

public import proofs.«01_k».proof.Proof.Gen.Kernel6Ideal.Value
public import proofs.«01_k».proof.Proof.Lib.Part
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradient of the input projection's query and key columns, as the kernel accumulates it tile by tile of the rows, one group after the other. -/

set_option maxRecDepth 16384

noncomputable section

open Idealize.ShloMosaic Idealize.ShloMosaic.TcCoe Idealize.SL.Sem
open Idealize.ShloMosaic.Pipeline (Dat)
open Cert.Proof.Part

namespace Cert.Proof.InQk

open Cert.Kernel6Ideal Cert.Kernel6Ideal.Gen Cert.Kernel6Ideal.Value

variable (m : (ℓ : Loc nD τ sig) → Buf (Elt Ideal) ℓ)

theorem idx : ∀ t : Fin cfg0.N, win0_0.index t = ![0, t.val, 0] ∧ win0_1.index t = ![t.val, 0] ∧ win0_2.index t = ![0, 0, 0] ∧ t.val < 8 :=
  (by decide +kernel : ∀ t : Fin grid0.N, _)

abbrev A0 (c : Dev nD) : FVec Ideal S2x4096x512 .f32 := m ((c : Thread nD τ).loc main_arg0)
abbrev A1 (c : Dev nD) : FVec Ideal S4096x1024 .f32 := m ((c : Thread nD τ).loc main_arg1)

/-- The term that row `p` gives to entry `(i, j)` of group `g`. -/
def term (X : FVec Ideal S2x4096x512 .f32) (Y : FVec Ideal S4096x1024 .f32) (g : Fin 2) (i : Fin 512) (j : Fin 1024) (p : Fin 4096) : EReal :=
  X (ix3 g p i) * Y (ix2 p j)

theorem blk0 (c : Dev nD) (t : Fin cfg0.N) (g : Fin 2) (k : Fin 512) (l : Fin 512) (h : 512 * t.val + k.val < 4096) :
    (show FVec Ideal S2x512x512 .bf16 from iblk m c 0 t) (ix3 g k l) = A0 m c (ix3 g ⟨512 * t.val + k, h⟩ l) := by
  blk_point [iblk, V, idx t]

theorem blk1 (c : Dev nD) (t : Fin cfg0.N) (k : Fin 512) (l : Fin 1024) (h : 512 * t.val + k.val < 4096) :
    (show FVec Ideal S512x1024 .bf16 from iblk m c 1 t) (ix2 k l) = A1 m c (ix2 ⟨512 * t.val + k, h⟩ l) := by
  blk_point [iblk, V, idx t]

theorem pay1_apply (g : Fin 2) (i : Fin 512) (j : Fin 1024) : k0_pay1 (F := Ideal) (ix3 g i j) = (0 : EReal) := by
  pointwise [k0_pay1]

theorem pay3_apply (y : FVec Ideal S512x1024 .bf16) (a : FVec Ideal S1x512x1024 .f32) (x : FVec Ideal S1x512x512 .bf16) (u : Fin 1) (i : Fin 512) (j : Fin 1024) :
    k0_pay3 (F := Ideal) y a x (ix3 u i j) = (a (ix3 0 i j) + ∑ k : Fin 512, x (ix3 0 k i) * y (ix2 k j) : EReal) := by
  pointwise [k0_pay3, k0_pay2]

theorem pay4_apply (y : FVec Ideal S512x1024 .bf16) (a : FVec Ideal S1x512x1024 .f32) (x : FVec Ideal S1x512x512 .bf16) (u : Fin 1) (i : Fin 512) (j : Fin 1024) :
    k0_pay4 (F := Ideal) y a x (ix3 u i j) = (a (ix3 0 i j) + ∑ k : Fin 512, x (ix3 0 k i) * y (ix2 k j) : EReal) := by
  pointwise [k0_pay4, k0_pay2]

theorem pay5_apply (a : FVec Ideal S2x512x1024 .f32) (g : Fin 2) (i : Fin 512) (j : Fin 1024) : k0_pay5 (F := Ideal) a (ix3 g i j) = (a (ix3 g i j) : EReal) := by
  pointwise [k0_pay5]

/-- The scratch as the two groups' stores leave it, whatever was stored before. -/
theorem pieces (P1 P0 : FVec Ideal S1x512x1024 .f32) (L : List (View.Piece (Elt Ideal) S2x512x1024 .f32)) (T : Fin 2 → Fin 512 → Fin 1024 → EReal)
    (h1 : ∀ (u : Fin 1) i j, P1 (ix3 u i j) = T 1 i j) (h0 : ∀ (u : Fin 1) i j, P0 (ix3 u i j) = T 0 i j) (y : S2x512x1024.Idx) :
    View.canon (Val := Elt Ideal) (e := .f32) (s := S2x512x1024)
      ([⟨Rect.unit (s := S2x512x1024) ![1, 0, 0] ![1, 512, 1024] inb_S2x512x1024_S1x512x1024_1_0_0, P1⟩,
        ⟨Rect.unit (s := S2x512x1024) ![0, 0, 0] ![1, 512, 1024] inb_S2x512x1024_S1x512x1024_0_0_0, P0⟩] ++ L) y = T (y 0) (y 1) (y 2) := by
  refine View.canon_append_of_piecesOf (Val := Elt Ideal) (e := .f32) (s := S2x512x1024) (fun y => T (y 0) (y 1) (y 2)) L
    [⟨Rect.unit (s := S2x512x1024) ![1, 0, 0] ![1, 512, 1024] inb_S2x512x1024_S1x512x1024_1_0_0, P1⟩,
      ⟨Rect.unit (s := S2x512x1024) ![0, 0, 0] ![1, 512, 1024] inb_S2x512x1024_S1x512x1024_0_0_0, P0⟩]
    ⟨fun x => ?_, fun x => ?_, trivial⟩ y (View.cover_of_tiled _ ![1, 512, 1024] rfl y)
  · obtain ⟨u, i, j, rfl⟩ : ∃ (u : Fin 1) (i : Fin 512) (j : Fin 1024), x = ix3 u i j := ⟨x 0, x 1, x 2, eq_ix3 x⟩
    refine (h1 u i j).trans ?_
    have hu : u = 0 := Subsingleton.elim _ _
    subst hu
    refine congr (congr (congrArg T (Fin.ext ?_)) (Fin.ext ?_)) (Fin.ext ?_)
    · rfl
    · show i.val = 0 + 1 * i.val
      omega
    · show j.val = 0 + 1 * j.val
      omega
  · obtain ⟨u, i, j, rfl⟩ : ∃ (u : Fin 1) (i : Fin 512) (j : Fin 1024), x = ix3 u i j := ⟨x 0, x 1, x 2, eq_ix3 x⟩
    refine (h0 u i j).trans ?_
    have hu : u = 0 := Subsingleton.elim _ _
    subst hu
    refine congr (congr (congrArg T (Fin.ext ?_)) (Fin.ext ?_)) (Fin.ext ?_)
    · rfl
    · show i.val = 0 + 1 * i.val
      omega
    · show j.val = 0 + 1 * j.val
      omega

/-- One point's step: the two groups' stores, from the scratch `a` before it. -/
theorem step (x : FVec Ideal S2x512x512 .bf16) (y : FVec Ideal S512x1024 .bf16) (a : FVec Ideal S2x512x1024 .f32)
    (L : List (View.Piece (Elt Ideal) S2x512x1024 .f32)) (g : Fin 2) (i : Fin 512) (j : Fin 1024) :
    View.canon (Val := Elt Ideal) (e := .f32) (s := S2x512x1024)
      ([⟨Rect.unit (s := S2x512x1024) ![1, 0, 0] ![1, 512, 1024] inb_S2x512x1024_S1x512x1024_1_0_0,
          k0_pay4 (F := Ideal) y (View.ld (Val := Elt Ideal) (e' := .f32) a (Rect.unit (s := S2x512x1024) ![1, 0, 0] ![1, 512, 1024] inb_S2x512x1024_S1x512x1024_1_0_0))
            (View.ld (Val := Elt Ideal) (e' := .bf16) x (Rect.unit (s := S2x512x512) ![1, 0, 0] ![1, 512, 512] inb_S2x512x512_S1x512x512_1_0_0))⟩,
        ⟨Rect.unit (s := S2x512x1024) ![0, 0, 0] ![1, 512, 1024] inb_S2x512x1024_S1x512x1024_0_0_0,
          k0_pay3 (F := Ideal) y (View.ld (Val := Elt Ideal) (e' := .f32) a (Rect.unit (s := S2x512x1024) ![0, 0, 0] ![1, 512, 1024] inb_S2x512x1024_S1x512x1024_0_0_0))
            (View.ld (Val := Elt Ideal) (e' := .bf16) x (Rect.unit (s := S2x512x512) ![0, 0, 0] ![1, 512, 512] inb_S2x512x512_S1x512x512_0_0_0))⟩] ++ L) (ix3 g i j)
      = (a (ix3 g i j) + ∑ k : Fin 512, x (ix3 g k i) * y (ix2 k j) : EReal) := by
  refine pieces _ _ L (fun g i j => (a (ix3 g i j) + ∑ k : Fin 512, x (ix3 g k i) * y (ix2 k j) : EReal)) (fun u i j => ?_) (fun u i j => ?_) (ix3 g i j)
  · refine (pay4_apply _ _ _ u i j).trans ?_
    pointwise
  · refine (pay3_apply _ _ _ u i j).trans ?_
    pointwise

/-- The scratch after point `n`. -/
def Holds (c : Dev nD) (n : ℕ) (h : n < cfg0.N) : Prop :=
  ∀ (g : Fin 2) (i : Fin 512) (j : Fin 1024), (show FVec Ideal S2x512x1024 .f32 from (outsAt0 m c n h).2) (ix3 g i j)
      = ∑ s ∈ Finset.range (n + 1), part 512 (term (A0 m c) (A1 m c) g i j) s

theorem holds_of (c : Dev nD) (t : Fin cfg0.N) (a : FVec Ideal S2x512x1024 .f32)
    (ha : ∀ g i j, a (ix3 g i j) = ∑ s ∈ Finset.range t.val, part 512 (term (A0 m c) (A1 m c) g i j) s)
    (h : ∀ g i j, (show FVec Ideal S2x512x1024 .f32 from (outsAt0 m c t.val t.isLt).2) (ix3 g i j)
      = (a (ix3 g i j) + ∑ k : Fin 512, (show FVec Ideal S2x512x512 .bf16 from iblk m c 0 t) (ix3 g k i) * (show FVec Ideal S512x1024 .bf16 from iblk m c 1 t) (ix2 k j) : EReal)) :
    Holds m c t.val t.isLt := by
  have ht := (idx t).2.2.2
  intro g i j
  refine (h g i j).trans ?_
  rw [ha, Finset.sum_range_succ]
  refine congrArg₂ (fun x y : EReal => x + y) rfl (part_eq 512 _ t.val _ (by omega) fun k hk => ?_)
  unfold term
  rw [← blk0 m c t g k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun g i j => ?_) (fun g i j => ?_)
    · rw [pay1_apply]; exact (Finset.sum_range_zero _).symm
    · rw [outsAt0_A m c ⟨0, h⟩ rfl (show ¬0 % 8 = 7 by decide)]
      frame_open
      simp (disch := decide) only [↓ View.readCov_skip, ↓ View.readCov_cons_toLoadRect, ↓ View.readCov_fill]
      frame_out
      exact step _ _ _ [_] g i j
  | succ n ih =>
    intro h
    have hN : n + 1 < 8 := lt_of_lt_of_eq h N_0
    have h0 : ¬(n + 1) % 8 = 0 := by omega
    refine holds_of m c ⟨n + 1, h⟩ (outsAt0 m c n (by omega)).2 (ih (by omega)) (fun g i j => ?_)
    by_cases h1 : (n + 1) % 8 = 7
    · rw [outsAt0_C m c ⟨n + 1, h⟩ h0 h1]; frame_out; rw [(Memref.isWhole_whole _).read_unread]; exact step _ _ _ [] g i j
    · rw [outsAt0_B m c ⟨n + 1, h⟩ h0 h1]; frame_out; rw [(Memref.isWhole_whole _).read_unread]; exact step _ _ _ [] g i j

/-- The last point stores the scratch. -/
theorem out_last (c : Dev nD) (t : Fin cfg0.N) (h1 : t.val % 8 = 7) :
    (outsAt0 m c t.val t.isLt).1 = k0_pay5 (F := Ideal) (outsAt0 m c t.val t.isLt).2 := by
  have h0 : ¬t.val % 8 = 0 := by omega
  rw [outsAt0_C m c t h0 h1]
  frame_out
  rw [View.readCov_eq_canon']
  refine congrArg (k0_pay5 (F := Ideal)) (funext fun j => congrArg _ (funext fun a => Fin.ext ?_))
  show (![0, 0, 0] : Fin 3 → ℕ) a + 1 * (j a).val = _
  have ha : (![0, 0, 0] : Fin 3 → ℕ) a = 0 := by match a with | ⟨0, _⟩ => rfl | ⟨1, _⟩ => rfl | ⟨2, _⟩ => rfl
  omega

/-- The two gradients as an array. -/
abbrev G (X : FVec Ideal S2x4096x512 .f32) (Y : FVec Ideal S4096x1024 .f32) : FVec Ideal S2x512x1024 .bf16 :=
  fun i => (∑ p : Fin 4096, term X Y (i 0) (i 1) (i 2) p : EReal)

theorem final2 (c : Dev nD) : (dats m 0 c).arrAt 2 cfg0.N = G (A0 m c) (A1 m c) := by
  refine (dats m 0 c).arrAt_eq_of_after_last 2 t0_7 (by decide +kernel) _ fun j => ?_
  blk_simp
  rw [after0_2]
  idx_vars j
  rw [out_last m c t0_7 rfl]
  refine (pay5_apply _ j0 j1 j2).trans ((holds_all m c t0_7.val t0_7.isLt j0 j1 j2).trans ?_)
  exact sum_part 8 512 rfl _

end Cert.Proof.InQk
-- ==== Proof.InQk.Claims.lean ====
module

public import proofs.«01_k».proof.Proof.InQk.Frames
public import proofs.«01_k».proof.Proof.Gen.Kernel6Ideal.Value
public import proofs.«01_k».proof.Proof.Gen.Reference6Ideal.Read
public import proofs.«01_k».proof.Proof.InQk.Kernel
public import Idealize.ShloMosaic.Lib.Pipeline.ValueKit
public import Idealize.ShloMosaic.Lib.Claim

@[expose] public section

/-! The value of the gradient of the input projection's query and key columns. -/

set_option maxRecDepth 16384

noncomputable section

open Idealize.ShloMosaic Idealize.ShloMosaic.TcCoe Idealize.SL.Sem

namespace Cert.Proof.InQk

open Cert.Reference6Ideal.Read in
theorem ref_apply (X : FVec Ideal Cert.Kernel6Ideal.S2x4096x512 .f32) (Y : FVec Ideal Cert.Kernel6Ideal.S4096x1024 .f32) (g : Fin 2) (i : Fin 512)
    (j : Fin 1024) : val_main_v18 (F := Ideal) X Y (ix3 g i j) = (∑ p : Fin 4096, term X Y g i j p : EReal) := by
  unfold term
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18]
  blk_point []

theorem algebraic : Cert.algebraic_Kernel6Ideal_Reference6Ideal := by
  intro m g m' g' _ hag
  refine ⟨fun c => G (A0 m c) (A1 m c), ?_, ?_⟩
  · refine (θ_run Cert.Kernel6Ideal.defs _ _).mono (fun r h c => ?_) (Cert.Kernel6Ideal.Value.run_blocks (F := Ideal) m g)
    obtain ⟨h2, hargs⟩ := h c
    exact ⟨h2.trans (final2 m c), hargs⟩
  · refine (θ_run Cert.Reference6Ideal.defs _ _).mono (fun r h c => ?_) (Cert.Reference6Ideal.Value.run (F := Ideal) m' g')
    obtain ⟨h6, hargs⟩ := h c
    obtain ⟨e0, e1⟩ := hag c
    refine ⟨h6.trans ?_, hargs⟩
    rw [Cert.Reference6Ideal.Read.val_main_v18_eq, e0, e1]
    funext i
    idx_vars i
    exact ref_apply _ _ i0 i1 i2

end Cert.Proof.InQk
-- ==== Proof.InRest.Frames.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import Idealize.ShloMosaic.Lib.Claim

@[expose] public section

/-! The frames of the call's programs. -/

set_option maxRecDepth 16384

noncomputable section

open Idealize.ShloMosaic Idealize.ShloMosaic.TcCoe Idealize.SL.Sem

namespace Cert.Proof.InRest

theorem frame_k : Cert.quiescent_Kernel7 := fun m ρ _ => Cert.Kernel7.Gen.frame m ρ

theorem frame_ki : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

end Cert.Proof.InRest
-- ==== Proof.InRest.Kernel.lean ====
module

public import proofs.«01_k».proof.Proof.Gen.Kernel7Ideal.Value
public import proofs.«01_k».proof.Proof.Lib.Part
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradient of the input projection's other columns, as the kernel accumulates it tile by tile of the rows in four scratch arrays. -/

set_option maxRecDepth 16384

noncomputable section

open Idealize.ShloMosaic Idealize.ShloMosaic.TcCoe Idealize.SL.Sem
open Idealize.ShloMosaic.Pipeline (Dat)
open Cert.Proof.Part

namespace Cert.Proof.InRest

open Cert.Kernel7Ideal Cert.Kernel7Ideal.Gen Cert.Kernel7Ideal.Value

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0] ∧ win0_8.index t = ![0, 0] ∧ t.val < 8 :=
  (by decide +kernel : ∀ t : Fin grid0.N, _)

theorem lt_eight (t : Fin cfg0.N) : t.val < 8 := (idx t).2.2.2.2.2.2.2.2.2

abbrev A0 (c : Dev nD) : FVec Ideal S4096x512 .f32 := m ((c : Thread nD τ).loc main_arg0)
abbrev A1 (c : Dev nD) : FVec Ideal S3x4096x512 .f32 := m ((c : Thread nD τ).loc main_arg1)
abbrev A2 (c : Dev nD) : FVec Ideal S4096x2048 .f32 := m ((c : Thread nD τ).loc main_arg2)
abbrev A3 (c : Dev nD) : FVec Ideal S4096x128 .f32 := m ((c : Thread nD τ).loc main_arg3)
abbrev A4 (c : Dev nD) : FVec Ideal S4096x1024 .f32 := m ((c : Thread nD τ).loc main_arg4)

/-- The term that row `p` gives to entry `(i, j)`, of a cotangent of `w` columns. -/
def term {w : ℕ} (X : FVec Ideal ⟨2, ![4096, w]⟩ .f32) (Y : FVec Ideal S4096x1024 .f32) (i : Fin w) (j : Fin 1024) (p : Fin 4096) : EReal :=
  X (ix2 p i) * Y (ix2 p j)

/-- The same of group `g` of three. -/
def term3 (X : FVec Ideal S3x4096x512 .f32) (Y : FVec Ideal S4096x1024 .f32) (g : Fin 3) (i : Fin 512) (j : Fin 1024) (p : Fin 4096) : EReal :=
  X (ix3 g p i) * Y (ix2 p j)

theorem blk0 (c : Dev nD) (t : Fin cfg0.N) (k : Fin 512) (l : Fin 512) (h : 512 * t.val + k.val < 4096) :
    (show FVec Ideal S512x512 .bf16 from iblk m c 0 t) (ix2 k l) = A0 m c (ix2 ⟨512 * t.val + k, h⟩ l) := by
  blk_point [iblk, V, idx t]

theorem blk2 (c : Dev nD) (t : Fin cfg0.N) (k : Fin 512) (l : Fin 2048) (h : 512 * t.val + k.val < 4096) :
    (show FVec Ideal S512x2048 .bf16 from iblk m c 2 t) (ix2 k l) = A2 m c (ix2 ⟨512 * t.val + k, h⟩ l) := by
  blk_point [iblk, V, idx t]

theorem blk3 (c : Dev nD) (t : Fin cfg0.N) (k : Fin 512) (l : Fin 128) (h : 512 * t.val + k.val < 4096) :
    (show FVec Ideal S512x128 .bf16 from iblk m c 3 t) (ix2 k l) = A3 m c (ix2 ⟨512 * t.val + k, h⟩ l) := by
  blk_point [iblk, V, idx t]

theorem blk4 (c : Dev nD) (t : Fin cfg0.N) (k : Fin 512) (l : Fin 1024) (h : 512 * t.val + k.val < 4096) :
    (show FVec Ideal S512x1024 .bf16 from iblk m c 4 t) (ix2 k l) = A4 m c (ix2 ⟨512 * t.val + k, h⟩ l) := by
  blk_point [iblk, V, idx t]

theorem blk1 (c : Dev nD) (t : Fin cfg0.N) (g : Fin 3) (k : Fin 512) (l : Fin 512) (h : 512 * t.val + k.val < 4096) :
    (show FVec Ideal S3x512x512 .bf16 from iblk m c 1 t) (ix3 g k l) = A1 m c (ix3 g ⟨512 * t.val + k, h⟩ l) := by
  blk_point [iblk, V, idx t]

theorem zero0 (i : Fin 512) (j : Fin 1024) : k0_pay5 (F := Ideal) (ix2 i j) = (0 : EReal) := by
  pointwise [k0_pay5]

theorem acc0 (y : FVec Ideal S512x1024 .bf16) (a : FVec Ideal S512x1024 .f32) (x : FVec Ideal S512x512 .bf16) (i : Fin 512) (j : Fin 1024) :
    k0_pay10 (F := Ideal) y a x (ix2 i j) = (a (ix2 i j) + ∑ k : Fin 512, x (ix2 k i) * y (ix2 k j) : EReal) := by
  pointwise [k0_pay10, k0_pay9]

theorem last0 (a : FVec Ideal S512x1024 .f32) (i : Fin 512) (j : Fin 1024) : k0_pay1 (F := Ideal) a (ix2 i j) = (a (ix2 i j) : EReal) := by
  pointwise [k0_pay1]

theorem zero2 (i : Fin 2048) (j : Fin 1024) : k0_pay7 (F := Ideal) (ix2 i j) = (0 : EReal) := by
  pointwise [k0_pay7]

theorem acc2 (y : FVec Ideal S512x1024 .bf16) (a : FVec Ideal S2048x1024 .f32) (x : FVec Ideal S512x2048 .bf16) (i : Fin 2048) (j : Fin 1024) :
    k0_pay15 (F := Ideal) (k0_pay9 (F := Ideal) y) a x (ix2 i j) = (a (ix2 i j) + ∑ k : Fin 512, x (ix2 k i) * y (ix2 k j) : EReal) := by
  pointwise [k0_pay15, k0_pay9]

theorem last2 (a : FVec Ideal S2048x1024 .f32) (i : Fin 2048) (j : Fin 1024) : k0_pay3 (F := Ideal) a (ix2 i j) = (a (ix2 i j) : EReal) := by
  pointwise [k0_pay3]

theorem zero3 (i : Fin 128) (j : Fin 1024) : k0_pay8 (F := Ideal) (ix2 i j) = (0 : EReal) := by
  pointwise [k0_pay8]

theorem acc3 (y : FVec Ideal S512x1024 .bf16) (a : FVec Ideal S128x1024 .f32) (x : FVec Ideal S512x128 .bf16) (i : Fin 128) (j : Fin 1024) :
    k0_pay16 (F := Ideal) (k0_pay9 (F := Ideal) y) a x (ix2 i j) = (a (ix2 i j) + ∑ k : Fin 512, x (ix2 k i) * y (ix2 k j) : EReal) := by
  pointwise [k0_pay16, k0_pay9]

theorem last3 (a : FVec Ideal S128x1024 .f32) (i : Fin 128) (j : Fin 1024) : k0_pay4 (F := Ideal) a (ix2 i j) = (a (ix2 i j) : EReal) := by
  pointwise [k0_pay4]

theorem zero1 (g : Fin 3) (i : Fin 512) (j : Fin 1024) : k0_pay6 (F := Ideal) (ix3 g i j) = (0 : EReal) := by
  pointwise [k0_pay6]

theorem last1 (a : FVec Ideal S3x512x1024 .f32) (g : Fin 3) (i : Fin 512) (j : Fin 1024) : k0_pay2 (F := Ideal) a (ix3 g i j) = (a (ix3 g i j) : EReal) := by
  pointwise [k0_pay2]

theorem accA (y : FVec Ideal S512x1024 .bf16) (a : FVec Ideal S1x512x1024 .f32) (x : FVec Ideal S1x512x512 .bf16) (u : Fin 1) (i : Fin 512) (j : Fin 1024) :
    k0_pay11 (F := Ideal) y a x (ix3 u i j) = (a (ix3 0 i j) + ∑ k : Fin 512, x (ix3 0 k i) * y (ix2 k j) : EReal) := by
  pointwise [k0_pay11, k0_pay9]

theorem accB (y : FVec Ideal S512x1024 .bf16) (a : FVec Ideal S1x512x1024 .f32) (x : FVec Ideal S1x512x512 .bf16) (u : Fin 1) (i : Fin 512) (j : Fin 1024) :
    k0_pay13 (F := Ideal) (k0_pay12 (F := Ideal) y a x) (ix3 u i j) = (a (ix3 0 i j) + ∑ k : Fin 512, x (ix3 0 k i) * y (ix2 k j) : EReal) := by
  pointwise [k0_pay13, k0_pay12, k0_pay9]

theorem accC (y : FVec Ideal S512x1024 .bf16) (a : FVec Ideal S1x512x1024 .f32) (x : FVec Ideal S1x512x512 .bf16) (u : Fin 1) (i : Fin 512) (j : Fin 1024) :
    k0_pay14 (F := Ideal) (k0_pay9 (F := Ideal) y) a x (ix3 u i j) = (a (ix3 0 i j) + ∑ k : Fin 512, x (ix3 0 k i) * y (ix2 k j) : EReal) := by
  pointwise [k0_pay14, k0_pay9]

/-- The grouped scratch as the three groups' stores leave it, whatever was stored before. -/
theorem pieces (P2 P1 P0 : FVec Ideal S1x512x1024 .f32) (L : List (View.Piece (Elt Ideal) S3x512x1024 .f32)) (T : Fin 3 → Fin 512 → Fin 1024 → EReal)
    (h2 : ∀ (u : Fin 1) i j, P2 (ix3 u i j) = T 2 i j) (h1 : ∀ (u : Fin 1) i j, P1 (ix3 u i j) = T 1 i j)
    (h0 : ∀ (u : Fin 1) i j, P0 (ix3 u i j) = T 0 i j) (y : S3x512x1024.Idx) :
    View.canon (Val := Elt Ideal) (e := .f32) (s := S3x512x1024)
      ([⟨Rect.unit (s := S3x512x1024) ![2, 0, 0] ![1, 512, 1024] inb_S3x512x1024_S1x512x1024_2_0_0, P2⟩, ⟨Rect.unit (s := S3x512x1024) ![1, 0, 0] ![1, 512, 1024] inb_S3x512x1024_S1x512x1024_1_0_0, P1⟩, ⟨Rect.unit (s := S3x512x1024) ![0, 0, 0] ![1, 512, 1024] inb_S3x512x1024_S1x512x1024_0_0_0, P0⟩] ++ L) y = T (y 0) (y 1) (y 2) := by
  refine View.canon_append_of_piecesOf (Val := Elt Ideal) (e := .f32) (s := S3x512x1024) (fun y => T (y 0) (y 1) (y 2)) L
    [⟨Rect.unit (s := S3x512x1024) ![2, 0, 0] ![1, 512, 1024] inb_S3x512x1024_S1x512x1024_2_0_0, P2⟩, ⟨Rect.unit (s := S3x512x1024) ![1, 0, 0] ![1, 512, 1024] inb_S3x512x1024_S1x512x1024_1_0_0, P1⟩, ⟨Rect.unit (s := S3x512x1024) ![0, 0, 0] ![1, 512, 1024] inb_S3x512x1024_S1x512x1024_0_0_0, P0⟩]
    ⟨fun x => ?_, fun x => ?_, fun x => ?_, trivial⟩ y (View.cover_of_tiled _ ![1, 512, 1024] rfl y)
  · obtain ⟨u, i, j, rfl⟩ : ∃ (u : Fin 1) (i : Fin 512) (j : Fin 1024), x = ix3 u i j := ⟨x 0, x 1, x 2, eq_ix3 x⟩
    refine (h2 u i j).trans ?_
    have hu : u = 0 := Subsingleton.elim _ _
    subst hu
    refine congr (congr (congrArg T (Fin.ext ?_)) (Fin.ext ?_)) (Fin.ext ?_)
    · rfl
    · show i.val = 0 + 1 * i.val
      omega
    · show j.val = 0 + 1 * j.val
      omega
  · obtain ⟨u, i, j, rfl⟩ : ∃ (u : Fin 1) (i : Fin 512) (j : Fin 1024), x = ix3 u i j := ⟨x 0, x 1, x 2, eq_ix3 x⟩
    refine (h1 u i j).trans ?_
    have hu : u = 0 := Subsingleton.elim _ _
    subst hu
    refine congr (congr (congrArg T (Fin.ext ?_)) (Fin.ext ?_)) (Fin.ext ?_)
    · rfl
    · show i.val = 0 + 1 * i.val
      omega
    · show j.val = 0 + 1 * j.val
      omega
  · obtain ⟨u, i, j, rfl⟩ : ∃ (u : Fin 1) (i : Fin 512) (j : Fin 1024), x = ix3 u i j := ⟨x 0, x 1, x 2, eq_ix3 x⟩
    refine (h0 u i j).trans ?_
    have hu : u = 0 := Subsingleton.elim _ _
    subst hu
    refine congr (congr (congrArg T (Fin.ext ?_)) (Fin.ext ?_)) (Fin.ext ?_)
    · rfl
    · show i.val = 0 + 1 * i.val
      omega
    · show j.val = 0 + 1 * j.val
      omega

/-- One point's step on the grouped scratch, from its contents `a` before it. -/
theorem step (x : FVec Ideal S3x512x512 .bf16) (y : FVec Ideal S512x1024 .bf16) (a : FVec Ideal S3x512x1024 .f32)
    (L : List (View.Piece (Elt Ideal) S3x512x1024 .f32)) (g : Fin 3) (i : Fin 512) (j : Fin 1024) :
    View.canon (Val := Elt Ideal) (e := .f32) (s := S3x512x1024)
      ([⟨Rect.unit (s := S3x512x1024) ![2, 0, 0] ![1, 512, 1024] inb_S3x512x1024_S1x512x1024_2_0_0,
          k0_pay14 (F := Ideal) (k0_pay9 (F := Ideal) y) (View.ld (Val := Elt Ideal) (e' := .f32) a (Rect.unit (s := S3x512x1024) ![2, 0, 0] ![1, 512, 1024] inb_S3x512x1024_S1x512x1024_2_0_0))
            (View.ld (Val := Elt Ideal) (e' := .bf16) x (Rect.unit (s := S3x512x512) ![2, 0, 0] ![1, 512, 512] inb_S3x512x512_S1x512x512_2_0_0))⟩,
        ⟨Rect.unit (s := S3x512x1024) ![1, 0, 0] ![1, 512, 1024] inb_S3x512x1024_S1x512x1024_1_0_0,
          k0_pay13 (F := Ideal) (k0_pay12 (F := Ideal) y (View.ld (Val := Elt Ideal) (e' := .f32) a (Rect.unit (s := S3x512x1024) ![1, 0, 0] ![1, 512, 1024] inb_S3x512x1024_S1x512x1024_1_0_0))
            (View.ld (Val := Elt Ideal) (e' := .bf16) x (Rect.unit (s := S3x512x512) ![1, 0, 0] ![1, 512, 512] inb_S3x512x512_S1x512x512_1_0_0)))⟩,
        ⟨Rect.unit (s := S3x512x1024) ![0, 0, 0] ![1, 512, 1024] inb_S3x512x1024_S1x512x1024_0_0_0,
          k0_pay11 (F := Ideal) y (View.ld (Val := Elt Ideal) (e' := .f32) a (Rect.unit (s := S3x512x1024) ![0, 0, 0] ![1, 512, 1024] inb_S3x512x1024_S1x512x1024_0_0_0))
            (View.ld (Val := Elt Ideal) (e' := .bf16) x (Rect.unit (s := S3x512x512) ![0, 0, 0] ![1, 512, 512] inb_S3x512x512_S1x512x512_0_0_0))⟩] ++ L) (ix3 g i j)
      = (a (ix3 g i j) + ∑ k : Fin 512, x (ix3 g k i) * y (ix2 k j) : EReal) := by
  refine pieces _ _ _ L (fun g i j => (a (ix3 g i j) + ∑ k : Fin 512, x (ix3 g k i) * y (ix2 k j) : EReal)) (fun u i j => ?_) (fun u i j => ?_) (fun u i j => ?_) (ix3 g i j)
  · refine (accC _ _ _ u i j).trans ?_
    pointwise
  · refine (accB _ _ _ u i j).trans ?_
    pointwise
  · refine (accA _ _ _ u i j).trans ?_
    pointwise

/-- Scratch 0 after point `n`. -/
def Holds0 (c : Dev nD) (n : ℕ) (h : n < cfg0.N) : Prop :=
  ∀ (i : Fin 512) (j : Fin 1024), (show FVec Ideal S512x1024 .f32 from (outsAt0 m c n h).2.2.2.2.1) (ix2 i j)
      = ∑ s ∈ Finset.range (n + 1), part 512 (term (A0 m c) (A4 m c) i j) s

theorem holds0_of (c : Dev nD) (t : Fin cfg0.N) (a : FVec Ideal S512x1024 .f32)
    (ha : ∀ i j, a (ix2 i j) = ∑ s ∈ Finset.range t.val, part 512 (term (A0 m c) (A4 m c) i j) s)
    (h : (outsAt0 m c t.val t.isLt).2.2.2.2.1 = k0_pay10 (F := Ideal) (iblk m c 4 t) a (iblk m c 0 t)) : Holds0 m c t.val t.isLt := by
  have ht := lt_eight t
  intro i j
  rw [h]
  refine (acc0 _ _ _ i j).trans ?_
  rw [ha, Finset.sum_range_succ]
  refine congrArg₂ (fun x y : EReal => x + y) rfl (part_eq 512 _ t.val _ (by omega) fun k hk => ?_)
  unfold term
  rw [← blk0 m c t k i hk, ← blk4 m c t k j hk]

theorem holds0 (c : Dev nD) (n : ℕ) : ∀ h : n < cfg0.N, Holds0 m c n h := by
  induction n with
  | zero =>
    intro h
    refine holds0_of m c ⟨0, h⟩ (k0_pay5 (F := Ideal)) (fun i j => ?_) ?_
    · rw [zero0]; exact (Finset.sum_range_zero _).symm
    · rw [outsAt0_A m c ⟨0, h⟩ rfl (show ¬0 % 8 = 7 by decide)]; frame_out
  | succ n ih =>
    intro h
    have hN : n + 1 < 8 := lt_of_lt_of_eq h N_0
    have h0 : ¬(n + 1) % 8 = 0 := by omega
    refine holds0_of m c ⟨n + 1, h⟩ (outsAt0 m c n (by omega)).2.2.2.2.1 (ih (by omega)) ?_
    by_cases h1 : (n + 1) % 8 = 7
    · rw [outsAt0_C m c ⟨n + 1, h⟩ h0 h1]; frame_out; rw [(Memref.isWhole_whole _).read_unread]; rfl
    · rw [outsAt0_B m c ⟨n + 1, h⟩ h0 h1]; frame_out; rw [(Memref.isWhole_whole _).read_unread]; rfl

theorem out_last0 (c : Dev nD) (t : Fin cfg0.N) (h1 : t.val % 8 = 7) :
    (outsAt0 m c t.val t.isLt).1 = k0_pay1 (F := Ideal) (outsAt0 m c t.val t.isLt).2.2.2.2.1 := by
  have h0 : ¬t.val % 8 = 0 := by omega
  rw [outsAt0_C m c t h0 h1]
  frame_out
  try rfl

/-- The gradient as an array. -/
abbrev G0 (X : FVec Ideal S4096x512 .f32) (Y : FVec Ideal S4096x1024 .f32) : FVec Ideal S512x1024 .bf16 :=
  fun i => (∑ p : Fin 4096, term X Y (i 0) (i 1) p : EReal)

theorem final5 (c : Dev nD) : (dats m 0 c).arrAt 5 cfg0.N = G0 (A0 m c) (A4 m c) := by
  refine (dats m 0 c).arrAt_eq_of_after_last 5 t0_7 (by decide +kernel) _ fun j => ?_
  blk_simp
  rw [after0_5]
  idx_vars j
  rw [out_last0 m c t0_7 rfl]
  refine (last0 _ j0 j1).trans ((holds0 m c t0_7.val t0_7.isLt j0 j1).trans ?_)
  exact sum_part 8 512 rfl _

/-- Scratch 2 after point `n`. -/
def Holds2 (c : Dev nD) (n : ℕ) (h : n < cfg0.N) : Prop :=
  ∀ (i : Fin 2048) (j : Fin 1024), (show FVec Ideal S2048x1024 .f32 from (outsAt0 m c n h).2.2.2.2.2.2.1) (ix2 i j)
      = ∑ s ∈ Finset.range (n + 1), part 512 (term (A2 m c) (A4 m c) i j) s

theorem holds2_of (c : Dev nD) (t : Fin cfg0.N) (a : FVec Ideal S2048x1024 .f32)
    (ha : ∀ i j, a (ix2 i j) = ∑ s ∈ Finset.range t.val, part 512 (term (A2 m c) (A4 m c) i j) s)
    (h : (outsAt0 m c t.val t.isLt).2.2.2.2.2.2.1 = k0_pay15 (F := Ideal) (k0_pay9 (F := Ideal) (iblk m c 4 t)) a (iblk m c 2 t)) : Holds2 m c t.val t.isLt := by
  have ht := lt_eight t
  intro i j
  rw [h]
  refine (acc2 _ _ _ i j).trans ?_
  rw [ha, Finset.sum_range_succ]
  refine congrArg₂ (fun x y : EReal => x + y) rfl (part_eq 512 _ t.val _ (by omega) fun k hk => ?_)
  unfold term
  rw [← blk2 m c t k i hk, ← blk4 m c t k j hk]

theorem holds2 (c : Dev nD) (n : ℕ) : ∀ h : n < cfg0.N, Holds2 m c n h := by
  induction n with
  | zero =>
    intro h
    refine holds2_of m c ⟨0, h⟩ (k0_pay7 (F := Ideal)) (fun i j => ?_) ?_
    · rw [zero2]; exact (Finset.sum_range_zero _).symm
    · rw [outsAt0_A m c ⟨0, h⟩ rfl (show ¬0 % 8 = 7 by decide)]; frame_out
  | succ n ih =>
    intro h
    have hN : n + 1 < 8 := lt_of_lt_of_eq h N_0
    have h0 : ¬(n + 1) % 8 = 0 := by omega
    refine holds2_of m c ⟨n + 1, h⟩ (outsAt0 m c n (by omega)).2.2.2.2.2.2.1 (ih (by omega)) ?_
    by_cases h1 : (n + 1) % 8 = 7
    · rw [outsAt0_C m c ⟨n + 1, h⟩ h0 h1]; frame_out; rw [(Memref.isWhole_whole _).read_unread]; rfl
    · rw [outsAt0_B m c ⟨n + 1, h⟩ h0 h1]; frame_out; rw [(Memref.isWhole_whole _).read_unread]; rfl

theorem out_last2 (c : Dev nD) (t : Fin cfg0.N) (h1 : t.val % 8 = 7) :
    (outsAt0 m c t.val t.isLt).2.2.1 = k0_pay3 (F := Ideal) (outsAt0 m c t.val t.isLt).2.2.2.2.2.2.1 := by
  have h0 : ¬t.val % 8 = 0 := by omega
  rw [outsAt0_C m c t h0 h1]
  frame_out
  try rfl

/-- The gradient as an array. -/
abbrev G2 (X : FVec Ideal S4096x2048 .f32) (Y : FVec Ideal S4096x1024 .f32) : FVec Ideal S2048x1024 .bf16 :=
  fun i => (∑ p : Fin 4096, term X Y (i 0) (i 1) p : EReal)

theorem final7 (c : Dev nD) : (dats m 0 c).arrAt 7 cfg0.N = G2 (A2 m c) (A4 m c) := by
  refine (dats m 0 c).arrAt_eq_of_after_last 7 t0_7 (by decide +kernel) _ fun j => ?_
  blk_simp
  rw [after0_7]
  idx_vars j
  rw [out_last2 m c t0_7 rfl]
  refine (last2 _ j0 j1).trans ((holds2 m c t0_7.val t0_7.isLt j0 j1).trans ?_)
  exact sum_part 8 512 rfl _

/-- Scratch 3 after point `n`. -/
def Holds3 (c : Dev nD) (n : ℕ) (h : n < cfg0.N) : Prop :=
  ∀ (i : Fin 128) (j : Fin 1024), (show FVec Ideal S128x1024 .f32 from (outsAt0 m c n h).2.2.2.2.2.2.2) (ix2 i j)
      = ∑ s ∈ Finset.range (n + 1), part 512 (term (A3 m c) (A4 m c) i j) s

theorem holds3_of (c : Dev nD) (t : Fin cfg0.N) (a : FVec Ideal S128x1024 .f32)
    (ha : ∀ i j, a (ix2 i j) = ∑ s ∈ Finset.range t.val, part 512 (term (A3 m c) (A4 m c) i j) s)
    (h : (outsAt0 m c t.val t.isLt).2.2.2.2.2.2.2 = k0_pay16 (F := Ideal) (k0_pay9 (F := Ideal) (iblk m c 4 t)) a (iblk m c 3 t)) : Holds3 m c t.val t.isLt := by
  have ht := lt_eight t
  intro i j
  rw [h]
  refine (acc3 _ _ _ i j).trans ?_
  rw [ha, Finset.sum_range_succ]
  refine congrArg₂ (fun x y : EReal => x + y) rfl (part_eq 512 _ t.val _ (by omega) fun k hk => ?_)
  unfold term
  rw [← blk3 m c t k i hk, ← blk4 m c t k j hk]

theorem holds3 (c : Dev nD) (n : ℕ) : ∀ h : n < cfg0.N, Holds3 m c n h := by
  induction n with
  | zero =>
    intro h
    refine holds3_of m c ⟨0, h⟩ (k0_pay8 (F := Ideal)) (fun i j => ?_) ?_
    · rw [zero3]; exact (Finset.sum_range_zero _).symm
    · rw [outsAt0_A m c ⟨0, h⟩ rfl (show ¬0 % 8 = 7 by decide)]; frame_out
  | succ n ih =>
    intro h
    have hN : n + 1 < 8 := lt_of_lt_of_eq h N_0
    have h0 : ¬(n + 1) % 8 = 0 := by omega
    refine holds3_of m c ⟨n + 1, h⟩ (outsAt0 m c n (by omega)).2.2.2.2.2.2.2 (ih (by omega)) ?_
    by_cases h1 : (n + 1) % 8 = 7
    · rw [outsAt0_C m c ⟨n + 1, h⟩ h0 h1]; frame_out; rw [(Memref.isWhole_whole _).read_unread]; rfl
    · rw [outsAt0_B m c ⟨n + 1, h⟩ h0 h1]; frame_out; rw [(Memref.isWhole_whole _).read_unread]; rfl

theorem out_last3 (c : Dev nD) (t : Fin cfg0.N) (h1 : t.val % 8 = 7) :
    (outsAt0 m c t.val t.isLt).2.2.2.1 = k0_pay4 (F := Ideal) (outsAt0 m c t.val t.isLt).2.2.2.2.2.2.2 := by
  have h0 : ¬t.val % 8 = 0 := by omega
  rw [outsAt0_C m c t h0 h1]
  frame_out
  try rfl

/-- The gradient as an array. -/
abbrev G3 (X : FVec Ideal S4096x128 .f32) (Y : FVec Ideal S4096x1024 .f32) : FVec Ideal S128x1024 .bf16 :=
  fun i => (∑ p : Fin 4096, term X Y (i 0) (i 1) p : EReal)

theorem final8 (c : Dev nD) : (dats m 0 c).arrAt 8 cfg0.N = G3 (A3 m c) (A4 m c) := by
  refine (dats m 0 c).arrAt_eq_of_after_last 8 t0_7 (by decide +kernel) _ fun j => ?_
  blk_simp
  rw [after0_8]
  idx_vars j
  rw [out_last3 m c t0_7 rfl]
  refine (last3 _ j0 j1).trans ((holds3 m c t0_7.val t0_7.isLt j0 j1).trans ?_)
  exact sum_part 8 512 rfl _

/-- The grouped scratch after point `n`. -/
def Holds1 (c : Dev nD) (n : ℕ) (h : n < cfg0.N) : Prop :=
  ∀ (g : Fin 3) (i : Fin 512) (j : Fin 1024), (show FVec Ideal S3x512x1024 .f32 from (outsAt0 m c n h).2.2.2.2.2.1) (ix3 g i j)
      = ∑ s ∈ Finset.range (n + 1), part 512 (term3 (A1 m c) (A4 m c) g i j) s

theorem holds1_of (c : Dev nD) (t : Fin cfg0.N) (a : FVec Ideal S3x512x1024 .f32)
    (ha : ∀ g i j, a (ix3 g i j) = ∑ s ∈ Finset.range t.val, part 512 (term3 (A1 m c) (A4 m c) g i j) s)
    (h : ∀ g i j, (show FVec Ideal S3x512x1024 .f32 from (outsAt0 m c t.val t.isLt).2.2.2.2.2.1) (ix3 g i j)
      = (a (ix3 g i j) + ∑ k : Fin 512, (show FVec Ideal S3x512x512 .bf16 from iblk m c 1 t) (ix3 g k i) * (show FVec Ideal S512x1024 .bf16 from iblk m c 4 t) (ix2 k j) : EReal)) :
    Holds1 m c t.val t.isLt := by
  have ht := lt_eight t
  intro g i j
  refine (h g i j).trans ?_
  rw [ha, Finset.sum_range_succ]
  refine congrArg₂ (fun x y : EReal => x + y) rfl (part_eq 512 _ t.val _ (by omega) fun k hk => ?_)
  unfold term3
  rw [← blk1 m c t g k i hk, ← blk4 m c t k j hk]

theorem holds1 (c : Dev nD) (n : ℕ) : ∀ h : n < cfg0.N, Holds1 m c n h := by
  induction n with
  | zero =>
    intro h
    refine holds1_of m c ⟨0, h⟩ (k0_pay6 (F := Ideal)) (fun g i j => ?_) (fun g i j => ?_)
    · rw [zero1]; exact (Finset.sum_range_zero _).symm
    · rw [outsAt0_A m c ⟨0, h⟩ rfl (show ¬0 % 8 = 7 by decide)]
      frame_open
      simp (disch := decide) only [↓ View.readCov_skip, ↓ View.readCov_cons_toLoadRect, ↓ View.readCov_fill]
      frame_out
      exact step _ _ _ [_] g i j
  | succ n ih =>
    intro h
    have hN : n + 1 < 8 := lt_of_lt_of_eq h N_0
    have h0 : ¬(n + 1) % 8 = 0 := by omega
    refine holds1_of m c ⟨n + 1, h⟩ (outsAt0 m c n (by omega)).2.2.2.2.2.1 (ih (by omega)) (fun g i j => ?_)
    by_cases h1 : (n + 1) % 8 = 7
    · rw [outsAt0_C m c ⟨n + 1, h⟩ h0 h1]; frame_out; rw [(Memref.isWhole_whole _).read_unread]; exact step _ _ _ [] g i j
    · rw [outsAt0_B m c ⟨n + 1, h⟩ h0 h1]; frame_out; rw [(Memref.isWhole_whole _).read_unread]; exact step _ _ _ [] g i j

/-- The last point stores the grouped scratch. -/
theorem out_last1 (c : Dev nD) (t : Fin cfg0.N) (h1 : t.val % 8 = 7) :
    (outsAt0 m c t.val t.isLt).2.1 = k0_pay2 (F := Ideal) (outsAt0 m c t.val t.isLt).2.2.2.2.2.1 := by
  have h0 : ¬t.val % 8 = 0 := by omega
  rw [outsAt0_C m c t h0 h1]
  frame_out
  rw [View.readCov_eq_canon']
  refine congrArg (k0_pay2 (F := Ideal)) (funext fun j => congrArg _ (funext fun a => Fin.ext ?_))
  show (![0, 0, 0] : Fin 3 → ℕ) a + 1 * (j a).val = _
  have ha : (![0, 0, 0] : Fin 3 → ℕ) a = 0 := by match a with | ⟨0, _⟩ => rfl | ⟨1, _⟩ => rfl | ⟨2, _⟩ => rfl
  omega

/-- The three gradients as an array. -/
abbrev G1 (X : FVec Ideal S3x4096x512 .f32) (Y : FVec Ideal S4096x1024 .f32) : FVec Ideal S3x512x1024 .bf16 :=
  fun i => (∑ p : Fin 4096, term3 X Y (i 0) (i 1) (i 2) p : EReal)

theorem final6 (c : Dev nD) : (dats m 0 c).arrAt 6 cfg0.N = G1 (A1 m c) (A4 m c) := by
  refine (dats m 0 c).arrAt_eq_of_after_last 6 t0_7 (by decide +kernel) _ fun j => ?_
  blk_simp
  rw [after0_6]
  idx_vars j
  rw [out_last1 m c t0_7 rfl]
  refine (last1 _ j0 j1 j2).trans ((holds1 m c t0_7.val t0_7.isLt j0 j1 j2).trans ?_)
  exact sum_part 8 512 rfl _

end Cert.Proof.InRest
-- ==== Proof.InRest.Claims.lean ====
module

public import proofs.«01_k».proof.Proof.InRest.Frames
public import proofs.«01_k».proof.Proof.Gen.Kernel7Ideal.Value
public import proofs.«01_k».proof.Proof.Gen.Reference7Ideal.Read
public import proofs.«01_k».proof.Proof.InRest.Kernel
public import Idealize.ShloMosaic.Lib.Pipeline.ValueKit
public import Idealize.ShloMosaic.Lib.Claim

@[expose] public section

/-! The value of the gradient of the input projection's other columns. -/

set_option maxRecDepth 16384

noncomputable section

open Idealize.ShloMosaic Idealize.ShloMosaic.TcCoe Idealize.SL.Sem

namespace Cert.Proof.InRest

open Cert.Reference7Ideal.Read in
theorem ref0 (X : FVec Ideal Cert.Kernel7Ideal.S4096x512 .f32) (Y : FVec Ideal Cert.Kernel7Ideal.S4096x1024 .f32) (i : Fin 512) (j : Fin 1024) :
    val_main_v33 (F := Ideal) X Y (ix2 i j) = (∑ p : Fin 4096, term X Y i j p : EReal) := by
  unfold term
  pointwise [val_main_v33, val_main_v32, val_main_v31, val_main_v30]

open Cert.Reference7Ideal.Read in
theorem ref1 (X : FVec Ideal Cert.Kernel7Ideal.S3x4096x512 .f32) (Y : FVec Ideal Cert.Kernel7Ideal.S4096x1024 .f32) (g : Fin 3) (i : Fin 512) (j : Fin 1024) :
    val_main_v27 (F := Ideal) X Y (ix3 g i j) = (∑ p : Fin 4096, term3 X Y g i j p : EReal) := by
  unfold term3
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_cst_1, val_main_v18, val_main_v19, val_main_v20, val_main_v21, val_main_v22, val_main_v23, val_main_v24, val_main_v25, val_main_v26, val_main_v27]
  blk_point []

open Cert.Reference7Ideal.Read in
theorem ref2 (X : FVec Ideal Cert.Kernel7Ideal.S4096x2048 .f32) (Y : FVec Ideal Cert.Kernel7Ideal.S4096x1024 .f32) (i : Fin 2048) (j : Fin 1024) :
    val_main_v39 (F := Ideal) X Y (ix2 i j) = (∑ p : Fin 4096, term X Y i j p : EReal) := by
  unfold term
  pointwise [val_main_v39, val_main_v38, val_main_v37, val_main_v36]

open Cert.Reference7Ideal.Read in
theorem ref3 (X : FVec Ideal Cert.Kernel7Ideal.S4096x128 .f32) (Y : FVec Ideal Cert.Kernel7Ideal.S4096x1024 .f32) (i : Fin 128) (j : Fin 1024) :
    val_main_v45 (F := Ideal) X Y (ix2 i j) = (∑ p : Fin 4096, term X Y i j p : EReal) := by
  unfold term
  pointwise [val_main_v45, val_main_v44, val_main_v43, val_main_v42]

theorem algebraic : Cert.algebraic_Kernel7Ideal_Reference7Ideal := by
  intro m g m' g' _ hag
  refine ⟨fun c => G0 (A0 m c) (A4 m c), fun c => G1 (A1 m c) (A4 m c), fun c => G2 (A2 m c) (A4 m c), fun c => G3 (A3 m c) (A4 m c), ?_, ?_⟩
  · refine (θ_run Cert.Kernel7Ideal.defs _ _).mono (fun r h c => ?_) (Cert.Kernel7Ideal.Value.run_blocks (F := Ideal) m g)
    obtain ⟨h0, h1, h2, h3, hargs⟩ := h c
    exact ⟨h0.trans (final5 m c), h1.trans (final6 m c), h2.trans (final7 m c), h3.trans (final8 m c), hargs⟩
  · refine (θ_run Cert.Reference7Ideal.defs _ _).mono (fun r h c => ?_) (Cert.Reference7Ideal.Value.run (F := Ideal) m' g')
    obtain ⟨h0, h1, h2, h3, hargs⟩ := h c
    obtain ⟨e0, e1, e2, e3, e4⟩ := hag c
    refine ⟨h0.trans ?_, h1.trans ?_, h2.trans ?_, h3.trans ?_, hargs⟩
    · rw [Cert.Reference7Ideal.Read.val_main_v33_eq, e0, e4]
      funext i
      idx_vars i
      exact ref0 _ _ i0 i1
    · rw [Cert.Reference7Ideal.Read.val_main_v27_eq, e1, e4]
      funext i
      idx_vars i
      exact ref1 _ _ i0 i1 i2
    · rw [Cert.Reference7Ideal.Read.val_main_v39_eq, e2, e4]
      funext i
      idx_vars i
      exact ref2 _ _ i0 i1
    · rw [Cert.Reference7Ideal.Read.val_main_v45_eq, e3, e4]
      funext i
      idx_vars i
      exact ref3 _ _ i0 i1

end Cert.Proof.InRest
-- ==== Proof.InProj.Frames.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import Idealize.ShloMosaic.Lib.Claim

@[expose] public section

/-! The frames of the call's programs. -/

set_option maxRecDepth 16384

noncomputable section

open Idealize.ShloMosaic Idealize.ShloMosaic.TcCoe Idealize.SL.Sem

namespace Cert.Proof.InProj

theorem frame_k : Cert.quiescent_Kernel9 := fun m ρ _ => Cert.Kernel9.Gen.frame m ρ

theorem frame_ki : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

end Cert.Proof.InProj
-- ==== Proof.InProj.Pay.lean ====
module

public import proofs.«01_k».proof.Proof.Gen.Kernel9Ideal.Value
public import proofs.«01_k».proof.Proof.Lib.Part
public import Idealize.ShloMosaic.Lib.Pipeline.ValueKit
public import Idealize.ShloMosaic.Lib.Pointwise
public import Idealize.ShloMosaic.Lib.Claim

@[expose] public section

/-! What one block of rows of the input projection's gradient computes, entry by entry. -/

set_option maxRecDepth 16384

noncomputable section

open Idealize.ShloMosaic Idealize.ShloMosaic.TcCoe Idealize.SL.Sem

namespace Cert.Proof.InProj

open Cert.Kernel9Ideal Cert.Kernel9Ideal.Gen

/-- The mean square of a row, with the small constant. -/
def ms (x : Fin 1024 → EReal) : EReal := Ideal.div (∑ k, x k * x k) (Ideal.ofBits .f32 0x44800000#32) + Ideal.ofBits .f32 0x358637BD#32

/-- The reciprocal root of the mean square. -/
def rs (x : Fin 1024 → EReal) : EReal := Ideal.rsqrt (ms x)

/-- The gradient at the row, from the gradient `v` at the normed and scaled row. -/
def dn (x v : Fin 1024 → EReal) (j : Fin 1024) : EReal :=
  rs x * (v j - x j * rs x * Ideal.div (∑ k, v k * (x k * rs x)) (Ideal.ofBits .f32 0x44800000#32))

theorem pay4_apply (x : FVec Ideal S256x1024 .f32) (k : Fin 256) (z : Fin 1) :
    k0_pay4 (F := Ideal) x (ix2 k z) = rs fun l => x (ix2 k l) := by
  unfold rs ms
  pointwise [k0_pay4]

theorem pay5_apply (x : FVec Ideal S256x1024 .f32) (k : Fin 256) (l : Fin 1024) :
    k0_pay5 (F := Ideal) x (ix2 k l) = (x (ix2 k l) * rs fun l => x (ix2 k l) : EReal) := by
  have h : k0_pay5 (F := Ideal) x (ix2 k l) = (x (ix2 k l) * k0_pay4 (F := Ideal) x (ix2 k 0) : EReal) := by
    pointwise [k0_pay5]
  rw [h, pay4_apply]

theorem pay6_apply (a : FVec Ideal S256x128 .bf16) (wa : FVec Ideal S128x1024 .bf16) (b : FVec Ideal S256x2048 .bf16) (wb : FVec Ideal S2048x1024 .bf16)
    (q : FVec Ideal S1x256x512 .bf16) (wq : FVec Ideal S512x1024 .bf16) (k : Fin 256) (j : Fin 1024) :
    k0_pay6 (F := Ideal) a wa b wb q wq (ix2 k j) =
      ((∑ l : Fin 128, a (ix2 k l) * wa (ix2 l j)) + (∑ l : Fin 2048, b (ix2 k l) * wb (ix2 l j)) + ∑ l : Fin 512, q (ix3 0 k l) * wq (ix2 l j) : EReal) := by
  pointwise [k0_pay6]

theorem pay7_apply (z : FVec Ideal S256x1024 .f32) (a : FVec Ideal S1x256x512 .bf16) (wa : FVec Ideal S512x1024 .bf16) (b : FVec Ideal S256x512 .bf16)
    (wb : FVec Ideal S512x1024 .bf16) (q : FVec Ideal S1x256x512 .bf16) (wq : FVec Ideal S512x1024 .bf16) (r : FVec Ideal S1x256x512 .bf16)
    (wr : FVec Ideal S512x1024 .bf16) (s : FVec Ideal S1x256x512 .bf16) (ws : FVec Ideal S512x1024 .bf16) (k : Fin 256) (j : Fin 1024) :
    k0_pay7 (F := Ideal) z a wa b wb q wq r wr s ws (ix2 k j) =
      (z (ix2 k j) + (∑ l : Fin 512, a (ix3 0 k l) * wa (ix2 l j)) + (∑ l : Fin 512, b (ix2 k l) * wb (ix2 l j))
        + (∑ l : Fin 512, q (ix3 0 k l) * wq (ix2 l j)) + (∑ l : Fin 512, r (ix3 0 k l) * wr (ix2 l j)) + ∑ l : Fin 512, s (ix3 0 k l) * ws (ix2 l j) : EReal) := by
  pointwise [k0_pay7]

theorem pay8_apply (z : FVec Ideal S256x1024 .f32) (a : FVec Ideal S1x256x512 .bf16) (wa : FVec Ideal S512x1024 .bf16) (b : FVec Ideal S256x512 .bf16)
    (wb : FVec Ideal S512x1024 .bf16) (q : FVec Ideal S1x256x512 .bf16) (wq : FVec Ideal S512x1024 .bf16) (r : FVec Ideal S1x256x512 .bf16)
    (wr : FVec Ideal S512x1024 .bf16) (s : FVec Ideal S1x256x512 .bf16) (ws : FVec Ideal S512x1024 .bf16) (g : FVec Ideal S1x1024 .f32) (k : Fin 256) (j : Fin 1024) :
    k0_pay8 (F := Ideal) z a wa b wb q wq r wr s ws g (ix2 k j) = (k0_pay7 (F := Ideal) z a wa b wb q wq r wr s ws (ix2 k j) * g (ix2 0 j) : EReal) := by
  pointwise [k0_pay8]

theorem pay3_apply (z : Fin 1) (j : Fin 1024) : k0_pay3 (F := Ideal) (ix2 z j) = (0 : EReal) := by
  pointwise [k0_pay3]

theorem pay2_apply (r : FVec Ideal S256x1 .f32) (n v d : FVec Ideal S256x1024 .f32) (k : Fin 256) (j : Fin 1024) :
    k0_pay2 (F := Ideal) r n v d (ix2 k j) = (d (ix2 k j) + r (ix2 k 0) * (v (ix2 k j) - n (ix2 k j) *
      Ideal.div (∑ l : Fin 1024, v (ix2 k l) * n (ix2 k l)) (Ideal.ofBits .f32 0x44800000#32)) : EReal) := by
  pointwise [k0_pay2]

theorem pay1_apply (n h : FVec Ideal S256x1024 .f32) (e : FVec Ideal S1x1024 .f32) (z : Fin 1) (j : Fin 1024) :
    k0_pay1 (F := Ideal) n h e (ix2 z j) = (e (ix2 z j) + ∑ k : Fin 256, h (ix2 k j) * n (ix2 k j) : EReal) := by
  pointwise [k0_pay1]

end Cert.Proof.InProj
-- ==== Proof.InProj.Weights.lean ====
module

public import proofs.«01_k».proof.Proof.Gen.Kernel9Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

/-! The weight arrays that the host builds for the input projection's backward kernel. -/

set_option maxRecDepth 65536

noncomputable section

open Idealize.ShloMosaic Idealize.ShloMosaic.TcCoe Idealize.SL.Sem

namespace Cert.Proof.InProj

open Cert.Kernel9Ideal Cert.Kernel9Ideal.Gen Cert.Kernel9Ideal.Value

variable (m : (ℓ : Loc nD τ sig) → Buf (Elt Ideal) ℓ)

/-- The weight, transposed. -/
def wT (W : FVec Ideal S1024x5128 .f32) : FVec Ideal S5128x1024 .bf16 :=
  truncf .bf16 (transpose S5128x1024 [1, 0] W transposes_S1024x5128_S5128x1024_1_0) bitsLt_bf16_f32

theorem wT_apply (W : FVec Ideal S1024x5128 .f32) (i : Fin 5128) (j : Fin 1024) : wT W (ix2 i j) = W (ix2 j i) := by
  pointwise [wT]

/-- The scaled rows of a query's weight. -/
def scaled (W : FVec Ideal S512x1024 .bf16) : FVec Ideal S512x1024 .bf16 :=
  mulf W (broadcastInDim S512x1024 ![] bcast_S_S512x1024 (constant (F := Ideal) S_ .bf16 0x3E00#16))

theorem scaled_apply (W : FVec Ideal S512x1024 .bf16) (i : Fin 512) (j : Fin 1024) :
    scaled W (ix2 i j) = (W (ix2 i j) * Ideal.ofBits .bf16 0x3E00#16 : EReal) := by
  pointwise [scaled]

/-- The forget gate's rows, padded to the lane count with zeros. -/
def padded (W : FVec Ideal S8x1024 .bf16) : FVec Ideal S128x1024 .bf16 :=
  pad S128x1024 ![0, 0] ![120, 0] ![0, 0] W (sitofp .bf16 (constantI S_ 32 0#32) : FVec Ideal S_ .bf16) pads_S8x1024_S128x1024_01200_000 h_S_

theorem sitofp_zero : (FloatOps.sitofp (F := Ideal) .bf16 (0#32) : EReal) = 0 := by
  show (((0#32 : BitVec 32).toInt : ℝ) : EReal) = 0
  simp

/-- The padded weight: two groups of rows `P`, `Q` that the kernel does not read, then the others. -/
def wPad (P Q : FVec Ideal S1024x1024 .bf16) (W : FVec Ideal S1024x5128 .f32) : FVec Ideal S6272x1024 .bf16 :=
  concatenate S6272x1024 0
    [⟨S1024x1024, P⟩, ⟨S1024x1024, Q⟩,
      ⟨S512x1024, extractStridedSlice S512x1024 ![1024, 0] (wT W) slices_S5128x1024_S512x1024_1024_0⟩,
      ⟨S512x1024, scaled (extractStridedSlice S512x1024 ![1544, 0] (wT W) slices_S5128x1024_S512x1024_1544_0)⟩,
      ⟨S512x1024, extractStridedSlice S512x1024 ![2056, 0] (wT W) slices_S5128x1024_S512x1024_2056_0⟩,
      ⟨S512x1024, extractStridedSlice S512x1024 ![2568, 0] (wT W) slices_S5128x1024_S512x1024_2568_0⟩,
      ⟨S1024x1024, extractStridedSlice S1024x1024 ![3080, 0] (wT W) slices_S5128x1024_S1024x1024_3080_0⟩,
      ⟨S1024x1024, extractStridedSlice S1024x1024 ![4104, 0] (wT W) slices_S5128x1024_S1024x1024_4104_0⟩,
      ⟨S128x1024, padded (extractStridedSlice S8x1024 ![1536, 0] (wT W) slices_S5128x1024_S8x1024_1536_0)⟩] concatenates_S1024x1024_S1024x1024_S512x1024_S512x1024_S512x1024_S512x1024_S1024x1024_S1024x1024_S128x1024_S6272x1024_d0

/-- The weight of the first branch's queries and keys. -/
def wQk (W : FVec Ideal S1024x5128 .f32) : FVec Ideal S1024x1024 .bf16 :=
  concatenate S1024x1024 0
    [⟨S512x1024, scaled (extractStridedSlice S512x1024 ![0, 0] (wT W) slices_S5128x1024_S512x1024_0_0)⟩,
      ⟨S512x1024, extractStridedSlice S512x1024 ![512, 0] (wT W) slices_S5128x1024_S512x1024_512_0⟩] concatenates_S512x1024_S512x1024_S1024x1024_d0

theorem entry25 (c : Dev nD) : (show FVec Ideal S1024x1024 .bf16 from V m c main_v25) = wQk (m ((c : Thread nD τ).loc main_arg8)) := by
  simp only [V, hostOps0, hostOps0_1, hostOps0_2, hostOps0_3, hostOps0_4, hostOps0_5, hostOps0_6, List.flatten_cons, List.flatten_nil, List.cons_append, List.nil_append, List.append_nil]
  entry_read
  rfl

theorem before4 (c : Dev nD) (W : FVec Ideal S1024x5128 .f32) (hW : W = m ((c : Thread nD τ).loc main_arg8)) :
    (show FVec Ideal S512x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v4)) =
      extractStridedSlice S512x1024 ![1024, 0] (wT W) slices_S5128x1024_S512x1024_1024_0 := by
  show StableHlo.after ((hostOps0 ++ (hostOps0_1 ++ (hostOps0_2 ++ (hostOps0_3 ++ (hostOps0_4 ++ hostOps0_5))))) ++ hostOps0_6.take 4) (fun b => m (c, b)) (Proc.devRef .tc main_v4) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before21 (c : Dev nD) (W : FVec Ideal S1024x5128 .f32) (hW : W = m ((c : Thread nD τ).loc main_arg8)) :
    (show FVec Ideal S512x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v21)) =
      scaled (extractStridedSlice S512x1024 ![1544, 0] (wT W) slices_S5128x1024_S512x1024_1544_0) := by
  show StableHlo.after ((hostOps0 ++ (hostOps0_1 ++ (hostOps0_2 ++ (hostOps0_3 ++ (hostOps0_4 ++ hostOps0_5))))) ++ hostOps0_6.take 4) (fun b => m (c, b)) (Proc.devRef .tc main_v21) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before7 (c : Dev nD) (W : FVec Ideal S1024x5128 .f32) (hW : W = m ((c : Thread nD τ).loc main_arg8)) :
    (show FVec Ideal S512x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v7)) =
      extractStridedSlice S512x1024 ![2056, 0] (wT W) slices_S5128x1024_S512x1024_2056_0 := by
  show StableHlo.after ((hostOps0 ++ (hostOps0_1 ++ (hostOps0_2 ++ (hostOps0_3 ++ (hostOps0_4 ++ hostOps0_5))))) ++ hostOps0_6.take 4) (fun b => m (c, b)) (Proc.devRef .tc main_v7) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before8 (c : Dev nD) (W : FVec Ideal S1024x5128 .f32) (hW : W = m ((c : Thread nD τ).loc main_arg8)) :
    (show FVec Ideal S512x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v8)) =
      extractStridedSlice S512x1024 ![2568, 0] (wT W) slices_S5128x1024_S512x1024_2568_0 := by
  show StableHlo.after ((hostOps0 ++ (hostOps0_1 ++ (hostOps0_2 ++ (hostOps0_3 ++ (hostOps0_4 ++ hostOps0_5))))) ++ hostOps0_6.take 4) (fun b => m (c, b)) (Proc.devRef .tc main_v8) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before9 (c : Dev nD) (W : FVec Ideal S1024x5128 .f32) (hW : W = m ((c : Thread nD τ).loc main_arg8)) :
    (show FVec Ideal S1024x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v9)) =
      extractStridedSlice S1024x1024 ![3080, 0] (wT W) slices_S5128x1024_S1024x1024_3080_0 := by
  show StableHlo.after ((hostOps0 ++ (hostOps0_1 ++ (hostOps0_2 ++ (hostOps0_3 ++ (hostOps0_4 ++ hostOps0_5))))) ++ hostOps0_6.take 4) (fun b => m (c, b)) (Proc.devRef .tc main_v9) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before10 (c : Dev nD) (W : FVec Ideal S1024x5128 .f32) (hW : W = m ((c : Thread nD τ).loc main_arg8)) :
    (show FVec Ideal S1024x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v10)) =
      extractStridedSlice S1024x1024 ![4104, 0] (wT W) slices_S5128x1024_S1024x1024_4104_0 := by
  show StableHlo.after ((hostOps0 ++ (hostOps0_1 ++ (hostOps0_2 ++ (hostOps0_3 ++ (hostOps0_4 ++ hostOps0_5))))) ++ hostOps0_6.take 4) (fun b => m (c, b)) (Proc.devRef .tc main_v10) = _
  simp only [hostOps0, hostOps0_1, hostOps0_2, hostOps0_3, hostOps0_4, hostOps0_5, hostOps0_6, List.cons_append, List.nil_append, List.append_nil, List.take_succ_cons, List.take_zero]
  entry_read
  rw [hW]
  rfl

theorem before11 (c : Dev nD) (W : FVec Ideal S1024x5128 .f32) (hW : W = m ((c : Thread nD τ).loc main_arg8)) :
    (show FVec Ideal S128x1024 .bf16 from StableHlo.upto hostOps0_6 (StableHlo.after (hostOps0 ++ (hostOps0_1 ++ (hostOps0_2 ++ (hostOps0_3 ++ (hostOps0_4 ++ hostOps0_5))))) fun b => m (c, b)) 4 (Proc.devRef .tc main_v11)) =
      padded (extractStridedSlice S8x1024 ![1536, 0] (wT W) slices_S5128x1024_S8x1024_1536_0) := by
  show StableHlo.after ((hostOps0 ++ (hostOps0_1 ++ (hostOps0_2 ++ (hostOps0_3 ++ (hostOps0_4 ++ hostOps0_5))))) ++ hostOps0_6.take 4) (fun b => m (c, b)) (Proc.devRef .tc main_v11) = _
  simp only [hostOps0, hostOps0_1, hostOps0_2, hostOps0_3, hostOps0_4, hostOps0_5, hostOps0_6, List.cons_append, List.nil_append, List.append_nil, List.take_succ_cons, List.take_zero]
  entry_read
  rw [hW]
  rfl

theorem after22 (E : Valuation τ sig (Elt Ideal)) : (show FVec Ideal S6272x1024 .bf16 from StableHlo.after hostOps0_6 E (Proc.devRef .tc main_v22)) =
    concatenate S6272x1024 0
    [⟨S1024x1024, show FVec Ideal S1024x1024 .bf16 from StableHlo.upto hostOps0_6 E 4 (Proc.devRef .tc main_v16)⟩,
      ⟨S1024x1024, show FVec Ideal S1024x1024 .bf16 from StableHlo.upto hostOps0_6 E 4 (Proc.devRef .tc main_v19)⟩,
      ⟨S512x1024, show FVec Ideal S512x1024 .bf16 from StableHlo.upto hostOps0_6 E 4 (Proc.devRef .tc main_v4)⟩,
      ⟨S512x1024, show FVec Ideal S512x1024 .bf16 from StableHlo.upto hostOps0_6 E 4 (Proc.devRef .tc main_v21)⟩,
      ⟨S512x1024, show FVec Ideal S512x1024 .bf16 from StableHlo.upto hostOps0_6 E 4 (Proc.devRef .tc main_v7)⟩,
      ⟨S512x1024, show FVec Ideal S512x1024 .bf16 from StableHlo.upto hostOps0_6 E 4 (Proc.devRef .tc main_v8)⟩,
      ⟨S1024x1024, show FVec Ideal S1024x1024 .bf16 from StableHlo.upto hostOps0_6 E 4 (Proc.devRef .tc main_v9)⟩,
      ⟨S1024x1024, show FVec Ideal S1024x1024 .bf16 from StableHlo.upto hostOps0_6 E 4 (Proc.devRef .tc main_v10)⟩,
      ⟨S128x1024, show FVec Ideal S128x1024 .bf16 from StableHlo.upto hostOps0_6 E 4 (Proc.devRef .tc main_v11)⟩] concatenates_S1024x1024_S1024x1024_S512x1024_S512x1024_S512x1024_S512x1024_S1024x1024_S1024x1024_S128x1024_S6272x1024_d0 := by
  have h := StableHlo.after_last_write (V := E) (ops := hostOps0_6 (F := Ideal)) (i := 4)
    [main_cst_3, main_v23, main_v24, main_v25, main_v26, main_v27, main_v28, main_v29, main_v30] (r := main_v22) rfl rfl (by decide)
  generalize StableHlo.upto (hostOps0_6 (F := Ideal)) E 4 = U at h ⊢
  rw [StableHlo.nary_result] at h
  exact h

theorem split22 (c : Dev nD) : V m c main_v22 = StableHlo.after hostOps0_6 (StableHlo.after (hostOps0 ++ (hostOps0_1 ++ (hostOps0_2 ++ (hostOps0_3 ++ (hostOps0_4 ++ hostOps0_5))))) fun b => m (c, b)) (Proc.devRef .tc main_v22) := by
  rfl

theorem entry22 (c : Dev nD) : ∃ P Q, (show FVec Ideal S6272x1024 .bf16 from V m c main_v22) = wPad P Q (m ((c : Thread nD τ).loc main_arg8)) := by
  have e := (split22 m c).trans (after22 (StableHlo.after (hostOps0 ++ (hostOps0_1 ++ (hostOps0_2 ++ (hostOps0_3 ++ (hostOps0_4 ++ hostOps0_5))))) fun b => m (c, b)))
  rw [before4 m c _ rfl, before21 m c _ rfl, before7 m c _ rfl, before8 m c _ rfl, before9 m c _ rfl, before10 m c _ rfl, before11 m c _ rfl] at e
  exact ⟨_, _, e⟩

theorem entry26 (c : Dev nD) : (show FVec Ideal S2x4096x512 .bf16 from V m c main_v26) = fun i => m ((c : Thread nD τ).loc main_arg0) i := by
  simp only [V, hostOps0, hostOps0_1, hostOps0_2, hostOps0_3, hostOps0_4, hostOps0_5, hostOps0_6, List.flatten_cons, List.flatten_nil, List.cons_append, List.nil_append, List.append_nil]
  entry_read
  rfl

theorem entry27 (c : Dev nD) : (show FVec Ideal S4096x512 .bf16 from V m c main_v27) = fun i => m ((c : Thread nD τ).loc main_arg1) i := by
  simp only [V, hostOps0, hostOps0_1, hostOps0_2, hostOps0_3, hostOps0_4, hostOps0_5, hostOps0_6, List.flatten_cons, List.flatten_nil, List.cons_append, List.nil_append, List.append_nil]
  entry_read
  rfl

theorem entry28 (c : Dev nD) : (show FVec Ideal S3x4096x512 .bf16 from V m c main_v28) = fun i => m ((c : Thread nD τ).loc main_arg2) i := by
  simp only [V, hostOps0, hostOps0_1, hostOps0_2, hostOps0_3, hostOps0_4, hostOps0_5, hostOps0_6, List.flatten_cons, List.flatten_nil, List.cons_append, List.nil_append, List.append_nil]
  entry_read
  rfl

theorem entry29 (c : Dev nD) : (show FVec Ideal S4096x2048 .bf16 from V m c main_v29) = fun i => m ((c : Thread nD τ).loc main_arg3) i := by
  simp only [V, hostOps0, hostOps0_1, hostOps0_2, hostOps0_3, hostOps0_4, hostOps0_5, hostOps0_6, List.flatten_cons, List.flatten_nil, List.cons_append, List.nil_append, List.append_nil]
  entry_read
  rfl

theorem entry30 (c : Dev nD) : (show FVec Ideal S4096x128 .bf16 from V m c main_v30) = fun i => m ((c : Thread nD τ).loc main_arg4) i := by
  simp only [V, hostOps0, hostOps0_1, hostOps0_2, hostOps0_3, hostOps0_4, hostOps0_5, hostOps0_6, List.flatten_cons, List.flatten_nil, List.cons_append, List.nil_append, List.append_nil]
  entry_read
  rfl

theorem wPad_v (P Q : FVec Ideal S1024x1024 .bf16) (W : FVec Ideal S1024x5128 .f32) (l : Fin 512) (j : Fin 1024) :
    wPad P Q W (ix2 ⟨2048 + l.val, by omega⟩ j) = W (ix2 j ⟨1024 + l.val, by omega⟩) := by
  pointwise [wPad, scaled, padded, wT]
  have hl := l.isLt
  refine (dif_neg (by omega)).trans ?_
  refine (dif_neg (by omega)).trans ?_
  refine (dif_pos (by omega)).trans ?_
  exact congrArg (fun z => W (ix2 j z)) (Fin.ext (by dsimp only; omega))

theorem wPad_qb (P Q : FVec Ideal S1024x1024 .bf16) (W : FVec Ideal S1024x5128 .f32) (l : Fin 512) (j : Fin 1024) :
    wPad P Q W (ix2 ⟨2560 + l.val, by omega⟩ j) = (W (ix2 j ⟨1544 + l.val, by omega⟩) * Ideal.ofBits .bf16 0x3E00#16 : EReal) := by
  pointwise [wPad, scaled, padded, wT]
  have hl := l.isLt
  refine (dif_neg (by omega)).trans ?_
  refine (dif_neg (by omega)).trans ?_
  refine (dif_neg (by omega)).trans ?_
  refine (dif_pos (by omega)).trans ?_
  exact congrArg (fun z => (W (ix2 j z) * Ideal.ofBits .bf16 0x3E00#16 : EReal)) (Fin.ext (by dsimp only; omega))

theorem wPad_kb (P Q : FVec Ideal S1024x1024 .bf16) (W : FVec Ideal S1024x5128 .f32) (l : Fin 512) (j : Fin 1024) :
    wPad P Q W (ix2 ⟨3072 + l.val, by omega⟩ j) = W (ix2 j ⟨2056 + l.val, by omega⟩) := by
  pointwise [wPad, scaled, padded, wT]
  have hl := l.isLt
  refine (dif_neg (by omega)).trans ?_
  refine (dif_neg (by omega)).trans ?_
  refine (dif_neg (by omega)).trans ?_
  refine (dif_neg (by omega)).trans ?_
  refine (dif_pos (by omega)).trans ?_
  exact congrArg (fun z => W (ix2 j z)) (Fin.ext (by dsimp only; omega))

theorem wPad_vb (P Q : FVec Ideal S1024x1024 .bf16) (W : FVec Ideal S1024x5128 .f32) (l : Fin 512) (j : Fin 1024) :
    wPad P Q W (ix2 ⟨3584 + l.val, by omega⟩ j) = W (ix2 j ⟨2568 + l.val, by omega⟩) := by
  pointwise [wPad, scaled, padded, wT]
  have hl := l.isLt
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun z => W (ix2 j z)) (Fin.ext (by dsimp only; omega))

theorem wPad_gates (P Q : FVec Ideal S1024x1024 .bf16) (W : FVec Ideal S1024x5128 .f32) (l : Fin 2048) (j : Fin 1024) :
    wPad P Q W (ix2 ⟨4096 + l.val, by omega⟩ j) = W (ix2 j ⟨3080 + l.val, by omega⟩) := by
  pointwise [wPad, scaled, padded, wT]
  have hl := l.isLt
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases hc : 4096 + l.val - 1024 - 1024 - 512 - 512 - 512 - 512 < 1024
  · refine (dif_pos hc).trans ?_
    exact congrArg (fun z => W (ix2 j z)) (Fin.ext (by dsimp only; omega))
  · refine (dif_neg hc).trans ((dif_pos (by omega)).trans ?_)
    exact congrArg (fun z => W (ix2 j z)) (Fin.ext (by dsimp only; omega))

theorem wPad_forget (P Q : FVec Ideal S1024x1024 .bf16) (W : FVec Ideal S1024x5128 .f32) (l : Fin 128) (j : Fin 1024) :
    wPad P Q W (ix2 ⟨6144 + l.val, by omega⟩ j) = (if h : l.val < 8 then W (ix2 j ⟨1536 + l.val, by omega⟩) else (0 : EReal)) := by
  pointwise [wPad, scaled, padded, wT]
  have hl := l.isLt
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases hc : l.val < 8
  · refine (dif_pos (by omega)).trans (Eq.trans ?_ (dif_pos hc).symm)
    exact congrArg (fun z => W (ix2 j z)) (Fin.ext (by dsimp only; omega))
  · refine (dif_neg (by omega)).trans (Eq.trans ?_ (dif_neg hc).symm)
    exact sitofp_zero

theorem wQk_q (W : FVec Ideal S1024x5128 .f32) (l : Fin 512) (j : Fin 1024) :
    wQk W (ix2 ⟨l.val, by omega⟩ j) = (W (ix2 j ⟨l.val, by omega⟩) * Ideal.ofBits .bf16 0x3E00#16 : EReal) := by
  pointwise [wQk, scaled, wT]

theorem wQk_k (W : FVec Ideal S1024x5128 .f32) (l : Fin 512) (j : Fin 1024) :
    wQk W (ix2 ⟨512 + l.val, by omega⟩ j) = W (ix2 j ⟨512 + l.val, by omega⟩) := by
  pointwise [wQk, scaled, wT]

end Cert.Proof.InProj
-- ==== Proof.InProj.Block.lean ====
module

public import proofs.«01_k».proof.Proof.InProj.Pay
public import proofs.«01_k».proof.Proof.InProj.Weights

@[expose] public section

/-! The gradient at the normed rows of one block, from the weight. -/

set_option maxRecDepth 16384

noncomputable section

open Idealize.ShloMosaic Idealize.ShloMosaic.TcCoe Idealize.SL.Sem

namespace Cert.Proof.InProj

open Cert.Kernel9Ideal Cert.Kernel9Ideal.Gen

/-- The gradient at one entry of the normed row: `w` is the weight's row, the others the cotangents of the projection's pieces. -/
def dh (q ka v qb kb vb : Fin 512 → EReal) (gl : Fin 2048 → EReal) (f : Fin 128 → EReal) (w : Fin 5128 → EReal) : EReal :=
  (∑ l : Fin 8, f ⟨l.val, by omega⟩ * w ⟨1536 + l.val, by omega⟩) + (∑ l : Fin 2048, gl l * w ⟨3080 + l.val, by omega⟩)
    + (∑ l : Fin 512, q l * (w ⟨l.val, by omega⟩ * Ideal.ofBits .bf16 0x3E00#16)) + (∑ l : Fin 512, ka l * w ⟨512 + l.val, by omega⟩)
    + (∑ l : Fin 512, v l * w ⟨1024 + l.val, by omega⟩) + (∑ l : Fin 512, qb l * (w ⟨1544 + l.val, by omega⟩ * Ideal.ofBits .bf16 0x3E00#16))
    + (∑ l : Fin 512, kb l * w ⟨2056 + l.val, by omega⟩) + ∑ l : Fin 512, vb l * w ⟨2568 + l.val, by omega⟩

theorem sum_forget (f : Fin 128 → EReal) (w : Fin 8 → EReal) :
    (∑ l : Fin 128, f l * (if h : l.val < 8 then w ⟨l.val, h⟩ else (0 : EReal))) = ∑ l : Fin 8, f ⟨l.val, by omega⟩ * w l := by
  refine (Fin.sum_univ_add (a := 8) (b := 120) fun l : Fin (8 + 120) => f l * (if h : l.val < 8 then w ⟨l.val, h⟩ else (0 : EReal))).trans ?_
  have h2 : (∑ i : Fin 120, f (Fin.natAdd 8 i) * (if h : (Fin.natAdd 8 i : Fin (8 + 120)).val < 8 then w ⟨(Fin.natAdd 8 i).val, h⟩ else (0 : EReal))) = 0 := by
    refine Finset.sum_eq_zero fun i _ => ?_
    rw [dif_neg (by simp), mul_zero]
  rw [h2, add_zero]
  refine Finset.sum_congr rfl fun i _ => ?_
  rw [dif_pos (show (Fin.castAdd 120 i : Fin (8 + 120)).val < 8 from i.isLt)]
  rfl

/-- The block's gradient at the normed rows. -/
abbrev dhB (x0 : FVec Ideal S2x256x512 .bf16) (x1 : FVec Ideal S256x512 .bf16) (x2 : FVec Ideal S3x256x512 .bf16) (x3 : FVec Ideal S256x2048 .bf16)
    (x4 : FVec Ideal S256x128 .bf16) (x8 : FVec Ideal S6272x1024 .bf16) (x9 : FVec Ideal S1024x1024 .bf16) : FVec Ideal S256x1024 .f32 :=
  k0_pay7 (F := Ideal)
    (k0_pay6 x4 (View.ld (Val := Elt Ideal) (e' := .bf16) x8 (Rect.unit (s := S6272x1024) ![6144, 0] S128x1024.size inb_S6272x1024_S128x1024_6144_0))
      x3 (View.ld (Val := Elt Ideal) (e' := .bf16) x8 (Rect.unit (s := S6272x1024) ![4096, 0] S2048x1024.size inb_S6272x1024_S2048x1024_4096_0))
      (View.ld (Val := Elt Ideal) (e' := .bf16) x0 (Rect.unit (s := S2x256x512) ![0, 0, 0] S1x256x512.size inb_S2x256x512_S1x256x512_0_0_0))
      (View.ld (Val := Elt Ideal) (e' := .bf16) x9 (Rect.unit (s := S1024x1024) ![0, 0] S512x1024.size inb_S1024x1024_S512x1024_0_0)))
    (View.ld (Val := Elt Ideal) (e' := .bf16) x0 (Rect.unit (s := S2x256x512) ![1, 0, 0] S1x256x512.size inb_S2x256x512_S1x256x512_1_0_0))
    (View.ld (Val := Elt Ideal) (e' := .bf16) x9 (Rect.unit (s := S1024x1024) ![512, 0] S512x1024.size inb_S1024x1024_S512x1024_512_0))
    x1 (View.ld (Val := Elt Ideal) (e' := .bf16) x8 (Rect.unit (s := S6272x1024) ![2048, 0] S512x1024.size inb_S6272x1024_S512x1024_2048_0))
    (View.ld (Val := Elt Ideal) (e' := .bf16) x2 (Rect.unit (s := S3x256x512) ![0, 0, 0] S1x256x512.size inb_S3x256x512_S1x256x512_0_0_0))
    (View.ld (Val := Elt Ideal) (e' := .bf16) x8 (Rect.unit (s := S6272x1024) ![2560, 0] S512x1024.size inb_S6272x1024_S512x1024_2560_0))
    (View.ld (Val := Elt Ideal) (e' := .bf16) x2 (Rect.unit (s := S3x256x512) ![1, 0, 0] S1x256x512.size inb_S3x256x512_S1x256x512_1_0_0))
    (View.ld (Val := Elt Ideal) (e' := .bf16) x8 (Rect.unit (s := S6272x1024) ![3072, 0] S512x1024.size inb_S6272x1024_S512x1024_3072_0))
    (View.ld (Val := Elt Ideal) (e' := .bf16) x2 (Rect.unit (s := S3x256x512) ![2, 0, 0] S1x256x512.size inb_S3x256x512_S1x256x512_2_0_0))
    (View.ld (Val := Elt Ideal) (e' := .bf16) x8 (Rect.unit (s := S6272x1024) ![3584, 0] S512x1024.size inb_S6272x1024_S512x1024_3584_0))

theorem ld8 {n : ℕ} (x8 : FVec Ideal S6272x1024 .bf16) (o : ℕ) (h : ∀ a, ![o, 0] a + ![n, 1024] a ≤ S6272x1024.size a) (l : Fin n) (j : Fin 1024) (hl : o + l.val < 6272) :
    View.ld (Val := Elt Ideal) (e' := .bf16) x8 (Rect.unit (s := S6272x1024) ![o, 0] ![n, 1024] h) (ix2 l j) = x8 (ix2 ⟨o + l.val, hl⟩ j) := by
  pointwise

theorem ld9 (x9 : FVec Ideal S1024x1024 .bf16) (o : ℕ) (h : ∀ a, ![o, 0] a + S512x1024.size a ≤ S1024x1024.size a) (l : Fin 512) (j : Fin 1024) (hl : o + l.val < 1024) :
    View.ld (Val := Elt Ideal) (e' := .bf16) x9 (Rect.unit (s := S1024x1024) ![o, 0] S512x1024.size h) (ix2 l j) = x9 (ix2 ⟨o + l.val, hl⟩ j) := by
  pointwise

theorem dhB_raw (x0 : FVec Ideal S2x256x512 .bf16) (x1 : FVec Ideal S256x512 .bf16) (x2 : FVec Ideal S3x256x512 .bf16) (x3 : FVec Ideal S256x2048 .bf16)
    (x4 : FVec Ideal S256x128 .bf16) (x8 : FVec Ideal S6272x1024 .bf16) (x9 : FVec Ideal S1024x1024 .bf16) (k : Fin 256) (j : Fin 1024) :
    dhB x0 x1 x2 x3 x4 x8 x9 (ix2 k j) =
      ((∑ l : Fin 128, x4 (ix2 k l) * x8 (ix2 ⟨6144 + l.val, by omega⟩ j)) + (∑ l : Fin 2048, x3 (ix2 k l) * x8 (ix2 ⟨4096 + l.val, by omega⟩ j))
        + (∑ l : Fin 512, x0 (ix3 0 k l) * x9 (ix2 ⟨l.val, by omega⟩ j)) + (∑ l : Fin 512, x0 (ix3 1 k l) * x9 (ix2 ⟨512 + l.val, by omega⟩ j))
        + (∑ l : Fin 512, x1 (ix2 k l) * x8 (ix2 ⟨2048 + l.val, by omega⟩ j)) + (∑ l : Fin 512, x2 (ix3 0 k l) * x8 (ix2 ⟨2560 + l.val, by omega⟩ j))
        + (∑ l : Fin 512, x2 (ix3 1 k l) * x8 (ix2 ⟨3072 + l.val, by omega⟩ j)) + (∑ l : Fin 512, x2 (ix3 2 k l) * x8 (ix2 ⟨3584 + l.val, by omega⟩ j)) : EReal) := by
  unfold dhB
  rw [pay7_apply, pay6_apply]
  pointwise

theorem dhB_apply (x0 : FVec Ideal S2x256x512 .bf16) (x1 : FVec Ideal S256x512 .bf16) (x2 : FVec Ideal S3x256x512 .bf16) (x3 : FVec Ideal S256x2048 .bf16)
    (x4 : FVec Ideal S256x128 .bf16) (P Q : FVec Ideal S1024x1024 .bf16) (W : FVec Ideal S1024x5128 .f32) (k : Fin 256) (j : Fin 1024) :
    dhB x0 x1 x2 x3 x4 (wPad P Q W) (wQk W) (ix2 k j) =
      dh (fun l => x0 (ix3 0 k l)) (fun l => x0 (ix3 1 k l)) (fun l => x1 (ix2 k l)) (fun l => x2 (ix3 0 k l)) (fun l => x2 (ix3 1 k l)) (fun l => x2 (ix3 2 k l))
        (fun l => x3 (ix2 k l)) (fun l => x4 (ix2 k l)) (fun p => W (ix2 j p)) := by
  rw [dhB_raw]
  simp only [wPad_v, wPad_qb, wPad_kb, wPad_vb, wPad_gates, wPad_forget, wQk_q, wQk_k]
  rw [sum_forget (fun l => x4 (ix2 k l)) (fun l => W (ix2 j ⟨1536 + l.val, by omega⟩))]
  rfl

end Cert.Proof.InProj
-- ==== Proof.InProj.Kernel.lean ====
module

public import proofs.«01_k».proof.Proof.InProj.Block
public import proofs.«01_k».proof.Proof.Lib.Part

@[expose] public section

/-! What the projection's backward kernel leaves in its two results: the gradient at the rows, and the gradient of the scale, which
    the kernel adds up block by block. -/

set_option maxRecDepth 16384

noncomputable section

open Idealize.ShloMosaic Idealize.ShloMosaic.TcCoe Idealize.SL.Sem
open Idealize.ShloMosaic.Pipeline (Dat)
open Cert.Proof.Part

namespace Cert.Proof.InProj

open Cert.Kernel9Ideal Cert.Kernel9Ideal.Gen Cert.Kernel9Ideal.Value

variable (m : (ℓ : Loc nD τ sig) → Buf (Elt Ideal) ℓ)

theorem idx : ∀ t : Fin cfg0.N, win0_0.index t = ![0, t.val, 0] ∧ win0_1.index t = ![t.val, 0] ∧ win0_2.index t = ![0, t.val, 0] ∧
    win0_3.index t = ![t.val, 0] ∧ win0_4.index t = ![t.val, 0] ∧ win0_5.index t = ![t.val, 0] ∧ win0_6.index t = ![t.val, 0] ∧
    win0_7.index t = ![0, 0] ∧ win0_8.index t = ![0, 0] ∧ win0_9.index t = ![0, 0] ∧ win0_10.index t = ![t.val, 0] ∧
    win0_11.index t = ![0, 0] ∧ t.val < 16 :=
  (by decide +kernel : ∀ t : Fin grid0.N, _)

theorem lt16 (t : Fin cfg0.N) : t.val < 16 := (idx t).2.2.2.2.2.2.2.2.2.2.2.2

abbrev A0 (c : Dev nD) : FVec Ideal S2x4096x512 .f32 := m ((c : Thread nD τ).loc main_arg0)
abbrev A1 (c : Dev nD) : FVec Ideal S4096x512 .f32 := m ((c : Thread nD τ).loc main_arg1)
abbrev A2 (c : Dev nD) : FVec Ideal S3x4096x512 .f32 := m ((c : Thread nD τ).loc main_arg2)
abbrev A3 (c : Dev nD) : FVec Ideal S4096x2048 .f32 := m ((c : Thread nD τ).loc main_arg3)
abbrev A4 (c : Dev nD) : FVec Ideal S4096x128 .f32 := m ((c : Thread nD τ).loc main_arg4)
abbrev A5 (c : Dev nD) : FVec Ideal S4096x1024 .f32 := m ((c : Thread nD τ).loc main_arg5)
abbrev A6 (c : Dev nD) : FVec Ideal S4096x1024 .f32 := m ((c : Thread nD τ).loc main_arg6)
abbrev A7 (c : Dev nD) : FVec Ideal S1x1024 .f32 := m ((c : Thread nD τ).loc main_arg7)
abbrev A8 (c : Dev nD) : FVec Ideal S1024x5128 .f32 := m ((c : Thread nD τ).loc main_arg8)

theorem blk0 (c : Dev nD) (t : Fin cfg0.N) (b : Fin 2) (k : Fin 256) (l : Fin 512) (h : 256 * t.val + k.val < 4096) :
    (show FVec Ideal S2x256x512 .bf16 from iblk m c 0 t) (ix3 b k l) = A0 m c (ix3 b ⟨256 * t.val + k, h⟩ l) := by
  refine Eq.trans ?_ (congrFun (entry26 m c) (ix3 b ⟨256 * t.val + k, h⟩ l))
  blk_point [iblk, idx t]

theorem blk1 (c : Dev nD) (t : Fin cfg0.N) (k : Fin 256) (l : Fin 512) (h : 256 * t.val + k.val < 4096) :
    (show FVec Ideal S256x512 .bf16 from iblk m c 1 t) (ix2 k l) = A1 m c (ix2 ⟨256 * t.val + k, h⟩ l) := by
  refine Eq.trans ?_ (congrFun (entry27 m c) (ix2 ⟨256 * t.val + k, h⟩ l))
  blk_point [iblk, idx t]

theorem blk2 (c : Dev nD) (t : Fin cfg0.N) (b : Fin 3) (k : Fin 256) (l : Fin 512) (h : 256 * t.val + k.val < 4096) :
    (show FVec Ideal S3x256x512 .bf16 from iblk m c 2 t) (ix3 b k l) = A2 m c (ix3 b ⟨256 * t.val + k, h⟩ l) := by
  refine Eq.trans ?_ (congrFun (entry28 m c) (ix3 b ⟨256 * t.val + k, h⟩ l))
  blk_point [iblk, idx t]

theorem blk3 (c : Dev nD) (t : Fin cfg0.N) (k : Fin 256) (l : Fin 2048) (h : 256 * t.val + k.val < 4096) :
    (show FVec Ideal S256x2048 .bf16 from iblk m c 3 t) (ix2 k l) = A3 m c (ix2 ⟨256 * t.val + k, h⟩ l) := by
  refine Eq.trans ?_ (congrFun (entry29 m c) (ix2 ⟨256 * t.val + k, h⟩ l))
  blk_point [iblk, idx t]

theorem blk4 (c : Dev nD) (t : Fin cfg0.N) (k : Fin 256) (l : Fin 128) (h : 256 * t.val + k.val < 4096) :
    (show FVec Ideal S256x128 .bf16 from iblk m c 4 t) (ix2 k l) = A4 m c (ix2 ⟨256 * t.val + k, h⟩ l) := by
  refine Eq.trans ?_ (congrFun (entry30 m c) (ix2 ⟨256 * t.val + k, h⟩ l))
  blk_point [iblk, idx t]

theorem blk5 (c : Dev nD) (t : Fin cfg0.N) (k : Fin 256) (l : Fin 1024) (h : 256 * t.val + k.val < 4096) :
    (show FVec Ideal S256x1024 .f32 from iblk m c 5 t) (ix2 k l) = A5 m c (ix2 ⟨256 * t.val + k, h⟩ l) := by
  refine Eq.trans ?_ (congrFun (V_main_arg5 m c) (ix2 ⟨256 * t.val + k, h⟩ l))
  blk_point [iblk, idx t]

theorem blk6 (c : Dev nD) (t : Fin cfg0.N) (k : Fin 256) (l : Fin 1024) (h : 256 * t.val + k.val < 4096) :
    (show FVec Ideal S256x1024 .f32 from iblk m c 6 t) (ix2 k l) = A6 m c (ix2 ⟨256 * t.val + k, h⟩ l) := by
  refine Eq.trans ?_ (congrFun (V_main_arg6 m c) (ix2 ⟨256 * t.val + k, h⟩ l))
  blk_point [iblk, idx t]

theorem blk7 (c : Dev nD) (t : Fin cfg0.N) (k : Fin 1) (l : Fin 1024) :
    (show FVec Ideal S1x1024 .f32 from iblk m c 7 t) (ix2 k l) = A7 m c (ix2 k l) := by
  refine Eq.trans ?_ (congrFun (V_main_arg7 m c) (ix2 k l))
  blk_point [iblk, idx t]

theorem blk8 (c : Dev nD) (t : Fin cfg0.N) : ∃ P Q, (show FVec Ideal S6272x1024 .bf16 from iblk m c 8 t) = wPad P Q (A8 m c) := by
  obtain ⟨P, Q, h⟩ := entry22 m c
  refine ⟨P, Q, Eq.trans ?_ h⟩
  funext i
  idx_vars i
  blk_point [iblk, idx t]

theorem blk9 (c : Dev nD) (t : Fin cfg0.N) : (show FVec Ideal S1024x1024 .bf16 from iblk m c 9 t) = wQk (A8 m c) := by
  refine Eq.trans ?_ (entry25 m c)
  funext i
  idx_vars i
  blk_point [iblk, idx t]

/-- The gradient at the normed row `p`. -/
def DH (q : FVec Ideal S2x4096x512 .f32) (v : FVec Ideal S4096x512 .f32) (b : FVec Ideal S3x4096x512 .f32) (gl : FVec Ideal S4096x2048 .f32)
    (f : FVec Ideal S4096x128 .f32) (W : FVec Ideal S1024x5128 .f32) (p : Fin 4096) (j : Fin 1024) : EReal :=
  dh (fun l => q (ix3 0 p l)) (fun l => q (ix3 1 p l)) (fun l => v (ix2 p l)) (fun l => b (ix3 0 p l)) (fun l => b (ix3 1 p l)) (fun l => b (ix3 2 p l))
    (fun l => gl (ix2 p l)) (fun l => f (ix2 p l)) (fun n => W (ix2 j n))

/-- The gradient at the rows. -/
abbrev G10 (q : FVec Ideal S2x4096x512 .f32) (v : FVec Ideal S4096x512 .f32) (b : FVec Ideal S3x4096x512 .f32) (gl : FVec Ideal S4096x2048 .f32)
    (f : FVec Ideal S4096x128 .f32) (D X : FVec Ideal S4096x1024 .f32) (g : FVec Ideal S1x1024 .f32) (W : FVec Ideal S1024x5128 .f32) :
    FVec Ideal S4096x1024 .f32 :=
  fun i => (D (ix2 (i 0) (i 1)) + dn (fun l => X (ix2 (i 0) l)) (fun l => DH q v b gl f W (i 0) l * g (ix2 0 l)) (i 1) : EReal)

/-- The term that row `p` gives to column `j` of the scale's gradient. -/
def term (q : FVec Ideal S2x4096x512 .f32) (v : FVec Ideal S4096x512 .f32) (b : FVec Ideal S3x4096x512 .f32) (gl : FVec Ideal S4096x2048 .f32)
    (f : FVec Ideal S4096x128 .f32) (X : FVec Ideal S4096x1024 .f32) (W : FVec Ideal S1024x5128 .f32) (j : Fin 1024) (p : Fin 4096) : EReal :=
  DH q v b gl f W p j * (X (ix2 p j) * rs fun l => X (ix2 p l))

/-- The gradient of the scale. -/
abbrev G11 (q : FVec Ideal S2x4096x512 .f32) (v : FVec Ideal S4096x512 .f32) (b : FVec Ideal S3x4096x512 .f32) (gl : FVec Ideal S4096x2048 .f32)
    (f : FVec Ideal S4096x128 .f32) (X : FVec Ideal S4096x1024 .f32) (W : FVec Ideal S1024x5128 .f32) : FVec Ideal S1x1024 .f32 :=
  fun i => (∑ p : Fin 4096, term q v b gl f X W (i 1) p : EReal)

/-- The block's gradient at the normed rows, from the blocks the kernel reads at point `t`. -/
abbrev dhT (c : Dev nD) (t : Fin cfg0.N) : FVec Ideal S256x1024 .f32 :=
  dhB (iblk m c 0 t) (iblk m c 1 t) (iblk m c 2 t) (iblk m c 3 t) (iblk m c 4 t) (iblk m c 8 t) (iblk m c 9 t)

theorem dhB_blk (c : Dev nD) (t : Fin cfg0.N) (T : FVec Ideal S256x1024 .f32) (hT : T = dhT m c t) (k : Fin 256) (j : Fin 1024)
    (h : 256 * t.val + k.val < 4096) :
    T (ix2 k j) = DH (A0 m c) (A1 m c) (A2 m c) (A3 m c) (A4 m c) (A8 m c) ⟨256 * t.val + k, h⟩ j := by
  obtain ⟨P, Q, e8⟩ := blk8 m c t
  have e9 := blk9 m c t
  have e : dhT m c t = dhB (iblk m c 0 t) (iblk m c 1 t) (iblk m c 2 t) (iblk m c 3 t) (iblk m c 4 t) (wPad P Q (A8 m c)) (wQk (A8 m c)) :=
    congrArg₂ (fun a b => dhB (iblk m c 0 t) (iblk m c 1 t) (iblk m c 2 t) (iblk m c 3 t) (iblk m c 4 t) a b) e8 e9
  rw [hT, e, dhB_apply]
  have e0 : ∀ b l, (show FVec Ideal S2x256x512 .bf16 from iblk m c 0 t) (ix3 b k l) = A0 m c (ix3 b ⟨256 * t.val + k, h⟩ l) := fun b l => blk0 m c t b k l h
  have e1 : ∀ l, (show FVec Ideal S256x512 .bf16 from iblk m c 1 t) (ix2 k l) = A1 m c (ix2 ⟨256 * t.val + k, h⟩ l) := fun l => blk1 m c t k l h
  have e2 : ∀ b l, (show FVec Ideal S3x256x512 .bf16 from iblk m c 2 t) (ix3 b k l) = A2 m c (ix3 b ⟨256 * t.val + k, h⟩ l) := fun b l => blk2 m c t b k l h
  have e3 : ∀ l, (show FVec Ideal S256x2048 .bf16 from iblk m c 3 t) (ix2 k l) = A3 m c (ix2 ⟨256 * t.val + k, h⟩ l) := fun l => blk3 m c t k l h
  have e4 : ∀ l, (show FVec Ideal S256x128 .bf16 from iblk m c 4 t) (ix2 k l) = A4 m c (ix2 ⟨256 * t.val + k, h⟩ l) := fun l => blk4 m c t k l h
  simp only [e0, e1, e2, e3, e4]
  rfl

theorem out10_of (c : Dev nD) (t : Fin cfg0.N) (T : FVec Ideal S256x1024 .f32) (hT : T = dhT m c t)
    (k : Fin 256) (j : Fin 1024) (h : 256 * t.val + k.val < 4096) (x5 x6 : FVec Ideal S256x1024 .f32) (x7 : FVec Ideal S1x1024 .f32)
    (h5 : x5 = iblk m c 5 t) (h6 : x6 = iblk m c 6 t) (h7 : x7 = iblk m c 7 t) :
    (x5 (ix2 k j) + (rs (fun l => x6 (ix2 k l)) * (T (ix2 k j) * x7 (ix2 0 j) - x6 (ix2 k j) * rs (fun l => x6 (ix2 k l)) *
        Ideal.div (∑ l : Fin 1024, T (ix2 k l) * x7 (ix2 0 l) * (x6 (ix2 k l) * rs (fun l => x6 (ix2 k l)))) (Ideal.ofBits .f32 0x44800000#32))) : EReal)
      = G10 (A0 m c) (A1 m c) (A2 m c) (A3 m c) (A4 m c) (A5 m c) (A6 m c) (A7 m c) (A8 m c) (ix2 ⟨256 * t.val + k, h⟩ j) := by
  have e6 : ∀ l, x6 (ix2 k l) = A6 m c (ix2 ⟨256 * t.val + k, h⟩ l) := fun l => by rw [h6]; exact blk6 m c t k l h
  have e7 : ∀ l, x7 (ix2 0 l) = A7 m c (ix2 0 l) := fun l => by rw [h7]; exact blk7 m c t 0 l
  have e5 : x5 (ix2 k j) = A5 m c (ix2 ⟨256 * t.val + k, h⟩ j) := by rw [h5]; exact blk5 m c t k j h
  have eT := fun l => dhB_blk m c t T hT k l h
  simp only [e5, e6, e7, eT]
  rfl

theorem out10 (c : Dev nD) (t : Fin cfg0.N) (k : Fin 256) (j : Fin 1024) (h : 256 * t.val + k.val < 4096) :
    (show FVec Ideal S256x1024 .f32 from (outsAt0 m c t.val t.isLt).1) (ix2 k j) =
      G10 (A0 m c) (A1 m c) (A2 m c) (A3 m c) (A4 m c) (A5 m c) (A6 m c) (A7 m c) (A8 m c) (ix2 ⟨256 * t.val + k, h⟩ j) := by
  by_cases h0 : t.val % 16 = 0
  · rw [outsAt0_A m c t h0]
    frame_out
    refine (pay2_apply _ _ _ _ k j).trans ?_
    simp only [pay4_apply, pay5_apply, pay8_apply]
    generalize hT : k0_pay7 (F := Ideal) _ _ _ _ _ _ _ _ _ _ _ = T
    exact out10_of m c t T hT.symm k j h _ _ _ rfl rfl rfl
  · rw [outsAt0_B m c t h0]
    frame_out
    refine (pay2_apply _ _ _ _ k j).trans ?_
    simp only [pay4_apply, pay5_apply, pay8_apply]
    generalize hT : k0_pay7 (F := Ideal) _ _ _ _ _ _ _ _ _ _ _ = T
    exact out10_of m c t T hT.symm k j h _ _ _ rfl rfl rfl

/-- The scale's gradient after point `n`. -/
def Holds (c : Dev nD) (n : ℕ) (h : n < cfg0.N) : Prop :=
  ∀ (j : Fin 1024), (show FVec Ideal S1x1024 .f32 from (outsAt0 m c n h).2) (ix2 0 j)
      = ∑ s ∈ Finset.range (n + 1), part 256 (term (A0 m c) (A1 m c) (A2 m c) (A3 m c) (A4 m c) (A6 m c) (A8 m c) j) s

theorem holds_of (c : Dev nD) (t : Fin cfg0.N) (a : FVec Ideal S1x1024 .f32)
    (ha : ∀ j, a (ix2 0 j) = ∑ s ∈ Finset.range t.val, part 256 (term (A0 m c) (A1 m c) (A2 m c) (A3 m c) (A4 m c) (A6 m c) (A8 m c) j) s)
    (T : FVec Ideal S256x1024 .f32) (hT : T = dhT m c t)
    (h : (outsAt0 m c t.val t.isLt).2 = k0_pay1 (F := Ideal) (k0_pay5 (F := Ideal) (iblk m c 6 t)) T a) : Holds m c t.val t.isLt := by
  have ht := lt16 t
  intro j
  rw [h]
  refine (pay1_apply _ _ _ 0 j).trans ?_
  rw [ha, Finset.sum_range_succ]
  refine congrArg₂ (fun x y : EReal => x + y) rfl (part_eq 256 _ t.val _ (by omega) fun k hk => ?_)
  unfold term
  rw [pay5_apply, dhB_blk m c t T hT k j hk]
  have e6 : ∀ l, (show FVec Ideal S256x1024 .f32 from iblk m c 6 t) (ix2 k l) = A6 m c (ix2 ⟨256 * t.val + k, hk⟩ l) := fun l => blk6 m c t k l hk
  simp only [e6]

theorem holds_all (c : Dev nD) (n : ℕ) : ∀ h : n < cfg0.N, Holds m c n h := by
  induction n with
  | zero =>
    intro h
    refine holds_of m c ⟨0, h⟩ (k0_pay3 (F := Ideal)) (fun j => ?_) _ rfl ?_
    · rw [pay3_apply]; exact (Finset.sum_range_zero _).symm
    · rw [outsAt0_A m c ⟨0, h⟩ rfl]; frame_out
  | succ n ih =>
    intro h
    have hN : n + 1 < 16 := lt_of_lt_of_eq h N_0
    have h0 : ¬(n + 1) % 16 = 0 := by omega
    refine holds_of m c ⟨n + 1, h⟩ (outsAt0 m c n (by omega)).2 (ih (by omega)) _ rfl ?_
    rw [outsAt0_B m c ⟨n + 1, h⟩ h0]; frame_out; rfl

theorem final10 (c : Dev nD) : (dats m 0 c).arrAt 10 cfg0.N =
    G10 (A0 m c) (A1 m c) (A2 m c) (A3 m c) (A4 m c) (A5 m c) (A6 m c) (A7 m c) (A8 m c) := by
  refine (dats m 0 c).arrAt_eq_of_covers 10 _ (by decide +kernel) fun t hf y => ?_
  blk_simp
  rw [after0_10]
  idx_vars y
  have ht := lt16 t
  have hy := y0.isLt
  refine (out10 m c t y0 y1 (by omega)).trans (congrArg _ ?_)
  blk_ext [idx t]

theorem final11 (c : Dev nD) : (dats m 0 c).arrAt 11 cfg0.N = G11 (A0 m c) (A1 m c) (A2 m c) (A3 m c) (A4 m c) (A6 m c) (A8 m c) := by
  refine (dats m 0 c).arrAt_eq_of_after_last 11 t0_15 (by decide +kernel) _ fun j => ?_
  blk_simp
  rw [after0_11]
  idx_vars j
  have e : j0 = 0 := Subsingleton.elim _ _
  subst e
  refine (holds_all m c t0_15.val t0_15.isLt j1).trans ?_
  exact sum_part 16 256 rfl _

end Cert.Proof.InProj
-- ==== Proof.InProj.Ref.lean ====
module

public import proofs.«01_k».proof.Proof.Gen.Reference9Ideal
public import proofs.«01_k».proof.Proof.Gen.Reference9Ideal.Run
public import proofs.«01_k».proof.Proof.Gen.Reference9Ideal.Read
public import proofs.«01_k».proof.Proof.InProj.Kernel
public import proofs.«01_k».proof.Proof.Lib.Rms

@[expose] public section

/-! The reference's gradients through the projection and the norm, entry by entry. -/

set_option maxRecDepth 16384

noncomputable section

open Idealize.ShloMosaic Idealize.ShloMosaic.TcCoe Idealize.SL.Sem

namespace Cert.Proof.InProj

open Cert.Kernel9Ideal Cert.Reference9Ideal.Read

variable (q : FVec Ideal S2x4096x512 .f32) (v : FVec Ideal S4096x512 .f32) (b : FVec Ideal S3x4096x512 .f32) (gl : FVec Ideal S4096x2048 .f32)
  (f : FVec Ideal S4096x128 .f32) (D X : FVec Ideal S4096x1024 .f32) (g : FVec Ideal S1x1024 .f32) (W : FVec Ideal S1024x5128 .f32)

/-- The word of one eighth, in both widths. -/
theorem word_eighth : (Ideal.ofBits .f32 0x3E000000#32 : EReal) = Ideal.ofBits .bf16 0x3E00#16 := by
  have h1 : (Ideal.ofBits .f32 0x3E000000#32 : EReal) = ((1 / 8 : ℝ) : EReal) := by
    simp [Ideal.ofBits, Ideal.ieee, -EReal.coe_mul]; norm_num
  have h2 : (Ideal.ofBits .bf16 0x3E00#16 : EReal) = ((1 / 8 : ℝ) : EReal) := by
    simp [Ideal.ofBits, Ideal.ieee, -EReal.coe_mul]; norm_num
  rw [h1, h2]

theorem ref_ms (p : Fin 4096) (z : Fin 1) : val_main_v17 (F := Ideal) X (ix2 p z) = ms fun l => X (ix2 p l) := by
  unfold ms
  pointwise [val_main_v17, val_main_v16, val_main_v15, val_main_v14, val_main_v13, val_main_v12, val_main_v11, val_main_cst, val_main_cst_0, val_main_cst_1]

theorem ref_rs (p : Fin 4096) (z : Fin 1) : val_main_v18 (F := Ideal) X (ix2 p z) = rs fun l => X (ix2 p l) := by
  have h : val_main_v18 (F := Ideal) X (ix2 p z) = Ideal.rsqrt (val_main_v17 (F := Ideal) X (ix2 p z)) := by pointwise [val_main_v18]
  rw [h, ref_ms]
  rfl

theorem ref_xn (p : Fin 4096) (l : Fin 1024) : val_main_v23 (F := Ideal) X (ix2 p l) = (X (ix2 p l) * rs fun l => X (ix2 p l) : EReal) := by
  have h : val_main_v23 (F := Ideal) X (ix2 p l) = (X (ix2 p l) * val_main_v18 (F := Ideal) X (ix2 p 0) : EReal) := by
    pointwise [val_main_v23, val_main_v22]
  rw [h, ref_rs]

/-- The reference's order of the eight products, with the scale on the cotangent, is the kernel's. -/
theorem order (A B C E H I J K s : EReal) : ((((((B + J) + I) + H) + A) + E) + K) + C = A + B + C + K + E + H + I + J := by
  ac_rfl

theorem ref_raw (p : Fin 4096) (j : Fin 1024) : val_main_v64 (F := Ideal) q v b gl f W (ix2 p j) =
    ((((((((∑ l : Fin 2048, gl (ix2 p l) * W (ix2 j ⟨3080 + l.val, by omega⟩)) + ∑ l : Fin 512, b (ix3 2 p l) * W (ix2 j ⟨2568 + l.val, by omega⟩))
      + ∑ l : Fin 512, b (ix3 1 p l) * W (ix2 j ⟨2056 + l.val, by omega⟩))
      + ∑ l : Fin 512, b (ix3 0 p l) * Ideal.ofBits .f32 0x3E000000#32 * W (ix2 j ⟨1544 + l.val, by omega⟩))
      + ∑ l : Fin 8, f (ix2 p ⟨l.val, by omega⟩) * W (ix2 j ⟨1536 + l.val, by omega⟩))
      + ∑ l : Fin 512, v (ix2 p l) * W (ix2 j ⟨1024 + l.val, by omega⟩))
      + ∑ l : Fin 512, q (ix3 1 p l) * W (ix2 j ⟨512 + l.val, by omega⟩))
      + ∑ l : Fin 512, q (ix3 0 p l) * Ideal.ofBits .f32 0x3E000000#32 * W (ix2 j ⟨l.val, by omega⟩) : EReal) := by
  pointwise [val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v33, val_main_v32, val_main_v31, val_main_v30, val_main_v29, val_main_v28, val_main_v27, val_main_v26,
    val_main_v10, val_main_v9, val_main_v8, val_main_v7, val_main_v6, val_main_v5, val_main_v4, val_main_v3, val_main_v2, val_main_v1, val_main_v0,
    val_main_cst_3, val_main_cst_4, val_main_cst_5, val_main_cst_6]

theorem ref_dh (p : Fin 4096) (j : Fin 1024) : val_main_v64 (F := Ideal) q v b gl f W (ix2 p j) = DH q v b gl f W p j := by
  rw [ref_raw, word_eighth, order]
  · unfold DH dh
    have e : ∀ (a : Fin 512 → EReal) (w : Fin 512 → EReal) (s : EReal), (∑ l : Fin 512, a l * s * w l) = ∑ l : Fin 512, a l * (w l * s) := fun a w s =>
      Finset.sum_congr rfl fun l _ => by rw [mul_assoc, mul_comm s]
    rw [e (fun l => q (ix3 0 p l)), e (fun l => b (ix3 0 p l))]
  · exact 0

theorem ref_dg (z : Fin 1) (j : Fin 1024) : val_main_v67 (F := Ideal) q v b gl f X W (ix2 z j) = G11 q v b gl f X W (ix2 z j) := by
  have h : val_main_v67 (F := Ideal) q v b gl f X W (ix2 z j) =
      (∑ p : Fin 4096, val_main_v23 (F := Ideal) X (ix2 p j) * val_main_v64 (F := Ideal) q v b gl f W (ix2 p j) : EReal) := by
    pointwise [val_main_v67, val_main_v66, val_main_v65, val_main_cst_7]
  rw [h]
  refine Finset.sum_congr rfl fun p _ => ?_
  rw [ref_xn, ref_dh, mul_comm]
  rfl

theorem ref_v (p : Fin 4096) (l : Fin 1024) : val_main_v69 (F := Ideal) q v b gl f g W (ix2 p l) = (DH q v b gl f W p l * g (ix2 0 l) : EReal) := by
  rw [← ref_dh]
  pointwise [val_main_v69, val_main_v68]

theorem ref_c (p : Fin 4096) : val_main_v78 (F := Ideal) q v b gl f X g W (ix1 p) =
    Ideal.div ((∑ l : Fin 1024, X (ix2 p l) * (DH q v b gl f W p l * g (ix2 0 l))) * (Ideal.ofBits .f32 0xBF000000#32 *
      Ideal.div (rs fun l => X (ix2 p l)) (ms fun l => X (ix2 p l)))) (Ideal.ofBits .f32 0x44800000#32) := by
  have h : val_main_v78 (F := Ideal) q v b gl f X g W (ix1 p) =
      (∑ z : Fin 1, Ideal.div ((∑ l : Fin 1024, X (ix2 p l) * val_main_v69 (F := Ideal) q v b gl f g W (ix2 p l)) * (Ideal.ofBits .f32 0xBF000000#32 *
        Ideal.div (val_main_v18 (F := Ideal) X (ix2 p z)) (val_main_v17 (F := Ideal) X (ix2 p z)))) (Ideal.ofBits .f32 0x44800000#32)) := by
    pointwise [val_main_v78, val_main_v77, val_main_v76, val_main_v75, val_main_v72, val_main_v71, val_main_v70, val_main_v21, val_main_v20, val_main_v19,
      val_main_cst_2, val_main_cst_8, val_main_cst_9, val_main_cst_10]
  rw [h, Fin.sum_univ_one]
  simp only [ref_v, ref_rs, ref_ms]

theorem ref_dx (p : Fin 4096) (j : Fin 1024) : val_main_v84 (F := Ideal) q v b gl f D X g W (ix2 p j) = G10 q v b gl f D X g W (ix2 p j) := by
  have h : val_main_v84 (F := Ideal) q v b gl f D X g W (ix2 p j) = (D (ix2 p j) + (val_main_v69 (F := Ideal) q v b gl f g W (ix2 p j) * val_main_v18 (F := Ideal) X (ix2 p 0)
      + X (ix2 p j) * val_main_v78 (F := Ideal) q v b gl f X g W (ix1 p) + val_main_v78 (F := Ideal) q v b gl f X g W (ix1 p) * X (ix2 p j)) : EReal) := by
    pointwise [val_main_v84, val_main_v83, val_main_v82, val_main_v81, val_main_v80, val_main_v79, val_main_v74, val_main_v73]
  obtain ⟨e, he, hw⟩ := Rms.word_eps
  have key := Rms.rms_grad (fun l => X (ix2 p l)) (fun l => DH q v b gl f W p l * g (ix2 0 l)) e he (ms fun l => X (ix2 p l)) (rs fun l => X (ix2 p l))
    (by unfold ms; rw [hw, Rms.word_1024]) rfl j
  rw [h, ref_c, ref_v, ref_rs, add_assoc (_ * _) (_ * _) (_ * _), Rms.word_1024, Rms.word_half]
  refine congrArg (fun z : EReal => D (ix2 p j) + z) ?_
  unfold dn
  rw [Rms.word_1024]
  exact key.symm

end Cert.Proof.InProj
-- ==== Proof.InProj.Claims.lean ====
module

public import proofs.«01_k».proof.Defs
public import proofs.«01_k».proof.Proof.Gen.Kernel9
public import proofs.«01_k».proof.Proof.Gen.Kernel9.Frame
public import proofs.«01_k».proof.Proof.InProj.Frames
public import proofs.«01_k».proof.Proof.InProj.Ref
public import Idealize.ShloMosaic.Lib.Pipeline.ValueKit
public import Idealize.ShloMosaic.Lib.Claim

@[expose] public section

/-! The value claim about the backward pass of the projection and its norm. -/

set_option maxRecDepth 16384

noncomputable section

open Idealize.ShloMosaic Idealize.ShloMosaic.TcCoe Idealize.SL.Sem

namespace Cert.Proof.InProj

theorem algebraic : Cert.algebraic_Kernel9Ideal_Reference9Ideal := by
  intro m g m' g' _ hag
  refine ⟨fun c => G10 (A0 m c) (A1 m c) (A2 m c) (A3 m c) (A4 m c) (A5 m c) (A6 m c) (A7 m c) (A8 m c),
    fun c => G11 (A0 m c) (A1 m c) (A2 m c) (A3 m c) (A4 m c) (A6 m c) (A8 m c), ?_, ?_⟩
  · refine (θ_run Cert.Kernel9Ideal.defs _ _).mono (fun r h c => ?_) (Cert.Kernel9Ideal.Value.run_blocks (F := Ideal) m g)
    obtain ⟨h10, h11, hargs⟩ := h c
    exact ⟨h10.trans (final10 m c), h11.trans (final11 m c), hargs⟩
  · refine (θ_run Cert.Reference9Ideal.defs _ _).mono (fun r h c => ?_) (Cert.Reference9Ideal.Value.run (F := Ideal) m' g')
    obtain ⟨h10, h11, hargs⟩ := h c
    obtain ⟨e0, e1, e2, e3, e4, e5, e6, e7, e8⟩ := hag c
    refine ⟨h10.trans ?_, h11.trans ?_, hargs⟩
    · refine (Cert.Reference9Ideal.Read.val_main_v84_eq m' c).trans ?_
      rw [e0, e1, e2, e3, e4, e5, e6, e7, e8]
      funext i
      idx_vars i
      exact ref_dx _ _ _ _ _ _ _ _ _ i0 i1
    · refine (Cert.Reference9Ideal.Read.val_main_v67_eq _ _ _ _ _ _ _).trans ?_
      rw [e0, e1, e2, e3, e4, e6, e8]
      funext i
      idx_vars i
      exact ref_dg _ _ _ _ _ _ _ i0 i1

end Cert.Proof.InProj
-- ==== Proof.Head.Frames.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import Idealize.ShloMosaic.Lib.Claim

@[expose] public section

/-! The frames of the call's programs. -/

set_option maxRecDepth 16384

noncomputable section

open Idealize.ShloMosaic Idealize.ShloMosaic.TcCoe Idealize.SL.Sem

namespace Cert.Proof.Head

theorem frame_k : Cert.quiescent_Kernel10 := fun m ρ _ => Cert.Kernel10.Gen.frame m ρ

theorem frame_ki : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2.2.2.2.2.2.2.2, Idealize.ShloMosaic.sem_eq_zero_of_no_sems (by decide) r.2⟩)
    (Cert.Reference10Ideal.Value.run (F := Ideal) m ρ)

end Cert.Proof.Head
-- ==== Proof.Head.Pay.lean ====
module

public import proofs.«01_k».proof.Proof.Gen.Kernel10Ideal
public import proofs.«01_k».proof.Proof.Gen.Kernel10Ideal.Frame
public import proofs.«01_k».proof.Proof.Gen.Kernel10Ideal.Value
public import Idealize.ShloMosaic.Lib.Pipeline.ValueKit

@[expose] public section

/-! The payloads of the MLP's forward pass with the loss head, entry by entry. -/

set_option maxRecDepth 16384

noncomputable section

open Idealize.ShloMosaic Idealize.ShloMosaic.TcCoe Idealize.SL.Sem

namespace Cert.Proof.Head

open Cert.Kernel10Ideal Cert.Kernel10Ideal.Gen

/-- A row's mean square, with the word that keeps it from zero. -/
def ms (x : Fin 1024 → EReal) : EReal := Ideal.div (∑ k, x k * x k) (Ideal.ofBits .f32 0x44800000#32) + Ideal.ofBits .f32 0x358637BD#32

/-- The reciprocal root of the mean square. -/
def rs (x : Fin 1024 → EReal) : EReal := Ideal.rsqrt (ms x)

/-- The gradient at the row, from the gradient `v` at the normed and scaled row. -/
def dn (x v : Fin 1024 → EReal) (j : Fin 1024) : EReal :=
  rs x * (v j - x j * rs x * Ideal.div (∑ k, v k * (x k * rs x)) (Ideal.ofBits .f32 0x44800000#32))

/-- The logistic function as both programs write it. -/
def sg (u : EReal) : EReal := Ideal.div (Ideal.ofBits .f32 0x3F800000#32) (Ideal.ofBits .f32 0x3F800000#32 + Ideal.exp (-u))

theorem pay1_apply (z : Fin 1) (j : Fin 128) : k0_pay1 (F := Ideal) (ix2 z j) = (0 : EReal) := by pointwise [k0_pay1]

theorem pay2_apply (z : Fin 1) (j : Fin 1024) : k0_pay2 (F := Ideal) (ix2 z j) = (0 : EReal) := by pointwise [k0_pay2]

theorem pay3_apply (z : Fin 1) (j : Fin 1024) : k0_pay3 (F := Ideal) (ix2 z j) = (0 : EReal) := by pointwise [k0_pay3]

theorem pay4_apply (x : FVec Ideal S256x1024 .f32) (g : FVec Ideal S1x1024 .f32) (k : Fin 256) (l : Fin 1024) :
    k0_pay4 (F := Ideal) x g (ix2 k l) = (x (ix2 k l) * (rs fun l => x (ix2 k l)) * g (ix2 0 l) : EReal) := by
  unfold rs ms
  pointwise [k0_pay4]

theorem pay5_apply (x : FVec Ideal S256x1024 .f32) (g : FVec Ideal S1x1024 .f32) (w : FVec Ideal S1024x1024 .bf16) (k : Fin 256) (l : Fin 1024) :
    k0_pay5 (F := Ideal) x g w (ix2 k l) = (∑ q : Fin 1024, k0_pay4 (F := Ideal) x g (ix2 k q) * w (ix2 q l) : EReal) := by
  pointwise [k0_pay5]

theorem pay6_apply (x : FVec Ideal S256x1024 .f32) (g : FVec Ideal S1x1024 .f32) (w : FVec Ideal S1024x1024 .bf16) (k : Fin 256) (l : Fin 1024) :
    k0_pay6 (F := Ideal) x g w (ix2 k l) = k0_pay5 (F := Ideal) x g w (ix2 k l) := by
  pointwise [k0_pay6]

theorem pay7_apply (x : FVec Ideal S256x1024 .f32) (g : FVec Ideal S1x1024 .f32) (w u : FVec Ideal S1024x1024 .bf16) (k : Fin 256) (j : Fin 1024) :
    k0_pay7 (F := Ideal) x g w u (ix2 k j) =
      (x (ix2 k j) + ∑ f : Fin 1024, max (k0_pay5 (F := Ideal) x g w (ix2 k f)) 0 * max (k0_pay5 (F := Ideal) x g w (ix2 k f)) 0 * u (ix2 f j) : EReal) := by
  pointwise [k0_pay7]

theorem pay8_apply (x : FVec Ideal S256x1024 .f32) (g : FVec Ideal S1x1024 .f32) (w : FVec Ideal S1024x1024 .bf16) (k : Fin 256) (l : Fin 1024) :
    k0_pay8 (F := Ideal) x g w (ix2 k l) = (∑ q : Fin 1024, k0_pay4 (F := Ideal) x g (ix2 k q) * w (ix2 q l) : EReal) := by
  pointwise [k0_pay8]

theorem pay9_apply (x : FVec Ideal S256x1024 .f32) (g : FVec Ideal S1x1024 .f32) (w : FVec Ideal S1024x1024 .bf16) (k : Fin 256) (l : Fin 1024) :
    k0_pay9 (F := Ideal) x g w (ix2 k l) = k0_pay8 (F := Ideal) x g w (ix2 k l) := by
  pointwise [k0_pay9]

theorem pay10_apply (h : FVec Ideal S256x1024 .bf16) (w : FVec Ideal S1024x1024 .bf16) (k : Fin 256) (l : Fin 1024) :
    k0_pay10 (F := Ideal) h w (ix2 k l) = (∑ q : Fin 1024, h (ix2 k q) * w (ix2 q l) : EReal) := by
  pointwise [k0_pay10]

theorem pay11_apply (h : FVec Ideal S256x1024 .bf16) (w : FVec Ideal S1024x1024 .bf16) (k : Fin 256) (l : Fin 1024) :
    k0_pay11 (F := Ideal) h w (ix2 k l) = k0_pay10 (F := Ideal) h w (ix2 k l) := by
  pointwise [k0_pay11]

theorem pay12_apply (h : FVec Ideal S256x1024 .bf16) (y a : FVec Ideal S256x1024 .f32) (u w u' : FVec Ideal S1024x1024 .bf16) (k : Fin 256) (j : Fin 1024) :
    k0_pay12 (F := Ideal) h y a u w u' (ix2 k j) =
      (y (ix2 k j) + (∑ f : Fin 1024, max (a (ix2 k f)) 0 * max (a (ix2 k f)) 0 * u (ix2 f j))
        + ∑ f : Fin 1024, max (k0_pay10 (F := Ideal) h w (ix2 k f)) 0 * max (k0_pay10 (F := Ideal) h w (ix2 k f)) 0 * u' (ix2 f j) : EReal) := by
  pointwise [k0_pay12]

theorem pay13_apply (h : FVec Ideal S256x1024 .bf16) (w : FVec Ideal S1024x1024 .bf16) (k : Fin 256) (l : Fin 1024) :
    k0_pay13 (F := Ideal) h w (ix2 k l) = (∑ q : Fin 1024, h (ix2 k q) * w (ix2 q l) : EReal) := by
  pointwise [k0_pay13]

theorem pay14_apply (h : FVec Ideal S256x1024 .bf16) (w : FVec Ideal S1024x1024 .bf16) (k : Fin 256) (l : Fin 1024) :
    k0_pay14 (F := Ideal) h w (ix2 k l) = k0_pay13 (F := Ideal) h w (ix2 k l) := by
  pointwise [k0_pay14]

theorem pay15_apply (h : FVec Ideal S256x1024 .bf16) (w u : FVec Ideal S1024x1024 .bf16) (k : Fin 256) (j : Fin 1024) :
    k0_pay15 (F := Ideal) h w u (ix2 k j) =
      (∑ f : Fin 1024, max (k0_pay13 (F := Ideal) h w (ix2 k f)) 0 * max (k0_pay13 (F := Ideal) h w (ix2 k f)) 0 * u (ix2 f j) : EReal) := by
  pointwise [k0_pay15]

theorem pay16_apply (y z : FVec Ideal S256x1024 .f32) (k : Fin 256) (j : Fin 1024) :
    k0_pay16 (F := Ideal) y z (ix2 k j) = (y (ix2 k j) + z (ix2 k j) : EReal) := by
  pointwise [k0_pay16]

theorem pay17_apply (y z : FVec Ideal S256x1024 .f32) (k : Fin 256) (o : Fin 1) :
    k0_pay17 (F := Ideal) y z (ix2 k o) = rs fun l => k0_pay16 (F := Ideal) y z (ix2 k l) := by
  unfold rs ms
  pointwise [k0_pay17]

theorem pay18_apply (y z : FVec Ideal S256x1024 .f32) (k : Fin 256) (j : Fin 1024) :
    k0_pay18 (F := Ideal) y z (ix2 k j) = (k0_pay16 (F := Ideal) y z (ix2 k j) * k0_pay17 (F := Ideal) y z (ix2 k 0) : EReal) := by
  pointwise [k0_pay18]

theorem pay19_apply (y z : FVec Ideal S256x1024 .f32) (g : FVec Ideal S1x1024 .f32) (k : Fin 256) (j : Fin 1024) :
    k0_pay19 (F := Ideal) y z g (ix2 k j) = (k0_pay18 (F := Ideal) y z (ix2 k j) * g (ix2 0 j) : EReal) := by
  pointwise [k0_pay19]

theorem pay20_apply (y z : FVec Ideal S256x1024 .f32) (g : FVec Ideal S1x1024 .f32) (w : FVec Ideal S1024x1024 .bf16) (k : Fin 256) (j : Fin 1024) :
    k0_pay20 (F := Ideal) y z g w (ix2 k j) = sg (∑ q : Fin 1024, k0_pay19 (F := Ideal) y z g (ix2 k q) * w (ix2 q j)) := by
  unfold sg
  rw [← zero_sub]
  pointwise [k0_pay20]

theorem pay21_apply (p : FVec Ideal S256x256 .f32) (w : FVec Ideal S256x1024 .bf16) (k : Fin 256) (j : Fin 1024) :
    k0_pay21 (F := Ideal) p w (ix2 k j) = (∑ q : Fin 256, p (ix2 k q) * w (ix2 q j) : EReal) := by
  pointwise [k0_pay21]

theorem pay22_apply (y z : FVec Ideal S256x1024 .f32) (g : FVec Ideal S1x1024 .f32) (w : FVec Ideal S1024x1024 .bf16) (p : FVec Ideal S256x256 .f32)
    (u : FVec Ideal S256x1024 .bf16) (k : Fin 256) (j : Fin 1024) :
    k0_pay22 (F := Ideal) y z g w p u (ix2 k j) =
      (k0_pay16 (F := Ideal) y z (ix2 k j) + k0_pay20 (F := Ideal) y z g w (ix2 k j) * k0_pay21 (F := Ideal) p u (ix2 k j) : EReal) := by
  pointwise [k0_pay22]

theorem pay23_apply (y z : FVec Ideal S256x1024 .f32) (g : FVec Ideal S1x1024 .f32) (w : FVec Ideal S1024x1024 .bf16) (p : FVec Ideal S256x256 .f32)
    (u : FVec Ideal S256x1024 .bf16) (k : Fin 256) (o : Fin 1) :
    k0_pay23 (F := Ideal) y z g w p u (ix2 k o) =
      Ideal.div (∑ l : Fin 1024, k0_pay22 (F := Ideal) y z g w p u (ix2 k l) * k0_pay22 (F := Ideal) y z g w p u (ix2 k l)) (Ideal.ofBits .f32 0x44800000#32) := by
  pointwise [k0_pay23]

theorem pay24_apply (v : FVec Ideal S256x1 .f32) (c : Ideal .f32) (k : Fin 256) (o : Fin 1) :
    k0_pay24 (F := Ideal) v c (ix2 k o) = Ideal.rsqrt (v (ix2 k o) + c : EReal) := by
  pointwise [k0_pay24]

theorem pay25_apply (x : FVec Ideal S256x1024 .f32) (v : FVec Ideal S256x1 .f32) (c : Ideal .f32) (k : Fin 256) (j : Fin 1024) :
    k0_pay25 (F := Ideal) x v c (ix2 k j) = (x (ix2 k j) * k0_pay24 (F := Ideal) v c (ix2 k 0) : EReal) := by
  pointwise [k0_pay25]

theorem pay26_apply (x : FVec Ideal S256x1024 .f32) (v : FVec Ideal S256x1 .f32) (c : Ideal .f32) (g : FVec Ideal S1x1024 .f32) (t : FVec Ideal S256x1024 .f32)
    (k : Fin 256) (j : Fin 1024) :
    k0_pay26 (F := Ideal) x v c g t (ix2 k j) = (k0_pay25 (F := Ideal) x v c (ix2 k j) * g (ix2 0 j) - t (ix2 k j) : EReal) := by
  pointwise [k0_pay26]

theorem pay27_apply (x : FVec Ideal S256x1024 .f32) (v : FVec Ideal S256x1 .f32) (c : Ideal .f32) (g : FVec Ideal S1x1024 .f32) (t : FVec Ideal S256x1024 .f32)
    (e : FVec Ideal S1x128 .f32) (o : Fin 1) (j : Fin 128) :
    k0_pay27 (F := Ideal) x v c g t e (ix2 o j) = (e (ix2 o j) + Ideal.ofBits .f32 0x3A000000#32 * ∑ k : Fin 256, ∑ l : Fin 1024,
      k0_pay26 (F := Ideal) x v c g t (ix2 k l) * k0_pay26 (F := Ideal) x v c g t (ix2 k l) : EReal) := by
  pointwise [k0_pay27]

theorem pay28_apply (x : FVec Ideal S256x1024 .f32) (v : FVec Ideal S256x1 .f32) (c : Ideal .f32) (g : FVec Ideal S1x1024 .f32) (t : FVec Ideal S256x1024 .f32)
    (k : Fin 256) (j : Fin 1024) :
    k0_pay28 (F := Ideal) x v c g t (ix2 k j) = (k0_pay26 (F := Ideal) x v c g t (ix2 k j) * Ideal.ofBits .f32 0x3A800000#32 : EReal) := by
  pointwise [k0_pay28]

theorem pay29_apply (x : FVec Ideal S256x1024 .f32) (v : FVec Ideal S256x1 .f32) (c : Ideal .f32) (g : FVec Ideal S1x1024 .f32) (t : FVec Ideal S256x1024 .f32)
    (g' : FVec Ideal S1x1024 .f32) (k : Fin 256) (j : Fin 1024) :
    k0_pay29 (F := Ideal) x v c g t g' (ix2 k j) = (k0_pay24 (F := Ideal) v c (ix2 k 0) * (k0_pay28 (F := Ideal) x v c g t (ix2 k j) * g' (ix2 0 j)
      - k0_pay25 (F := Ideal) x v c (ix2 k j) * Ideal.div (∑ l : Fin 1024, k0_pay28 (F := Ideal) x v c g t (ix2 k l) * g' (ix2 0 l) * k0_pay25 (F := Ideal) x v c (ix2 k l))
        (Ideal.ofBits .f32 0x44800000#32)) : EReal) := by
  pointwise [k0_pay29]

theorem pay30_apply (x : FVec Ideal S256x1024 .f32) (v : FVec Ideal S256x1 .f32) (c : Ideal .f32) (g : FVec Ideal S1x1024 .f32) (t : FVec Ideal S256x1024 .f32)
    (o : Fin 1) (j : Fin 1024) :
    k0_pay30 (F := Ideal) x v c g t (ix2 o j) = (∑ k : Fin 256, k0_pay28 (F := Ideal) x v c g t (ix2 k j) * k0_pay25 (F := Ideal) x v c (ix2 k j) : EReal) := by
  pointwise [k0_pay30]

theorem pay32_apply (a e : FVec Ideal S1x1024 .f32) (o : Fin 1) (j : Fin 1024) :
    k0_pay32 (F := Ideal) a (k0_pay31 (F := Ideal) e) (ix2 o j) = (e (ix2 o j) + a (ix2 o j) : EReal) := by
  pointwise [k0_pay32, k0_pay31]

theorem pay33_apply (g d : FVec Ideal S256x1024 .f32) (k : Fin 256) (j : Fin 1024) :
    k0_pay33 (F := Ideal) g d (ix2 k j) = (d (ix2 k j) * g (ix2 k j) : EReal) := by
  pointwise [k0_pay33]

theorem pay34_apply (g e d : FVec Ideal S256x1024 .f32) (k : Fin 256) (j : Fin 1024) :
    k0_pay34 (F := Ideal) g e d (ix2 k j) =
      (d (ix2 k j) * e (ix2 k j) * g (ix2 k j) * (Ideal.ofBits .f32 0x3F800000#32 - g (ix2 k j)) : EReal) := by
  pointwise [k0_pay34]

theorem pay35_apply (g e d : FVec Ideal S256x1024 .f32) (w : FVec Ideal S1024x1024 .bf16) (k : Fin 256) (j : Fin 1024) :
    k0_pay35 (F := Ideal) g e d w (ix2 k j) = (∑ q : Fin 1024, k0_pay34 (F := Ideal) g e d (ix2 k q) * w (ix2 j q) : EReal) := by
  pointwise [k0_pay35]

theorem pay36_apply (n g e d : FVec Ideal S256x1024 .f32) (w : FVec Ideal S1024x1024 .bf16) (a : FVec Ideal S1x1024 .f32) (o : Fin 1) (j : Fin 1024) :
    k0_pay36 (F := Ideal) n g e d w a (ix2 o j) = (a (ix2 o j) + ∑ k : Fin 256, k0_pay35 (F := Ideal) g e d w (ix2 k j) * n (ix2 k j) : EReal) := by
  pointwise [k0_pay36]

theorem pay37_apply (r : FVec Ideal S256x1 .f32) (n g e d : FVec Ideal S256x1024 .f32) (w : FVec Ideal S1024x1024 .bf16) (a : FVec Ideal S1x1024 .f32)
    (k : Fin 256) (j : Fin 1024) :
    k0_pay37 (F := Ideal) r n g e d w a (ix2 k j) = (d (ix2 k j) + r (ix2 k 0) * (k0_pay35 (F := Ideal) g e d w (ix2 k j) * a (ix2 0 j)
      - n (ix2 k j) * Ideal.div (∑ l : Fin 1024, k0_pay35 (F := Ideal) g e d w (ix2 k l) * a (ix2 0 l) * n (ix2 k l)) (Ideal.ofBits .f32 0x44800000#32)) : EReal) := by
  pointwise [k0_pay37]

end Cert.Proof.Head
-- ==== Proof.Head.Block.lean ====
module

public import proofs.«01_k».proof.Proof.Head.Pay
public import proofs.«01_k».proof.Proof.Lib.Part

@[expose] public section

/-! What one row gives: the MLP's forward pass, the gated embedding, the loss, and the gradients back to the row after the MLP. -/

set_option maxRecDepth 16384

noncomputable section

open Idealize.ShloMosaic Idealize.ShloMosaic.TcCoe Idealize.SL.Sem
open Cert.Proof.Part

namespace Cert.Proof.Head

open Cert.Kernel10Ideal Cert.Kernel10Ideal.Gen

/-- What one row's values are made of: the row, its embedding and target, the gains and the weights. -/
structure Row where
  /-- The row. -/
  x : Fin 1024 → EReal
  /-- Its embedding. -/
  p : Fin 256 → EReal
  /-- Its target. -/
  t : Fin 1024 → EReal
  /-- The gain of the MLP's norm. -/
  gm : Fin 1024 → EReal
  /-- The MLP's first weight. -/
  wu : Fin 1024 → Fin 4096 → EReal
  /-- The MLP's second weight. -/
  wd : Fin 4096 → Fin 1024 → EReal
  /-- The gain of the gate's norm. -/
  gp : Fin 1024 → EReal
  /-- The gain of the last norm. -/
  gf : Fin 1024 → EReal
  /-- The gate's weight. -/
  wg : Fin 1024 → Fin 1024 → EReal
  /-- The embedding's weight. -/
  we : Fin 256 → Fin 1024 → EReal

namespace Row

variable (r : Row)

/-- The value before the rectifier. -/
def a (f : Fin 4096) : EReal := ∑ q : Fin 1024, r.x q * rs r.x * r.gm q * r.wu q f

/-- The row after the MLP. -/
def x2 (j : Fin 1024) : EReal := r.x j + ∑ f : Fin 4096, max (r.a f) 0 * max (r.a f) 0 * r.wd f j

/-- The gate's normed row. -/
def h3 (j : Fin 1024) : EReal := r.x2 j * rs r.x2 * r.gp j

/-- The gate. -/
def gate (j : Fin 1024) : EReal := sg (∑ q : Fin 1024, r.h3 q * r.wg q j)

/-- The embedding. -/
def pe (j : Fin 1024) : EReal := ∑ q : Fin 256, r.p q * r.we q j

/-- The last row. -/
def x3 (j : Fin 1024) : EReal := r.x2 j + r.gate j * r.pe j

/-- The error. -/
def err (j : Fin 1024) : EReal := r.x3 j * rs r.x3 * r.gf j - r.t j

/-- The gradient at the last normed and scaled row. -/
def dy (j : Fin 1024) : EReal := r.err j * Ideal.ofBits .f32 0x3A800000#32

/-- The gradient at the last row. -/
def dx3 (j : Fin 1024) : EReal := dn r.x3 (fun l => r.dy l * r.gf l) j

/-- The gradient at the embedding. -/
def dpe (j : Fin 1024) : EReal := r.dx3 j * r.gate j

/-- The gradient before the gate. -/
def dpre (j : Fin 1024) : EReal := r.dx3 j * r.pe j * r.gate j * (Ideal.ofBits .f32 0x3F800000#32 - r.gate j)

/-- The gradient at the gate's normed row. -/
def dh (j : Fin 1024) : EReal := ∑ q : Fin 1024, r.dpre q * r.wg j q

/-- The gradient at the row after the MLP. -/
def dx2 (j : Fin 1024) : EReal := r.dx3 j + dn r.x2 (fun l => r.dh l * r.gp l) j

/-- The row's squared error. -/
def sq : EReal := ∑ j : Fin 1024, r.err j * r.err j

end Row

section block

variable (x0 : FVec Ideal S256x1024 .f32) (x1 : FVec Ideal S256x256 .f32) (x2 : FVec Ideal S256x1024 .f32) (x3 : FVec Ideal S1x1024 .f32)
  (x4 : FVec Ideal S1024x4096 .bf16) (x5 : FVec Ideal S4096x1024 .bf16) (x6 x7 : FVec Ideal S1x1024 .f32) (x8 : FVec Ideal S1024x1024 .bf16)
  (x9 : FVec Ideal S256x1024 .bf16)

/-- Row `k` of a block. -/
abbrev rowB (k : Fin 256) : Row where
  x := fun l => x0 (ix2 k l)
  p := fun l => x1 (ix2 k l)
  t := fun l => x2 (ix2 k l)
  gm := fun l => x3 (ix2 0 l)
  wu := fun q f => x4 (ix2 q f)
  wd := fun f j => x5 (ix2 f j)
  gp := fun l => x6 (ix2 0 l)
  gf := fun l => x7 (ix2 0 l)
  wg := fun q j => x8 (ix2 q j)
  we := fun q j => x9 (ix2 q j)

/-- The rows after three quarters of the MLP. -/
abbrev y56 : FVec Ideal S256x1024 .f32 :=
  k0_pay12 (F := Ideal) (k0_pay4 x0 x3)
    (k0_pay7 x0 x3 (View.ld (Val := Elt Ideal) (e' := .bf16) x4 (Rect.unit (s := S1024x4096) ![0, 0] ![1024, 1024] inb_S1024x4096_S1024x1024_0_0))
      (View.ld (Val := Elt Ideal) (e' := .bf16) x5 (Rect.unit (s := S4096x1024) ![0, 0] ![1024, 1024] inb_S4096x1024_S1024x1024_0_0)))
    (k0_pay8 x0 x3 (View.ld (Val := Elt Ideal) (e' := .bf16) x4 (Rect.unit (s := S1024x4096) ![0, 1024] ![1024, 1024] inb_S1024x4096_S1024x1024_0_1024)))
    (View.ld (Val := Elt Ideal) (e' := .bf16) x5 (Rect.unit (s := S4096x1024) ![1024, 0] ![1024, 1024] inb_S4096x1024_S1024x1024_1024_0))
    (View.ld (Val := Elt Ideal) (e' := .bf16) x4 (Rect.unit (s := S1024x4096) ![0, 2048] ![1024, 1024] inb_S1024x4096_S1024x1024_0_2048))
    (View.ld (Val := Elt Ideal) (e' := .bf16) x5 (Rect.unit (s := S4096x1024) ![2048, 0] ![1024, 1024] inb_S4096x1024_S1024x1024_2048_0))

/-- The MLP's last quarter. -/
abbrev z68 : FVec Ideal S256x1024 .f32 :=
  k0_pay15 (F := Ideal) (k0_pay4 x0 x3) (View.ld (Val := Elt Ideal) (e' := .bf16) x4 (Rect.unit (s := S1024x4096) ![0, 3072] ![1024, 1024] inb_S1024x4096_S1024x1024_0_3072))
    (View.ld (Val := Elt Ideal) (e' := .bf16) x5 (Rect.unit (s := S4096x1024) ![3072, 0] ![1024, 1024] inb_S4096x1024_S1024x1024_3072_0))

theorem a_piece (w : FVec Ideal S1024x1024 .bf16) (o : ℕ) (ho : ∀ l : Fin 1024, o + l.val < 4096) (hw : ∀ q l, w (ix2 q l) = x4 (ix2 q ⟨o + l.val, ho l⟩))
    (k : Fin 256) (l : Fin 1024) :
    (∑ q : Fin 1024, k0_pay4 (F := Ideal) x0 x3 (ix2 k q) * w (ix2 q l) : EReal) = (rowB x0 x1 x2 x3 x4 x5 x6 x7 x8 x9 k).a ⟨o + l.val, ho l⟩ := by
  simp only [pay4_apply, hw]
  rfl

theorem ldu (o : ℕ) (h : ∀ a, ![0, o] a + ![1024, 1024] a ≤ S1024x4096.size a) (q l : Fin 1024) (hl : o + l.val < 4096) :
    View.ld (Val := Elt Ideal) (e' := .bf16) x4 (Rect.unit (s := S1024x4096) ![0, o] ![1024, 1024] h) (ix2 q l) = x4 (ix2 q ⟨o + l.val, hl⟩) := by
  pointwise

theorem ldd (o : ℕ) (h : ∀ a, ![o, 0] a + ![1024, 1024] a ≤ S4096x1024.size a) (f j : Fin 1024) (hl : o + f.val < 4096) :
    View.ld (Val := Elt Ideal) (e' := .bf16) x5 (Rect.unit (s := S4096x1024) ![o, 0] ![1024, 1024] h) (ix2 f j) = x5 (ix2 ⟨o + f.val, hl⟩ j) := by
  pointwise

theorem x2_apply (k : Fin 256) (j : Fin 1024) :
    k0_pay16 (F := Ideal) (y56 x0 x3 x4 x5) (z68 x0 x3 x4 x5) (ix2 k j) = (rowB x0 x1 x2 x3 x4 x5 x6 x7 x8 x9 k).x2 j := by
  rw [pay16_apply]
  unfold y56 z68
  rw [pay12_apply, pay7_apply, pay15_apply]
  simp only [pay5_apply, pay8_apply, pay10_apply, pay13_apply]
  unfold Row.x2
  rw [← sum_part 4 1024 rfl]
  simp only [Finset.sum_range_succ, Finset.sum_range_zero, zero_add, ← add_assoc]
  have A : ∀ (o : ℕ) (h : ∀ a, ![0, o] a + ![1024, 1024] a ≤ S1024x4096.size a) (l : Fin 1024) (hl : o + l.val < 4096) (ho : ∀ l : Fin 1024, o + l.val < 4096),
      (∑ q : Fin 1024, k0_pay4 (F := Ideal) x0 x3 (ix2 k q) *
        View.ld (Val := Elt Ideal) (e' := .bf16) x4 (Rect.unit (s := S1024x4096) ![0, o] ![1024, 1024] h) (ix2 q l) : EReal) =
      (rowB x0 x1 x2 x3 x4 x5 x6 x7 x8 x9 k).a ⟨o + l.val, hl⟩ := fun o h l hl ho =>
    a_piece x0 x1 x2 x3 x4 x5 x6 x7 x8 x9 _ o ho (fun q l => ldu x4 o h q l (ho l)) k l
  refine congrArg₂ (fun x y : EReal => x + y) (congrArg₂ (fun x y : EReal => x + y) (congrArg₂ (fun x y : EReal => x + y)
    (congrArg₂ (fun x y : EReal => x + y) rfl ?_) ?_) ?_) ?_
  · refine part_eq 1024 _ 0 _ (by omega) fun f hf => ?_
    rw [A 0 _ f (by omega) (fun l => by omega), ldd x5 0 _ f j (by omega)]
  · refine part_eq 1024 _ 1 _ (by omega) fun f hf => ?_
    rw [A 1024 _ f (by omega) (fun l => by omega), ldd x5 1024 _ f j (by omega)]
  · refine part_eq 1024 _ 2 _ (by omega) fun f hf => ?_
    rw [A 2048 _ f (by omega) (fun l => by omega), ldd x5 2048 _ f j (by omega)]
  · refine part_eq 1024 _ 3 _ (by omega) fun f hf => ?_
    rw [A 3072 _ f (by omega) (fun l => by omega), ldd x5 3072 _ f j (by omega)]

/-- The word that keeps the mean square from zero. -/
abbrev c59 : Ideal .f32 := Scalar.ofBits (F := Ideal) .f32 0x358637BD#32

variable (y z : FVec Ideal S256x1024 .f32) (k : Fin 256) (hx : ∀ j, k0_pay16 (F := Ideal) y z (ix2 k j) = (rowB x0 x1 x2 x3 x4 x5 x6 x7 x8 x9 k).x2 j)

include hx

theorem l17 (o : Fin 1) : k0_pay17 (F := Ideal) y z (ix2 k o) = rs (rowB x0 x1 x2 x3 x4 x5 x6 x7 x8 x9 k).x2 := by
  rw [pay17_apply]
  exact congrArg rs (funext hx)

theorem l18 (j : Fin 1024) : k0_pay18 (F := Ideal) y z (ix2 k j) =
    ((rowB x0 x1 x2 x3 x4 x5 x6 x7 x8 x9 k).x2 j * rs (rowB x0 x1 x2 x3 x4 x5 x6 x7 x8 x9 k).x2 : EReal) := by
  rw [pay18_apply, hx, l17 x0 x1 x2 x3 x4 x5 x6 x7 x8 x9 y z k hx]

theorem l19 (j : Fin 1024) : k0_pay19 (F := Ideal) y z x6 (ix2 k j) = (rowB x0 x1 x2 x3 x4 x5 x6 x7 x8 x9 k).h3 j := by
  rw [pay19_apply, l18 x0 x1 x2 x3 x4 x5 x6 x7 x8 x9 y z k hx]
  rfl

theorem l20 (j : Fin 1024) : k0_pay20 (F := Ideal) y z x6 x8 (ix2 k j) = (rowB x0 x1 x2 x3 x4 x5 x6 x7 x8 x9 k).gate j := by
  rw [pay20_apply]
  simp only [l19 x0 x1 x2 x3 x4 x5 x6 x7 x8 x9 y z k hx]
  rfl

theorem l22 (j : Fin 1024) : k0_pay22 (F := Ideal) y z x6 x8 x1 x9 (ix2 k j) = (rowB x0 x1 x2 x3 x4 x5 x6 x7 x8 x9 k).x3 j := by
  rw [pay22_apply, hx, l20 x0 x1 x2 x3 x4 x5 x6 x7 x8 x9 y z k hx, pay21_apply]
  rfl

theorem l24 (o : Fin 1) : k0_pay24 (F := Ideal) (k0_pay23 (F := Ideal) y z x6 x8 x1 x9) c59 (ix2 k o) = rs (rowB x0 x1 x2 x3 x4 x5 x6 x7 x8 x9 k).x3 := by
  rw [pay24_apply, pay23_apply]
  simp only [l22 x0 x1 x2 x3 x4 x5 x6 x7 x8 x9 y z k hx]
  rfl

theorem l25 (j : Fin 1024) : k0_pay25 (F := Ideal) (k0_pay22 (F := Ideal) y z x6 x8 x1 x9) (k0_pay23 (F := Ideal) y z x6 x8 x1 x9) c59 (ix2 k j) =
    ((rowB x0 x1 x2 x3 x4 x5 x6 x7 x8 x9 k).x3 j * rs (rowB x0 x1 x2 x3 x4 x5 x6 x7 x8 x9 k).x3 : EReal) := by
  rw [pay25_apply, l24 x0 x1 x2 x3 x4 x5 x6 x7 x8 x9 y z k hx, l22 x0 x1 x2 x3 x4 x5 x6 x7 x8 x9 y z k hx]

theorem l26 (j : Fin 1024) : k0_pay26 (F := Ideal) (k0_pay22 (F := Ideal) y z x6 x8 x1 x9) (k0_pay23 (F := Ideal) y z x6 x8 x1 x9) c59 x7 x2 (ix2 k j) =
    (rowB x0 x1 x2 x3 x4 x5 x6 x7 x8 x9 k).err j := by
  rw [pay26_apply, l25 x0 x1 x2 x3 x4 x5 x6 x7 x8 x9 y z k hx]
  rfl

theorem l28 (j : Fin 1024) : k0_pay28 (F := Ideal) (k0_pay22 (F := Ideal) y z x6 x8 x1 x9) (k0_pay23 (F := Ideal) y z x6 x8 x1 x9) c59 x7 x2 (ix2 k j) =
    (rowB x0 x1 x2 x3 x4 x5 x6 x7 x8 x9 k).dy j := by
  rw [pay28_apply, l26 x0 x1 x2 x3 x4 x5 x6 x7 x8 x9 y z k hx]
  rfl

theorem l29 (j : Fin 1024) : k0_pay29 (F := Ideal) (k0_pay22 (F := Ideal) y z x6 x8 x1 x9) (k0_pay23 (F := Ideal) y z x6 x8 x1 x9) c59 x7 x2 x7 (ix2 k j) =
    (rowB x0 x1 x2 x3 x4 x5 x6 x7 x8 x9 k).dx3 j := by
  rw [pay29_apply]
  simp only [l28 x0 x1 x2 x3 x4 x5 x6 x7 x8 x9 y z k hx, l25 x0 x1 x2 x3 x4 x5 x6 x7 x8 x9 y z k hx, l24 x0 x1 x2 x3 x4 x5 x6 x7 x8 x9 y z k hx]
  rfl

end block

section back

variable (r : Row) (d g e n : FVec Ideal S256x1024 .f32) (w : FVec Ideal S1024x1024 .bf16) (k : Fin 256)
  (hd : ∀ j, d (ix2 k j) = r.dx3 j) (hg : ∀ j, g (ix2 k j) = r.gate j) (he : ∀ j, e (ix2 k j) = r.pe j)

include hd hg

theorem l33 (j : Fin 1024) : k0_pay33 (F := Ideal) g d (ix2 k j) = r.dpe j := by
  rw [pay33_apply, hd, hg]
  rfl

include he

theorem l34 (j : Fin 1024) : k0_pay34 (F := Ideal) g e d (ix2 k j) = r.dpre j := by
  rw [pay34_apply, hd, hg, he]
  rfl

variable (hw : ∀ q j, w (ix2 q j) = r.wg q j)

include hw

theorem l35 (j : Fin 1024) : k0_pay35 (F := Ideal) g e d w (ix2 k j) = r.dh j := by
  rw [pay35_apply]
  simp only [l34 r d g e k hd hg he, hw]
  rfl

theorem l37 (ρ : FVec Ideal S256x1 .f32) (a : FVec Ideal S1x1024 .f32) (hρ : ρ (ix2 k 0) = rs r.x2) (hn : ∀ j, n (ix2 k j) = (r.x2 j * rs r.x2 : EReal))
    (ha : ∀ j, a (ix2 0 j) = r.gp j) (j : Fin 1024) : k0_pay37 (F := Ideal) ρ n g e d w a (ix2 k j) = r.dx2 j := by
  rw [pay37_apply]
  simp only [l35 r d g e w k hd hg he hw, hρ, hn, ha, hd]
  rfl

end back

end Cert.Proof.Head
-- ==== Proof.Head.Args.lean ====
module

public import proofs.«01_k».proof.Proof.Head.Block

@[expose] public section

/-! The arguments, the blocks the kernel reads of them, and each result as a function of the arguments, row by row. -/

set_option maxRecDepth 16384

noncomputable section

open Idealize.ShloMosaic Idealize.ShloMosaic.TcCoe Idealize.SL.Sem
open Idealize.ShloMosaic.Pipeline (Dat)
open Cert.Proof.Part

namespace Cert.Proof.Head

open Cert.Kernel10Ideal Cert.Kernel10Ideal.Gen Cert.Kernel10Ideal.Value

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![t.val, 0] ∧
    win0_11.index t = ![t.val, 0] ∧ win0_12.index t = ![t.val, 0] ∧ win0_13.index t = ![t.val, 0] ∧ win0_14.index t = ![t.val, 0] ∧
    win0_15.index t = ![0, 0] ∧ win0_16.index t = ![0, 0] ∧ win0_17.index t = ![0, 0] ∧ t.val < 16 :=
  (by decide +kernel : ∀ t : Fin grid0.N, _)

theorem lt16 (t : Fin cfg0.N) : t.val < 16 := (idx t).2.2.2.2.2.2.2.2.2.2.2.2.2.2.2.2.2.2

abbrev A0 (c : Dev nD) : FVec Ideal S4096x1024 .f32 := m ((c : Thread nD τ).loc main_arg0)
abbrev A1 (c : Dev nD) : FVec Ideal S4096x256 .f32 := m ((c : Thread nD τ).loc main_arg1)
abbrev A2 (c : Dev nD) : FVec Ideal S4096x1024 .f32 := m ((c : Thread nD τ).loc main_arg2)
abbrev A3 (c : Dev nD) : FVec Ideal S1x1024 .f32 := m ((c : Thread nD τ).loc main_arg3)
abbrev A4 (c : Dev nD) : FVec Ideal S1024x4096 .f32 := m ((c : Thread nD τ).loc main_arg4)
abbrev A5 (c : Dev nD) : FVec Ideal S4096x1024 .f32 := m ((c : Thread nD τ).loc main_arg5)
abbrev A6 (c : Dev nD) : FVec Ideal S1x1024 .f32 := m ((c : Thread nD τ).loc main_arg6)
abbrev A7 (c : Dev nD) : FVec Ideal S1x1024 .f32 := m ((c : Thread nD τ).loc main_arg7)
abbrev A8 (c : Dev nD) : FVec Ideal S1024x1024 .f32 := m ((c : Thread nD τ).loc main_arg8)
abbrev A9 (c : Dev nD) : FVec Ideal S256x1024 .f32 := m ((c : Thread nD τ).loc main_arg9)

theorem blk0 (c : Dev nD) (t : Fin cfg0.N) (k : Fin 256) (l : Fin 1024) (h : 256 * t.val + k.val < 4096) :
    (show FVec Ideal S256x1024 .f32 from iblk m c 0 t) (ix2 k l) = A0 m c (ix2 ⟨256 * t.val + k, h⟩ l) := by
  blk_point [iblk, V, idx t]

theorem blk1 (c : Dev nD) (t : Fin cfg0.N) (k : Fin 256) (l : Fin 256) (h : 256 * t.val + k.val < 4096) :
    (show FVec Ideal S256x256 .f32 from iblk m c 1 t) (ix2 k l) = A1 m c (ix2 ⟨256 * t.val + k, h⟩ l) := by
  blk_point [iblk, V, idx t]

theorem blk2 (c : Dev nD) (t : Fin cfg0.N) (k : Fin 256) (l : Fin 1024) (h : 256 * t.val + k.val < 4096) :
    (show FVec Ideal S256x1024 .f32 from iblk m c 2 t) (ix2 k l) = A2 m c (ix2 ⟨256 * t.val + k, h⟩ l) := by
  blk_point [iblk, V, idx t]

theorem blk3 (c : Dev nD) (t : Fin cfg0.N) (k : Fin 1) (l : Fin 1024) :
    (show FVec Ideal S1x1024 .f32 from iblk m c 3 t) (ix2 k l) = A3 m c (ix2 k l) := by
  blk_point [iblk, V, idx t]

theorem blk4 (c : Dev nD) (t : Fin cfg0.N) (k : Fin 1024) (l : Fin 4096) :
    (show FVec Ideal S1024x4096 .bf16 from iblk m c 4 t) (ix2 k l) = A4 m c (ix2 k l) := by
  blk_point [iblk, V, idx t]

theorem blk5 (c : Dev nD) (t : Fin cfg0.N) (k : Fin 4096) (l : Fin 1024) :
    (show FVec Ideal S4096x1024 .bf16 from iblk m c 5 t) (ix2 k l) = A5 m c (ix2 k l) := by
  blk_point [iblk, V, idx t]

theorem blk6 (c : Dev nD) (t : Fin cfg0.N) (k : Fin 1) (l : Fin 1024) :
    (show FVec Ideal S1x1024 .f32 from iblk m c 6 t) (ix2 k l) = A6 m c (ix2 k l) := by
  blk_point [iblk, V, idx t]

theorem blk7 (c : Dev nD) (t : Fin cfg0.N) (k : Fin 1) (l : Fin 1024) :
    (show FVec Ideal S1x1024 .f32 from iblk m c 7 t) (ix2 k l) = A7 m c (ix2 k l) := by
  blk_point [iblk, V, idx t]

theorem blk8 (c : Dev nD) (t : Fin cfg0.N) (k : Fin 1024) (l : Fin 1024) :
    (show FVec Ideal S1024x1024 .bf16 from iblk m c 8 t) (ix2 k l) = A8 m c (ix2 k l) := by
  blk_point [iblk, V, idx t]

theorem blk9 (c : Dev nD) (t : Fin cfg0.N) (k : Fin 256) (l : Fin 1024) :
    (show FVec Ideal S256x1024 .bf16 from iblk m c 9 t) (ix2 k l) = A9 m c (ix2 k l) := by
  blk_point [iblk, V, idx t]

/-- Row `p` of the arguments. -/
abbrev rowA (x0 : FVec Ideal S4096x1024 .f32) (x1 : FVec Ideal S4096x256 .f32) (x2 : FVec Ideal S4096x1024 .f32) (x3 : FVec Ideal S1x1024 .f32)
    (x4 : FVec Ideal S1024x4096 .f32) (x5 : FVec Ideal S4096x1024 .f32) (x6 x7 : FVec Ideal S1x1024 .f32) (x8 : FVec Ideal S1024x1024 .f32)
    (x9 : FVec Ideal S256x1024 .f32) (p : Fin 4096) : Row where
  x := fun l => x0 (ix2 p l)
  p := fun l => x1 (ix2 p l)
  t := fun l => x2 (ix2 p l)
  gm := fun l => x3 (ix2 0 l)
  wu := fun q f => x4 (ix2 q f)
  wd := fun f j => x5 (ix2 f j)
  gp := fun l => x6 (ix2 0 l)
  gf := fun l => x7 (ix2 0 l)
  wg := fun q j => x8 (ix2 q j)
  we := fun q j => x9 (ix2 q j)

/-- Row `p` of the kernel's arguments. -/
abbrev R (c : Dev nD) (p : Fin 4096) : Row := rowA (A0 m c) (A1 m c) (A2 m c) (A3 m c) (A4 m c) (A5 m c) (A6 m c) (A7 m c) (A8 m c) (A9 m c) p

/-- Row `k` of the blocks at point `t`. -/
abbrev RB (c : Dev nD) (t : Fin cfg0.N) (k : Fin 256) : Row :=
  rowB (iblk m c 0 t) (iblk m c 1 t) (iblk m c 2 t) (iblk m c 3 t) (iblk m c 4 t) (iblk m c 5 t) (iblk m c 6 t) (iblk m c 7 t) (iblk m c 8 t) (iblk m c 9 t) k

theorem row_eq (r r' : Row) (h0 : r.x = r'.x) (h1 : r.p = r'.p) (h2 : r.t = r'.t) (h3 : r.gm = r'.gm) (h4 : r.wu = r'.wu) (h5 : r.wd = r'.wd)
    (h6 : r.gp = r'.gp) (h7 : r.gf = r'.gf) (h8 : r.wg = r'.wg) (h9 : r.we = r'.we) : r = r' := by
  cases r
  cases r'
  dsimp only at *
  subst h0 h1 h2 h3 h4 h5 h6 h7 h8 h9
  rfl

theorem row_blk (c : Dev nD) (t : Fin cfg0.N) (k : Fin 256) (h : 256 * t.val + k.val < 4096) : RB m c t k = R m c ⟨256 * t.val + k, h⟩ :=
  row_eq _ _ (funext fun l => blk0 m c t k l h) (funext fun l => blk1 m c t k l h) (funext fun l => blk2 m c t k l h) (funext fun l => blk3 m c t 0 l)
    (funext fun q => funext fun f => blk4 m c t q f) (funext fun f => funext fun j => blk5 m c t f j) (funext fun l => blk6 m c t 0 l)
    (funext fun l => blk7 m c t 0 l) (funext fun q => funext fun j => blk8 m c t q j) (funext fun q => funext fun j => blk9 m c t q j)

/-- The values before the rectifier. -/
abbrev G10 (r : Fin 4096 → Row) : FVec Ideal S4096x4096 .bf16 := fun i => (r (i 0)).a (i 1)

/-- The gradient at the rows after the MLP. -/
abbrev G11 (r : Fin 4096 → Row) : FVec Ideal S4096x1024 .f32 := fun i => (r (i 0)).dx2 (i 1)

/-- The gate's normed rows. -/
abbrev G12 (r : Fin 4096 → Row) : FVec Ideal S4096x1024 .bf16 := fun i => (r (i 0)).h3 (i 1)

/-- The gradient before the gate. -/
abbrev G13 (r : Fin 4096 → Row) : FVec Ideal S4096x1024 .bf16 := fun i => (r (i 0)).dpre (i 1)

/-- The gradient at the embedding. -/
abbrev G14 (r : Fin 4096 → Row) : FVec Ideal S4096x1024 .bf16 := fun i => (r (i 0)).dpe (i 1)

/-- What row `p` gives to the loss. -/
def term15 (r : Fin 4096 → Row) (p : Fin 4096) : EReal := (r p).sq * Ideal.ofBits .f32 0x3A000000#32

/-- What row `p` gives to column `j` of the gradient of the gate's gain. -/
def term16 (r : Fin 4096 → Row) (j : Fin 1024) (p : Fin 4096) : EReal := (r p).dh j * ((r p).x2 j * rs (r p).x2)

/-- What row `p` gives to column `j` of the gradient of the last gain. -/
def term17 (r : Fin 4096 → Row) (j : Fin 1024) (p : Fin 4096) : EReal := (r p).dy j * ((r p).x3 j * rs (r p).x3)

/-- The loss, in every column. -/
abbrev G15 (r : Fin 4096 → Row) : FVec Ideal S1x128 .f32 := fun _ => (∑ p : Fin 4096, term15 r p : EReal)

/-- The gradient of the gate's gain. -/
abbrev G16 (r : Fin 4096 → Row) : FVec Ideal S1x1024 .f32 := fun i => (∑ p : Fin 4096, term16 r (i 1) p : EReal)

/-- The gradient of the last gain. -/
abbrev G17 (r : Fin 4096 → Row) : FVec Ideal S1x1024 .f32 := fun i => (∑ p : Fin 4096, term17 r (i 1) p : EReal)

end Cert.Proof.Head
-- ==== Proof.Head.RefFwd.lean ====
module

public import proofs.«01_k».proof.Proof.Gen.Reference10Ideal
public import proofs.«01_k».proof.Proof.Gen.Reference10Ideal.Run
public import proofs.«01_k».proof.Proof.Gen.Reference10Ideal.Read
public import proofs.«01_k».proof.Proof.Head.Args
public import proofs.«01_k».proof.Proof.Lib.Rms

@[expose] public section

/-! The reference's forward pass, entry by entry. -/

set_option maxRecDepth 16384

noncomputable section

open Idealize.ShloMosaic Idealize.ShloMosaic.TcCoe Idealize.SL.Sem

namespace Cert.Proof.Head

open Cert.Kernel10Ideal Cert.Reference10Ideal.Read

variable (x0 : FVec Ideal S4096x1024 .f32) (x1 : FVec Ideal S4096x256 .f32) (x2 : FVec Ideal S4096x1024 .f32) (x3 : FVec Ideal S1x1024 .f32)
  (x4 : FVec Ideal S1024x4096 .f32) (x5 : FVec Ideal S4096x1024 .f32) (x6 x7 : FVec Ideal S1x1024 .f32) (x8 : FVec Ideal S1024x1024 .f32)
  (x9 : FVec Ideal S256x1024 .f32)

theorem ref_a (p f : Fin 4096) : val_main_v12 (F := Ideal) x0 x3 x4 (ix2 p f) = (rowA x0 x1 x2 x3 x4 x5 x6 x7 x8 x9 p).a f := by
  have h : val_main_v12 (F := Ideal) x0 x3 x4 (ix2 p f) = (∑ q : Fin 1024, x0 (ix2 p q) * (rs fun l => x0 (ix2 p l)) * x3 (ix2 0 q) * x4 (ix2 q f) : EReal) := by
    unfold rs ms
    pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [h]
  rfl

theorem ref_x2 (p : Fin 4096) (j : Fin 1024) : val_main_v16 (F := Ideal) x0 x3 x4 x5 (ix2 p j) = (rowA x0 x1 x2 x3 x4 x5 x6 x7 x8 x9 p).x2 j := by
  have h : val_main_v16 (F := Ideal) x0 x3 x4 x5 (ix2 p j) = (x0 (ix2 p j) + ∑ f : Fin 4096, max (val_main_v12 (F := Ideal) x0 x3 x4 (ix2 p f)) 0 * max (val_main_v12 (F := Ideal) x0 x3 x4 (ix2 p f)) 0 * x5 (ix2 f j) : EReal) := by
    pointwise [val_main_v16, val_main_v15, val_main_v14, val_main_v13, val_main_call0_v0, val_main_call0_cst]
  rw [h]
  simp only [ref_a x0 x1 x2 x3 x4 x5 x6 x7 x8 x9]
  rfl

theorem ref_m2 (p : Fin 4096) (z : Fin 1) : val_main_v23 (F := Ideal) x0 x3 x4 x5 (ix2 p z) = ms (rowA x0 x1 x2 x3 x4 x5 x6 x7 x8 x9 p).x2 := by
  have h : val_main_v23 (F := Ideal) x0 x3 x4 x5 (ix2 p z) = (ms fun l => val_main_v16 (F := Ideal) x0 x3 x4 x5 (ix2 p l) : EReal) := by
    unfold ms
    pointwise [val_main_v23, val_main_v22, val_main_v21, val_main_v20, val_main_v19, val_main_v18, val_main_v17, val_main_cst_2, val_main_cst_3, val_main_cst_4]
  rw [h]
  simp only [ref_x2 x0 x1 x2 x3 x4 x5 x6 x7 x8 x9]

theorem ref_r2 (p : Fin 4096) (z : Fin 1) : val_main_v24 (F := Ideal) x0 x3 x4 x5 (ix2 p z) = rs (rowA x0 x1 x2 x3 x4 x5 x6 x7 x8 x9 p).x2 := by
  have h : val_main_v24 (F := Ideal) x0 x3 x4 x5 (ix2 p z) = (Ideal.rsqrt (val_main_v23 (F := Ideal) x0 x3 x4 x5 (ix2 p z)) : EReal) := by
    pointwise [val_main_v24]
  rw [h]
  simp only [ref_m2 x0 x1 x2 x3 x4 x5 x6 x7 x8 x9]
  rfl

theorem ref_h3 (p : Fin 4096) (j : Fin 1024) : val_main_v28 (F := Ideal) x0 x3 x4 x5 x6 (ix2 p j) = (rowA x0 x1 x2 x3 x4 x5 x6 x7 x8 x9 p).h3 j := by
  have h : val_main_v28 (F := Ideal) x0 x3 x4 x5 x6 (ix2 p j) = (val_main_v16 (F := Ideal) x0 x3 x4 x5 (ix2 p j) * val_main_v24 (F := Ideal) x0 x3 x4 x5 (ix2 p 0) * x6 (ix2 0 j) : EReal) := by
    pointwise [val_main_v28, val_main_v27, val_main_v26, val_main_v25]
  rw [h]
  simp only [ref_x2 x0 x1 x2 x3 x4 x5 x6 x7 x8 x9, ref_r2 x0 x1 x2 x3 x4 x5 x6 x7 x8 x9]
  rfl

theorem ref_gate (p : Fin 4096) (j : Fin 1024) : val_main_v36 (F := Ideal) x0 x3 x4 x5 x6 x8 (ix2 p j) = (rowA x0 x1 x2 x3 x4 x5 x6 x7 x8 x9 p).gate j := by
  have h : val_main_v36 (F := Ideal) x0 x3 x4 x5 x6 x8 (ix2 p j) = (sg (∑ q : Fin 1024, val_main_v28 (F := Ideal) x0 x3 x4 x5 x6 (ix2 p q) * x8 (ix2 q j)) : EReal) := by
    unfold sg
    pointwise [val_main_v36, val_main_v35, val_main_v34, val_main_v33, val_main_v32, val_main_v31, val_main_v30, val_main_cst_5, val_main_cst_6]
  rw [h]
  simp only [ref_h3 x0 x1 x2 x3 x4 x5 x6 x7 x8 x9]
  rfl

theorem ref_pe (p : Fin 4096) (j : Fin 1024) : val_main_v29 (F := Ideal) x1 x9 (ix2 p j) = (rowA x0 x1 x2 x3 x4 x5 x6 x7 x8 x9 p).pe j := by
  have h : val_main_v29 (F := Ideal) x1 x9 (ix2 p j) = (∑ q : Fin 256, x1 (ix2 p q) * x9 (ix2 q j) : EReal) := by
    pointwise [val_main_v29]
  rw [h]
  rfl

theorem ref_x3 (p : Fin 4096) (j : Fin 1024) : val_main_v41 (F := Ideal) x0 x1 x3 x4 x5 x6 x8 x9 (ix2 p j) = (rowA x0 x1 x2 x3 x4 x5 x6 x7 x8 x9 p).x3 j := by
  have h : val_main_v41 (F := Ideal) x0 x1 x3 x4 x5 x6 x8 x9 (ix2 p j) = (val_main_v16 (F := Ideal) x0 x3 x4 x5 (ix2 p j) + val_main_v36 (F := Ideal) x0 x3 x4 x5 x6 x8 (ix2 p j) * val_main_v29 (F := Ideal) x1 x9 (ix2 p j) : EReal) := by
    pointwise [val_main_v41, val_main_v40]
  rw [h]
  simp only [ref_x2 x0 x1 x2 x3 x4 x5 x6 x7 x8 x9, ref_gate x0 x1 x2 x3 x4 x5 x6 x7 x8 x9, ref_pe x0 x1 x2 x3 x4 x5 x6 x7 x8 x9]
  rfl

theorem ref_m3 (p : Fin 4096) (z : Fin 1) : val_main_v48 (F := Ideal) x0 x1 x3 x4 x5 x6 x8 x9 (ix2 p z) = ms (rowA x0 x1 x2 x3 x4 x5 x6 x7 x8 x9 p).x3 := by
  have h : val_main_v48 (F := Ideal) x0 x1 x3 x4 x5 x6 x8 x9 (ix2 p z) = (ms fun l => val_main_v41 (F := Ideal) x0 x1 x3 x4 x5 x6 x8 x9 (ix2 p l) : EReal) := by
    unfold ms
    pointwise [val_main_v48, val_main_v47, val_main_v46, val_main_v45, val_main_v44, val_main_v43, val_main_v42, val_main_cst_8, val_main_cst_9, val_main_cst_10]
  rw [h]
  simp only [ref_x3 x0 x1 x2 x3 x4 x5 x6 x7 x8 x9]

theorem ref_r3 (p : Fin 4096) (z : Fin 1) : val_main_v49 (F := Ideal) x0 x1 x3 x4 x5 x6 x8 x9 (ix2 p z) = rs (rowA x0 x1 x2 x3 x4 x5 x6 x7 x8 x9 p).x3 := by
  have h : val_main_v49 (F := Ideal) x0 x1 x3 x4 x5 x6 x8 x9 (ix2 p z) = (Ideal.rsqrt (val_main_v48 (F := Ideal) x0 x1 x3 x4 x5 x6 x8 x9 (ix2 p z)) : EReal) := by
    pointwise [val_main_v49]
  rw [h]
  simp only [ref_m3 x0 x1 x2 x3 x4 x5 x6 x7 x8 x9]
  rfl

theorem ref_n3 (p : Fin 4096) (j : Fin 1024) : val_main_v54 (F := Ideal) x0 x1 x3 x4 x5 x6 x8 x9 (ix2 p j) = ((rowA x0 x1 x2 x3 x4 x5 x6 x7 x8 x9 p).x3 j * rs (rowA x0 x1 x2 x3 x4 x5 x6 x7 x8 x9 p).x3 : EReal) := by
  have h : val_main_v54 (F := Ideal) x0 x1 x3 x4 x5 x6 x8 x9 (ix2 p j) = (val_main_v41 (F := Ideal) x0 x1 x3 x4 x5 x6 x8 x9 (ix2 p j) * val_main_v49 (F := Ideal) x0 x1 x3 x4 x5 x6 x8 x9 (ix2 p 0) : EReal) := by
    pointwise [val_main_v54, val_main_v53]
  rw [h]
  simp only [ref_x3 x0 x1 x2 x3 x4 x5 x6 x7 x8 x9, ref_r3 x0 x1 x2 x3 x4 x5 x6 x7 x8 x9]

theorem ref_err (p : Fin 4096) (j : Fin 1024) : val_main_v57 (F := Ideal) x0 x1 x2 x3 x4 x5 x6 x7 x8 x9 (ix2 p j) = (rowA x0 x1 x2 x3 x4 x5 x6 x7 x8 x9 p).err j := by
  have h : val_main_v57 (F := Ideal) x0 x1 x2 x3 x4 x5 x6 x7 x8 x9 (ix2 p j) = (val_main_v54 (F := Ideal) x0 x1 x3 x4 x5 x6 x8 x9 (ix2 p j) * x7 (ix2 0 j) - x2 (ix2 p j) : EReal) := by
    pointwise [val_main_v57, val_main_v56, val_main_v55]
  rw [h]
  simp only [ref_n3 x0 x1 x2 x3 x4 x5 x6 x7 x8 x9]
  rfl

end Cert.Proof.Head
-- ==== Proof.Head.Ref.lean ====
module

public import proofs.«01_k».proof.Proof.Gen.Reference10Ideal
public import proofs.«01_k».proof.Proof.Gen.Reference10Ideal.Run
public import proofs.«01_k».proof.Proof.Gen.Reference10Ideal.Read
public import proofs.«01_k».proof.Proof.Head.Args
public import proofs.«01_k».proof.Proof.Lib.Rms
public import proofs.«01_k».proof.Proof.Head.RefFwd

@[expose] public section

/-! The reference's loss and its gradients back to the row after the MLP, entry by entry. -/

set_option maxRecDepth 16384

noncomputable section

open Idealize.ShloMosaic Idealize.ShloMosaic.TcCoe Idealize.SL.Sem

namespace Cert.Proof.Head

open Cert.Kernel10Ideal Cert.Reference10Ideal.Read

variable (x0 : FVec Ideal S4096x1024 .f32) (x1 : FVec Ideal S4096x256 .f32) (x2 : FVec Ideal S4096x1024 .f32) (x3 : FVec Ideal S1x1024 .f32)
  (x4 : FVec Ideal S1024x4096 .f32) (x5 : FVec Ideal S4096x1024 .f32) (x6 x7 : FVec Ideal S1x1024 .f32) (x8 : FVec Ideal S1024x1024 .f32)
  (x9 : FVec Ideal S256x1024 .f32)

theorem word_1 : Ideal.ofBits .f32 0x3F800000#32 = ((1 : ℝ) : EReal) := by
  simp [Ideal.ofBits, Ideal.ieee, -EReal.coe_mul]; norm_num

theorem word_half' : Ideal.ofBits .f32 0x3F000000#32 = ((1 / 2 : ℝ) : EReal) := by
  simp [Ideal.ofBits, Ideal.ieee, -EReal.coe_mul]; norm_num

theorem word_1024' : Ideal.ofBits .f32 0x3A800000#32 = ((1 / 1024 : ℝ) : EReal) := by
  simp [Ideal.ofBits, Ideal.ieee, -EReal.coe_mul]; norm_num

theorem word_2048' : Ideal.ofBits .f32 0x3A000000#32 = ((1 / 2048 : ℝ) : EReal) := by
  simp [Ideal.ofBits, Ideal.ieee, -EReal.coe_mul]; norm_num

/-- The slope of half the mean of squares is the error over the row's length. -/
theorem slope (e : EReal) : Ideal.div (Ideal.ofBits .f32 0x3F000000#32 * Ideal.ofBits .f32 0x3F800000#32) (Ideal.ofBits .f32 0x44800000#32) *
    (Ideal.ofBits .f32 0x40000000#32 * e) = e * Ideal.ofBits .f32 0x3A800000#32 := by
  rw [word_half', word_1, Rms.word_1024, Rms.word_two, word_1024', Ideal.div_coe (by norm_num), ← mul_assoc, ← EReal.coe_mul, ← EReal.coe_mul,
    ← EReal.coe_mul, mul_comm]
  refine congrArg (fun c : ℝ => e * (c : EReal)) ?_
  norm_num

/-- Half the sum of means is the sum of the squares over twice the row's length. -/
theorem half_mean (s : Fin 4096 → EReal) : Ideal.ofBits .f32 0x3F000000#32 * ∑ p, Ideal.div (s p) (Ideal.ofBits .f32 0x44800000#32) =
    ∑ p, s p * Ideal.ofBits .f32 0x3A000000#32 := by
  rw [word_half', Rms.word_1024, word_2048', mul_comm, ← Rms.sum_mul_nonneg _ _ (by norm_num)]
  refine Finset.sum_congr rfl fun p _ => ?_
  rw [Ideal.div_coe (by norm_num), mul_assoc, ← EReal.coe_mul]
  refine congrArg (fun c : ℝ => s p * (c : EReal)) ?_
  norm_num

/-- The gradient through a norm, as differentiating writes it, is the closed form. -/
theorem dn_eq (x v : Fin 1024 → EReal) (j : Fin 1024) :
    v j * rs x + x j * Ideal.div ((∑ l, x l * v l) * (Ideal.ofBits .f32 0xBF000000#32 * Ideal.div (rs x) (ms x))) (Ideal.ofBits .f32 0x44800000#32) +
      Ideal.div ((∑ l, x l * v l) * (Ideal.ofBits .f32 0xBF000000#32 * Ideal.div (rs x) (ms x))) (Ideal.ofBits .f32 0x44800000#32) * x j = dn x v j := by
  obtain ⟨e, he, hw⟩ := Rms.word_eps
  have key := Rms.rms_grad x v e he (ms x) (rs x) (by unfold ms; rw [hw, Rms.word_1024]) rfl j
  rw [add_assoc, Rms.word_1024, Rms.word_half]
  unfold dn
  rw [Rms.word_1024]
  exact key.symm

theorem ref_dy (p : Fin 4096) (j : Fin 1024) : val_main_v71 (F := Ideal) x0 x1 x2 x3 x4 x5 x6 x7 x8 x9 (ix2 p j) = (rowA x0 x1 x2 x3 x4 x5 x6 x7 x8 x9 p).dy j := by
  have h : val_main_v71 (F := Ideal) x0 x1 x2 x3 x4 x5 x6 x7 x8 x9 (ix2 p j) = (Ideal.div (Ideal.ofBits .f32 0x3F000000#32 * Ideal.ofBits .f32 0x3F800000#32) (Ideal.ofBits .f32 0x44800000#32) * (Ideal.ofBits .f32 0x40000000#32 * val_main_v57 (F := Ideal) x0 x1 x2 x3 x4 x5 x6 x7 x8 x9 (ix2 p j)) : EReal) := by
    pointwise [val_main_v71, val_main_v70, val_main_v69, val_main_v68, val_main_v67, val_main_v66, val_main_v60, val_main_v59, val_main_cst_12, val_main_cst_17, val_main_cst_18, val_main_cst_19]
  rw [h]
  simp only [ref_err x0 x1 x2 x3 x4 x5 x6 x7 x8 x9]
  exact slope _

theorem ref_v3 (p : Fin 4096) (j : Fin 1024) : val_main_v76 (F := Ideal) x0 x1 x2 x3 x4 x5 x6 x7 x8 x9 (ix2 p j) = ((rowA x0 x1 x2 x3 x4 x5 x6 x7 x8 x9 p).dy j * (rowA x0 x1 x2 x3 x4 x5 x6 x7 x8 x9 p).gf j : EReal) := by
  have h : val_main_v76 (F := Ideal) x0 x1 x2 x3 x4 x5 x6 x7 x8 x9 (ix2 p j) = (val_main_v71 (F := Ideal) x0 x1 x2 x3 x4 x5 x6 x7 x8 x9 (ix2 p j) * x7 (ix2 0 j) : EReal) := by
    pointwise [val_main_v76, val_main_v75]
  rw [h]
  simp only [ref_dy x0 x1 x2 x3 x4 x5 x6 x7 x8 x9]

theorem ref_c3 (p : Fin 4096) : val_main_v85 (F := Ideal) x0 x1 x2 x3 x4 x5 x6 x7 x8 x9 (ix1 p) = Ideal.div ((∑ l : Fin 1024, (rowA x0 x1 x2 x3 x4 x5 x6 x7 x8 x9 p).x3 l * ((rowA x0 x1 x2 x3 x4 x5 x6 x7 x8 x9 p).dy l * (rowA x0 x1 x2 x3 x4 x5 x6 x7 x8 x9 p).gf l)) * (Ideal.ofBits .f32 0xBF000000#32 * Ideal.div (rs (rowA x0 x1 x2 x3 x4 x5 x6 x7 x8 x9 p).x3) (ms (rowA x0 x1 x2 x3 x4 x5 x6 x7 x8 x9 p).x3))) (Ideal.ofBits .f32 0x44800000#32) := by
  have h : val_main_v85 (F := Ideal) x0 x1 x2 x3 x4 x5 x6 x7 x8 x9 (ix1 p) = (∑ z : Fin 1, Ideal.div ((∑ l : Fin 1024, val_main_v41 (F := Ideal) x0 x1 x3 x4 x5 x6 x8 x9 (ix2 p l) * val_main_v76 (F := Ideal) x0 x1 x2 x3 x4 x5 x6 x7 x8 x9 (ix2 p l)) * (Ideal.ofBits .f32 0xBF000000#32 * Ideal.div (val_main_v49 (F := Ideal) x0 x1 x3 x4 x5 x6 x8 x9 (ix2 p z)) (val_main_v48 (F := Ideal) x0 x1 x3 x4 x5 x6 x8 x9 (ix2 p z)))) (Ideal.ofBits .f32 0x44800000#32) : EReal) := by
    pointwise [val_main_v85, val_main_v84, val_main_v83, val_main_v82, val_main_v79, val_main_v78, val_main_v77, val_main_v52, val_main_v51, val_main_v50, val_main_cst_11, val_main_cst_21, val_main_cst_22, val_main_cst_23]
  rw [h]
  simp only [ref_x3 x0 x1 x2 x3 x4 x5 x6 x7 x8 x9, ref_v3 x0 x1 x2 x3 x4 x5 x6 x7 x8 x9, ref_r3 x0 x1 x2 x3 x4 x5 x6 x7 x8 x9, ref_m3 x0 x1 x2 x3 x4 x5 x6 x7 x8 x9]
  exact Fin.sum_univ_one _

theorem ref_dx3 (p : Fin 4096) (j : Fin 1024) : val_main_v90 (F := Ideal) x0 x1 x2 x3 x4 x5 x6 x7 x8 x9 (ix2 p j) = (rowA x0 x1 x2 x3 x4 x5 x6 x7 x8 x9 p).dx3 j := by
  have h : val_main_v90 (F := Ideal) x0 x1 x2 x3 x4 x5 x6 x7 x8 x9 (ix2 p j) = (val_main_v76 (F := Ideal) x0 x1 x2 x3 x4 x5 x6 x7 x8 x9 (ix2 p j) * val_main_v49 (F := Ideal) x0 x1 x3 x4 x5 x6 x8 x9 (ix2 p 0) + val_main_v41 (F := Ideal) x0 x1 x3 x4 x5 x6 x8 x9 (ix2 p j) * val_main_v85 (F := Ideal) x0 x1 x2 x3 x4 x5 x6 x7 x8 x9 (ix1 p) + val_main_v85 (F := Ideal) x0 x1 x2 x3 x4 x5 x6 x7 x8 x9 (ix1 p) * val_main_v41 (F := Ideal) x0 x1 x3 x4 x5 x6 x8 x9 (ix2 p j) : EReal) := by
    pointwise [val_main_v90, val_main_v89, val_main_v88, val_main_v87, val_main_v86, val_main_v81, val_main_v80]
  rw [h]
  simp only [ref_v3 x0 x1 x2 x3 x4 x5 x6 x7 x8 x9, ref_r3 x0 x1 x2 x3 x4 x5 x6 x7 x8 x9, ref_x3 x0 x1 x2 x3 x4 x5 x6 x7 x8 x9, ref_c3 x0 x1 x2 x3 x4 x5 x6 x7 x8 x9]
  exact dn_eq (rowA x0 x1 x2 x3 x4 x5 x6 x7 x8 x9 p).x3 (fun l => (rowA x0 x1 x2 x3 x4 x5 x6 x7 x8 x9 p).dy l * (rowA x0 x1 x2 x3 x4 x5 x6 x7 x8 x9 p).gf l) j

theorem ref_dpre (p : Fin 4096) (j : Fin 1024) : val_main_v93 (F := Ideal) x0 x1 x2 x3 x4 x5 x6 x7 x8 x9 (ix2 p j) = (rowA x0 x1 x2 x3 x4 x5 x6 x7 x8 x9 p).dpre j := by
  have h : val_main_v93 (F := Ideal) x0 x1 x2 x3 x4 x5 x6 x7 x8 x9 (ix2 p j) = (val_main_v90 (F := Ideal) x0 x1 x2 x3 x4 x5 x6 x7 x8 x9 (ix2 p j) * val_main_v29 (F := Ideal) x1 x9 (ix2 p j) * (val_main_v36 (F := Ideal) x0 x3 x4 x5 x6 x8 (ix2 p j) * (Ideal.ofBits .f32 0x3F800000#32 - val_main_v36 (F := Ideal) x0 x3 x4 x5 x6 x8 (ix2 p j))) : EReal) := by
    pointwise [val_main_v93, val_main_v92, val_main_v39, val_main_v38, val_main_v37, val_main_cst_7]
  rw [h]
  simp only [ref_dx3 x0 x1 x2 x3 x4 x5 x6 x7 x8 x9, ref_pe x0 x1 x2 x3 x4 x5 x6 x7 x8 x9, ref_gate x0 x1 x2 x3 x4 x5 x6 x7 x8 x9]
  exact (mul_assoc _ _ _).symm

theorem ref_m2b (p : Fin 4096) (z : Fin 1) : val_main_v100 (F := Ideal) x0 x3 x4 x5 (ix2 p z) = ms (rowA x0 x1 x2 x3 x4 x5 x6 x7 x8 x9 p).x2 := by
  have h : val_main_v100 (F := Ideal) x0 x3 x4 x5 (ix2 p z) = (ms fun l => val_main_v16 (F := Ideal) x0 x3 x4 x5 (ix2 p l) : EReal) := by
    unfold ms
    pointwise [val_main_v100, val_main_v99, val_main_v98, val_main_v97, val_main_v96, val_main_v95, val_main_v94, val_main_cst_24, val_main_cst_25, val_main_cst_26]
  rw [h]
  simp only [ref_x2 x0 x1 x2 x3 x4 x5 x6 x7 x8 x9]

theorem ref_r2b (p : Fin 4096) (z : Fin 1) : val_main_v101 (F := Ideal) x0 x3 x4 x5 (ix2 p z) = rs (rowA x0 x1 x2 x3 x4 x5 x6 x7 x8 x9 p).x2 := by
  have h : val_main_v101 (F := Ideal) x0 x3 x4 x5 (ix2 p z) = (Ideal.rsqrt (val_main_v100 (F := Ideal) x0 x3 x4 x5 (ix2 p z)) : EReal) := by
    pointwise [val_main_v101]
  rw [h]
  simp only [ref_m2b x0 x1 x2 x3 x4 x5 x6 x7 x8 x9]
  rfl

theorem ref_n2 (p : Fin 4096) (j : Fin 1024) : val_main_v106 (F := Ideal) x0 x3 x4 x5 (ix2 p j) = ((rowA x0 x1 x2 x3 x4 x5 x6 x7 x8 x9 p).x2 j * rs (rowA x0 x1 x2 x3 x4 x5 x6 x7 x8 x9 p).x2 : EReal) := by
  have h : val_main_v106 (F := Ideal) x0 x3 x4 x5 (ix2 p j) = (val_main_v16 (F := Ideal) x0 x3 x4 x5 (ix2 p j) * val_main_v101 (F := Ideal) x0 x3 x4 x5 (ix2 p 0) : EReal) := by
    pointwise [val_main_v106, val_main_v105]
  rw [h]
  simp only [ref_x2 x0 x1 x2 x3 x4 x5 x6 x7 x8 x9, ref_r2b x0 x1 x2 x3 x4 x5 x6 x7 x8 x9]

theorem ref_dh (p : Fin 4096) (j : Fin 1024) : val_main_v110 (F := Ideal) x0 x1 x2 x3 x4 x5 x6 x7 x8 x9 (ix2 p j) = (rowA x0 x1 x2 x3 x4 x5 x6 x7 x8 x9 p).dh j := by
  have h : val_main_v110 (F := Ideal) x0 x1 x2 x3 x4 x5 x6 x7 x8 x9 (ix2 p j) = (∑ q : Fin 1024, val_main_v93 (F := Ideal) x0 x1 x2 x3 x4 x5 x6 x7 x8 x9 (ix2 p q) * x8 (ix2 j q) : EReal) := by
    pointwise [val_main_v110]
  rw [h]
  simp only [ref_dpre x0 x1 x2 x3 x4 x5 x6 x7 x8 x9]
  rfl

theorem ref_v2 (p : Fin 4096) (j : Fin 1024) : val_main_v115 (F := Ideal) x0 x1 x2 x3 x4 x5 x6 x7 x8 x9 (ix2 p j) = ((rowA x0 x1 x2 x3 x4 x5 x6 x7 x8 x9 p).dh j * (rowA x0 x1 x2 x3 x4 x5 x6 x7 x8 x9 p).gp j : EReal) := by
  have h : val_main_v115 (F := Ideal) x0 x1 x2 x3 x4 x5 x6 x7 x8 x9 (ix2 p j) = (val_main_v110 (F := Ideal) x0 x1 x2 x3 x4 x5 x6 x7 x8 x9 (ix2 p j) * x6 (ix2 0 j) : EReal) := by
    pointwise [val_main_v115, val_main_v114]
  rw [h]
  simp only [ref_dh x0 x1 x2 x3 x4 x5 x6 x7 x8 x9]

theorem ref_c2 (p : Fin 4096) : val_main_v124 (F := Ideal) x0 x1 x2 x3 x4 x5 x6 x7 x8 x9 (ix1 p) = Ideal.div ((∑ l : Fin 1024, (rowA x0 x1 x2 x3 x4 x5 x6 x7 x8 x9 p).x2 l * ((rowA x0 x1 x2 x3 x4 x5 x6 x7 x8 x9 p).dh l * (rowA x0 x1 x2 x3 x4 x5 x6 x7 x8 x9 p).gp l)) * (Ideal.ofBits .f32 0xBF000000#32 * Ideal.div (rs (rowA x0 x1 x2 x3 x4 x5 x6 x7 x8 x9 p).x2) (ms (rowA x0 x1 x2 x3 x4 x5 x6 x7 x8 x9 p).x2))) (Ideal.ofBits .f32 0x44800000#32) := by
  have h : val_main_v124 (F := Ideal) x0 x1 x2 x3 x4 x5 x6 x7 x8 x9 (ix1 p) = (∑ z : Fin 1, Ideal.div ((∑ l : Fin 1024, val_main_v16 (F := Ideal) x0 x3 x4 x5 (ix2 p l) * val_main_v115 (F := Ideal) x0 x1 x2 x3 x4 x5 x6 x7 x8 x9 (ix2 p l)) * (Ideal.ofBits .f32 0xBF000000#32 * Ideal.div (val_main_v101 (F := Ideal) x0 x3 x4 x5 (ix2 p z)) (val_main_v100 (F := Ideal) x0 x3 x4 x5 (ix2 p z)))) (Ideal.ofBits .f32 0x44800000#32) : EReal) := by
    pointwise [val_main_v124, val_main_v123, val_main_v122, val_main_v121, val_main_v118, val_main_v117, val_main_v116, val_main_v104, val_main_v103, val_main_v102, val_main_cst_27, val_main_cst_29, val_main_cst_30, val_main_cst_31]
  rw [h]
  simp only [ref_x2 x0 x1 x2 x3 x4 x5 x6 x7 x8 x9, ref_v2 x0 x1 x2 x3 x4 x5 x6 x7 x8 x9, ref_r2b x0 x1 x2 x3 x4 x5 x6 x7 x8 x9, ref_m2b x0 x1 x2 x3 x4 x5 x6 x7 x8 x9]
  exact Fin.sum_univ_one _

theorem ref_130 (p f : Fin 4096) : val_main_v130 (F := Ideal) x0 x3 x4 (ix2 p f) = G10 (rowA x0 x1 x2 x3 x4 x5 x6 x7 x8 x9) (ix2 p f) := by
  have h : val_main_v130 (F := Ideal) x0 x3 x4 (ix2 p f) = (val_main_v12 (F := Ideal) x0 x3 x4 (ix2 p f) : EReal) := by
    pointwise [val_main_v130]
  rw [h]
  simp only [ref_a x0 x1 x2 x3 x4 x5 x6 x7 x8 x9]
  rfl

theorem ref_131 (p : Fin 4096) (j : Fin 1024) : val_main_v131 (F := Ideal) x0 x1 x2 x3 x4 x5 x6 x7 x8 x9 (ix2 p j) = G11 (rowA x0 x1 x2 x3 x4 x5 x6 x7 x8 x9) (ix2 p j) := by
  have h : val_main_v131 (F := Ideal) x0 x1 x2 x3 x4 x5 x6 x7 x8 x9 (ix2 p j) = (val_main_v90 (F := Ideal) x0 x1 x2 x3 x4 x5 x6 x7 x8 x9 (ix2 p j) + (val_main_v115 (F := Ideal) x0 x1 x2 x3 x4 x5 x6 x7 x8 x9 (ix2 p j) * val_main_v101 (F := Ideal) x0 x3 x4 x5 (ix2 p 0) + val_main_v16 (F := Ideal) x0 x3 x4 x5 (ix2 p j) * val_main_v124 (F := Ideal) x0 x1 x2 x3 x4 x5 x6 x7 x8 x9 (ix1 p) + val_main_v124 (F := Ideal) x0 x1 x2 x3 x4 x5 x6 x7 x8 x9 (ix1 p) * val_main_v16 (F := Ideal) x0 x3 x4 x5 (ix2 p j)) : EReal) := by
    pointwise [val_main_v131, val_main_v129, val_main_v128, val_main_v127, val_main_v126, val_main_v125, val_main_v120, val_main_v119]
  rw [h]
  simp only [ref_dx3 x0 x1 x2 x3 x4 x5 x6 x7 x8 x9, ref_v2 x0 x1 x2 x3 x4 x5 x6 x7 x8 x9, ref_r2b x0 x1 x2 x3 x4 x5 x6 x7 x8 x9, ref_x2 x0 x1 x2 x3 x4 x5 x6 x7 x8 x9, ref_c2 x0 x1 x2 x3 x4 x5 x6 x7 x8 x9]
  exact congrArg (fun y : EReal => (rowA x0 x1 x2 x3 x4 x5 x6 x7 x8 x9 p).dx3 j + y) (dn_eq (rowA x0 x1 x2 x3 x4 x5 x6 x7 x8 x9 p).x2 (fun l => (rowA x0 x1 x2 x3 x4 x5 x6 x7 x8 x9 p).dh l * (rowA x0 x1 x2 x3 x4 x5 x6 x7 x8 x9 p).gp l) j)

theorem ref_132 (p : Fin 4096) (j : Fin 1024) : val_main_v132 (F := Ideal) x0 x3 x4 x5 x6 (ix2 p j) = G12 (rowA x0 x1 x2 x3 x4 x5 x6 x7 x8 x9) (ix2 p j) := by
  have h : val_main_v132 (F := Ideal) x0 x3 x4 x5 x6 (ix2 p j) = (val_main_v28 (F := Ideal) x0 x3 x4 x5 x6 (ix2 p j) : EReal) := by
    pointwise [val_main_v132]
  rw [h]
  simp only [ref_h3 x0 x1 x2 x3 x4 x5 x6 x7 x8 x9]
  rfl

theorem ref_133 (p : Fin 4096) (j : Fin 1024) : val_main_v133 (F := Ideal) x0 x1 x2 x3 x4 x5 x6 x7 x8 x9 (ix2 p j) = G13 (rowA x0 x1 x2 x3 x4 x5 x6 x7 x8 x9) (ix2 p j) := by
  have h : val_main_v133 (F := Ideal) x0 x1 x2 x3 x4 x5 x6 x7 x8 x9 (ix2 p j) = (val_main_v93 (F := Ideal) x0 x1 x2 x3 x4 x5 x6 x7 x8 x9 (ix2 p j) : EReal) := by
    pointwise [val_main_v133]
  rw [h]
  simp only [ref_dpre x0 x1 x2 x3 x4 x5 x6 x7 x8 x9]
  rfl

theorem ref_134 (p : Fin 4096) (j : Fin 1024) : val_main_v134 (F := Ideal) x0 x1 x2 x3 x4 x5 x6 x7 x8 x9 (ix2 p j) = G14 (rowA x0 x1 x2 x3 x4 x5 x6 x7 x8 x9) (ix2 p j) := by
  have h : val_main_v134 (F := Ideal) x0 x1 x2 x3 x4 x5 x6 x7 x8 x9 (ix2 p j) = (val_main_v36 (F := Ideal) x0 x3 x4 x5 x6 x8 (ix2 p j) * val_main_v90 (F := Ideal) x0 x1 x2 x3 x4 x5 x6 x7 x8 x9 (ix2 p j) : EReal) := by
    pointwise [val_main_v134, val_main_v91]
  rw [h]
  simp only [ref_gate x0 x1 x2 x3 x4 x5 x6 x7 x8 x9, ref_dx3 x0 x1 x2 x3 x4 x5 x6 x7 x8 x9]
  exact mul_comm _ _

theorem ref_135 (z : Fin 1) (j : Fin 128) : val_main_v135 (F := Ideal) x0 x1 x2 x3 x4 x5 x6 x7 x8 x9 (ix2 z j) = G15 (rowA x0 x1 x2 x3 x4 x5 x6 x7 x8 x9) (ix2 z j) := by
  have h : val_main_v135 (F := Ideal) x0 x1 x2 x3 x4 x5 x6 x7 x8 x9 (ix2 z j) = (Ideal.ofBits .f32 0x3F000000#32 * ∑ p : Fin 4096, Ideal.div (∑ l : Fin 1024, val_main_v57 (F := Ideal) x0 x1 x2 x3 x4 x5 x6 x7 x8 x9 (ix2 p l) * val_main_v57 (F := Ideal) x0 x1 x2 x3 x4 x5 x6 x7 x8 x9 (ix2 p l)) (Ideal.ofBits .f32 0x44800000#32) : EReal) := by
    pointwise [val_main_v135, val_main_v65, val_main_v64, val_main_v63, val_main_v62, val_main_v61, val_main_v58, val_main_cst_13, val_main_cst_14, val_main_cst_15, val_main_cst_16]
  rw [h]
  simp only [ref_err x0 x1 x2 x3 x4 x5 x6 x7 x8 x9]
  exact half_mean _

theorem ref_113 (z : Fin 1) (j : Fin 1024) : val_main_v113 (F := Ideal) x0 x1 x2 x3 x4 x5 x6 x7 x8 x9 (ix2 z j) = G16 (rowA x0 x1 x2 x3 x4 x5 x6 x7 x8 x9) (ix2 z j) := by
  have h : val_main_v113 (F := Ideal) x0 x1 x2 x3 x4 x5 x6 x7 x8 x9 (ix2 z j) = (∑ p : Fin 4096, val_main_v106 (F := Ideal) x0 x3 x4 x5 (ix2 p j) * val_main_v110 (F := Ideal) x0 x1 x2 x3 x4 x5 x6 x7 x8 x9 (ix2 p j) : EReal) := by
    pointwise [val_main_v113, val_main_v112, val_main_v111, val_main_cst_28]
  rw [h]
  simp only [ref_n2 x0 x1 x2 x3 x4 x5 x6 x7 x8 x9, ref_dh x0 x1 x2 x3 x4 x5 x6 x7 x8 x9]
  exact Finset.sum_congr rfl fun p _ => mul_comm _ _

theorem ref_74 (z : Fin 1) (j : Fin 1024) : val_main_v74 (F := Ideal) x0 x1 x2 x3 x4 x5 x6 x7 x8 x9 (ix2 z j) = G17 (rowA x0 x1 x2 x3 x4 x5 x6 x7 x8 x9) (ix2 z j) := by
  have h : val_main_v74 (F := Ideal) x0 x1 x2 x3 x4 x5 x6 x7 x8 x9 (ix2 z j) = (∑ p : Fin 4096, val_main_v54 (F := Ideal) x0 x1 x3 x4 x5 x6 x8 x9 (ix2 p j) * val_main_v71 (F := Ideal) x0 x1 x2 x3 x4 x5 x6 x7 x8 x9 (ix2 p j) : EReal) := by
    pointwise [val_main_v74, val_main_v73, val_main_v72, val_main_cst_20]
  rw [h]
  simp only [ref_n3 x0 x1 x2 x3 x4 x5 x6 x7 x8 x9, ref_dy x0 x1 x2 x3 x4 x5 x6 x7 x8 x9]
  exact Finset.sum_congr rfl fun p _ => mul_comm _ _

end Cert.Proof.Head
-- ==== Proof.Head.Outs.lean ====
module

public import proofs.«01_k».proof.Proof.Head.Block

@[expose] public section

/-! What each point of the grid leaves in the eight results' blocks, in terms of the blocks it reads. -/

set_option maxRecDepth 16384

noncomputable section

open Idealize.ShloMosaic Idealize.ShloMosaic.TcCoe Idealize.SL.Sem
open Idealize.ShloMosaic.Pipeline (Dat)

namespace Cert.Proof.Head

open Cert.Kernel10Ideal Cert.Kernel10Ideal.Gen Cert.Kernel10Ideal.Value

variable (m : (ℓ : Loc nD τ sig) → Buf (Elt Ideal) ℓ)

/-- The rows after three quarters of the MLP, at point `t`. -/
abbrev yT (c : Dev nD) (t : Fin cfg0.N) : FVec Ideal S256x1024 .f32 := y56 (iblk m c 0 t) (iblk m c 3 t) (iblk m c 4 t) (iblk m c 5 t)

/-- The MLP's last quarter, at point `t`. -/
abbrev zT (c : Dev nD) (t : Fin cfg0.N) : FVec Ideal S256x1024 .f32 := z68 (iblk m c 0 t) (iblk m c 3 t) (iblk m c 4 t) (iblk m c 5 t)

/-- The gate, at point `t`. -/
abbrev gT (c : Dev nD) (t : Fin cfg0.N) : FVec Ideal S256x1024 .f32 := k0_pay20 (F := Ideal) (yT m c t) (zT m c t) (iblk m c 6 t) (iblk m c 8 t)

/-- The embedding, at point `t`. -/
abbrev eT (c : Dev nD) (t : Fin cfg0.N) : FVec Ideal S256x1024 .f32 := k0_pay21 (F := Ideal) (iblk m c 1 t) (iblk m c 9 t)

/-- The last rows, at point `t`. -/
abbrev xT (c : Dev nD) (t : Fin cfg0.N) : FVec Ideal S256x1024 .f32 :=
  k0_pay22 (F := Ideal) (yT m c t) (zT m c t) (iblk m c 6 t) (iblk m c 8 t) (iblk m c 1 t) (iblk m c 9 t)

/-- The last rows' mean squares, at point `t`. -/
abbrev vT (c : Dev nD) (t : Fin cfg0.N) : FVec Ideal S256x1 .f32 :=
  k0_pay23 (F := Ideal) (yT m c t) (zT m c t) (iblk m c 6 t) (iblk m c 8 t) (iblk m c 1 t) (iblk m c 9 t)

/-- The gradient at the last rows, at point `t`. -/
abbrev dT (c : Dev nD) (t : Fin cfg0.N) : FVec Ideal S256x1024 .f32 :=
  k0_pay29 (F := Ideal) (xT m c t) (vT m c t) c59 (iblk m c 7 t) (iblk m c 2 t) (iblk m c 7 t)

/-- The values before the rectifier, which the kernel stores in four pieces of its columns. -/
abbrev aB (x0 : FVec Ideal S256x1024 .f32) (x3 : FVec Ideal S1x1024 .f32) (x4 : FVec Ideal S1024x4096 .bf16) : FVec Ideal S256x4096 .bf16 :=
  View.canon (Val := Elt Ideal) (e := .bf16) (s := S256x4096)
      [⟨Rect.unit (s := S256x4096) ![0, 3072] ![256, 1024] inb_S256x4096_S256x1024_0_3072,
          k0_pay14 (F := Ideal) (k0_pay4 x0 x3) (View.ld (Val := Elt Ideal) (e' := .bf16) x4 (Rect.unit (s := S1024x4096) ![0, 3072] ![1024, 1024] inb_S1024x4096_S1024x1024_0_3072))⟩,
        ⟨Rect.unit (s := S256x4096) ![0, 2048] ![256, 1024] inb_S256x4096_S256x1024_0_2048,
          k0_pay11 (F := Ideal) (k0_pay4 x0 x3) (View.ld (Val := Elt Ideal) (e' := .bf16) x4 (Rect.unit (s := S1024x4096) ![0, 2048] ![1024, 1024] inb_S1024x4096_S1024x1024_0_2048))⟩,
        ⟨Rect.unit (s := S256x4096) ![0, 1024] ![256, 1024] inb_S256x4096_S256x1024_0_1024,
          k0_pay9 (F := Ideal) x0 x3 (View.ld (Val := Elt Ideal) (e' := .bf16) x4 (Rect.unit (s := S1024x4096) ![0, 1024] ![1024, 1024] inb_S1024x4096_S1024x1024_0_1024))⟩,
        ⟨Rect.unit (s := S256x4096) ![0, 0] ![256, 1024] inb_S256x4096_S256x1024_0_0,
          k0_pay6 (F := Ideal) x0 x3 (View.ld (Val := Elt Ideal) (e' := .bf16) x4 (Rect.unit (s := S1024x4096) ![0, 0] ![1024, 1024] inb_S1024x4096_S1024x1024_0_0))⟩]

theorem eq10 (c : Dev nD) (t : Fin cfg0.N) : (show FVec Ideal S256x4096 .bf16 from (outsAt0 m c t.val t.isLt).1) =
    aB (iblk m c 0 t) (iblk m c 3 t) (iblk m c 4 t) := by
  by_cases h0 : t.val % 16 = 0
  · rw [outsAt0_A m c t h0]; frame_out
  · rw [outsAt0_B m c t h0]; frame_out

theorem eq11 (c : Dev nD) (t : Fin cfg0.N) : (show FVec Ideal S256x1024 .f32 from (outsAt0 m c t.val t.isLt).2.1) =
    k0_pay37 (F := Ideal) (k0_pay17 (F := Ideal) (yT m c t) (zT m c t)) (k0_pay18 (F := Ideal) (yT m c t) (zT m c t)) (gT m c t) (eT m c t) (dT m c t) (iblk m c 8 t) (iblk m c 6 t) := by
  by_cases h0 : t.val % 16 = 0
  · rw [outsAt0_A m c t h0]; frame_out
  · rw [outsAt0_B m c t h0]; frame_out

theorem eq12 (c : Dev nD) (t : Fin cfg0.N) : (show FVec Ideal S256x1024 .bf16 from (outsAt0 m c t.val t.isLt).2.2.1) =
    k0_pay19 (F := Ideal) (yT m c t) (zT m c t) (iblk m c 6 t) := by
  by_cases h0 : t.val % 16 = 0
  · rw [outsAt0_A m c t h0]; frame_out
  · rw [outsAt0_B m c t h0]; frame_out

theorem eq13 (c : Dev nD) (t : Fin cfg0.N) : (show FVec Ideal S256x1024 .bf16 from (outsAt0 m c t.val t.isLt).2.2.2.1) =
    k0_pay34 (F := Ideal) (gT m c t) (eT m c t) (dT m c t) := by
  by_cases h0 : t.val % 16 = 0
  · rw [outsAt0_A m c t h0]; frame_out
  · rw [outsAt0_B m c t h0]; frame_out

theorem eq14 (c : Dev nD) (t : Fin cfg0.N) : (show FVec Ideal S256x1024 .bf16 from (outsAt0 m c t.val t.isLt).2.2.2.2.1) =
    k0_pay33 (F := Ideal) (gT m c t) (dT m c t) := by
  by_cases h0 : t.val % 16 = 0
  · rw [outsAt0_A m c t h0]; frame_out
  · rw [outsAt0_B m c t h0]; frame_out

theorem first15 (c : Dev nD) (t : Fin cfg0.N) (h0 : t.val % 16 = 0) : (show FVec Ideal S1x128 .f32 from (outsAt0 m c t.val t.isLt).2.2.2.2.2.1) =
    k0_pay27 (F := Ideal) (xT m c t) (vT m c t) c59 (iblk m c 7 t) (iblk m c 2 t) (k0_pay1 (F := Ideal)) := by
  rw [outsAt0_A m c t h0]; frame_out

theorem next15 (c : Dev nD) (n : ℕ) (h : n + 1 < cfg0.N) (t : Fin cfg0.N) (ht : t = ⟨n + 1, h⟩) (a : FVec Ideal S1x128 .f32)
    (ha : a = (outsAt0 m c n (by omega)).2.2.2.2.2.1) : (show FVec Ideal S1x128 .f32 from (outsAt0 m c t.val t.isLt).2.2.2.2.2.1) =
    k0_pay27 (F := Ideal) (xT m c t) (vT m c t) c59 (iblk m c 7 t) (iblk m c 2 t) a := by
  have hN : n + 1 < 16 := lt_of_lt_of_eq h N_0
  have h0 : ¬(n + 1) % 16 = 0 := by omega
  subst ht ha
  rw [outsAt0_B m c ⟨n + 1, h⟩ h0]; frame_out; rfl

theorem first16 (c : Dev nD) (t : Fin cfg0.N) (h0 : t.val % 16 = 0) : (show FVec Ideal S1x1024 .f32 from (outsAt0 m c t.val t.isLt).2.2.2.2.2.2.1) =
    k0_pay36 (F := Ideal) (k0_pay18 (F := Ideal) (yT m c t) (zT m c t)) (gT m c t) (eT m c t) (dT m c t) (iblk m c 8 t) (k0_pay2 (F := Ideal)) := by
  rw [outsAt0_A m c t h0]; frame_out

theorem next16 (c : Dev nD) (n : ℕ) (h : n + 1 < cfg0.N) (t : Fin cfg0.N) (ht : t = ⟨n + 1, h⟩) (a : FVec Ideal S1x1024 .f32)
    (ha : a = (outsAt0 m c n (by omega)).2.2.2.2.2.2.1) : (show FVec Ideal S1x1024 .f32 from (outsAt0 m c t.val t.isLt).2.2.2.2.2.2.1) =
    k0_pay36 (F := Ideal) (k0_pay18 (F := Ideal) (yT m c t) (zT m c t)) (gT m c t) (eT m c t) (dT m c t) (iblk m c 8 t) a := by
  have hN : n + 1 < 16 := lt_of_lt_of_eq h N_0
  have h0 : ¬(n + 1) % 16 = 0 := by omega
  subst ht ha
  rw [outsAt0_B m c ⟨n + 1, h⟩ h0]; frame_out; rfl

theorem first17 (c : Dev nD) (t : Fin cfg0.N) (h0 : t.val % 16 = 0) : (show FVec Ideal S1x1024 .f32 from (outsAt0 m c t.val t.isLt).2.2.2.2.2.2.2) =
    k0_pay32 (F := Ideal) (k0_pay30 (F := Ideal) (xT m c t) (vT m c t) c59 (iblk m c 7 t) (iblk m c 2 t)) (k0_pay31 (F := Ideal) (k0_pay3 (F := Ideal))) := by
  rw [outsAt0_A m c t h0]; frame_out

theorem next17 (c : Dev nD) (n : ℕ) (h : n + 1 < cfg0.N) (t : Fin cfg0.N) (ht : t = ⟨n + 1, h⟩) (a : FVec Ideal S1x1024 .f32)
    (ha : a = (outsAt0 m c n (by omega)).2.2.2.2.2.2.2) : (show FVec Ideal S1x1024 .f32 from (outsAt0 m c t.val t.isLt).2.2.2.2.2.2.2) =
    k0_pay32 (F := Ideal) (k0_pay30 (F := Ideal) (xT m c t) (vT m c t) c59 (iblk m c 7 t) (iblk m c 2 t)) (k0_pay31 (F := Ideal) a) := by
  have hN : n + 1 < 16 := lt_of_lt_of_eq h N_0
  have h0 : ¬(n + 1) % 16 = 0 := by omega
  subst ht ha
  rw [outsAt0_B m c ⟨n + 1, h⟩ h0]; frame_out; rfl

end Cert.Proof.Head
-- ==== Proof.Head.Kernel.lean ====
module

public import proofs.«01_k».proof.Proof.Head.Outs
public import proofs.«01_k».proof.Proof.Head.Args

@[expose] public section

/-! What the kernel leaves in its eight results: five arrays stored block by block, and the loss and two gradients of gains, which it adds up
    over the blocks. -/

set_option maxRecDepth 16384

noncomputable section

open Idealize.ShloMosaic Idealize.ShloMosaic.TcCoe Idealize.SL.Sem
open Idealize.ShloMosaic.Pipeline (Dat)
open Cert.Proof.Part

namespace Cert.Proof.Head

open Cert.Kernel10Ideal Cert.Kernel10Ideal.Gen Cert.Kernel10Ideal.Value

variable (m : (ℓ : Loc nD τ sig) → Buf (Elt Ideal) ℓ)

theorem four (T3 T2 T1 T0 : FVec Ideal S256x1024 .bf16) (G : Fin 256 → Fin 4096 → EReal)
    (e3 : ∀ (k : Fin 256) (l : Fin 1024) (h : 3072 + l.val < 4096), T3 (ix2 k l) = G k ⟨3072 + l.val, h⟩)
    (e2 : ∀ (k : Fin 256) (l : Fin 1024) (h : 2048 + l.val < 4096), T2 (ix2 k l) = G k ⟨2048 + l.val, h⟩)
    (e1 : ∀ (k : Fin 256) (l : Fin 1024) (h : 1024 + l.val < 4096), T1 (ix2 k l) = G k ⟨1024 + l.val, h⟩)
    (e0 : ∀ (k : Fin 256) (l : Fin 1024) (h : 0 + l.val < 4096), T0 (ix2 k l) = G k ⟨0 + l.val, h⟩) (k : Fin 256) (f : Fin 4096) :
    View.canon (Val := Elt Ideal) (e := .bf16) (s := S256x4096)
      [⟨Rect.unit (s := S256x4096) ![0, 3072] ![256, 1024] inb_S256x4096_S256x1024_0_3072, T3⟩,
        ⟨Rect.unit (s := S256x4096) ![0, 2048] ![256, 1024] inb_S256x4096_S256x1024_0_2048, T2⟩,
        ⟨Rect.unit (s := S256x4096) ![0, 1024] ![256, 1024] inb_S256x4096_S256x1024_0_1024, T1⟩,
        ⟨Rect.unit (s := S256x4096) ![0, 0] ![256, 1024] inb_S256x4096_S256x1024_0_0, T0⟩] (ix2 k f) = G k f := by
  canon_tiles x h
  · have e : f = ⟨3072 + (x 1).val, by omega⟩ := Fin.ext (h1)
    rw [e, show k = x 0 from Fin.ext h0, ← e3 (x 0) (x 1)]
    exact congrArg T3 (funext fun a => by match a with | ⟨0, _⟩ => rfl | ⟨1, _⟩ => rfl)
  · have e : f = ⟨2048 + (x 1).val, by omega⟩ := Fin.ext (h1)
    rw [e, show k = x 0 from Fin.ext h0, ← e2 (x 0) (x 1)]
    exact congrArg T2 (funext fun a => by match a with | ⟨0, _⟩ => rfl | ⟨1, _⟩ => rfl)
  · have e : f = ⟨1024 + (x 1).val, by omega⟩ := Fin.ext (h1)
    rw [e, show k = x 0 from Fin.ext h0, ← e1 (x 0) (x 1)]
    exact congrArg T1 (funext fun a => by match a with | ⟨0, _⟩ => rfl | ⟨1, _⟩ => rfl)
  · have e : f = ⟨0 + (x 1).val, by omega⟩ := Fin.ext (h1.trans (Nat.zero_add _).symm)
    rw [e, show k = x 0 from Fin.ext h0, ← e0 (x 0) (x 1)]
    exact congrArg T0 (funext fun a => by match a with | ⟨0, _⟩ => rfl | ⟨1, _⟩ => rfl)

theorem aB_apply (x0 : FVec Ideal S256x1024 .f32) (x1 : FVec Ideal S256x256 .f32) (x2 : FVec Ideal S256x1024 .f32) (x3 : FVec Ideal S1x1024 .f32)
    (x4 : FVec Ideal S1024x4096 .bf16) (x5 : FVec Ideal S4096x1024 .bf16) (x6 x7 : FVec Ideal S1x1024 .f32) (x8 : FVec Ideal S1024x1024 .bf16)
    (x9 : FVec Ideal S256x1024 .bf16) (k : Fin 256) (f : Fin 4096) :
    aB x0 x3 x4 (ix2 k f) = (rowB x0 x1 x2 x3 x4 x5 x6 x7 x8 x9 k).a f := by
  refine four _ _ _ _ (fun k f => (rowB x0 x1 x2 x3 x4 x5 x6 x7 x8 x9 k).a f) (fun k l h => ?_) (fun k l h => ?_) (fun k l h => ?_) (fun k l h => ?_) k f
  · rw [pay14_apply, pay13_apply]
    exact a_piece x0 x1 x2 x3 x4 x5 x6 x7 x8 x9 _ 3072 (fun l => by omega) (fun q l => ldu x4 3072 _ q l (by omega)) k l
  · rw [pay11_apply, pay10_apply]
    exact a_piece x0 x1 x2 x3 x4 x5 x6 x7 x8 x9 _ 2048 (fun l => by omega) (fun q l => ldu x4 2048 _ q l (by omega)) k l
  · rw [pay9_apply, pay8_apply]
    exact a_piece x0 x1 x2 x3 x4 x5 x6 x7 x8 x9 _ 1024 (fun l => by omega) (fun q l => ldu x4 1024 _ q l (by omega)) k l
  · rw [pay6_apply, pay5_apply]
    exact a_piece x0 x1 x2 x3 x4 x5 x6 x7 x8 x9 _ 0 (fun l => by omega) (fun q l => ldu x4 0 _ q l (by omega)) k l

theorem hx (c : Dev nD) (t : Fin cfg0.N) (k : Fin 256) (j : Fin 1024) : k0_pay16 (F := Ideal) (yT m c t) (zT m c t) (ix2 k j) = (RB m c t k).x2 j :=
  x2_apply (iblk m c 0 t) (iblk m c 1 t) (iblk m c 2 t) (iblk m c 3 t) (iblk m c 4 t) (iblk m c 5 t) (iblk m c 6 t) (iblk m c 7 t) (iblk m c 8 t) (iblk m c 9 t) k j

theorem hg (c : Dev nD) (t : Fin cfg0.N) (k : Fin 256) (j : Fin 1024) : gT m c t (ix2 k j) = (RB m c t k).gate j :=
  l20 _ (iblk m c 1 t) (iblk m c 2 t) _ _ _ _ (iblk m c 7 t) _ (iblk m c 9 t) _ _ k (hx m c t k) j

theorem he (c : Dev nD) (t : Fin cfg0.N) (k : Fin 256) (j : Fin 1024) : eT m c t (ix2 k j) = (RB m c t k).pe j :=
  (pay21_apply _ _ k j).trans rfl

theorem hd (c : Dev nD) (t : Fin cfg0.N) (k : Fin 256) (j : Fin 1024) : dT m c t (ix2 k j) = (RB m c t k).dx3 j :=
  l29 _ _ _ _ _ _ _ _ _ _ _ _ k (hx m c t k) j

theorem out10 (c : Dev nD) (t : Fin cfg0.N) (k : Fin 256) (j : Fin 4096) (h : 256 * t.val + k.val < 4096) :
    (show FVec Ideal S256x4096 .bf16 from (outsAt0 m c t.val t.isLt).1) (ix2 k j) = G10 (R m c) (ix2 ⟨256 * t.val + k, h⟩ j) := by
  refine (congrFun (eq10 m c t) (ix2 k j)).trans ?_
  refine Eq.trans ?_ (congrArg (fun r : Row => r.a j) (row_blk m c t k h))
  exact aB_apply _ (iblk m c 1 t) (iblk m c 2 t) _ _ (iblk m c 5 t) (iblk m c 6 t) (iblk m c 7 t) (iblk m c 8 t) (iblk m c 9 t) k j

theorem final10 (c : Dev nD) : (dats m 0 c).arrAt 10 cfg0.N = G10 (R m c) := by
  refine (dats m 0 c).arrAt_eq_of_covers 10 _ (by decide +kernel) fun t hf y => ?_
  blk_simp
  rw [after0_10]
  idx_vars y
  have ht := lt16 t
  have hy := y0.isLt
  refine (out10 m c t y0 y1 (by omega)).trans (congrArg _ ?_)
  blk_ext [idx t]

theorem out11 (c : Dev nD) (t : Fin cfg0.N) (k : Fin 256) (j : Fin 1024) (h : 256 * t.val + k.val < 4096) :
    (show FVec Ideal S256x1024 .f32 from (outsAt0 m c t.val t.isLt).2.1) (ix2 k j) = G11 (R m c) (ix2 ⟨256 * t.val + k, h⟩ j) := by
  refine (congrFun (eq11 m c t) (ix2 k j)).trans ?_
  refine Eq.trans ?_ (congrArg (fun r : Row => r.dx2 j) (row_blk m c t k h))
  exact l37 (RB m c t k) _ _ _ _ _ k (hd m c t k) (hg m c t k) (he m c t k) (fun _ _ => rfl) _ _
    (l17 _ (iblk m c 1 t) (iblk m c 2 t) _ _ _ (iblk m c 6 t) (iblk m c 7 t) (iblk m c 8 t) (iblk m c 9 t) _ _ k (hx m c t k) 0)
    (l18 _ (iblk m c 1 t) (iblk m c 2 t) _ _ _ (iblk m c 6 t) (iblk m c 7 t) (iblk m c 8 t) (iblk m c 9 t) _ _ k (hx m c t k)) (fun _ => rfl) j

theorem final11 (c : Dev nD) : (dats m 0 c).arrAt 11 cfg0.N = G11 (R m c) := by
  refine (dats m 0 c).arrAt_eq_of_covers 11 _ (by decide +kernel) fun t hf y => ?_
  blk_simp
  rw [after0_11]
  idx_vars y
  have ht := lt16 t
  have hy := y0.isLt
  refine (out11 m c t y0 y1 (by omega)).trans (congrArg _ ?_)
  blk_ext [idx t]

theorem out12 (c : Dev nD) (t : Fin cfg0.N) (k : Fin 256) (j : Fin 1024) (h : 256 * t.val + k.val < 4096) :
    (show FVec Ideal S256x1024 .bf16 from (outsAt0 m c t.val t.isLt).2.2.1) (ix2 k j) = G12 (R m c) (ix2 ⟨256 * t.val + k, h⟩ j) := by
  refine (congrFun (eq12 m c t) (ix2 k j)).trans ?_
  refine Eq.trans ?_ (congrArg (fun r : Row => r.h3 j) (row_blk m c t k h))
  exact l19 _ (iblk m c 1 t) (iblk m c 2 t) _ _ _ _ (iblk m c 7 t) (iblk m c 8 t) (iblk m c 9 t) _ _ k (hx m c t k) j

theorem final12 (c : Dev nD) : (dats m 0 c).arrAt 12 cfg0.N = G12 (R m c) := by
  refine (dats m 0 c).arrAt_eq_of_covers 12 _ (by decide +kernel) fun t hf y => ?_
  blk_simp
  rw [after0_12]
  idx_vars y
  have ht := lt16 t
  have hy := y0.isLt
  refine (out12 m c t y0 y1 (by omega)).trans (congrArg _ ?_)
  blk_ext [idx t]

theorem out13 (c : Dev nD) (t : Fin cfg0.N) (k : Fin 256) (j : Fin 1024) (h : 256 * t.val + k.val < 4096) :
    (show FVec Ideal S256x1024 .bf16 from (outsAt0 m c t.val t.isLt).2.2.2.1) (ix2 k j) = G13 (R m c) (ix2 ⟨256 * t.val + k, h⟩ j) := by
  refine (congrFun (eq13 m c t) (ix2 k j)).trans ?_
  refine Eq.trans ?_ (congrArg (fun r : Row => r.dpre j) (row_blk m c t k h))
  exact l34 (RB m c t k) _ _ _ k (hd m c t k) (hg m c t k) (he m c t k) j

theorem final13 (c : Dev nD) : (dats m 0 c).arrAt 13 cfg0.N = G13 (R m c) := by
  refine (dats m 0 c).arrAt_eq_of_covers 13 _ (by decide +kernel) fun t hf y => ?_
  blk_simp
  rw [after0_13]
  idx_vars y
  have ht := lt16 t
  have hy := y0.isLt
  refine (out13 m c t y0 y1 (by omega)).trans (congrArg _ ?_)
  blk_ext [idx t]

theorem out14 (c : Dev nD) (t : Fin cfg0.N) (k : Fin 256) (j : Fin 1024) (h : 256 * t.val + k.val < 4096) :
    (show FVec Ideal S256x1024 .bf16 from (outsAt0 m c t.val t.isLt).2.2.2.2.1) (ix2 k j) = G14 (R m c) (ix2 ⟨256 * t.val + k, h⟩ j) := by
  refine (congrFun (eq14 m c t) (ix2 k j)).trans ?_
  refine Eq.trans ?_ (congrArg (fun r : Row => r.dpe j) (row_blk m c t k h))
  exact l33 (RB m c t k) _ _ k (hd m c t k) (hg m c t k) j

theorem final14 (c : Dev nD) : (dats m 0 c).arrAt 14 cfg0.N = G14 (R m c) := by
  refine (dats m 0 c).arrAt_eq_of_covers 14 _ (by decide +kernel) fun t hf y => ?_
  blk_simp
  rw [after0_14]
  idx_vars y
  have ht := lt16 t
  have hy := y0.isLt
  refine (out14 m c t y0 y1 (by omega)).trans (congrArg _ ?_)
  blk_ext [idx t]

end Cert.Proof.Head
-- ==== Proof.Head.Sums.lean ====
module

public import proofs.«01_k».proof.Proof.Head.Kernel
public import proofs.«01_k».proof.Proof.Lib.Rms

@[expose] public section

/-! The loss and the two gradients of gains, which the kernel adds up over the blocks of rows. -/

set_option maxRecDepth 16384

noncomputable section

open Idealize.ShloMosaic Idealize.ShloMosaic.TcCoe Idealize.SL.Sem
open Idealize.ShloMosaic.Pipeline (Dat)
open Cert.Proof.Part

namespace Cert.Proof.Head

open Cert.Kernel10Ideal Cert.Kernel10Ideal.Gen Cert.Kernel10Ideal.Value

variable (m : (ℓ : Loc nD τ sig) → Buf (Elt Ideal) ℓ)

theorem word_2048 : Ideal.ofBits .f32 0x3A000000#32 = ((1 / 2048 : ℝ) : EReal) := by
  simp [Ideal.ofBits, Ideal.ieee, -EReal.coe_mul]; norm_num

theorem scale (f : Fin 256 → EReal) : (∑ k, f k) * Ideal.ofBits .f32 0x3A000000#32 = ∑ k, f k * Ideal.ofBits .f32 0x3A000000#32 := by
  rw [word_2048]
  exact (Rms.sum_mul_nonneg f _ (by norm_num)).symm

/-- The loss after point `n`. -/
def Holds15 (c : Dev nD) (n : ℕ) (h : n < cfg0.N) : Prop :=
  ∀ (j : Fin 128), (show FVec Ideal S1x128 .f32 from (outsAt0 m c n h).2.2.2.2.2.1) (ix2 0 j) = ∑ s ∈ Finset.range (n + 1), part 256 (term15 (R m c)) s

theorem step15 (c : Dev nD) (t : Fin cfg0.N) (a : FVec Ideal S1x128 .f32) (j : Fin 128)
    (ha : a (ix2 0 j) = ∑ s ∈ Finset.range t.val, part 256 (term15 (R m c)) s) :
    k0_pay27 (F := Ideal) (xT m c t) (vT m c t) c59 (iblk m c 7 t) (iblk m c 2 t) a (ix2 0 j) = ∑ s ∈ Finset.range (t.val + 1), part 256 (term15 (R m c)) s := by
  have ht := lt16 t
  rw [pay27_apply, ha, Finset.sum_range_succ]
  refine congrArg₂ (fun x y : EReal => x + y) rfl ?_
  rw [mul_comm, scale]
  refine part_eq 256 _ t.val _ (by omega) fun k hk => ?_
  refine Eq.trans ?_ (congrArg (fun r : Row => r.sq * Ideal.ofBits .f32 0x3A000000#32) (row_blk m c t k hk))
  refine congrArg (fun x : EReal => x * Ideal.ofBits .f32 0x3A000000#32) (Finset.sum_congr rfl fun l _ => ?_)
  exact congrArg (fun x : EReal => x * x) (l26 _ _ _ _ _ _ _ _ _ _ _ _ k (hx m c t k) l)

theorem holds15 (c : Dev nD) (n : ℕ) : ∀ h : n < cfg0.N, Holds15 m c n h := by
  induction n with
  | zero =>
    intro h j
    refine (congrFun (first15 m c ⟨0, h⟩ rfl) (ix2 0 j)).trans (step15 m c ⟨0, h⟩ _ j ?_)
    rw [pay1_apply]
    exact (Finset.sum_range_zero _).symm
  | succ n ih =>
    intro h j
    exact (congrFun (next15 m c n h ⟨n + 1, h⟩ rfl _ rfl) (ix2 0 j)).trans (step15 m c ⟨n + 1, h⟩ _ j (ih (by omega) j))

theorem final15 (c : Dev nD) : (dats m 0 c).arrAt 15 cfg0.N = G15 (R m c) := by
  refine (dats m 0 c).arrAt_eq_of_after_last 15 t0_15 (by decide +kernel) _ fun j => ?_
  blk_simp
  rw [after0_15]
  idx_vars j
  have e : j0 = 0 := Subsingleton.elim _ _
  subst e
  refine (holds15 m c t0_15.val t0_15.isLt j1).trans ?_
  exact sum_part 16 256 rfl _

/-- The gradient of the gate's gain after point `n`. -/
def Holds16 (c : Dev nD) (n : ℕ) (h : n < cfg0.N) : Prop :=
  ∀ (j : Fin 1024), (show FVec Ideal S1x1024 .f32 from (outsAt0 m c n h).2.2.2.2.2.2.1) (ix2 0 j) = ∑ s ∈ Finset.range (n + 1), part 256 (term16 (R m c) j) s

theorem step16 (c : Dev nD) (t : Fin cfg0.N) (a : FVec Ideal S1x1024 .f32) (j : Fin 1024)
    (ha : a (ix2 0 j) = ∑ s ∈ Finset.range t.val, part 256 (term16 (R m c) j) s) :
    k0_pay36 (F := Ideal) (k0_pay18 (F := Ideal) (yT m c t) (zT m c t)) (gT m c t) (eT m c t) (dT m c t) (iblk m c 8 t) a (ix2 0 j) = ∑ s ∈ Finset.range (t.val + 1), part 256 (term16 (R m c) j) s := by
  have ht := lt16 t
  rw [pay36_apply, ha, Finset.sum_range_succ]
  refine congrArg₂ (fun x y : EReal => x + y) rfl ?_
  refine part_eq 256 _ t.val _ (by omega) fun k hk => ?_
  refine Eq.trans ?_ (congrArg (fun r : Row => r.dh j * (r.x2 j * rs r.x2)) (row_blk m c t k hk))
  exact congrArg₂ (fun x y : EReal => x * y) (l35 (RB m c t k) _ _ _ _ k (hd m c t k) (hg m c t k) (he m c t k) (fun _ _ => rfl) j)
    (l18 _ (iblk m c 1 t) (iblk m c 2 t) _ _ _ (iblk m c 6 t) (iblk m c 7 t) (iblk m c 8 t) (iblk m c 9 t) _ _ k (hx m c t k) j)

theorem holds16 (c : Dev nD) (n : ℕ) : ∀ h : n < cfg0.N, Holds16 m c n h := by
  induction n with
  | zero =>
    intro h j
    refine (congrFun (first16 m c ⟨0, h⟩ rfl) (ix2 0 j)).trans (step16 m c ⟨0, h⟩ _ j ?_)
    rw [pay2_apply]
    exact (Finset.sum_range_zero _).symm
  | succ n ih =>
    intro h j
    exact (congrFun (next16 m c n h ⟨n + 1, h⟩ rfl _ rfl) (ix2 0 j)).trans (step16 m c ⟨n + 1, h⟩ _ j (ih (by omega) j))

theorem final16 (c : Dev nD) : (dats m 0 c).arrAt 16 cfg0.N = G16 (R m c) := by
  refine (dats m 0 c).arrAt_eq_of_after_last 16 t0_15 (by decide +kernel) _ fun j => ?_
  blk_simp
  rw [after0_16]
  idx_vars j
  have e : j0 = 0 := Subsingleton.elim _ _
  subst e
  refine (holds16 m c t0_15.val t0_15.isLt j1).trans ?_
  exact sum_part 16 256 rfl _

/-- The gradient of the last gain after point `n`. -/
def Holds17 (c : Dev nD) (n : ℕ) (h : n < cfg0.N) : Prop :=
  ∀ (j : Fin 1024), (show FVec Ideal S1x1024 .f32 from (outsAt0 m c n h).2.2.2.2.2.2.2) (ix2 0 j) = ∑ s ∈ Finset.range (n + 1), part 256 (term17 (R m c) j) s

theorem step17 (c : Dev nD) (t : Fin cfg0.N) (a : FVec Ideal S1x1024 .f32) (j : Fin 1024)
    (ha : a (ix2 0 j) = ∑ s ∈ Finset.range t.val, part 256 (term17 (R m c) j) s) :
    k0_pay32 (F := Ideal) (k0_pay30 (F := Ideal) (xT m c t) (vT m c t) c59 (iblk m c 7 t) (iblk m c 2 t)) (k0_pay31 (F := Ideal) a) (ix2 0 j) = ∑ s ∈ Finset.range (t.val + 1), part 256 (term17 (R m c) j) s := by
  have ht := lt16 t
  rw [pay32_apply, pay30_apply, ha, Finset.sum_range_succ]
  refine congrArg₂ (fun x y : EReal => x + y) rfl ?_
  refine part_eq 256 _ t.val _ (by omega) fun k hk => ?_
  refine Eq.trans ?_ (congrArg (fun r : Row => r.dy j * (r.x3 j * rs r.x3)) (row_blk m c t k hk))
  exact congrArg₂ (fun x y : EReal => x * y) (l28 _ _ _ _ _ _ _ _ _ _ _ _ k (hx m c t k) j)
    (l25 _ _ (iblk m c 2 t) _ _ _ _ (iblk m c 7 t) _ _ _ _ k (hx m c t k) j)

theorem holds17 (c : Dev nD) (n : ℕ) : ∀ h : n < cfg0.N, Holds17 m c n h := by
  induction n with
  | zero =>
    intro h j
    refine (congrFun (first17 m c ⟨0, h⟩ rfl) (ix2 0 j)).trans (step17 m c ⟨0, h⟩ _ j ?_)
    rw [pay3_apply]
    exact (Finset.sum_range_zero _).symm
  | succ n ih =>
    intro h j
    exact (congrFun (next17 m c n h ⟨n + 1, h⟩ rfl _ rfl) (ix2 0 j)).trans (step17 m c ⟨n + 1, h⟩ _ j (ih (by omega) j))

theorem final17 (c : Dev nD) : (dats m 0 c).arrAt 17 cfg0.N = G17 (R m c) := by
  refine (dats m 0 c).arrAt_eq_of_after_last 17 t0_15 (by decide +kernel) _ fun j => ?_
  blk_simp
  rw [after0_17]
  idx_vars j
  have e : j0 = 0 := Subsingleton.elim _ _
  subst e
  refine (holds17 m c t0_15.val t0_15.isLt j1).trans ?_
  exact sum_part 16 256 rfl _

end Cert.Proof.Head
-- ==== Proof.Head.Claims.lean ====
module

public import proofs.«01_k».proof.Defs
public import proofs.«01_k».proof.Proof.Gen.Kernel10
public import proofs.«01_k».proof.Proof.Gen.Kernel10.Frame
public import proofs.«01_k».proof.Proof.Head.Frames
public import proofs.«01_k».proof.Proof.Head.Ref
public import proofs.«01_k».proof.Proof.Head.Sums
public import Idealize.ShloMosaic.Lib.Pipeline.ValueKit
public import Idealize.ShloMosaic.Lib.Claim

@[expose] public section

/-! The value claim about the MLP's forward pass, the gated embedding, the loss and the gradients back to the rows after the MLP. -/

set_option maxRecDepth 16384

noncomputable section

open Idealize.ShloMosaic Idealize.ShloMosaic.TcCoe Idealize.SL.Sem

namespace Cert.Proof.Head

theorem algebraic : Cert.algebraic_Kernel10Ideal_Reference10Ideal := by
  intro m g m' g' _ hag
  refine ⟨fun c => G10 (R m c), fun c => G11 (R m c), fun c => G12 (R m c), fun c => G13 (R m c), fun c => G14 (R m c), fun c => G15 (R m c), fun c => G16 (R m c), fun c => G17 (R m c), ?_, ?_⟩
  · refine (θ_run Cert.Kernel10Ideal.defs _ _).mono (fun r h c => ?_) (Cert.Kernel10Ideal.Value.run_blocks (F := Ideal) m g)
    obtain ⟨h10, h11, h12, h13, h14, h15, h16, h17, hargs⟩ := h c
    exact ⟨h10.trans (final10 m c), h11.trans (final11 m c), h12.trans (final12 m c), h13.trans (final13 m c), h14.trans (final14 m c), h15.trans (final15 m c), h16.trans (final16 m c), h17.trans (final17 m c), hargs⟩
  · refine (θ_run Cert.Reference10Ideal.defs _ _).mono (fun r h c => ?_) (Cert.Reference10Ideal.Value.run (F := Ideal) m' g')
    obtain ⟨h10, h11, h12, h13, h14, h15, h16, h17, hargs⟩ := h c
    obtain ⟨e0, e1, e2, e3, e4, e5, e6, e7, e8, e9⟩ := hag c
    have er : rowA (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) (m' ((c : Thread Cert.Reference10Ideal.nD Cert.Reference10Ideal.τ).loc Cert.Reference10Ideal.main_arg2))
        (m' ((c : Thread Cert.Reference10Ideal.nD Cert.Reference10Ideal.τ).loc Cert.Reference10Ideal.main_arg3)) (m' ((c : Thread Cert.Reference10Ideal.nD Cert.Reference10Ideal.τ).loc Cert.Reference10Ideal.main_arg4)) (m' ((c : Thread Cert.Reference10Ideal.nD Cert.Reference10Ideal.τ).loc Cert.Reference10Ideal.main_arg5))
        (m' ((c : Thread Cert.Reference10Ideal.nD Cert.Reference10Ideal.τ).loc Cert.Reference10Ideal.main_arg6)) (m' ((c : Thread Cert.Reference10Ideal.nD Cert.Reference10Ideal.τ).loc Cert.Reference10Ideal.main_arg7)) (m' ((c : Thread Cert.Reference10Ideal.nD Cert.Reference10Ideal.τ).loc Cert.Reference10Ideal.main_arg8))
        (m' ((c : Thread Cert.Reference10Ideal.nD Cert.Reference10Ideal.τ).loc Cert.Reference10Ideal.main_arg9)) = R m c := by
      rw [e0, e1, e2, e3, e4, e5, e6, e7, e8, e9]
    refine ⟨h10.trans ?_, h11.trans ?_, h12.trans ?_, h13.trans ?_, h14.trans ?_, h15.trans ?_, h16.trans ?_, h17.trans ?_, hargs⟩
    · refine (Cert.Reference10Ideal.Read.val_main_v130_eq _).trans (Eq.trans ?_ (congrArg G10 er))
      funext i
      idx_vars i
      exact ref_130 _ _ _ _ _ _ _ _ _ _ i0 i1
    · refine (Cert.Reference10Ideal.Read.val_main_v131_eq _).trans (Eq.trans ?_ (congrArg G11 er))
      funext i
      idx_vars i
      exact ref_131 _ _ _ _ _ _ _ _ _ _ i0 i1
    · refine (Cert.Reference10Ideal.Read.val_main_v132_eq _).trans (Eq.trans ?_ (congrArg G12 er))
      funext i
      idx_vars i
      exact ref_132 _ _ _ _ _ _ _ _ _ _ i0 i1
    · refine (Cert.Reference10Ideal.Read.val_main_v133_eq _).trans (Eq.trans ?_ (congrArg G13 er))
      funext i
      idx_vars i
      exact ref_133 _ _ _ _ _ _ _ _ _ _ i0 i1
    · refine (Cert.Reference10Ideal.Read.val_main_v134_eq _).trans (Eq.trans ?_ (congrArg G14 er))
      funext i
      idx_vars i
      exact ref_134 _ _ _ _ _ _ _ _ _ _ i0 i1
    · refine (Cert.Reference10Ideal.Read.val_main_v135_eq _).trans (Eq.trans ?_ (congrArg G15 er))
      funext i
      idx_vars i
      exact ref_135 _ _ _ _ _ _ _ _ _ _ i0 i1
    · refine (Cert.Reference10Ideal.Read.val_main_v113_eq _).trans (Eq.trans ?_ (congrArg G16 er))
      funext i
      idx_vars i
      exact ref_113 _ _ _ _ _ _ _ _ _ _ i0 i1
    · refine (Cert.Reference10Ideal.Read.val_main_v74_eq _).trans (Eq.trans ?_ (congrArg G17 er))
      funext i
      idx_vars i
      exact ref_74 _ _ _ _ _ _ _ _ _ _ i0 i1

end Cert.Proof.Head
-- ==== Proof.Mix.Frames.lean ====
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import Idealize.ShloMosaic.Lib.Claim

@[expose] public section

/-! The frames of the call's programs. -/

set_option maxRecDepth 16384

noncomputable section

open Idealize.ShloMosaic Idealize.ShloMosaic.TcCoe Idealize.SL.Sem

namespace Cert.Proof.Mix

theorem frame_k : Cert.quiescent_Kernel11 := fun m ρ _ => Cert.Kernel11.Gen.frame m ρ

theorem frame_ki : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2.2.2.2.2.2.2.2, Idealize.ShloMosaic.sem_eq_zero_of_no_sems (by decide) r.2⟩)
    (Cert.Reference11Ideal.Value.run (F := Ideal) m ρ)

end Cert.Proof.Mix
-- ==== Proof.Mix.Pay.lean ====
module

public import proofs.«01_k».proof.Proof.Gen.Kernel11Ideal
public import proofs.«01_k».proof.Proof.Gen.Kernel11Ideal.Frame
public import proofs.«01_k».proof.Proof.Gen.Kernel11Ideal.Value
public import proofs.«01_k».proof.Proof.Lib.Part
public import Idealize.ShloMosaic.Lib.Pipeline.ValueKit
public import Idealize.ShloMosaic.Lib.Pointwise

@[expose] public section

/-! The payloads of the gradient through the mixing of the branches, entry by entry. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

/-- The logistic function as both programs write it. -/
def sg (u : EReal) : EReal := Ideal.div (Ideal.ofBits .f32 0x3F800000#32) (Ideal.ofBits .f32 0x3F800000#32 + Ideal.exp (-u))

/-- One less a value. -/
def co (u : EReal) : EReal := Ideal.ofBits .f32 0x3F800000#32 - u

theorem pay2_apply (z : Fin 2) (j : Fin 1024) : k0_pay2 (F := Ideal) (ix2 z j) = (0 : EReal) := by pointwise [k0_pay2]

theorem pay3_apply (x : FVec Ideal S256x1024 .f32) (w : FVec Ideal S1024x1024 .bf16) (k : Fin 256) (j : Fin 1024) :
    k0_pay3 (F := Ideal) x w (ix2 k j) = (∑ q : Fin 1024, x (ix2 k q) * w (ix2 j q) : EReal) := by
  pointwise [k0_pay3]

theorem pay4_apply (o : FVec Ideal S256x512 .bf16) (w : FVec Ideal S512x1024 .bf16) (k : Fin 256) (j : Fin 1024) :
    k0_pay4 (F := Ideal) o w (ix2 k j) = (∑ e : Fin 512, o (ix2 k e) * w (ix2 e j) : EReal) := by
  pointwise [k0_pay4]

theorem pay5_apply (o : FVec Ideal S256x512 .bf16) (w : FVec Ideal S512x1024 .bf16) (k : Fin 256) (j : Fin 1024) :
    k0_pay5 (F := Ideal) o w (ix2 k j) = (∑ e : Fin 512, o (ix2 k e) * w (ix2 e j) : EReal) := by
  pointwise [k0_pay5]

theorem pay6_apply (l : FVec Ideal S256x1024 .bf16) (b : FVec Ideal S1x1024 .f32) (k : Fin 256) (j : Fin 1024) :
    k0_pay6 (F := Ideal) l b (ix2 k j) = (sg (l (ix2 k j) + b (ix2 0 j)) : EReal) := by
  unfold sg
  pointwise [k0_pay6]
  rw [zero_sub]

theorem pay7_apply (l : FVec Ideal S256x1024 .bf16) (b : FVec Ideal S1x1024 .f32) (k : Fin 256) (j : Fin 1024) :
    k0_pay7 (F := Ideal) l b (ix2 k j) = (sg (l (ix2 k j) + b (ix2 0 j)) : EReal) := by
  unfold sg
  pointwise [k0_pay7]
  rw [zero_sub]

theorem pay8_apply (f s g : FVec Ideal S256x1024 .f32) (l : FVec Ideal S256x1024 .bf16) (b : FVec Ideal S1x1024 .f32) (k : Fin 256) (j : Fin 1024) :
    k0_pay8 (F := Ideal) f s g l b (ix2 k j) = (g (ix2 k j) * f (ix2 k j) + k0_pay7 (F := Ideal) l b (ix2 k j) * s (ix2 k j) : EReal) := by
  pointwise [k0_pay8]

theorem pay9_apply (d g : FVec Ideal S256x1024 .f32) (k : Fin 256) (j : Fin 1024) :
    k0_pay9 (F := Ideal) d g (ix2 k j) = (d (ix2 k j) * g (ix2 k j) : EReal) := by
  pointwise [k0_pay9]

theorem pay10_apply (d : FVec Ideal S256x1024 .f32) (l : FVec Ideal S256x1024 .bf16) (b : FVec Ideal S1x1024 .f32) (k : Fin 256) (j : Fin 1024) :
    k0_pay10 (F := Ideal) d l b (ix2 k j) = (d (ix2 k j) * k0_pay7 (F := Ideal) l b (ix2 k j) : EReal) := by
  pointwise [k0_pay10]

theorem pay11_apply (d f g : FVec Ideal S256x1024 .f32) (k : Fin 256) (j : Fin 1024) :
    k0_pay11 (F := Ideal) d f g (ix2 k j) = (d (ix2 k j) * f (ix2 k j) * g (ix2 k j) * co (g (ix2 k j)) : EReal) := by
  unfold co
  pointwise [k0_pay11]

theorem pay12_apply (d s : FVec Ideal S256x1024 .f32) (l : FVec Ideal S256x1024 .bf16) (b : FVec Ideal S1x1024 .f32) (k : Fin 256) (j : Fin 1024) :
    k0_pay12 (F := Ideal) d s l b (ix2 k j) =
      (d (ix2 k j) * s (ix2 k j) * k0_pay7 (F := Ideal) l b (ix2 k j) * co (k0_pay7 (F := Ideal) l b (ix2 k j)) : EReal) := by
  unfold co
  pointwise [k0_pay12]

theorem pay13_apply (d f g : FVec Ideal S256x1024 .f32) (k : Fin 256) (j : Fin 1024) :
    k0_pay13 (F := Ideal) d f g (ix2 k j) = k0_pay11 (F := Ideal) d f g (ix2 k j) := by
  pointwise [k0_pay13]

theorem pay14_apply (d s : FVec Ideal S256x1024 .f32) (l : FVec Ideal S256x1024 .bf16) (b : FVec Ideal S1x1024 .f32) (k : Fin 256) (j : Fin 1024) :
    k0_pay14 (F := Ideal) d s l b (ix2 k j) = k0_pay12 (F := Ideal) d s l b (ix2 k j) := by
  pointwise [k0_pay14]

theorem pay15_apply (v : FVec Ideal S256x1024 .f32) (a : FVec Ideal S1x1024 .f32) (z : Fin 1) (j : Fin 1024) :
    k0_pay15 (F := Ideal) v a (ix2 z j) = (a (ix2 z j) + ∑ k : Fin 256, v (ix2 k j) : EReal) := by
  pointwise [k0_pay15]

theorem pay16_apply (v : FVec Ideal S256x1024 .f32) (a : FVec Ideal S1x1024 .f32) (z : Fin 1) (j : Fin 1024) :
    k0_pay16 (F := Ideal) v a (ix2 z j) = (a (ix2 z j) + ∑ k : Fin 256, v (ix2 k j) : EReal) := by
  pointwise [k0_pay16]

theorem pay17_apply (d : FVec Ideal S256x1024 .bf16) (w : FVec Ideal S512x1024 .bf16) (k : Fin 256) (e : Fin 512) :
    k0_pay17 (F := Ideal) d w (ix2 k e) = (∑ q : Fin 1024, d (ix2 k q) * w (ix2 e q) : EReal) := by
  pointwise [k0_pay17]

theorem pay18_apply (d : FVec Ideal S256x1024 .bf16) (w : FVec Ideal S512x1024 .bf16) (k : Fin 256) (e : Fin 512) :
    k0_pay18 (F := Ideal) d w (ix2 k e) = k0_pay17 (F := Ideal) d w (ix2 k e) := by
  pointwise [k0_pay18]

theorem pay20_apply (d : FVec Ideal S256x1024 .bf16) (w : FVec Ideal S512x1024 .bf16) (k : Fin 256) (e : Fin 512) :
    k0_pay20 (F := Ideal) d w (ix2 k e) = (∑ q : Fin 1024, d (ix2 k q) * w (ix2 e q) : EReal) := by
  pointwise [k0_pay20]

theorem pay1_apply (v : FVec Ideal S256x512 .f32) (k : Fin 256) (e : Fin 512) : k0_pay1 (F := Ideal) v (ix2 k e) = (v (ix2 k e) : EReal) := by
  pointwise [k0_pay1]

end Cert.Proof.Mix
-- ==== Proof.Mix.Block.lean ====
module

public import proofs.«01_k».proof.Proof.Mix.Pay

@[expose] public section

/-! What one row gives: the mixed branches, and the gradients back through the gates and the branches. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

/-- What one row's values are made of: the gradient at the row, the two mixers' outputs, the gates' logits and biases, and the weights. -/
structure Row where
  /-- The gradient at the row. -/
  dx : Fin 1024 → EReal
  /-- The forgetting attention's output. -/
  of : Fin 512 → EReal
  /-- The stick-breaking attention's output. -/
  os : Fin 512 → EReal
  /-- The first gate's logits. -/
  la : Fin 1024 → EReal
  /-- The second gate's logits. -/
  lb : Fin 1024 → EReal
  /-- The forgetting branch's weight. -/
  wf : Fin 512 → Fin 1024 → EReal
  /-- The stick-breaking branch's weight. -/
  ws : Fin 512 → Fin 1024 → EReal
  /-- The output projection's weight. -/
  wo : Fin 1024 → Fin 1024 → EReal
  /-- The first gate's bias. -/
  ba : Fin 1024 → EReal
  /-- The second gate's bias. -/
  bb : Fin 1024 → EReal

namespace Row

variable (r : Row)

/-- The gradient at the mixed branches. -/
def dm (j : Fin 1024) : EReal := ∑ q : Fin 1024, r.dx q * r.wo j q

/-- The forgetting branch. -/
def bf (j : Fin 1024) : EReal := ∑ e : Fin 512, r.of e * r.wf e j

/-- The stick-breaking branch. -/
def bs (j : Fin 1024) : EReal := ∑ e : Fin 512, r.os e * r.ws e j

/-- The first gate. -/
def ga (j : Fin 1024) : EReal := sg (r.la j + r.ba j)

/-- The second gate. -/
def gb (j : Fin 1024) : EReal := sg (r.lb j + r.bb j)

/-- The mixed branches. -/
def mg (j : Fin 1024) : EReal := r.ga j * r.bf j + r.gb j * r.bs j

/-- The gradient at the forgetting branch. -/
def dbf (j : Fin 1024) : EReal := r.dm j * r.ga j

/-- The gradient at the stick-breaking branch. -/
def dbs (j : Fin 1024) : EReal := r.dm j * r.gb j

/-- The gradient at the first gate's logits. -/
def dla (j : Fin 1024) : EReal := r.dm j * r.bf j * r.ga j * co (r.ga j)

/-- The gradient at the second gate's logits. -/
def dlb (j : Fin 1024) : EReal := r.dm j * r.bs j * r.gb j * co (r.gb j)

/-- The gradient at the forgetting attention's output. -/
def dof (e : Fin 512) : EReal := ∑ q : Fin 1024, r.dbf q * r.wf e q

/-- The gradient at the stick-breaking attention's output. -/
def dos (e : Fin 512) : EReal := ∑ q : Fin 1024, r.dbs q * r.ws e q

/-- The gradient at both gates' logits, side by side. -/
def dgl (j : Fin 2048) : EReal := if h : j.val < 1024 then r.dla ⟨j.val, h⟩ else r.dlb ⟨j.val - 1024, by have := j.isLt; omega⟩

/-- The gradient at the forgetting attention's output, in slots of 128: 64 of values, 64 of zeros. -/
def slot (l : Fin 1024) : EReal := if l.val % 128 < 64 then r.dof ⟨64 * (l.val / 128) + l.val % 64, by have := l.isLt; omega⟩ else 0

end Row

variable (x0 : FVec Ideal S256x1024 .f32) (x1 x2 : FVec Ideal S256x512 .bf16) (x3 : FVec Ideal S256x2048 .bf16) (x4 x5 : FVec Ideal S512x1024 .bf16)
  (x6 : FVec Ideal S1024x1024 .bf16) (x7 : FVec Ideal S2x1024 .f32)

/-- Row `k` of the blocks. -/
abbrev rowB (k : Fin 256) : Row where
  dx := fun l => x0 (ix2 k l)
  of := fun l => x1 (ix2 k l)
  os := fun l => x2 (ix2 k l)
  la := fun l => x3 (ix2 k ⟨0 + l.val, by have := l.isLt; omega⟩)
  lb := fun l => x3 (ix2 k ⟨1024 + l.val, by have := l.isLt; omega⟩)
  wf := fun q f => x4 (ix2 q f)
  ws := fun q f => x5 (ix2 q f)
  wo := fun q f => x6 (ix2 q f)
  ba := fun l => x7 (ix2 0 l)
  bb := fun l => x7 (ix2 1 l)

/-- The first gate's logits. -/
abbrev la : FVec Ideal S256x1024 .bf16 := View.ld (Val := Elt Ideal) (e' := .bf16) x3 (Rect.unit (s := S256x2048) ![0, 0] ![256, 1024] inb_S256x2048_S256x1024_0_0)

/-- The second gate's logits. -/
abbrev lb : FVec Ideal S256x1024 .bf16 :=
  View.ld (Val := Elt Ideal) (e' := .bf16) x3 (Rect.unit (s := S256x2048) ![0, 1024] ![256, 1024] inb_S256x2048_S256x1024_0_1024)

/-- The first row of a pair. -/
abbrev ra : FVec Ideal S1x1024 .f32 := View.ld (Val := Elt Ideal) (e' := .f32) x7 (Rect.unit (s := S2x1024) ![0, 0] ![1, 1024] inb_S2x1024_S1x1024_0_0)

/-- The second row of a pair. -/
abbrev rb : FVec Ideal S1x1024 .f32 := View.ld (Val := Elt Ideal) (e' := .f32) x7 (Rect.unit (s := S2x1024) ![1, 0] ![1, 1024] inb_S2x1024_S1x1024_1_0)

theorem la_apply (k : Fin 256) (j : Fin 1024) : la x3 (ix2 k j) = x3 (ix2 k ⟨0 + j.val, by have := j.isLt; omega⟩) := by
  unfold la
  pointwise

theorem lb_apply (k : Fin 256) (j : Fin 1024) : lb x3 (ix2 k j) = x3 (ix2 k ⟨1024 + j.val, by have := j.isLt; omega⟩) := by
  unfold lb
  pointwise

theorem ra_apply (j : Fin 1024) : ra x7 (ix2 0 j) = x7 (ix2 0 j) := by
  unfold ra
  pointwise

theorem rb_apply (j : Fin 1024) : rb x7 (ix2 0 j) = x7 (ix2 1 j) := by
  unfold rb
  pointwise

theorem d_apply (k : Fin 256) (j : Fin 1024) : (k0_pay3 (F := Ideal) x0 x6) (ix2 k j) = (rowB x0 x1 x2 x3 x4 x5 x6 x7 k).dm j := by
  exact pay3_apply _ _ k j

theorem f_apply (k : Fin 256) (j : Fin 1024) : (k0_pay4 (F := Ideal) x1 x4) (ix2 k j) = (rowB x0 x1 x2 x3 x4 x5 x6 x7 k).bf j := by
  exact pay4_apply _ _ k j

theorem s_apply (k : Fin 256) (j : Fin 1024) : (k0_pay5 (F := Ideal) x2 x5) (ix2 k j) = (rowB x0 x1 x2 x3 x4 x5 x6 x7 k).bs j := by
  exact pay5_apply _ _ k j

theorem ga_apply (k : Fin 256) (j : Fin 1024) : (k0_pay6 (F := Ideal) (la x3) (ra x7)) (ix2 k j) = (rowB x0 x1 x2 x3 x4 x5 x6 x7 k).ga j := by
  rw [pay6_apply, la_apply, ra_apply]
  rfl

theorem gb_apply (k : Fin 256) (j : Fin 1024) : k0_pay7 (F := Ideal) (lb x3) (rb x7) (ix2 k j) = (rowB x0 x1 x2 x3 x4 x5 x6 x7 k).gb j := by
  rw [pay7_apply, lb_apply, rb_apply]
  rfl

theorem mg_apply (k : Fin 256) (j : Fin 1024) : k0_pay8 (F := Ideal) (k0_pay4 (F := Ideal) x1 x4) (k0_pay5 (F := Ideal) x2 x5) (k0_pay6 (F := Ideal) (la x3) (ra x7)) (lb x3) (rb x7) (ix2 k j) = (rowB x0 x1 x2 x3 x4 x5 x6 x7 k).mg j := by
  rw [pay8_apply, f_apply x0 x1 x2 x3 x4 x5 x6 x7, s_apply x0 x1 x2 x3 x4 x5 x6 x7, ga_apply x0 x1 x2 x3 x4 x5 x6 x7, gb_apply x0 x1 x2 x3 x4 x5 x6 x7]
  rfl

theorem dbf_apply (k : Fin 256) (j : Fin 1024) : k0_pay9 (F := Ideal) (k0_pay3 (F := Ideal) x0 x6) (k0_pay6 (F := Ideal) (la x3) (ra x7)) (ix2 k j) = (rowB x0 x1 x2 x3 x4 x5 x6 x7 k).dbf j := by
  rw [pay9_apply, d_apply x0 x1 x2 x3 x4 x5 x6 x7, ga_apply x0 x1 x2 x3 x4 x5 x6 x7]
  rfl

theorem dbs_apply (k : Fin 256) (j : Fin 1024) : k0_pay10 (F := Ideal) (k0_pay3 (F := Ideal) x0 x6) (lb x3) (rb x7) (ix2 k j) = (rowB x0 x1 x2 x3 x4 x5 x6 x7 k).dbs j := by
  rw [pay10_apply, d_apply x0 x1 x2 x3 x4 x5 x6 x7, gb_apply x0 x1 x2 x3 x4 x5 x6 x7]
  rfl

theorem dla_apply (k : Fin 256) (j : Fin 1024) : k0_pay11 (F := Ideal) (k0_pay3 (F := Ideal) x0 x6) (k0_pay4 (F := Ideal) x1 x4) (k0_pay6 (F := Ideal) (la x3) (ra x7)) (ix2 k j) = (rowB x0 x1 x2 x3 x4 x5 x6 x7 k).dla j := by
  rw [pay11_apply, d_apply x0 x1 x2 x3 x4 x5 x6 x7, f_apply x0 x1 x2 x3 x4 x5 x6 x7, ga_apply x0 x1 x2 x3 x4 x5 x6 x7]
  rfl

theorem dlb_apply (k : Fin 256) (j : Fin 1024) : k0_pay12 (F := Ideal) (k0_pay3 (F := Ideal) x0 x6) (k0_pay5 (F := Ideal) x2 x5) (lb x3) (rb x7) (ix2 k j) = (rowB x0 x1 x2 x3 x4 x5 x6 x7 k).dlb j := by
  rw [pay12_apply, d_apply x0 x1 x2 x3 x4 x5 x6 x7, s_apply x0 x1 x2 x3 x4 x5 x6 x7, gb_apply x0 x1 x2 x3 x4 x5 x6 x7]
  rfl

theorem dof_apply (k : Fin 256) (e : Fin 512) : k0_pay17 (F := Ideal) (k0_pay9 (F := Ideal) (k0_pay3 (F := Ideal) x0 x6) (k0_pay6 (F := Ideal) (la x3) (ra x7))) x4 (ix2 k e) = (rowB x0 x1 x2 x3 x4 x5 x6 x7 k).dof e := by
  rw [pay17_apply]
  exact Finset.sum_congr rfl fun q _ => congrArg (fun y : EReal => y * x4 (ix2 e q)) (dbf_apply x0 x1 x2 x3 x4 x5 x6 x7 k q)

theorem dos_apply (k : Fin 256) (e : Fin 512) : k0_pay20 (F := Ideal) (k0_pay10 (F := Ideal) (k0_pay3 (F := Ideal) x0 x6) (lb x3) (rb x7)) x5 (ix2 k e) = (rowB x0 x1 x2 x3 x4 x5 x6 x7 k).dos e := by
  rw [pay20_apply]
  exact Finset.sum_congr rfl fun q _ => congrArg (fun y : EReal => y * x5 (ix2 e q)) (dbs_apply x0 x1 x2 x3 x4 x5 x6 x7 k q)

end Cert.Proof.Mix
-- ==== Proof.Mix.Outs.lean ====
module

public import proofs.«01_k».proof.Proof.Mix.Block
public import Idealize.ShloMosaic.Lib.Pipeline.ReadBack

@[expose] public section

/-! What each point of the grid leaves in the results' blocks, in terms of the blocks it reads. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

variable (m : (ℓ : Loc nD τ sig) → Buf (Elt Ideal) ℓ)

/-- The gradient at the mixed branches, at point `t`. -/
abbrev dT (c : Dev nD) (t : Fin cfg0.N) : FVec Ideal S256x1024 .f32 := k0_pay3 (F := Ideal) (iblk m c 0 t) (iblk m c 6 t)

/-- The forgetting branch, at point `t`. -/
abbrev fT (c : Dev nD) (t : Fin cfg0.N) : FVec Ideal S256x1024 .f32 := k0_pay4 (F := Ideal) (iblk m c 1 t) (iblk m c 4 t)

/-- The stick-breaking branch, at point `t`. -/
abbrev sT (c : Dev nD) (t : Fin cfg0.N) : FVec Ideal S256x1024 .f32 := k0_pay5 (F := Ideal) (iblk m c 2 t) (iblk m c 5 t)

/-- The first gate, at point `t`. -/
abbrev gT (c : Dev nD) (t : Fin cfg0.N) : FVec Ideal S256x1024 .f32 := k0_pay6 (F := Ideal) (la (iblk m c 3 t)) (ra (iblk m c 7 t))

/-- The gradient at the forgetting branch, at point `t`. -/
abbrev pT (c : Dev nD) (t : Fin cfg0.N) : FVec Ideal S256x1024 .bf16 := k0_pay9 (F := Ideal) (dT m c t) (gT m c t)

/-- The gradient at the stick-breaking branch, at point `t`. -/
abbrev qT (c : Dev nD) (t : Fin cfg0.N) : FVec Ideal S256x1024 .bf16 := k0_pay10 (F := Ideal) (dT m c t) (lb (iblk m c 3 t)) (rb (iblk m c 7 t))

/-- The gradient at the gates' logits, which the kernel stores in two halves of its columns. -/
abbrev lT (a b : FVec Ideal S256x1024 .bf16) : FVec Ideal S256x2048 .bf16 :=
  View.canon (Val := Elt Ideal) (e := .bf16) (s := S256x2048)
    [⟨Rect.unit (s := S256x2048) ![0, 1024] ![256, 1024] inb_S256x2048_S256x1024_0_1024, b⟩,
      ⟨Rect.unit (s := S256x2048) ![0, 0] ![256, 1024] inb_S256x2048_S256x1024_0_0, a⟩]

/-- A pair of rows, stored one after the other. -/
abbrev twoT (a b : FVec Ideal S1x1024 .f32) : FVec Ideal S2x1024 .f32 :=
  View.canon (Val := Elt Ideal) (e := .f32) (s := S2x1024)
    [⟨Rect.unit (s := S2x1024) ![1, 0] ![1, 1024] inb_S2x1024_S1x1024_1_0, b⟩,
      ⟨Rect.unit (s := S2x1024) ![0, 0] ![1, 1024] inb_S2x1024_S1x1024_0_0, a⟩]

theorem eq8 (c : Dev nD) (t : Fin cfg0.N) : (show FVec Ideal S256x1024 .bf16 from (outsAt0 m c t.val t.isLt).1) =
    k0_pay8 (F := Ideal) (fT m c t) (sT m c t) (gT m c t) (lb (iblk m c 3 t)) (rb (iblk m c 7 t)) := by
  by_cases h0 : t.val % 16 = 0
  · rw [outsAt0_A m c t h0]; frame_out
  · rw [outsAt0_B m c t h0]; frame_out

theorem eq9 (c : Dev nD) (t : Fin cfg0.N) : (show FVec Ideal S256x1024 .bf16 from (outsAt0 m c t.val t.isLt).2.1) =
    pT m c t := by
  by_cases h0 : t.val % 16 = 0
  · rw [outsAt0_A m c t h0]; frame_out
  · rw [outsAt0_B m c t h0]; frame_out

theorem eq10 (c : Dev nD) (t : Fin cfg0.N) : (show FVec Ideal S256x1024 .bf16 from (outsAt0 m c t.val t.isLt).2.2.1) =
    qT m c t := by
  by_cases h0 : t.val % 16 = 0
  · rw [outsAt0_A m c t h0]; frame_out
  · rw [outsAt0_B m c t h0]; frame_out

theorem eq11 (c : Dev nD) (t : Fin cfg0.N) : (show FVec Ideal S256x2048 .bf16 from (outsAt0 m c t.val t.isLt).2.2.2.1) =
    lT (k0_pay13 (F := Ideal) (dT m c t) (fT m c t) (gT m c t)) (k0_pay14 (F := Ideal) (dT m c t) (sT m c t) (lb (iblk m c 3 t)) (rb (iblk m c 7 t))) := by
  by_cases h0 : t.val % 16 = 0
  · rw [outsAt0_A m c t h0]; frame_out
  · rw [outsAt0_B m c t h0]; frame_out

theorem eq12 (c : Dev nD) (t : Fin cfg0.N) : (show FVec Ideal S256x512 .bf16 from (outsAt0 m c t.val t.isLt).2.2.2.2.1) =
    k0_pay18 (F := Ideal) (pT m c t) (iblk m c 4 t) := by
  by_cases h0 : t.val % 16 = 0
  · rw [outsAt0_A m c t h0]; frame_out
  · rw [outsAt0_B m c t h0]; frame_out

theorem eq13 (c : Dev nD) (t : Fin cfg0.N) : (show FVec Ideal S256x512 .bf16 from (outsAt0 m c t.val t.isLt).2.2.2.2.2.1) =
    k0_pay1 (F := Ideal) (k0_pay20 (F := Ideal) (qT m c t) (iblk m c 5 t)) := by
  by_cases h0 : t.val % 16 = 0
  · rw [outsAt0_A m c t h0]; frame_out
  · rw [outsAt0_B m c t h0]; frame_out

theorem eq15 (c : Dev nD) (t : Fin cfg0.N) : (show FVec Ideal S1x1024x256 .bf16 from (outsAt0 m c t.val t.isLt).2.2.2.2.2.2.2) =
    k0_pay19 (F := Ideal) (pT m c t) (iblk m c 4 t) := by
  by_cases h0 : t.val % 16 = 0
  · rw [outsAt0_A m c t h0]; frame_out
  · rw [outsAt0_B m c t h0]; frame_out

theorem first14 (c : Dev nD) (t : Fin cfg0.N) (h0 : t.val % 16 = 0) : (show FVec Ideal S2x1024 .f32 from (outsAt0 m c t.val t.isLt).2.2.2.2.2.2.1) =
    View.canon (Val := Elt Ideal) (e := .f32) (s := S2x1024) (⟨Rect.unit (s := S2x1024) ![1, 0] ![1, 1024] inb_S2x1024_S1x1024_1_0, k0_pay16 (F := Ideal) (k0_pay12 (F := Ideal) (dT m c t) (sT m c t) (lb (iblk m c 3 t)) (rb (iblk m c 7 t))) (rb (k0_pay2 (F := Ideal)))⟩ ::
      ⟨Rect.unit (s := S2x1024) ![0, 0] ![1, 1024] inb_S2x1024_S1x1024_0_0, k0_pay15 (F := Ideal) (k0_pay11 (F := Ideal) (dT m c t) (fT m c t) (gT m c t)) (ra (k0_pay2 (F := Ideal)))⟩ ::
      [⟨Rect.unit (s := S2x1024) ![0, 0] S2x1024.size inb_S2x1024_S2x1024_0_0, k0_pay2 (F := Ideal)⟩]) := by
  rw [outsAt0_A m c t h0]; frame_out
  rw [View.readCov_skip _ _ _ _ _ (by decide +kernel), View.readCov_fill _ _ _ _ _ (by intro a; fin_cases a <;> rfl),
    View.readCov_fill _ _ _ _ _ (by intro a; fin_cases a <;> rfl)]

/-- The first row of a pair, whatever was stored before. -/
theorem two_zero (a b : FVec Ideal S1x1024 .f32) (L : List (View.Piece (Elt Ideal) S2x1024 .f32)) (j : Fin 1024) :
    View.canon (Val := Elt Ideal) (e := .f32) (s := S2x1024) (⟨Rect.unit (s := S2x1024) ![1, 0] ![1, 1024] inb_S2x1024_S1x1024_1_0, b⟩ :: ⟨Rect.unit (s := S2x1024) ![0, 0] ![1, 1024] inb_S2x1024_S1x1024_0_0, a⟩ :: L) (ix2 0 j) = a (ix2 0 j) := by
  have e : (ix2 0 j : S2x1024.Idx) = (Rect.unit (s := S2x1024) ![0, 0] ![1, 1024] inb_S2x1024_S1x1024_0_0).emb (ix2 0 j) := by
    idx_ext <;> simp
  rw [e]
  refine (View.canon_cons_of_not_mem _ _ ?_).trans (View.canon_cons_emb _ _ _ _)
  have hd : LoadRect.disj (Rect.unit (s := S2x1024) ![1, 0] ![1, 1024] inb_S2x1024_S1x1024_1_0)
      (Rect.unit (s := S2x1024) ![0, 0] ![1, 1024] inb_S2x1024_S1x1024_0_0).toLoadRect = true := by decide +kernel
  exact LoadRect.idx_not_mem_of_disj hd (ix2 0 j)

/-- The second row of a pair, whatever was stored before. -/
theorem two_one (a b : FVec Ideal S1x1024 .f32) (L : List (View.Piece (Elt Ideal) S2x1024 .f32)) (j : Fin 1024) :
    View.canon (Val := Elt Ideal) (e := .f32) (s := S2x1024) (⟨Rect.unit (s := S2x1024) ![1, 0] ![1, 1024] inb_S2x1024_S1x1024_1_0, b⟩ :: ⟨Rect.unit (s := S2x1024) ![0, 0] ![1, 1024] inb_S2x1024_S1x1024_0_0, a⟩ :: L) (ix2 1 j) = b (ix2 0 j) := by
  have e : (ix2 1 j : S2x1024.Idx) = (Rect.unit (s := S2x1024) ![1, 0] ![1, 1024] inb_S2x1024_S1x1024_1_0).emb (ix2 0 j) := by
    idx_ext <;> simp
  rw [e]
  exact View.canon_cons_emb _ _ _ _

theorem next14 (c : Dev nD) (n : ℕ) (h : n + 1 < cfg0.N) (t : Fin cfg0.N) (ht : t = ⟨n + 1, h⟩) (a : FVec Ideal S2x1024 .f32)
    (ha : a = (outsAt0 m c n (by omega)).2.2.2.2.2.2.1) : (show FVec Ideal S2x1024 .f32 from (outsAt0 m c t.val t.isLt).2.2.2.2.2.2.1) =
    twoT (k0_pay15 (F := Ideal) (k0_pay11 (F := Ideal) (dT m c t) (fT m c t) (gT m c t)) (ra a)) (k0_pay16 (F := Ideal) (k0_pay12 (F := Ideal) (dT m c t) (sT m c t) (lb (iblk m c 3 t)) (rb (iblk m c 7 t))) (rb a)) := by
  have hN : n + 1 < 16 := lt_of_lt_of_eq h N_0
  have h0 : ¬(n + 1) % 16 = 0 := by omega
  subst ht ha
  rw [outsAt0_B m c ⟨n + 1, h⟩ h0]; frame_out; rfl

end Cert.Proof.Mix
-- ==== Proof.Mix.Slot.lean ====
module

public import proofs.«01_k».proof.Proof.Mix.Pay

@[expose] public section

/-! The transposed gradient in slots of 128 rows: 64 of values, 64 of zeros. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

theorem pay19_apply (d : FVec Ideal S256x1024 .bf16) (w : FVec Ideal S512x1024 .bf16) (z : Fin 1) (r : Fin 1024) (k : Fin 256) :
    k0_pay19 (F := Ideal) d w (ix3 z r k) =
      (if r.val % 128 < 64 then k0_pay17 (F := Ideal) d w (ix2 k ⟨64 * (r.val / 128) + r.val % 64, by have := r.isLt; omega⟩) else 0 : EReal) := by
  pointwise [k0_pay19]
  have hr := r.isLt
  by_cases h0 : r.val < 64
  · refine (dif_pos h0).trans (Eq.trans ?_ (if_pos (by omega)).symm)
    exact congrArg (fun x : Fin 512 => k0_pay17 (F := Ideal) d w (ix2 k x)) (Fin.ext (by dsimp only; omega))
  refine (dif_neg h0).trans ?_
  by_cases h1 : r.val - 64 < 64
  · exact (dif_pos h1).trans (if_neg (by omega)).symm
  refine (dif_neg h1).trans ?_
  by_cases h2 : r.val - 64 - 64 < 64
  · refine (dif_pos h2).trans (Eq.trans ?_ (if_pos (by omega)).symm)
    exact congrArg (fun x : Fin 512 => k0_pay17 (F := Ideal) d w (ix2 k x)) (Fin.ext (by dsimp only; omega))
  refine (dif_neg h2).trans ?_
  by_cases h3 : r.val - 64 - 64 - 64 < 64
  · exact (dif_pos h3).trans (if_neg (by omega)).symm
  refine (dif_neg h3).trans ?_
  by_cases h4 : r.val - 64 - 64 - 64 - 64 < 64
  · refine (dif_pos h4).trans (Eq.trans ?_ (if_pos (by omega)).symm)
    exact congrArg (fun x : Fin 512 => k0_pay17 (F := Ideal) d w (ix2 k x)) (Fin.ext (by dsimp only; omega))
  refine (dif_neg h4).trans ?_
  by_cases h5 : r.val - 64 - 64 - 64 - 64 - 64 < 64
  · exact (dif_pos h5).trans (if_neg (by omega)).symm
  refine (dif_neg h5).trans ?_
  by_cases h6 : r.val - 64 - 64 - 64 - 64 - 64 - 64 < 64
  · refine (dif_pos h6).trans (Eq.trans ?_ (if_pos (by omega)).symm)
    exact congrArg (fun x : Fin 512 => k0_pay17 (F := Ideal) d w (ix2 k x)) (Fin.ext (by dsimp only; omega))
  refine (dif_neg h6).trans ?_
  by_cases h7 : r.val - 64 - 64 - 64 - 64 - 64 - 64 - 64 < 64
  · exact (dif_pos h7).trans (if_neg (by omega)).symm
  refine (dif_neg h7).trans ?_
  by_cases h8 : r.val - 64 - 64 - 64 - 64 - 64 - 64 - 64 - 64 < 64
  · refine (dif_pos h8).trans (Eq.trans ?_ (if_pos (by omega)).symm)
    exact congrArg (fun x : Fin 512 => k0_pay17 (F := Ideal) d w (ix2 k x)) (Fin.ext (by dsimp only; omega))
  refine (dif_neg h8).trans ?_
  by_cases h9 : r.val - 64 - 64 - 64 - 64 - 64 - 64 - 64 - 64 - 64 < 64
  · exact (dif_pos h9).trans (if_neg (by omega)).symm
  refine (dif_neg h9).trans ?_
  by_cases h10 : r.val - 64 - 64 - 64 - 64 - 64 - 64 - 64 - 64 - 64 - 64 < 64
  · refine (dif_pos h10).trans (Eq.trans ?_ (if_pos (by omega)).symm)
    exact congrArg (fun x : Fin 512 => k0_pay17 (F := Ideal) d w (ix2 k x)) (Fin.ext (by dsimp only; omega))
  refine (dif_neg h10).trans ?_
  by_cases h11 : r.val - 64 - 64 - 64 - 64 - 64 - 64 - 64 - 64 - 64 - 64 - 64 < 64
  · exact (dif_pos h11).trans (if_neg (by omega)).symm
  refine (dif_neg h11).trans ?_
  by_cases h12 : r.val - 64 - 64 - 64 - 64 - 64 - 64 - 64 - 64 - 64 - 64 - 64 - 64 < 64
  · refine (dif_pos h12).trans (Eq.trans ?_ (if_pos (by omega)).symm)
    exact congrArg (fun x : Fin 512 => k0_pay17 (F := Ideal) d w (ix2 k x)) (Fin.ext (by dsimp only; omega))
  refine (dif_neg h12).trans ?_
  by_cases h13 : r.val - 64 - 64 - 64 - 64 - 64 - 64 - 64 - 64 - 64 - 64 - 64 - 64 - 64 < 64
  · exact (dif_pos h13).trans (if_neg (by omega)).symm
  refine (dif_neg h13).trans ?_
  by_cases h14 : r.val - 64 - 64 - 64 - 64 - 64 - 64 - 64 - 64 - 64 - 64 - 64 - 64 - 64 - 64 < 64
  · refine (dif_pos h14).trans (Eq.trans ?_ (if_pos (by omega)).symm)
    exact congrArg (fun x : Fin 512 => k0_pay17 (F := Ideal) d w (ix2 k x)) (Fin.ext (by dsimp only; omega))
  refine (dif_neg h14).trans ?_
  exact (if_neg (by omega)).symm

end Cert.Proof.Mix
-- ==== Proof.Mix.Args.lean ====
module

public import proofs.«01_k».proof.Proof.Mix.Outs
public import proofs.«01_k».proof.Proof.Mix.Slot

@[expose] public section

/-! The arguments, the blocks the kernel reads of them, and each result as a function of the arguments, row by row. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

variable (m : (ℓ : Loc nD τ sig) → Buf (Elt Ideal) ℓ)

theorem idx : ∀ t : Fin cfg0.N, win0_0.index t = ![t.val, 0] ∧
    win0_1.index t = ![t.val, 0] ∧
    win0_2.index t = ![t.val, 0] ∧
    win0_3.index t = ![t.val, 0] ∧
    win0_4.index t = ![0, 0] ∧
    win0_5.index t = ![0, 0] ∧
    win0_6.index t = ![0, 0] ∧
    win0_7.index t = ![0, 0] ∧
    win0_8.index t = ![t.val, 0] ∧
    win0_9.index t = ![t.val, 0] ∧
    win0_10.index t = ![t.val, 0] ∧
    win0_11.index t = ![t.val, 0] ∧
    win0_12.index t = ![t.val, 0] ∧
    win0_13.index t = ![t.val, 0] ∧
    win0_14.index t = ![0, 0] ∧
    win0_15.index t = ![t.val, 0, 0] ∧ t.val < 16 :=
  (by decide +kernel : ∀ t : Fin grid0.N, _)

theorem lt16 (t : Fin cfg0.N) : t.val < 16 := (idx t).2.2.2.2.2.2.2.2.2.2.2.2.2.2.2.2

abbrev A0 (c : Dev nD) : FVec Ideal S4096x1024 .f32 := m ((c : Thread nD τ).loc main_arg0)
abbrev A1 (c : Dev nD) : FVec Ideal S4096x512 .f32 := m ((c : Thread nD τ).loc main_arg1)
abbrev A2 (c : Dev nD) : FVec Ideal S4096x512 .f32 := m ((c : Thread nD τ).loc main_arg2)
abbrev A3 (c : Dev nD) : FVec Ideal S4096x2048 .f32 := m ((c : Thread nD τ).loc main_arg3)
abbrev A4 (c : Dev nD) : FVec Ideal S512x1024 .f32 := m ((c : Thread nD τ).loc main_arg4)
abbrev A5 (c : Dev nD) : FVec Ideal S512x1024 .f32 := m ((c : Thread nD τ).loc main_arg5)
abbrev A6 (c : Dev nD) : FVec Ideal S1024x1024 .f32 := m ((c : Thread nD τ).loc main_arg6)
abbrev A7 (c : Dev nD) : FVec Ideal S2x1024 .f32 := m ((c : Thread nD τ).loc main_arg7)

theorem blk0 (c : Dev nD) (t : Fin cfg0.N) (k : Fin 256) (l : Fin 1024) (h : 256 * t.val + k.val < 4096) :
    (show FVec Ideal S256x1024 .f32 from iblk m c 0 t) (ix2 k l) = A0 m c (ix2 ⟨256 * t.val + k, h⟩ l) := by
  blk_point [iblk, V, idx t]

theorem blk1 (c : Dev nD) (t : Fin cfg0.N) (k : Fin 256) (l : Fin 512) (h : 256 * t.val + k.val < 4096) :
    (show FVec Ideal S256x512 .bf16 from iblk m c 1 t) (ix2 k l) = A1 m c (ix2 ⟨256 * t.val + k, h⟩ l) := by
  blk_point [iblk, V, idx t]

theorem blk2 (c : Dev nD) (t : Fin cfg0.N) (k : Fin 256) (l : Fin 512) (h : 256 * t.val + k.val < 4096) :
    (show FVec Ideal S256x512 .bf16 from iblk m c 2 t) (ix2 k l) = A2 m c (ix2 ⟨256 * t.val + k, h⟩ l) := by
  blk_point [iblk, V, idx t]

theorem blk3 (c : Dev nD) (t : Fin cfg0.N) (k : Fin 256) (l : Fin 2048) (h : 256 * t.val + k.val < 4096) :
    (show FVec Ideal S256x2048 .bf16 from iblk m c 3 t) (ix2 k l) = A3 m c (ix2 ⟨256 * t.val + k, h⟩ l) := by
  blk_point [iblk, V, idx t]

theorem blk4 (c : Dev nD) (t : Fin cfg0.N) (k : Fin 512) (l : Fin 1024) :
    (show FVec Ideal S512x1024 .bf16 from iblk m c 4 t) (ix2 k l) = A4 m c (ix2 k l) := by
  blk_point [iblk, V, idx t]

theorem blk5 (c : Dev nD) (t : Fin cfg0.N) (k : Fin 512) (l : Fin 1024) :
    (show FVec Ideal S512x1024 .bf16 from iblk m c 5 t) (ix2 k l) = A5 m c (ix2 k l) := by
  blk_point [iblk, V, idx t]

theorem blk6 (c : Dev nD) (t : Fin cfg0.N) (k : Fin 1024) (l : Fin 1024) :
    (show FVec Ideal S1024x1024 .bf16 from iblk m c 6 t) (ix2 k l) = A6 m c (ix2 k l) := by
  blk_point [iblk, V, idx t]

theorem blk7 (c : Dev nD) (t : Fin cfg0.N) (k : Fin 2) (l : Fin 1024) :
    (show FVec Ideal S2x1024 .f32 from iblk m c 7 t) (ix2 k l) = A7 m c (ix2 k l) := by
  blk_point [iblk, V, idx t]

/-- Row `p` of the arguments. -/
abbrev rowA (x0 : FVec Ideal S4096x1024 .f32) (x1 x2 : FVec Ideal S4096x512 .f32) (x3 : FVec Ideal S4096x2048 .f32) (x4 x5 : FVec Ideal S512x1024 .f32)
    (x6 : FVec Ideal S1024x1024 .f32) (x7 : FVec Ideal S2x1024 .f32) (p : Fin 4096) : Row where
  dx := fun l => x0 (ix2 p l)
  of := fun l => x1 (ix2 p l)
  os := fun l => x2 (ix2 p l)
  la := fun l => x3 (ix2 p ⟨0 + l.val, by have := l.isLt; omega⟩)
  lb := fun l => x3 (ix2 p ⟨1024 + l.val, by have := l.isLt; omega⟩)
  wf := fun q f => x4 (ix2 q f)
  ws := fun q f => x5 (ix2 q f)
  wo := fun q f => x6 (ix2 q f)
  ba := fun l => x7 (ix2 0 l)
  bb := fun l => x7 (ix2 1 l)

/-- Row `p` of the kernel's arguments. -/
abbrev R (c : Dev nD) (p : Fin 4096) : Row := rowA (A0 m c) (A1 m c) (A2 m c) (A3 m c) (A4 m c) (A5 m c) (A6 m c) (A7 m c) p

/-- Row `k` of the blocks at point `t`. -/
abbrev RB (c : Dev nD) (t : Fin cfg0.N) (k : Fin 256) : Row :=
  rowB (iblk m c 0 t) (iblk m c 1 t) (iblk m c 2 t) (iblk m c 3 t) (iblk m c 4 t) (iblk m c 5 t) (iblk m c 6 t) (iblk m c 7 t) k

theorem row_eq (r r' : Row) (h0 : r.dx = r'.dx) (h1 : r.of = r'.of) (h2 : r.os = r'.os) (h3 : r.la = r'.la) (h4 : r.lb = r'.lb) (h5 : r.wf = r'.wf)
    (h6 : r.ws = r'.ws) (h7 : r.wo = r'.wo) (h8 : r.ba = r'.ba) (h9 : r.bb = r'.bb) : r = r' := by
  cases r
  cases r'
  dsimp only at *
  subst h0 h1 h2 h3 h4 h5 h6 h7 h8 h9
  rfl

theorem row_blk (c : Dev nD) (t : Fin cfg0.N) (k : Fin 256) (h : 256 * t.val + k.val < 4096) : RB m c t k = R m c ⟨256 * t.val + k, h⟩ :=
  row_eq _ _ (funext fun l => blk0 m c t k l h) (funext fun l => blk1 m c t k l h) (funext fun l => blk2 m c t k l h) (funext fun l => blk3 m c t k _ h)
    (funext fun l => blk3 m c t k _ h) (funext fun q => funext fun f => blk4 m c t q f) (funext fun q => funext fun f => blk5 m c t q f)
    (funext fun q => funext fun f => blk6 m c t q f) (funext fun l => blk7 m c t 0 l) (funext fun l => blk7 m c t 1 l)

/-- The mixed branches. -/
abbrev G8 (r : Fin 4096 → Row) : FVec Ideal S4096x1024 .bf16 := fun i => (r (i 0)).mg (i 1)

/-- The gradient at the forgetting branch. -/
abbrev G9 (r : Fin 4096 → Row) : FVec Ideal S4096x1024 .bf16 := fun i => (r (i 0)).dbf (i 1)

/-- The gradient at the stick-breaking branch. -/
abbrev G10 (r : Fin 4096 → Row) : FVec Ideal S4096x1024 .bf16 := fun i => (r (i 0)).dbs (i 1)

/-- The gradient at the gates' logits. -/
abbrev G11 (r : Fin 4096 → Row) : FVec Ideal S4096x2048 .bf16 := fun i => (r (i 0)).dgl (i 1)

/-- The gradient at the forgetting attention's output. -/
abbrev G12 (r : Fin 4096 → Row) : FVec Ideal S4096x512 .bf16 := fun i => (r (i 0)).dof (i 1)

/-- The gradient at the stick-breaking attention's output. -/
abbrev G13 (r : Fin 4096 → Row) : FVec Ideal S4096x512 .bf16 := fun i => (r (i 0)).dos (i 1)

/-- The gradients of the two gates' biases. -/
abbrev G14 (r : Fin 4096 → Row) : FVec Ideal S2x1024 .f32 := fun i =>
  (if (i 0).val = 0 then ∑ p : Fin 4096, (r p).dla (i 1) else ∑ p : Fin 4096, (r p).dlb (i 1) : EReal)

/-- The gradient at the forgetting attention's output, transposed block by block, in slots of 128 rows: 64 of values, 64 of zeros. -/
abbrev G15 (r : Fin 4096 → Row) : FVec Ideal S16x1024x256 .bf16 := fun i =>
  (r ⟨256 * (i 0).val + (i 2).val, by
    have h0 : (i 0).val < 16 := (i 0).isLt
    have h2 : (i 2).val < 256 := (i 2).isLt
    omega⟩).slot (i 1)

end Cert.Proof.Mix
-- ==== Proof.Mix.Kernel.lean ====
module

public import proofs.«01_k».proof.Proof.Mix.Args

@[expose] public section

/-! What the kernel leaves in the results that it stores block by block. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

variable (m : (ℓ : Loc nD τ sig) → Buf (Elt Ideal) ℓ)

theorem two_cols (a b : FVec Ideal S256x1024 .bf16) (r : Fin 256 → Row) (ha : ∀ (k : Fin 256) (j : Fin 1024), a (ix2 k j) = (r k).dla j)
    (hb : ∀ (k : Fin 256) (j : Fin 1024), b (ix2 k j) = (r k).dlb j) (k : Fin 256) (j : Fin 2048) : lT a b (ix2 k j) = (r k).dgl j := by
  unfold lT
  canon_tiles x h
  · have e1 : j.val = 1024 + (x 1).val := h1
    have e : ¬j.val < 1024 := by omega
    refine Eq.trans ?_ (dif_neg e).symm
    refine Eq.trans ?_ (hb k _)
    exact congrArg b (funext fun a => by match a with | ⟨0, _⟩ => exact Fin.ext h0.symm | ⟨1, _⟩ => exact Fin.ext (show (x 1).val = j.val - 1024 by omega))
  · have e1 : j.val = (x 1).val := h1
    have e : j.val < 1024 := e1 ▸ x1_lt
    refine Eq.trans ?_ (dif_pos e).symm
    refine Eq.trans ?_ (ha k _)
    exact congrArg a (funext fun a => by match a with | ⟨0, _⟩ => exact Fin.ext h0.symm | ⟨1, _⟩ => exact Fin.ext h1.symm)

theorem out8 (c : Dev nD) (t : Fin cfg0.N) (k : Fin 256) (j : Fin 1024) (h : 256 * t.val + k.val < 4096) :
    (show FVec Ideal S256x1024 .bf16 from (outsAt0 m c t.val t.isLt).1) (ix2 k j) = G8 (R m c) (ix2 ⟨256 * t.val + k, h⟩ j) := by
  refine (congrFun (eq8 m c t) (ix2 k j)).trans ?_
  refine Eq.trans ?_ (congrArg (fun r : Row => r.mg j) (row_blk m c t k h))
  exact mg_apply (iblk m c 0 t) (iblk m c 1 t) (iblk m c 2 t) (iblk m c 3 t) (iblk m c 4 t) (iblk m c 5 t) (iblk m c 6 t) (iblk m c 7 t) k j

theorem final8 (c : Dev nD) : (dats m 0 c).arrAt 8 cfg0.N = G8 (R m c) := by
  refine (dats m 0 c).arrAt_eq_of_covers 8 _ (by decide +kernel) fun t hf y => ?_
  blk_simp
  rw [after0_8]
  idx_vars y
  have ht := lt16 t
  have hy := y0.isLt
  refine (out8 m c t y0 y1 (by omega)).trans (congrArg _ ?_)
  blk_ext [idx t]

theorem out9 (c : Dev nD) (t : Fin cfg0.N) (k : Fin 256) (j : Fin 1024) (h : 256 * t.val + k.val < 4096) :
    (show FVec Ideal S256x1024 .bf16 from (outsAt0 m c t.val t.isLt).2.1) (ix2 k j) = G9 (R m c) (ix2 ⟨256 * t.val + k, h⟩ j) := by
  refine (congrFun (eq9 m c t) (ix2 k j)).trans ?_
  refine Eq.trans ?_ (congrArg (fun r : Row => r.dbf j) (row_blk m c t k h))
  exact dbf_apply (iblk m c 0 t) (iblk m c 1 t) (iblk m c 2 t) (iblk m c 3 t) (iblk m c 4 t) (iblk m c 5 t) (iblk m c 6 t) (iblk m c 7 t) k j

theorem final9 (c : Dev nD) : (dats m 0 c).arrAt 9 cfg0.N = G9 (R m c) := by
  refine (dats m 0 c).arrAt_eq_of_covers 9 _ (by decide +kernel) fun t hf y => ?_
  blk_simp
  rw [after0_9]
  idx_vars y
  have ht := lt16 t
  have hy := y0.isLt
  refine (out9 m c t y0 y1 (by omega)).trans (congrArg _ ?_)
  blk_ext [idx t]

theorem out10 (c : Dev nD) (t : Fin cfg0.N) (k : Fin 256) (j : Fin 1024) (h : 256 * t.val + k.val < 4096) :
    (show FVec Ideal S256x1024 .bf16 from (outsAt0 m c t.val t.isLt).2.2.1) (ix2 k j) = G10 (R m c) (ix2 ⟨256 * t.val + k, h⟩ j) := by
  refine (congrFun (eq10 m c t) (ix2 k j)).trans ?_
  refine Eq.trans ?_ (congrArg (fun r : Row => r.dbs j) (row_blk m c t k h))
  exact dbs_apply (iblk m c 0 t) (iblk m c 1 t) (iblk m c 2 t) (iblk m c 3 t) (iblk m c 4 t) (iblk m c 5 t) (iblk m c 6 t) (iblk m c 7 t) k j

theorem final10 (c : Dev nD) : (dats m 0 c).arrAt 10 cfg0.N = G10 (R m c) := by
  refine (dats m 0 c).arrAt_eq_of_covers 10 _ (by decide +kernel) fun t hf y => ?_
  blk_simp
  rw [after0_10]
  idx_vars y
  have ht := lt16 t
  have hy := y0.isLt
  refine (out10 m c t y0 y1 (by omega)).trans (congrArg _ ?_)
  blk_ext [idx t]

theorem out11 (c : Dev nD) (t : Fin cfg0.N) (k : Fin 256) (j : Fin 2048) (h : 256 * t.val + k.val < 4096) :
    (show FVec Ideal S256x2048 .bf16 from (outsAt0 m c t.val t.isLt).2.2.2.1) (ix2 k j) = G11 (R m c) (ix2 ⟨256 * t.val + k, h⟩ j) := by
  refine (congrFun (eq11 m c t) (ix2 k j)).trans ?_
  refine Eq.trans ?_ (congrArg (fun r : Row => r.dgl j) (row_blk m c t k h))
  exact two_cols _ _ (RB m c t) (fun k j => (pay13_apply _ _ _ k j).trans (dla_apply (iblk m c 0 t) (iblk m c 1 t) (iblk m c 2 t) (iblk m c 3 t) (iblk m c 4 t) (iblk m c 5 t) (iblk m c 6 t) (iblk m c 7 t) k j))
    (fun k j => (pay14_apply _ _ _ _ k j).trans (dlb_apply (iblk m c 0 t) (iblk m c 1 t) (iblk m c 2 t) (iblk m c 3 t) (iblk m c 4 t) (iblk m c 5 t) (iblk m c 6 t) (iblk m c 7 t) k j)) k j

theorem final11 (c : Dev nD) : (dats m 0 c).arrAt 11 cfg0.N = G11 (R m c) := by
  refine (dats m 0 c).arrAt_eq_of_covers 11 _ (by decide +kernel) fun t hf y => ?_
  blk_simp
  rw [after0_11]
  idx_vars y
  have ht := lt16 t
  have hy := y0.isLt
  refine (out11 m c t y0 y1 (by omega)).trans (congrArg _ ?_)
  blk_ext [idx t]

theorem out12 (c : Dev nD) (t : Fin cfg0.N) (k : Fin 256) (j : Fin 512) (h : 256 * t.val + k.val < 4096) :
    (show FVec Ideal S256x512 .bf16 from (outsAt0 m c t.val t.isLt).2.2.2.2.1) (ix2 k j) = G12 (R m c) (ix2 ⟨256 * t.val + k, h⟩ j) := by
  refine (congrFun (eq12 m c t) (ix2 k j)).trans ?_
  refine Eq.trans ?_ (congrArg (fun r : Row => r.dof j) (row_blk m c t k h))
  exact (pay18_apply _ _ k j).trans (dof_apply (iblk m c 0 t) (iblk m c 1 t) (iblk m c 2 t) (iblk m c 3 t) (iblk m c 4 t) (iblk m c 5 t) (iblk m c 6 t) (iblk m c 7 t) k j)

theorem final12 (c : Dev nD) : (dats m 0 c).arrAt 12 cfg0.N = G12 (R m c) := by
  refine (dats m 0 c).arrAt_eq_of_covers 12 _ (by decide +kernel) fun t hf y => ?_
  blk_simp
  rw [after0_12]
  idx_vars y
  have ht := lt16 t
  have hy := y0.isLt
  refine (out12 m c t y0 y1 (by omega)).trans (congrArg _ ?_)
  blk_ext [idx t]

theorem out13 (c : Dev nD) (t : Fin cfg0.N) (k : Fin 256) (j : Fin 512) (h : 256 * t.val + k.val < 4096) :
    (show FVec Ideal S256x512 .bf16 from (outsAt0 m c t.val t.isLt).2.2.2.2.2.1) (ix2 k j) = G13 (R m c) (ix2 ⟨256 * t.val + k, h⟩ j) := by
  refine (congrFun (eq13 m c t) (ix2 k j)).trans ?_
  refine Eq.trans ?_ (congrArg (fun r : Row => r.dos j) (row_blk m c t k h))
  exact (pay1_apply _ k j).trans (dos_apply (iblk m c 0 t) (iblk m c 1 t) (iblk m c 2 t) (iblk m c 3 t) (iblk m c 4 t) (iblk m c 5 t) (iblk m c 6 t) (iblk m c 7 t) k j)

theorem final13 (c : Dev nD) : (dats m 0 c).arrAt 13 cfg0.N = G13 (R m c) := by
  refine (dats m 0 c).arrAt_eq_of_covers 13 _ (by decide +kernel) fun t hf y => ?_
  blk_simp
  rw [after0_13]
  idx_vars y
  have ht := lt16 t
  have hy := y0.isLt
  refine (out13 m c t y0 y1 (by omega)).trans (congrArg _ ?_)
  blk_ext [idx t]

theorem out15 (c : Dev nD) (t : Fin cfg0.N) (z : Fin 1) (l : Fin 1024) (k : Fin 256) (h : 256 * t.val + k.val < 4096) :
    (show FVec Ideal S1x1024x256 .bf16 from (outsAt0 m c t.val t.isLt).2.2.2.2.2.2.2) (ix3 z l k) = (R m c ⟨256 * t.val + k, h⟩).slot l := by
  refine (congrFun (eq15 m c t) (ix3 z l k)).trans ?_
  refine Eq.trans ?_ (congrArg (fun r : Row => r.slot l) (row_blk m c t k h))
  refine (pay19_apply _ _ z l k).trans ?_
  unfold Row.slot
  split_ifs with h
  · exact dof_apply (iblk m c 0 t) (iblk m c 1 t) (iblk m c 2 t) (iblk m c 3 t) (iblk m c 4 t) (iblk m c 5 t) (iblk m c 6 t) (iblk m c 7 t) k _
  · rfl

theorem final15 (c : Dev nD) : (dats m 0 c).arrAt 15 cfg0.N = G15 (R m c) := by
  refine (dats m 0 c).arrAt_eq_of_covers 15 _ (by decide +kernel) fun t hf y => ?_
  blk_simp
  rw [after0_15]
  idx_vars y
  have ht := lt16 t
  have hy := y2.isLt
  refine ((out15 m c t y0 y1 y2 (by omega)).trans (show _ = G15 (R m c) (ix3 ⟨t.val, ht⟩ y1 y2) from rfl)).trans (congrArg _ ?_)
  blk_ext [idx t]

end Cert.Proof.Mix
-- ==== Proof.Mix.Ref.lean ====
module

public import proofs.«01_k».proof.Proof.Gen.Reference11Ideal
public import proofs.«01_k».proof.Proof.Gen.Reference11Ideal.Run
public import proofs.«01_k».proof.Proof.Gen.Reference11Ideal.Read
public import proofs.«01_k».proof.Proof.Mix.Args
public import Idealize.ShloMosaic.Lib.KernelVsHost

@[expose] public section

/-! The reference's values and gradients, entry by entry. -/

set_option maxRecDepth 16384

noncomputable section

open Idealize.ShloMosaic Idealize.ShloMosaic.TcCoe Idealize.SL.Sem

namespace Cert.Proof.Mix

open Cert.Kernel11Ideal Cert.Reference11Ideal.Read

variable (x0 : FVec Ideal S4096x1024 .f32) (x1 x2 : FVec Ideal S4096x512 .f32) (x3 : FVec Ideal S4096x2048 .f32) (x4 x5 : FVec Ideal S512x1024 .f32)
  (x6 : FVec Ideal S1024x1024 .f32) (x7 : FVec Ideal S2x1024 .f32)

theorem ref_bf (p : Fin 4096) (j : Fin 1024) : val_main_v0 (F := Ideal) x1 x4 (ix2 p j) = (rowA x0 x1 x2 x3 x4 x5 x6 x7 p).bf j := by
  have h : val_main_v0 (F := Ideal) x1 x4 (ix2 p j) = (∑ q : Fin 512, x1 (ix2 p q) * x4 (ix2 q j) : EReal) := by
    pointwise [val_main_v0]
  rw [h]
  rfl

theorem ref_bs (p : Fin 4096) (j : Fin 1024) : val_main_v1 (F := Ideal) x2 x5 (ix2 p j) = (rowA x0 x1 x2 x3 x4 x5 x6 x7 p).bs j := by
  have h : val_main_v1 (F := Ideal) x2 x5 (ix2 p j) = (∑ q : Fin 512, x2 (ix2 p q) * x5 (ix2 q j) : EReal) := by
    pointwise [val_main_v1]
  rw [h]
  rfl

theorem ref_dm (p : Fin 4096) (j : Fin 1024) : val_main_v36 (F := Ideal) x0 x6 (ix2 p j) = (rowA x0 x1 x2 x3 x4 x5 x6 x7 p).dm j := by
  have h : val_main_v36 (F := Ideal) x0 x6 (ix2 p j) = (∑ q : Fin 1024, x0 (ix2 p q) * x6 (ix2 j q) : EReal) := by
    pointwise [val_main_v36]
  rw [h]
  rfl

theorem ref_ga (p : Fin 4096) (j : Fin 1024) : val_main_v16 (F := Ideal) x3 x7 (ix2 p j) = (rowA x0 x1 x2 x3 x4 x5 x6 x7 p).ga j := by
  have h : val_main_v16 (F := Ideal) x3 x7 (ix2 p j) = (sg (x3 (ix2 p ⟨0 + j.val, by have := j.isLt; omega⟩) + x7 (ix2 0 j)) : EReal) := by
    unfold sg
    pointwise [val_main_v16, val_main_v15, val_main_v14, val_main_v13, val_main_v12, val_main_v11, val_main_v10, val_main_v9, val_main_v8, val_main_v5, val_main_v4, val_main_v2, val_main_cst, val_main_cst_0]
  rw [h]
  rfl

theorem ref_gb (p : Fin 4096) (j : Fin 1024) : val_main_v29 (F := Ideal) x3 x7 (ix2 p j) = (rowA x0 x1 x2 x3 x4 x5 x6 x7 p).gb j := by
  have h : val_main_v29 (F := Ideal) x3 x7 (ix2 p j) = (sg (x3 (ix2 p ⟨1024 + j.val, by have := j.isLt; omega⟩) + x7 (ix2 1 j)) : EReal) := by
    unfold sg
    pointwise [val_main_v29, val_main_v28, val_main_v27, val_main_v26, val_main_v25, val_main_v24, val_main_v23, val_main_v22, val_main_v21, val_main_v7, val_main_v6, val_main_v3, val_main_cst_2, val_main_cst_3]
  rw [h]
  rfl

theorem ref_55 (p : Fin 4096) (j : Fin 1024) : val_main_v55 (F := Ideal) x1 x2 x3 x4 x5 x7 (ix2 p j) = (rowA x0 x1 x2 x3 x4 x5 x6 x7 p).mg j := by
  have h : val_main_v55 (F := Ideal) x1 x2 x3 x4 x5 x7 (ix2 p j) = (val_main_v16 (F := Ideal) x3 x7 (ix2 p j) * val_main_v0 (F := Ideal) x1 x4 (ix2 p j) + val_main_v29 (F := Ideal) x3 x7 (ix2 p j) * val_main_v1 (F := Ideal) x2 x5 (ix2 p j) : EReal) := by
    pointwise [val_main_v55, val_main_v34, val_main_v20, val_main_v33]
  rw [h]
  simp only [ref_ga x0 x1 x2 x3 x4 x5 x6 x7, ref_bf x0 x1 x2 x3 x4 x5 x6 x7, ref_gb x0 x1 x2 x3 x4 x5 x6 x7, ref_bs x0 x1 x2 x3 x4 x5 x6 x7]
  rfl

theorem ref_43 (p : Fin 4096) (j : Fin 1024) : val_main_v43 (F := Ideal) x0 x3 x6 x7 (ix2 p j) = (rowA x0 x1 x2 x3 x4 x5 x6 x7 p).dbf j := by
  have h : val_main_v43 (F := Ideal) x0 x3 x6 x7 (ix2 p j) = (val_main_v16 (F := Ideal) x3 x7 (ix2 p j) * val_main_v36 (F := Ideal) x0 x6 (ix2 p j) : EReal) := by
    pointwise [val_main_v43]
  rw [h]
  simp only [ref_ga x0 x1 x2 x3 x4 x5 x6 x7, ref_dm x0 x1 x2 x3 x4 x5 x6 x7]
  exact mul_comm _ _

theorem ref_37 (p : Fin 4096) (j : Fin 1024) : val_main_v37 (F := Ideal) x0 x3 x6 x7 (ix2 p j) = (rowA x0 x1 x2 x3 x4 x5 x6 x7 p).dbs j := by
  have h : val_main_v37 (F := Ideal) x0 x3 x6 x7 (ix2 p j) = (val_main_v29 (F := Ideal) x3 x7 (ix2 p j) * val_main_v36 (F := Ideal) x0 x6 (ix2 p j) : EReal) := by
    pointwise [val_main_v37]
  rw [h]
  simp only [ref_gb x0 x1 x2 x3 x4 x5 x6 x7, ref_dm x0 x1 x2 x3 x4 x5 x6 x7]
  exact mul_comm _ _

theorem ref_56 (p : Fin 4096) (j : Fin 1024) : val_main_v56 (F := Ideal) x0 x3 x6 x7 (ix2 p j) = (rowA x0 x1 x2 x3 x4 x5 x6 x7 p).dbf j := by
  have h : val_main_v56 (F := Ideal) x0 x3 x6 x7 (ix2 p j) = (val_main_v43 (F := Ideal) x0 x3 x6 x7 (ix2 p j) : EReal) := by
    pointwise [val_main_v56]
  rw [h]
  simp only [ref_43 x0 x1 x2 x3 x4 x5 x6 x7]

theorem ref_57 (p : Fin 4096) (j : Fin 1024) : val_main_v57 (F := Ideal) x0 x3 x6 x7 (ix2 p j) = (rowA x0 x1 x2 x3 x4 x5 x6 x7 p).dbs j := by
  have h : val_main_v57 (F := Ideal) x0 x3 x6 x7 (ix2 p j) = (val_main_v37 (F := Ideal) x0 x3 x6 x7 (ix2 p j) : EReal) := by
    pointwise [val_main_v57]
  rw [h]
  simp only [ref_37 x0 x1 x2 x3 x4 x5 x6 x7]

theorem ref_45 (p : Fin 4096) (j : Fin 1024) : val_main_v45 (F := Ideal) x0 x1 x3 x4 x6 x7 (ix2 p j) = (rowA x0 x1 x2 x3 x4 x5 x6 x7 p).dla j := by
  have h : val_main_v45 (F := Ideal) x0 x1 x3 x4 x6 x7 (ix2 p j) = (val_main_v36 (F := Ideal) x0 x6 (ix2 p j) * val_main_v0 (F := Ideal) x1 x4 (ix2 p j) * (val_main_v16 (F := Ideal) x3 x7 (ix2 p j) * (Ideal.ofBits .f32 0x3F800000#32 - val_main_v16 (F := Ideal) x3 x7 (ix2 p j))) : EReal) := by
    pointwise [val_main_v45, val_main_v44, val_main_v19, val_main_v18, val_main_v17, val_main_cst_1]
  rw [h]
  simp only [ref_dm x0 x1 x2 x3 x4 x5 x6 x7, ref_bf x0 x1 x2 x3 x4 x5 x6 x7, ref_ga x0 x1 x2 x3 x4 x5 x6 x7]
  exact (mul_assoc _ _ _).symm

theorem ref_39 (p : Fin 4096) (j : Fin 1024) : val_main_v39 (F := Ideal) x0 x2 x3 x5 x6 x7 (ix2 p j) = (rowA x0 x1 x2 x3 x4 x5 x6 x7 p).dlb j := by
  have h : val_main_v39 (F := Ideal) x0 x2 x3 x5 x6 x7 (ix2 p j) = (val_main_v36 (F := Ideal) x0 x6 (ix2 p j) * val_main_v1 (F := Ideal) x2 x5 (ix2 p j) * (val_main_v29 (F := Ideal) x3 x7 (ix2 p j) * (Ideal.ofBits .f32 0x3F800000#32 - val_main_v29 (F := Ideal) x3 x7 (ix2 p j))) : EReal) := by
    pointwise [val_main_v39, val_main_v38, val_main_v32, val_main_v31, val_main_v30, val_main_cst_4]
  rw [h]
  simp only [ref_dm x0 x1 x2 x3 x4 x5 x6 x7, ref_bs x0 x1 x2 x3 x4 x5 x6 x7, ref_gb x0 x1 x2 x3 x4 x5 x6 x7]
  exact (mul_assoc _ _ _).symm

theorem ref_49 (p : Fin 4096) (e : Fin 512) : val_main_v49 (F := Ideal) x0 x3 x4 x6 x7 (ix2 p e) = (rowA x0 x1 x2 x3 x4 x5 x6 x7 p).dof e := by
  have h : val_main_v49 (F := Ideal) x0 x3 x4 x6 x7 (ix2 p e) = (∑ q : Fin 1024, val_main_v43 (F := Ideal) x0 x3 x6 x7 (ix2 p q) * x4 (ix2 e q) : EReal) := by
    pointwise [val_main_v49]
  rw [h]
  simp only [ref_43 x0 x1 x2 x3 x4 x5 x6 x7]
  rfl

theorem ref_50 (p : Fin 4096) (e : Fin 512) : val_main_v50 (F := Ideal) x0 x3 x5 x6 x7 (ix2 p e) = (rowA x0 x1 x2 x3 x4 x5 x6 x7 p).dos e := by
  have h : val_main_v50 (F := Ideal) x0 x3 x5 x6 x7 (ix2 p e) = (∑ q : Fin 1024, val_main_v37 (F := Ideal) x0 x3 x6 x7 (ix2 p q) * x5 (ix2 e q) : EReal) := by
    pointwise [val_main_v50]
  rw [h]
  simp only [ref_37 x0 x1 x2 x3 x4 x5 x6 x7]
  rfl

theorem ref_59 (p : Fin 4096) (e : Fin 512) : val_main_v59 (F := Ideal) x0 x3 x4 x6 x7 (ix2 p e) = (rowA x0 x1 x2 x3 x4 x5 x6 x7 p).dof e := by
  have h : val_main_v59 (F := Ideal) x0 x3 x4 x6 x7 (ix2 p e) = (val_main_v49 (F := Ideal) x0 x3 x4 x6 x7 (ix2 p e) : EReal) := by
    pointwise [val_main_v59]
  rw [h]
  simp only [ref_49 x0 x1 x2 x3 x4 x5 x6 x7]

theorem ref_60 (p : Fin 4096) (e : Fin 512) : val_main_v60 (F := Ideal) x0 x3 x5 x6 x7 (ix2 p e) = (rowA x0 x1 x2 x3 x4 x5 x6 x7 p).dos e := by
  have h : val_main_v60 (F := Ideal) x0 x3 x5 x6 x7 (ix2 p e) = (val_main_v50 (F := Ideal) x0 x3 x5 x6 x7 (ix2 p e) : EReal) := by
    pointwise [val_main_v60]
  rw [h]
  simp only [ref_50 x0 x1 x2 x3 x4 x5 x6 x7]

theorem ref_58 (p : Fin 4096) (j : Fin 2048) : val_main_v58 (F := Ideal) x0 x1 x2 x3 x4 x5 x6 x7 (ix2 p j) = (rowA x0 x1 x2 x3 x4 x5 x6 x7 p).dgl j := by
  have h : val_main_v58 (F := Ideal) x0 x1 x2 x3 x4 x5 x6 x7 (ix2 p j) = (if h : j.val < 1024 then val_main_v45 (F := Ideal) x0 x1 x3 x4 x6 x7 (ix2 p ⟨j.val, h⟩) else val_main_v39 (F := Ideal) x0 x2 x3 x5 x6 x7 (ix2 p ⟨j.val - 1024, by have := j.isLt; omega⟩) : EReal) := by
    pointwise [val_main_v58, val_main_v51]
  rw [h]
  unfold Row.dgl
  by_cases hj : j.val < 1024
  · rw [dif_pos hj, dif_pos hj]
    exact ref_45 x0 x1 x2 x3 x4 x5 x6 x7 p _
  · rw [dif_neg hj, dif_neg hj]
    exact ref_39 x0 x1 x2 x3 x4 x5 x6 x7 p _

theorem ref_48 (j : Fin 1024) : val_main_v48 (F := Ideal) x0 x1 x3 x4 x6 x7 (ix1 j) = (∑ p : Fin 4096, (rowA x0 x1 x2 x3 x4 x5 x6 x7 p).dla j : EReal) := by
  have h : val_main_v48 (F := Ideal) x0 x1 x3 x4 x6 x7 (ix1 j) = (∑ z : Fin 1, ∑ p : Fin 4096, val_main_v45 (F := Ideal) x0 x1 x3 x4 x6 x7 (ix2 p j) : EReal) := by
    pointwise [val_main_v48, val_main_v47, val_main_v46, val_main_cst_7, val_main_cst_8]
  rw [h]
  simp only [ref_45 x0 x1 x2 x3 x4 x5 x6 x7]
  exact Fin.sum_univ_one _

theorem ref_42 (j : Fin 1024) : val_main_v42 (F := Ideal) x0 x2 x3 x5 x6 x7 (ix1 j) = (∑ p : Fin 4096, (rowA x0 x1 x2 x3 x4 x5 x6 x7 p).dlb j : EReal) := by
  have h : val_main_v42 (F := Ideal) x0 x2 x3 x5 x6 x7 (ix1 j) = (∑ z : Fin 1, ∑ p : Fin 4096, val_main_v39 (F := Ideal) x0 x2 x3 x5 x6 x7 (ix2 p j) : EReal) := by
    pointwise [val_main_v42, val_main_v41, val_main_v40, val_main_cst_5, val_main_cst_6]
  rw [h]
  simp only [ref_39 x0 x1 x2 x3 x4 x5 x6 x7]
  exact Fin.sum_univ_one _

theorem ref_63 (i : Fin 2) (j : Fin 1024) : val_main_v63 (F := Ideal) x0 x1 x2 x3 x4 x5 x6 x7 (ix2 i j) = G14 (rowA x0 x1 x2 x3 x4 x5 x6 x7) (ix2 i j) := by
  have h : val_main_v63 (F := Ideal) x0 x1 x2 x3 x4 x5 x6 x7 (ix2 i j) = (if h : i.val < 1 then val_main_v48 (F := Ideal) x0 x1 x3 x4 x6 x7 (ix1 j) else val_main_v42 (F := Ideal) x0 x2 x3 x5 x6 x7 (ix1 j) : EReal) := by
    pointwise [val_main_v63, val_main_v62, val_main_v61]
  rw [h, ref_48 x0 x1 x2 x3 x4 x5 x6 x7, ref_42 x0 x1 x2 x3 x4 x5 x6 x7]
  by_cases hi : i.val < 1
  · exact (dif_pos hi).trans (if_pos (show i.val = 0 by omega)).symm
  · exact (dif_neg hi).trans (if_neg (show ¬i.val = 0 by omega)).symm

theorem pad_value (i : Cert.Reference11Ideal.S_.Idx) : val_main_call0_v0 (F := Ideal) i = (0 : EReal) := by
  pointwise [val_main_call0_v0, val_main_c]
  show (((0#32 : BitVec 32).toInt : ℝ) : EReal) = 0
  simp

theorem ref_53 (a : Fin 16) (b : Fin 8) (e : Fin 64) (k : Fin 256) : val_main_v53 (F := Ideal) x0 x3 x4 x6 x7 (ix4 a b e k) =
    (rowA x0 x1 x2 x3 x4 x5 x6 x7 ⟨256 * a.val + k.val, by have := a.isLt; have := k.isLt; omega⟩).dof ⟨64 * b.val + e.val, by have := b.isLt; have := e.isLt; omega⟩ := by
  rw [val_main_v53_apply, val_main_v52_apply]
  refine (congrArg _ ?_).trans (ref_49 x0 x1 x2 x3 x4 x5 x6 x7 _ _)
  have ha := a.isLt
  have hb := b.isLt
  have he := e.isLt
  have hk := k.isLt
  funext ax
  refine Fin.ext ?_
  match ax with
  | ⟨0, _⟩ =>
    show (((a.val * 256 + k.val) * 8 + b.val) * 64 + e.val) / 512 = 256 * a.val + k.val
    omega
  | ⟨1, _⟩ =>
    show (((a.val * 256 + k.val) * 8 + b.val) * 64 + e.val) % 512 = 64 * b.val + e.val
    omega

theorem ref_65 (a : Fin 16) (l : Fin 1024) (k : Fin 256) : val_main_v65 (F := Ideal) x0 x3 x4 x6 x7 (ix3 a l k) = G15 (rowA x0 x1 x2 x3 x4 x5 x6 x7) (ix3 a l k) := by
  have ha := a.isLt
  have hl := l.isLt
  have hk := k.isLt
  have e0 : val_main_v65 (F := Ideal) x0 x3 x4 x6 x7 (ix3 a l k) = val_main_v54 (F := Ideal) x0 x3 x4 x6 x7 (ix4 a ⟨l.val / 128, by omega⟩ ⟨l.val % 128, by omega⟩ k) := by
    have e1 : val_main_v65 (F := Ideal) x0 x3 x4 x6 x7 (ix3 a l k) = val_main_v64 (F := Ideal) x0 x3 x4 x6 x7 (ix3 a l k) := by
      pointwise [val_main_v65]
    rw [e1, val_main_v64_apply]
    refine congrArg (val_main_v54 (F := Ideal) x0 x3 x4 x6 x7) ?_
    funext ax
    refine Fin.ext ?_
    match ax with
    | ⟨0, _⟩ => show ((a.val * 1024 + l.val) * 256 + k.val) / 262144 = a.val; omega
    | ⟨1, _⟩ => show ((a.val * 1024 + l.val) * 256 + k.val) / 32768 % 8 = l.val / 128; omega
    | ⟨2, _⟩ => show ((a.val * 1024 + l.val) * 256 + k.val) / 256 % 128 = l.val % 128; omega
    | ⟨3, _⟩ => show ((a.val * 1024 + l.val) * 256 + k.val) % 256 = k.val; omega
  rw [e0]
  unfold val_main_v54
  by_cases h : l.val % 128 < 64
  · refine (pad_apply_of_inside _ _ _ _ _ _ _ _ (ix4 a (⟨l.val / 128, by omega⟩ : Fin 8) (⟨l.val % 128, h⟩ : Fin 64) k) ?_).trans ?_
    · intro ax
      match ax with
      | ⟨0, _⟩ => simp
      | ⟨1, _⟩ => simp
      | ⟨2, _⟩ => simp
      | ⟨3, _⟩ => simp
    · rw [ref_53 x0 x1 x2 x3 x4 x5 x6 x7]
      refine Eq.trans ?_ (if_pos h).symm
      exact congrArg (fun x : Fin 512 => (rowA x0 x1 x2 x3 x4 x5 x6 x7 ⟨256 * a.val + k.val, by omega⟩).dof x) (Fin.ext (show 64 * (l.val / 128) + l.val % 128 = 64 * (l.val / 128) + l.val % 64 by omega))
  · refine (pad_apply_of_not_inside _ _ _ _ _ _ _ _ (2 : Fin 4) ?_).trans ?_
    · simp
      omega
    · exact (pad_value _).trans (if_neg h).symm

end Cert.Proof.Mix
-- ==== Proof.Mix.Sums.lean ====
module

public import proofs.«01_k».proof.Proof.Mix.Args

@[expose] public section

/-! The two gradients of biases, which the kernel adds up over the blocks of rows. -/

set_option maxRecDepth 16384

noncomputable section

open Idealize.ShloMosaic Idealize.ShloMosaic.TcCoe Idealize.SL.Sem
open Idealize.ShloMosaic.Pipeline (Dat)
open Cert.Proof.Part

namespace Cert.Proof.Mix

open Cert.Kernel11Ideal Cert.Kernel11Ideal.Gen Cert.Kernel11Ideal.Value

variable (m : (ℓ : Loc nD τ sig) → Buf (Elt Ideal) ℓ)

/-- What row `p` gives to column `j` of the first gate's bias. -/
def terma (r : Fin 4096 → Row) (j : Fin 1024) (p : Fin 4096) : EReal := (r p).dla j

/-- The first row after point `n`. -/
def Holdsa (c : Dev nD) (n : ℕ) (h : n < cfg0.N) : Prop :=
  ∀ (j : Fin 1024), (show FVec Ideal S2x1024 .f32 from (outsAt0 m c n h).2.2.2.2.2.2.1) (ix2 0 j) = ∑ s ∈ Finset.range (n + 1), part 256 (terma (R m c) j) s

theorem stepa (c : Dev nD) (t : Fin cfg0.N) (a : FVec Ideal S2x1024 .f32) (j : Fin 1024)
    (ha : a (ix2 0 j) = ∑ s ∈ Finset.range t.val, part 256 (terma (R m c) j) s) :
    k0_pay15 (F := Ideal) (k0_pay11 (F := Ideal) (dT m c t) (fT m c t) (gT m c t)) (ra a) (ix2 0 j) = ∑ s ∈ Finset.range (t.val + 1), part 256 (terma (R m c) j) s := by
  have ht := lt16 t
  rw [pay15_apply, ra_apply, ha, Finset.sum_range_succ]
  refine congrArg₂ (fun x y : EReal => x + y) rfl ?_
  refine part_eq 256 _ t.val _ (by omega) fun k hk => ?_
  refine Eq.trans ?_ (congrArg (fun r : Row => r.dla j) (row_blk m c t k hk))
  exact dla_apply (iblk m c 0 t) (iblk m c 1 t) (iblk m c 2 t) (iblk m c 3 t) (iblk m c 4 t) (iblk m c 5 t) (iblk m c 6 t) (iblk m c 7 t) k j

theorem holdsa (c : Dev nD) (n : ℕ) : ∀ h : n < cfg0.N, Holdsa m c n h := by
  induction n with
  | zero =>
    intro h j
    refine (congrFun (first14 m c ⟨0, h⟩ rfl) (ix2 0 j)).trans ((two_zero _ _ _ j).trans (stepa m c ⟨0, h⟩ _ j ?_))
    rw [pay2_apply]
    exact (Finset.sum_range_zero _).symm
  | succ n ih =>
    intro h j
    exact (congrFun (next14 m c n h ⟨n + 1, h⟩ rfl _ rfl) (ix2 0 j)).trans ((two_zero _ _ _ j).trans (stepa m c ⟨n + 1, h⟩ _ j (ih (by omega) j)))

/-- What row `p` gives to column `j` of the second gate's bias. -/
def termb (r : Fin 4096 → Row) (j : Fin 1024) (p : Fin 4096) : EReal := (r p).dlb j

/-- The second row after point `n`. -/
def Holdsb (c : Dev nD) (n : ℕ) (h : n < cfg0.N) : Prop :=
  ∀ (j : Fin 1024), (show FVec Ideal S2x1024 .f32 from (outsAt0 m c n h).2.2.2.2.2.2.1) (ix2 1 j) = ∑ s ∈ Finset.range (n + 1), part 256 (termb (R m c) j) s

theorem stepb (c : Dev nD) (t : Fin cfg0.N) (a : FVec Ideal S2x1024 .f32) (j : Fin 1024)
    (ha : a (ix2 1 j) = ∑ s ∈ Finset.range t.val, part 256 (termb (R m c) j) s) :
    k0_pay16 (F := Ideal) (k0_pay12 (F := Ideal) (dT m c t) (sT m c t) (lb (iblk m c 3 t)) (rb (iblk m c 7 t))) (rb a) (ix2 0 j) = ∑ s ∈ Finset.range (t.val + 1), part 256 (termb (R m c) j) s := by
  have ht := lt16 t
  rw [pay16_apply, rb_apply, ha, Finset.sum_range_succ]
  refine congrArg₂ (fun x y : EReal => x + y) rfl ?_
  refine part_eq 256 _ t.val _ (by omega) fun k hk => ?_
  refine Eq.trans ?_ (congrArg (fun r : Row => r.dlb j) (row_blk m c t k hk))
  exact dlb_apply (iblk m c 0 t) (iblk m c 1 t) (iblk m c 2 t) (iblk m c 3 t) (iblk m c 4 t) (iblk m c 5 t) (iblk m c 6 t) (iblk m c 7 t) k j

theorem holdsb (c : Dev nD) (n : ℕ) : ∀ h : n < cfg0.N, Holdsb m c n h := by
  induction n with
  | zero =>
    intro h j
    refine (congrFun (first14 m c ⟨0, h⟩ rfl) (ix2 1 j)).trans ((two_one _ _ _ j).trans (stepb m c ⟨0, h⟩ _ j ?_))
    rw [pay2_apply]
    exact (Finset.sum_range_zero _).symm
  | succ n ih =>
    intro h j
    exact (congrFun (next14 m c n h ⟨n + 1, h⟩ rfl _ rfl) (ix2 1 j)).trans ((two_one _ _ _ j).trans (stepb m c ⟨n + 1, h⟩ _ j (ih (by omega) j)))

theorem final14 (c : Dev nD) : (dats m 0 c).arrAt 14 cfg0.N = G14 (R m c) := by
  refine (dats m 0 c).arrAt_eq_of_after_last 14 t0_15 (by decide +kernel) _ fun j => ?_
  blk_simp
  rw [after0_14]
  idx_vars j
  have hz : j0 = 0 ∨ j0 = 1 := by
    have := j0.isLt
    rcases Nat.lt_or_ge j0.val 1 with h | h
    · exact Or.inl (Fin.ext (by simpa using h))
    · exact Or.inr (Fin.ext (by show j0.val = 1; omega))
  rcases hz with rfl | rfl
  · refine (holdsa m c t0_15.val t0_15.isLt j1).trans ?_
    exact sum_part 16 256 rfl _
  · refine (holdsb m c t0_15.val t0_15.isLt j1).trans ?_
    exact sum_part 16 256 rfl _

end Cert.Proof.Mix
-- ==== Proof.Mix.Claims.lean ====
module

public import proofs.«01_k».proof.Defs
public import proofs.«01_k».proof.Proof.Gen.Kernel11
public import proofs.«01_k».proof.Proof.Gen.Kernel11.Frame
public import proofs.«01_k».proof.Proof.Mix.Frames
public import proofs.«01_k».proof.Proof.Mix.Kernel
public import proofs.«01_k».proof.Proof.Mix.Ref
public import proofs.«01_k».proof.Proof.Mix.Sums
public import Idealize.ShloMosaic.Lib.Pipeline.ValueKit
public import Idealize.ShloMosaic.Lib.Claim

@[expose] public section

/-! The value claim about the gradients back through the gated mix of the two attention branches. -/

set_option maxRecDepth 16384

noncomputable section

open Idealize.ShloMosaic Idealize.ShloMosaic.TcCoe Idealize.SL.Sem

namespace Cert.Proof.Mix

theorem algebraic : Cert.algebraic_Kernel11Ideal_Reference11Ideal := by
  intro m g m' g' _ hag
  refine ⟨fun c => G8 (R m c), fun c => G9 (R m c), fun c => G10 (R m c), fun c => G11 (R m c), fun c => G12 (R m c), fun c => G13 (R m c), fun c => G14 (R m c), fun c => G15 (R m c), ?_, ?_⟩
  · refine (θ_run Cert.Kernel11Ideal.defs _ _).mono (fun r h c => ?_) (Cert.Kernel11Ideal.Value.run_blocks (F := Ideal) m g)
    obtain ⟨h8, h9, h10, h11, h12, h13, h14, h15, hargs⟩ := h c
    exact ⟨h8.trans (final8 m c), h9.trans (final9 m c), h10.trans (final10 m c), h11.trans (final11 m c), h12.trans (final12 m c), h13.trans (final13 m c), h14.trans (final14 m c), h15.trans (final15 m c), hargs⟩
  · refine (θ_run Cert.Reference11Ideal.defs _ _).mono (fun r h c => ?_) (Cert.Reference11Ideal.Value.run (F := Ideal) m' g')
    obtain ⟨h8, h9, h10, h11, h12, h13, h14, h15, hargs⟩ := h c
    obtain ⟨e0, e1, e2, e3, e4, e5, e6, e7⟩ := hag c
    have er : rowA (m' ((c : Thread Cert.Reference11Ideal.nD Cert.Reference11Ideal.τ).loc Cert.Reference11Ideal.main_arg0))
        (m' ((c : Thread Cert.Reference11Ideal.nD Cert.Reference11Ideal.τ).loc Cert.Reference11Ideal.main_arg1))
        (m' ((c : Thread Cert.Reference11Ideal.nD Cert.Reference11Ideal.τ).loc Cert.Reference11Ideal.main_arg2))
        (m' ((c : Thread Cert.Reference11Ideal.nD Cert.Reference11Ideal.τ).loc Cert.Reference11Ideal.main_arg3))
        (m' ((c : Thread Cert.Reference11Ideal.nD Cert.Reference11Ideal.τ).loc Cert.Reference11Ideal.main_arg4))
        (m' ((c : Thread Cert.Reference11Ideal.nD Cert.Reference11Ideal.τ).loc Cert.Reference11Ideal.main_arg5))
        (m' ((c : Thread Cert.Reference11Ideal.nD Cert.Reference11Ideal.τ).loc Cert.Reference11Ideal.main_arg6))
        (m' ((c : Thread Cert.Reference11Ideal.nD Cert.Reference11Ideal.τ).loc Cert.Reference11Ideal.main_arg7)) = R m c := by
      rw [e0, e1, e2, e3, e4, e5, e6, e7]
    refine ⟨h8.trans ?_, h9.trans ?_, h10.trans ?_, h11.trans ?_, h12.trans ?_, h13.trans ?_, h14.trans ?_, h15.trans ?_, hargs⟩
    · refine (Cert.Reference11Ideal.Read.val_main_v55_eq _ _ _ _ _ _ ).trans (Eq.trans ?_ (congrArg G8 er))
      funext i
      idx_vars i
      exact ref_55 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v56_eq _ _ _ _ ).trans (Eq.trans ?_ (congrArg G9 er))
      funext i
      idx_vars i
      exact ref_56 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v57_eq _ _ _ _ ).trans (Eq.trans ?_ (congrArg G10 er))
      funext i
      idx_vars i
      exact ref_57 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v58_eq _ _ _ _ _ _ _ _ ).trans (Eq.trans ?_ (congrArg G11 er))
      funext i
      idx_vars i
      exact ref_58 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v59_eq _ _ _ _ _ ).trans (Eq.trans ?_ (congrArg G12 er))
      funext i
      idx_vars i
      exact ref_59 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v60_eq _ _ _ _ _ ).trans (Eq.trans ?_ (congrArg G13 er))
      funext i
      idx_vars i
      exact ref_60 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v63_eq _ _ _ _ _ _ _ _ ).trans (Eq.trans ?_ (congrArg G14 er))
      funext i
      idx_vars i
      exact ref_63 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1
    · refine (Cert.Reference11Ideal.Read.val_main_v65_eq _ _ _ _ _ ).trans (Eq.trans ?_ (congrArg G15 er))
      funext i
      idx_vars i
      exact ref_65 (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg6)) (m' ((c : Thread Cert.Reference11Ideal.nD Cert.Reference11Ideal.τ).loc Cert.Reference11Ideal.main_arg7)) i0 i1 i2

end Cert.Proof.Mix
-- ==== Proof.Branch.Kernel.lean ====
module

public import proofs.«01_k».proof.Proof.Gen.Kernel13Ideal.Value
public import proofs.«01_k».proof.Proof.Lib.Part
public import Idealize.ShloMosaic.Lib.Pipeline.ValueKit
public import Idealize.ShloMosaic.Lib.Pointwise
public import Idealize.ShloMosaic.Lib.Claim

@[expose] public section

/-! The gradient of a mixer's output projection (the forgetting attention's, the stick-breaking one's), as the kernel accumulates it over two tiles of the rows. -/

set_option maxRecDepth 16384

noncomputable section

open Idealize.ShloMosaic Idealize.ShloMosaic.TcCoe Idealize.SL.Sem
open Idealize.ShloMosaic.Pipeline (Dat)
open Cert.Proof.Part

namespace Cert.Proof.Branch

open Cert.Kernel13Ideal Cert.Kernel13Ideal.Gen Cert.Kernel13Ideal.Value

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0] ∧ t.val < 2 :=
  (by decide +kernel : ∀ t : Fin grid0.N, _)

abbrev A0 (c : Dev nD) : FVec Ideal S4096x512 .f32 := m ((c : Thread nD τ).loc main_arg0)
abbrev A1 (c : Dev nD) : FVec Ideal S4096x1024 .f32 := m ((c : Thread nD τ).loc main_arg1)

/-- The term that row `p` gives to entry `(i, j)`. -/
def term (X : FVec Ideal S4096x512 .f32) (Y : FVec Ideal S4096x1024 .f32) (i : Fin 512) (j : Fin 1024) (p : Fin 4096) : EReal := X (ix2 p i) * Y (ix2 p j)

theorem blk0 (c : Dev nD) (t : Fin cfg0.N) (k : Fin 2048) (l : Fin 512) (h : 2048 * t.val + k.val < 4096) :
    (show FVec Ideal S1x2048x512 .bf16 from iblk m c 0 t) (ix3 0 k l) = A0 m c (ix2 ⟨2048 * t.val + k, h⟩ l) := by
  blk_point [iblk, V, idx t]

theorem blk1 (c : Dev nD) (t : Fin cfg0.N) (k : Fin 2048) (l : Fin 1024) (h : 2048 * t.val + k.val < 4096) :
    (show FVec Ideal S1x2048x1024 .bf16 from iblk m c 1 t) (ix3 0 k l) = A1 m c (ix2 ⟨2048 * t.val + k, h⟩ l) := by
  blk_point [iblk, V, idx t]

theorem pay1_apply (i : Fin 512) (j : Fin 1024) : k0_pay1 (F := Ideal) (ix2 i j) = (0 : EReal) := by
  pointwise [k0_pay1]

theorem pay2_apply (x : FVec Ideal S1x2048x512 .bf16) (a : FVec Ideal S512x1024 .f32) (y : FVec Ideal S1x2048x1024 .bf16) (i : Fin 512) (j : Fin 1024) :
    k0_pay2 (F := Ideal) x a y (ix2 i j) = (a (ix2 i j) + ∑ k : Fin 2048, x (ix3 0 k i) * y (ix3 0 k j) : EReal) := by
  pointwise [k0_pay2]

theorem pay3_apply (a : FVec Ideal S512x1024 .f32) (i : Fin 512) (j : Fin 1024) : k0_pay3 (F := Ideal) a (ix3 0 i j) = (a (ix2 i j) : EReal) := by
  pointwise [k0_pay3]

/-- The accumulator after point `n`. -/
def Holds (c : Dev nD) (n : ℕ) (h : n < cfg0.N) : Prop :=
  ∀ (i : Fin 512) (j : Fin 1024), (show FVec Ideal S512x1024 .f32 from (outsAt0 m c n h).2) (ix2 i j)
      = ∑ s ∈ Finset.range (n + 1), part 2048 (term (A0 m c) (A1 m c) i j) s

theorem holds_of (c : Dev nD) (t : Fin cfg0.N) (a : FVec Ideal S512x1024 .f32)
    (ha : ∀ i j, a (ix2 i j) = ∑ s ∈ Finset.range t.val, part 2048 (term (A0 m c) (A1 m c) i j) s)
    (h : (outsAt0 m c t.val t.isLt).2 = k0_pay2 (F := Ideal) (iblk m c 0 t) a (iblk m c 1 t)) : Holds m c t.val t.isLt := by
  have ht := (idx t).2.2.2
  intro i j
  rw [h]
  refine (pay2_apply _ _ _ i j).trans ?_
  rw [ha, Finset.sum_range_succ]
  refine congrArg₂ (fun x y : EReal => x + y) rfl (part_eq 2048 _ t.val _ (by omega) fun k hk => ?_)
  unfold term
  rw [← blk0 m c t k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun i j => ?_) ?_
    · rw [pay1_apply]; exact (Finset.sum_range_zero _).symm
    · rw [outsAt0_A m c ⟨0, h⟩ rfl (show ¬0 % 2 = 1 by decide)]; frame_out
  | succ n ih =>
    intro h
    have hN : n + 1 < 2 := lt_of_lt_of_eq h N_0
    have h0 : ¬(n + 1) % 2 = 0 := by omega
    have h1 : (n + 1) % 2 = 1 := by omega
    refine holds_of m c ⟨n + 1, h⟩ (outsAt0 m c n (by omega)).2 (ih (by omega)) ?_
    rw [outsAt0_B m c ⟨n + 1, h⟩ h0 h1]; frame_out; rw [(Memref.isWhole_whole _).read_unread]; rfl

/-- The last point stores the accumulator. -/
theorem out_last (c : Dev nD) (t : Fin cfg0.N) (h1 : t.val % 2 = 1) :
    (outsAt0 m c t.val t.isLt).1 = k0_pay3 (F := Ideal) (outsAt0 m c t.val t.isLt).2 := by
  have h0 : ¬t.val % 2 = 0 := by omega
  rw [outsAt0_B m c t h0 h1]
  frame_out
  try rfl

/-- The gradient as an array. -/
abbrev G (X : FVec Ideal S4096x512 .f32) (Y : FVec Ideal S4096x1024 .f32) : FVec Ideal S1x512x1024 .bf16 :=
  fun i => (∑ p : Fin 4096, term X Y (i 1) (i 2) p : EReal)

theorem final2 (c : Dev nD) : (dats m 0 c).arrAt 2 cfg0.N = G (A0 m c) (A1 m c) := by
  refine (dats m 0 c).arrAt_eq_of_after_last 2 t0_1 (by decide +kernel) _ fun j => ?_
  blk_simp
  rw [after0_2]
  idx_vars j
  obtain rfl : j0 = 0 := Subsingleton.elim _ _
  rw [out_last m c t0_1 rfl]
  refine (pay3_apply _ j1 j2).trans ((holds_all m c t0_1.val t0_1.isLt j1 j2).trans ?_)
  exact sum_part 2 2048 rfl _

end Cert.Proof.Branch
-- ==== Proof.Branch.Claims.lean ====
module

public import proofs.«01_k».proof.Defs
public import proofs.«01_k».proof.Proof.Gen.Kernel13
public import proofs.«01_k».proof.Proof.Gen.Kernel13.Frame
public import proofs.«01_k».proof.Proof.Gen.Reference13Ideal
public import proofs.«01_k».proof.Proof.Gen.Reference13Ideal.Run
public import proofs.«01_k».proof.Proof.Gen.Reference13Ideal.Read
public import proofs.«01_k».proof.Proof.Branch.Kernel
public import Idealize.ShloMosaic.Lib.Pipeline.ValueKit
public import Idealize.ShloMosaic.Lib.Claim

@[expose] public section

/-! The claims about the gradient of a mixer's output projection. -/

set_option maxRecDepth 16384

noncomputable section

open Idealize.ShloMosaic Idealize.ShloMosaic.TcCoe Idealize.SL.Sem

namespace Cert.Proof.Branch

theorem frame_k : Cert.quiescent_Kernel13 := fun m ρ _ => Cert.Kernel13.Gen.frame m ρ

theorem frame_ki : Cert.quiescent_Kernel13Ideal := fun m ρ _ => Cert.Kernel13Ideal.Gen.frame m ρ

theorem frame_ri : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

open Cert.Reference13Ideal.Read in
theorem ref_apply (X : FVec Ideal Cert.Kernel13Ideal.S4096x512 .f32) (Y : FVec Ideal Cert.Kernel13Ideal.S4096x1024 .f32) (i : Fin 512) (j : Fin 1024) :
    val_main_v5 (F := Ideal) X Y (ix3 0 i j) = (∑ p : Fin 4096, term X Y i j p : EReal) := by
  have h : val_main_v5 (F := Ideal) X Y (ix3 0 i j) = (∑ p : Fin 4096, Y (ix2 p j) * X (ix2 p i) : EReal) := by
    pointwise [val_main_v5, val_main_v4, val_main_v3, val_main_v2]
  rw [h]
  exact Finset.sum_congr rfl fun p _ => mul_comm _ _

theorem algebraic : Cert.algebraic_Kernel13Ideal_Reference13Ideal := by
  intro m g m' g' _ hag
  refine ⟨fun c => G (A0 m c) (A1 m c), ?_, ?_⟩
  · refine (θ_run Cert.Kernel13Ideal.defs _ _).mono (fun r h c => ?_) (Cert.Kernel13Ideal.Value.run_blocks (F := Ideal) m g)
    obtain ⟨h2, hargs⟩ := h c
    exact ⟨h2.trans (final2 m c), hargs⟩
  · refine (θ_run Cert.Reference13Ideal.defs _ _).mono (fun r h c => ?_) (Cert.Reference13Ideal.Value.run (F := Ideal) m' g')
    obtain ⟨h6, hargs⟩ := h c
    obtain ⟨e0, e1⟩ := hag c
    refine ⟨h6.trans ?_, hargs⟩
    rw [Cert.Reference13Ideal.Read.val_main_v5_eq, e0, e1]
    funext i
    idx_vars i
    obtain rfl : i0 = 0 := Subsingleton.elim _ _
    exact ref_apply _ _ i1 i2

end Cert.Proof.Branch
-- ==== Proof.Ple.Kernel.lean ====
module

public import proofs.«01_k».proof.Proof.Gen.Kernel14Ideal.Value
public import proofs.«01_k».proof.Proof.Lib.Part
public import Idealize.ShloMosaic.Lib.Pipeline.ValueKit
public import Idealize.ShloMosaic.Lib.Pointwise
public import Idealize.ShloMosaic.Lib.Claim

@[expose] public section

/-! The gradient of the embedding's projection, as the kernel accumulates it over two tiles of the rows. -/

set_option maxRecDepth 16384

noncomputable section

open Idealize.ShloMosaic Idealize.ShloMosaic.TcCoe Idealize.SL.Sem
open Idealize.ShloMosaic.Pipeline (Dat)
open Cert.Proof.Part

namespace Cert.Proof.Ple

open Cert.Kernel14Ideal Cert.Kernel14Ideal.Gen Cert.Kernel14Ideal.Value

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0] ∧ t.val < 2 :=
  (by decide +kernel : ∀ t : Fin grid0.N, _)

abbrev A0 (c : Dev nD) : FVec Ideal S4096x256 .f32 := m ((c : Thread nD τ).loc main_arg0)
abbrev A1 (c : Dev nD) : FVec Ideal S4096x1024 .f32 := m ((c : Thread nD τ).loc main_arg1)

/-- The term that row `p` gives to entry `(i, j)`. -/
def term (X : FVec Ideal S4096x256 .f32) (Y : FVec Ideal S4096x1024 .f32) (i : Fin 256) (j : Fin 1024) (p : Fin 4096) : EReal := X (ix2 p i) * Y (ix2 p j)

theorem blk0 (c : Dev nD) (t : Fin cfg0.N) (k : Fin 2048) (l : Fin 256) (h : 2048 * t.val + k.val < 4096) :
    (show FVec Ideal S1x2048x256 .f32 from iblk m c 0 t) (ix3 0 k l) = A0 m c (ix2 ⟨2048 * t.val + k, h⟩ l) := by
  blk_point [iblk, V, idx t]

theorem blk1 (c : Dev nD) (t : Fin cfg0.N) (k : Fin 2048) (l : Fin 1024) (h : 2048 * t.val + k.val < 4096) :
    (show FVec Ideal S1x2048x1024 .bf16 from iblk m c 1 t) (ix3 0 k l) = A1 m c (ix2 ⟨2048 * t.val + k, h⟩ l) := by
  blk_point [iblk, V, idx t]

theorem pay1_apply (i : Fin 256) (j : Fin 1024) : k0_pay1 (F := Ideal) (ix2 i j) = (0 : EReal) := by
  pointwise [k0_pay1]

theorem pay2_apply (x : FVec Ideal S1x2048x256 .f32) (a : FVec Ideal S256x1024 .f32) (y : FVec Ideal S1x2048x1024 .bf16) (i : Fin 256) (j : Fin 1024) :
    k0_pay2 (F := Ideal) x a y (ix2 i j) = (a (ix2 i j) + ∑ k : Fin 2048, x (ix3 0 k i) * y (ix3 0 k j) : EReal) := by
  pointwise [k0_pay2]

theorem pay3_apply (a : FVec Ideal S256x1024 .f32) (i : Fin 256) (j : Fin 1024) : k0_pay3 (F := Ideal) a (ix3 0 i j) = (a (ix2 i j) : EReal) := by
  pointwise [k0_pay3]

/-- The accumulator after point `n`. -/
def Holds (c : Dev nD) (n : ℕ) (h : n < cfg0.N) : Prop :=
  ∀ (i : Fin 256) (j : Fin 1024), (show FVec Ideal S256x1024 .f32 from (outsAt0 m c n h).2) (ix2 i j)
      = ∑ s ∈ Finset.range (n + 1), part 2048 (term (A0 m c) (A1 m c) i j) s

theorem holds_of (c : Dev nD) (t : Fin cfg0.N) (a : FVec Ideal S256x1024 .f32)
    (ha : ∀ i j, a (ix2 i j) = ∑ s ∈ Finset.range t.val, part 2048 (term (A0 m c) (A1 m c) i j) s)
    (h : (outsAt0 m c t.val t.isLt).2 = k0_pay2 (F := Ideal) (iblk m c 0 t) a (iblk m c 1 t)) : Holds m c t.val t.isLt := by
  have ht := (idx t).2.2.2
  intro i j
  rw [h]
  refine (pay2_apply _ _ _ i j).trans ?_
  rw [ha, Finset.sum_range_succ]
  refine congrArg₂ (fun x y : EReal => x + y) rfl (part_eq 2048 _ t.val _ (by omega) fun k hk => ?_)
  unfold term
  rw [← blk0 m c t k i hk, ← blk1 m c t k j hk]

theorem holds_all (c : Dev nD) (n : ℕ) : ∀ h : n < cfg0.N, Holds m c n h := by
  induction n with
  | zero =>
    intro h
    refine holds_of m c ⟨0, h⟩ (k0_pay1 (F := Ideal)) (fun i j => ?_) ?_
    · rw [pay1_apply]; exact (Finset.sum_range_zero _).symm
    · rw [outsAt0_A m c ⟨0, h⟩ rfl (show ¬0 % 2 = 1 by decide)]; frame_out
  | succ n ih =>
    intro h
    have hN : n + 1 < 2 := lt_of_lt_of_eq h N_0
    have h0 : ¬(n + 1) % 2 = 0 := by omega
    have h1 : (n + 1) % 2 = 1 := by omega
    refine holds_of m c ⟨n + 1, h⟩ (outsAt0 m c n (by omega)).2 (ih (by omega)) ?_
    rw [outsAt0_B m c ⟨n + 1, h⟩ h0 h1]; frame_out; rw [(Memref.isWhole_whole _).read_unread]; rfl

/-- The last point stores the accumulator. -/
theorem out_last (c : Dev nD) (t : Fin cfg0.N) (h1 : t.val % 2 = 1) :
    (outsAt0 m c t.val t.isLt).1 = k0_pay3 (F := Ideal) (outsAt0 m c t.val t.isLt).2 := by
  have h0 : ¬t.val % 2 = 0 := by omega
  rw [outsAt0_B m c t h0 h1]
  frame_out
  try rfl

/-- The gradient as an array. -/
abbrev G (X : FVec Ideal S4096x256 .f32) (Y : FVec Ideal S4096x1024 .f32) : FVec Ideal S1x256x1024 .bf16 :=
  fun i => (∑ p : Fin 4096, term X Y (i 1) (i 2) p : EReal)

theorem final2 (c : Dev nD) : (dats m 0 c).arrAt 2 cfg0.N = G (A0 m c) (A1 m c) := by
  refine (dats m 0 c).arrAt_eq_of_after_last 2 t0_1 (by decide +kernel) _ fun j => ?_
  blk_simp
  rw [after0_2]
  idx_vars j
  obtain rfl : j0 = 0 := Subsingleton.elim _ _
  rw [out_last m c t0_1 rfl]
  refine (pay3_apply _ j1 j2).trans ((holds_all m c t0_1.val t0_1.isLt j1 j2).trans ?_)
  exact sum_part 2 2048 rfl _

end Cert.Proof.Ple
-- ==== Proof.Ple.Claims.lean ====
module

public import proofs.«01_k».proof.Defs
public import proofs.«01_k».proof.Proof.Gen.Kernel14
public import proofs.«01_k».proof.Proof.Gen.Kernel14.Frame
public import proofs.«01_k».proof.Proof.Gen.Reference14Ideal
public import proofs.«01_k».proof.Proof.Gen.Reference14Ideal.Run
public import proofs.«01_k».proof.Proof.Gen.Reference14Ideal.Read
public import proofs.«01_k».proof.Proof.Ple.Kernel
public import Idealize.ShloMosaic.Lib.Pipeline.ValueKit
public import Idealize.ShloMosaic.Lib.Claim

@[expose] public section

/-! The claims about the gradient of the embedding's projection. -/

set_option maxRecDepth 16384

noncomputable section

open Idealize.ShloMosaic Idealize.ShloMosaic.TcCoe Idealize.SL.Sem

namespace Cert.Proof.Ple

theorem frame_k : Cert.quiescent_Kernel14 := fun m ρ _ => Cert.Kernel14.Gen.frame m ρ

theorem frame_ki : Cert.quiescent_Kernel14Ideal := fun m ρ _ => Cert.Kernel14Ideal.Gen.frame m ρ

theorem frame_ri : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

open Cert.Reference14Ideal.Read in
theorem ref_apply (X : FVec Ideal Cert.Kernel14Ideal.S4096x256 .f32) (Y : FVec Ideal Cert.Kernel14Ideal.S4096x1024 .f32) (i : Fin 256) (j : Fin 1024) :
    val_main_v5 (F := Ideal) X Y (ix3 0 i j) = (∑ p : Fin 4096, term X Y i j p : EReal) := by
  have h : val_main_v5 (F := Ideal) X Y (ix3 0 i j) = (∑ p : Fin 4096, Y (ix2 p j) * X (ix2 p i) : EReal) := by
    pointwise [val_main_v5, val_main_v4, val_main_v3, val_main_v2]
  rw [h]
  exact Finset.sum_congr rfl fun p _ => mul_comm _ _

theorem algebraic : Cert.algebraic_Kernel14Ideal_Reference14Ideal := by
  intro m g m' g' _ hag
  refine ⟨fun c => G (A0 m c) (A1 m c), ?_, ?_⟩
  · refine (θ_run Cert.Kernel14Ideal.defs _ _).mono (fun r h c => ?_) (Cert.Kernel14Ideal.Value.run_blocks (F := Ideal) m g)
    obtain ⟨h2, hargs⟩ := h c
    exact ⟨h2.trans (final2 m c), hargs⟩
  · refine (θ_run Cert.Reference14Ideal.defs _ _).mono (fun r h c => ?_) (Cert.Reference14Ideal.Value.run (F := Ideal) m' g')
    obtain ⟨h6, hargs⟩ := h c
    obtain ⟨e0, e1⟩ := hag c
    refine ⟨h6.trans ?_, hargs⟩
    rw [Cert.Reference14Ideal.Read.val_main_v5_eq, e0, e1]
    funext i
    idx_vars i
    obtain rfl : i0 = 0 := Subsingleton.elim _ _
    exact ref_apply _ _ i1 i2

end Cert.Proof.Ple
-- ==== Proof.lean ====
module

public import proofs.«01_k».proof.Defs
public import proofs.«01_k».proof.Proof.Sb.Claims
public import proofs.«01_k».proof.Proof.Fg.Claims
public import proofs.«01_k».proof.Proof.Mlp.Claims
public import proofs.«01_k».proof.Proof.Down.Claims
public import proofs.«01_k».proof.Proof.Up.Claims
public import proofs.«01_k».proof.Proof.Square.Claims
public import proofs.«01_k».proof.Proof.InQk.Claims
public import proofs.«01_k».proof.Proof.InRest.Claims
public import proofs.«01_k».proof.Proof.InProj.Claims
public import proofs.«01_k».proof.Proof.Head.Claims
public import proofs.«01_k».proof.Proof.Mix.Claims
public import proofs.«01_k».proof.Proof.Branch.Claims
public import proofs.«01_k».proof.Proof.Ple.Claims

@[expose] public section

/-! The certificate: the claims of each program, put together. -/

theorem Cert.Proof.claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    Cert.Proof.Sb.frame_k,
    Cert.Proof.Sb.frame_ki,
    Cert.Proof.Sb.frame_ri,
    Cert.Proof.Fg.frame_k,
    Cert.Proof.Fg.frame_ki,
    Cert.Proof.Fg.frame_ki_pre,
    Cert.Proof.Fg.frame_ri,
    Cert.Proof.Fg.frame_ri_pre,
    Cert.Proof.Mlp.frame_k,
    Cert.Proof.Mlp.frame_ki,
    Cert.Proof.Mlp.frame_ri,
    Cert.Proof.Down.frame_k,
    Cert.Proof.Down.frame_ki,
    Cert.Proof.Down.frame_ri,
    Cert.Proof.Up.frame_k,
    Cert.Proof.Up.frame_ki,
    Cert.Proof.Up.frame_ri,
    Cert.Proof.Square.frame_k,
    Cert.Proof.Square.frame_ki,
    Cert.Proof.Square.frame_ri,
    Cert.Proof.InQk.frame_k,
    Cert.Proof.InQk.frame_ki,
    Cert.Proof.InQk.frame_ri,
    Cert.Proof.InRest.frame_k,
    Cert.Proof.InRest.frame_ki,
    Cert.Proof.InRest.frame_ri,
    Cert.Proof.InProj.frame_k,
    Cert.Proof.InProj.frame_ki,
    Cert.Proof.InProj.frame_ri,
    Cert.Proof.Head.frame_k,
    Cert.Proof.Head.frame_ki,
    Cert.Proof.Head.frame_ri,
    Cert.Proof.Mix.frame_k,
    Cert.Proof.Mix.frame_ki,
    Cert.Proof.Mix.frame_ri,
    Cert.Proof.Branch.frame_k,
    Cert.Proof.Branch.frame_ki,
    Cert.Proof.Branch.frame_ri,
    Cert.Proof.Ple.frame_k,
    Cert.Proof.Ple.frame_ki,
    Cert.Proof.Ple.frame_ri,
    trivial,
    trivial,
    Cert.Proof.Fg.algebraic,
    trivial,
    Cert.Proof.Mlp.algebraic,
    trivial,
    Cert.Proof.Down.algebraic,
    trivial,
    Cert.Proof.Up.algebraic,
    trivial,
    Cert.Proof.Square.algebraic,
    trivial,
    Cert.Proof.InQk.algebraic,
    trivial,
    Cert.Proof.InRest.algebraic,
    trivial,
    Cert.Proof.InProj.algebraic,
    trivial,
    Cert.Proof.Head.algebraic,
    trivial,
    Cert.Proof.Mix.algebraic,
    trivial,
    Cert.Proof.Branch.algebraic,
    trivial,
    Cert.Proof.Ple.algebraic⟩
